-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelExperts [hPre_schedule : Cert.Pre_schedule.Facts] (m : (ℓ : Loc Cert.KernelExperts.nD Cert.KernelExperts.τ Cert.KernelExperts.sig) → Buf (Elt Bits) ℓ) : Prop :=
  ∀ c : Dev Cert.KernelExperts.nD,
    (Cert.Pre_schedule.fn (F := Bits) (m ((c.tc : Thread Cert.KernelExperts.nD Cert.KernelExperts.τ).loc Cert.KernelExperts.main_arg0)) (m ((c.tc : Thread Cert.KernelExperts.nD Cert.KernelExperts.τ).loc Cert.KernelExperts.main_arg1)) (m ((c.tc : Thread Cert.KernelExperts.nD Cert.KernelExperts.τ).loc Cert.KernelExperts.main_arg2)) (m ((c.tc : Thread Cert.KernelExperts.nD Cert.KernelExperts.τ).loc Cert.KernelExperts.main_arg3)) (m ((c.tc : Thread Cert.KernelExperts.nD Cert.KernelExperts.τ).loc Cert.KernelExperts.main_arg4)) (m ((c.tc : Thread Cert.KernelExperts.nD Cert.KernelExperts.τ).loc Cert.KernelExperts.main_arg5)) (m ((c.tc : Thread Cert.KernelExperts.nD Cert.KernelExperts.τ).loc Cert.KernelExperts.main_arg6)) (m ((c.tc : Thread Cert.KernelExperts.nD Cert.KernelExperts.τ).loc Cert.KernelExperts.main_arg7)) (m ((c.tc : Thread Cert.KernelExperts.nD Cert.KernelExperts.τ).loc Cert.KernelExperts.main_arg8)) (m ((c.tc : Thread Cert.KernelExperts.nD Cert.KernelExperts.τ).loc Cert.KernelExperts.main_arg9))) = (fun _ => 1#1)

def Pre_KernelExpertsIdeal [hPre_schedule : Cert.Pre_schedule.Facts] (m : (ℓ : Loc Cert.KernelExpertsIdeal.nD Cert.KernelExpertsIdeal.τ Cert.KernelExpertsIdeal.sig) → Buf (Elt Ideal) ℓ) : Prop :=
  ∀ c : Dev Cert.KernelExpertsIdeal.nD,
    (Cert.Pre_schedule.fn (F := Ideal) (m ((c.tc : Thread Cert.KernelExpertsIdeal.nD Cert.KernelExpertsIdeal.τ).loc Cert.KernelExpertsIdeal.main_arg0)) (m ((c.tc : Thread Cert.KernelExpertsIdeal.nD Cert.KernelExpertsIdeal.τ).loc Cert.KernelExpertsIdeal.main_arg1)) (m ((c.tc : Thread Cert.KernelExpertsIdeal.nD Cert.KernelExpertsIdeal.τ).loc Cert.KernelExpertsIdeal.main_arg2)) (m ((c.tc : Thread Cert.KernelExpertsIdeal.nD Cert.KernelExpertsIdeal.τ).loc Cert.KernelExpertsIdeal.main_arg3)) (m ((c.tc : Thread Cert.KernelExpertsIdeal.nD Cert.KernelExpertsIdeal.τ).loc Cert.KernelExpertsIdeal.main_arg4)) (m ((c.tc : Thread Cert.KernelExpertsIdeal.nD Cert.KernelExpertsIdeal.τ).loc Cert.KernelExpertsIdeal.main_arg5)) (m ((c.tc : Thread Cert.KernelExpertsIdeal.nD Cert.KernelExpertsIdeal.τ).loc Cert.KernelExpertsIdeal.main_arg6)) (m ((c.tc : Thread Cert.KernelExpertsIdeal.nD Cert.KernelExpertsIdeal.τ).loc Cert.KernelExpertsIdeal.main_arg7)) (m ((c.tc : Thread Cert.KernelExpertsIdeal.nD Cert.KernelExpertsIdeal.τ).loc Cert.KernelExpertsIdeal.main_arg8)) (m ((c.tc : Thread Cert.KernelExpertsIdeal.nD Cert.KernelExpertsIdeal.τ).loc Cert.KernelExpertsIdeal.main_arg9))) = (fun _ => 1#1)

def Pre_ReferenceExpertsIdeal (m : (ℓ : Loc Cert.ReferenceExpertsIdeal.nD Cert.ReferenceExpertsIdeal.τ Cert.ReferenceExpertsIdeal.sig) → Buf (Elt Ideal) ℓ) : Prop :=
  True

def Pre_ReferenceExpertsIdeal_schedule [hPre_schedule : Cert.Pre_schedule.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_schedule.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4)) (m ((c.tc : Thread Cert.ReferenceExpertsIdeal.nD Cert.ReferenceExpertsIdeal.τ).loc Cert.ReferenceExpertsIdeal.main_arg5)) (m ((c.tc : Thread Cert.ReferenceExpertsIdeal.nD Cert.ReferenceExpertsIdeal.τ).loc Cert.ReferenceExpertsIdeal.main_arg6)) (m ((c.tc : Thread Cert.ReferenceExpertsIdeal.nD Cert.ReferenceExpertsIdeal.τ).loc Cert.ReferenceExpertsIdeal.main_arg7)) (m ((c.tc : Thread Cert.ReferenceExpertsIdeal.nD Cert.ReferenceExpertsIdeal.τ).loc Cert.ReferenceExpertsIdeal.main_arg8)) (m ((c.tc : Thread Cert.ReferenceExpertsIdeal.nD Cert.ReferenceExpertsIdeal.τ).loc Cert.ReferenceExpertsIdeal.main_arg9))) = (fun _ => 1#1)

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_KernelOutproj (m : (ℓ : Loc Cert.KernelOutproj.nD Cert.KernelOutproj.τ Cert.KernelOutproj.sig) → Buf (Elt Bits) ℓ) : Prop :=
  True

def Pre_KernelOutprojIdeal (m : (ℓ : Loc Cert.KernelOutprojIdeal.nD Cert.KernelOutprojIdeal.τ Cert.KernelOutprojIdeal.sig) → Buf (Elt Ideal) ℓ) : Prop :=
  True

def Pre_ReferenceOutprojIdeal (m : (ℓ : Loc Cert.ReferenceOutprojIdeal.nD Cert.ReferenceOutprojIdeal.τ Cert.ReferenceOutprojIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelExperts [hKernelExperts : Cert.KernelExperts.Facts] [hPre_schedule : Cert.Pre_schedule.Facts] : Prop :=
  ∀ (m : (ℓ : Loc Cert.KernelExperts.nD Cert.KernelExperts.τ Cert.KernelExperts.sig) → Buf (Elt Bits) ℓ) (g : Dev Cert.KernelExperts.nD → PrngReg), Pre_KernelExperts m →
    θ_run (Cert.KernelExperts.defs (F := Bits)) (onTc (τ := Cert.KernelExperts.τ) (Cert.KernelExperts.main (F := Bits))) ⟨m, fun _ => 0, g⟩ (fun r => (∀ c : Dev Cert.KernelExperts.nD,
      r.2.mem ((c.tc : Thread Cert.KernelExperts.nD Cert.KernelExperts.τ).loc Cert.KernelExperts.main_arg0) = m ((c.tc : Thread Cert.KernelExperts.nD Cert.KernelExperts.τ).loc Cert.KernelExperts.main_arg0)
      ∧ r.2.mem ((c.tc : Thread Cert.KernelExperts.nD Cert.KernelExperts.τ).loc Cert.KernelExperts.main_arg1) = m ((c.tc : Thread Cert.KernelExperts.nD Cert.KernelExperts.τ).loc Cert.KernelExperts.main_arg1)
      ∧ r.2.mem ((c.tc : Thread Cert.KernelExperts.nD Cert.KernelExperts.τ).loc Cert.KernelExperts.main_arg2) = m ((c.tc : Thread Cert.KernelExperts.nD Cert.KernelExperts.τ).loc Cert.KernelExperts.main_arg2)
      ∧ r.2.mem ((c.tc : Thread Cert.KernelExperts.nD Cert.KernelExperts.τ).loc Cert.KernelExperts.main_arg3) = m ((c.tc : Thread Cert.KernelExperts.nD Cert.KernelExperts.τ).loc Cert.KernelExperts.main_arg3)
      ∧ r.2.mem ((c.tc : Thread Cert.KernelExperts.nD Cert.KernelExperts.τ).loc Cert.KernelExperts.main_arg4) = m ((c.tc : Thread Cert.KernelExperts.nD Cert.KernelExperts.τ).loc Cert.KernelExperts.main_arg4)
      ∧ r.2.mem ((c.tc : Thread Cert.KernelExperts.nD Cert.KernelExperts.τ).loc Cert.KernelExperts.main_arg5) = m ((c.tc : Thread Cert.KernelExperts.nD Cert.KernelExperts.τ).loc Cert.KernelExperts.main_arg5)
      ∧ r.2.mem ((c.tc : Thread Cert.KernelExperts.nD Cert.KernelExperts.τ).loc Cert.KernelExperts.main_arg6) = m ((c.tc : Thread Cert.KernelExperts.nD Cert.KernelExperts.τ).loc Cert.KernelExperts.main_arg6)
      ∧ r.2.mem ((c.tc : Thread Cert.KernelExperts.nD Cert.KernelExperts.τ).loc Cert.KernelExperts.main_arg7) = m ((c.tc : Thread Cert.KernelExperts.nD Cert.KernelExperts.τ).loc Cert.KernelExperts.main_arg7)
      ∧ r.2.mem ((c.tc : Thread Cert.KernelExperts.nD Cert.KernelExperts.τ).loc Cert.KernelExperts.main_arg8) = m ((c.tc : Thread Cert.KernelExperts.nD Cert.KernelExperts.τ).loc Cert.KernelExperts.main_arg8)
      ∧ r.2.mem ((c.tc : Thread Cert.KernelExperts.nD Cert.KernelExperts.τ).loc Cert.KernelExperts.main_arg9) = m ((c.tc : Thread Cert.KernelExperts.nD Cert.KernelExperts.τ).loc Cert.KernelExperts.main_arg9))
      ∧ r.2.sem = fun _ => 0)

def quiescent_KernelExpertsIdeal [hKernelExpertsIdeal : Cert.KernelExpertsIdeal.Facts] [hPre_schedule : Cert.Pre_schedule.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg), Pre_KernelExpertsIdeal m →
    θ_run (Cert.KernelExpertsIdeal.defs (F := Ideal)) (onTc (τ := Cert.KernelExpertsIdeal.τ) (Cert.KernelExpertsIdeal.main (F := Ideal))) ⟨m, fun _ => 0, g⟩ (fun r => (∀ c : Dev Cert.KernelExpertsIdeal.nD,
      r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
      ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
      ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
      ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
      ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4)
      ∧ r.2.mem ((c.tc : Thread Cert.KernelExpertsIdeal.nD Cert.KernelExpertsIdeal.τ).loc Cert.KernelExpertsIdeal.main_arg5) = m ((c.tc : Thread Cert.KernelExpertsIdeal.nD Cert.KernelExpertsIdeal.τ).loc Cert.KernelExpertsIdeal.main_arg5)
      ∧ r.2.mem ((c.tc : Thread Cert.KernelExpertsIdeal.nD Cert.KernelExpertsIdeal.τ).loc Cert.KernelExpertsIdeal.main_arg6) = m ((c.tc : Thread Cert.KernelExpertsIdeal.nD Cert.KernelExpertsIdeal.τ).loc Cert.KernelExpertsIdeal.main_arg6)
      ∧ r.2.mem ((c.tc : Thread Cert.KernelExpertsIdeal.nD Cert.KernelExpertsIdeal.τ).loc Cert.KernelExpertsIdeal.main_arg7) = m ((c.tc : Thread Cert.KernelExpertsIdeal.nD Cert.KernelExpertsIdeal.τ).loc Cert.KernelExpertsIdeal.main_arg7)
      ∧ r.2.mem ((c.tc : Thread Cert.KernelExpertsIdeal.nD Cert.KernelExpertsIdeal.τ).loc Cert.KernelExpertsIdeal.main_arg8) = m ((c.tc : Thread Cert.KernelExpertsIdeal.nD Cert.KernelExpertsIdeal.τ).loc Cert.KernelExpertsIdeal.main_arg8)
      ∧ r.2.mem ((c.tc : Thread Cert.KernelExpertsIdeal.nD Cert.KernelExpertsIdeal.τ).loc Cert.KernelExpertsIdeal.main_arg9) = m ((c.tc : Thread Cert.KernelExpertsIdeal.nD Cert.KernelExpertsIdeal.τ).loc Cert.KernelExpertsIdeal.main_arg9))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8)
      ∧ r.2.mem ((c.tc : Thread Cert.ReferenceExpertsIdeal.nD Cert.ReferenceExpertsIdeal.τ).loc Cert.ReferenceExpertsIdeal.main_arg9) = m ((c.tc : Thread Cert.ReferenceExpertsIdeal.nD Cert.ReferenceExpertsIdeal.τ).loc Cert.ReferenceExpertsIdeal.main_arg9))
      ∧ r.2.sem = fun _ => 0)

def quiescent_ReferenceExpertsIdeal_pre_schedule [hReferenceExpertsIdeal : Cert.ReferenceExpertsIdeal.Facts] [hPre_schedule : Cert.Pre_schedule.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal_schedule m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8)
      ∧ r.2.mem ((c.tc : Thread Cert.ReferenceExpertsIdeal.nD Cert.ReferenceExpertsIdeal.τ).loc Cert.ReferenceExpertsIdeal.main_arg9) = m ((c.tc : Thread Cert.ReferenceExpertsIdeal.nD Cert.ReferenceExpertsIdeal.τ).loc Cert.ReferenceExpertsIdeal.main_arg9))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2)
      ∧ r.2.mem ((c.tc : Thread Cert.KernelInproj.nD Cert.KernelInproj.τ).loc Cert.KernelInproj.main_arg3) = m ((c.tc : Thread Cert.KernelInproj.nD Cert.KernelInproj.τ).loc Cert.KernelInproj.main_arg3)
      ∧ r.2.mem ((c.tc : Thread Cert.KernelInproj.nD Cert.KernelInproj.τ).loc Cert.KernelInproj.main_arg4) = m ((c.tc : Thread Cert.KernelInproj.nD Cert.KernelInproj.τ).loc Cert.KernelInproj.main_arg4)
      ∧ r.2.mem ((c.tc : Thread Cert.KernelInproj.nD Cert.KernelInproj.τ).loc Cert.KernelInproj.main_arg5) = m ((c.tc : Thread Cert.KernelInproj.nD Cert.KernelInproj.τ).loc Cert.KernelInproj.main_arg5))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
      ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4)
      ∧ r.2.mem ((c.tc : Thread Cert.ReferenceInprojIdeal.nD Cert.ReferenceInprojIdeal.τ).loc Cert.ReferenceInprojIdeal.main_arg5) = m ((c.tc : Thread Cert.ReferenceInprojIdeal.nD Cert.ReferenceInprojIdeal.τ).loc Cert.ReferenceInprojIdeal.main_arg5))
      ∧ r.2.sem = fun _ => 0)

def quiescent_KernelOutproj [hKernelOutproj : Cert.KernelOutproj.Facts] : Prop :=
  ∀ (m : (ℓ : Loc Cert.KernelOutproj.nD Cert.KernelOutproj.τ Cert.KernelOutproj.sig) → Buf (Elt Bits) ℓ) (g : Dev Cert.KernelOutproj.nD → PrngReg), Pre_KernelOutproj m →
    θ_run (Cert.KernelOutproj.defs (F := Bits)) (onTc (τ := Cert.KernelOutproj.τ) (Cert.KernelOutproj.main (F := Bits))) ⟨m, fun _ => 0, g⟩ (fun r => (∀ c : Dev Cert.KernelOutproj.nD,
      r.2.mem ((c.tc : Thread Cert.KernelOutproj.nD Cert.KernelOutproj.τ).loc Cert.KernelOutproj.main_arg0) = m ((c.tc : Thread Cert.KernelOutproj.nD Cert.KernelOutproj.τ).loc Cert.KernelOutproj.main_arg0)
      ∧ r.2.mem ((c.tc : Thread Cert.KernelOutproj.nD Cert.KernelOutproj.τ).loc Cert.KernelOutproj.main_arg1) = m ((c.tc : Thread Cert.KernelOutproj.nD Cert.KernelOutproj.τ).loc Cert.KernelOutproj.main_arg1)
      ∧ r.2.mem ((c.tc : Thread Cert.KernelOutproj.nD Cert.KernelOutproj.τ).loc Cert.KernelOutproj.main_arg2) = m ((c.tc : Thread Cert.KernelOutproj.nD Cert.KernelOutproj.τ).loc Cert.KernelOutproj.main_arg2)
      ∧ r.2.mem ((c.tc : Thread Cert.KernelOutproj.nD Cert.KernelOutproj.τ).loc Cert.KernelOutproj.main_arg3) = m ((c.tc : Thread Cert.KernelOutproj.nD Cert.KernelOutproj.τ).loc Cert.KernelOutproj.main_arg3)
      ∧ r.2.mem ((c.tc : Thread Cert.KernelOutproj.nD Cert.KernelOutproj.τ).loc Cert.KernelOutproj.main_arg4) = m ((c.tc : Thread Cert.KernelOutproj.nD Cert.KernelOutproj.τ).loc Cert.KernelOutproj.main_arg4)
      ∧ r.2.mem ((c.tc : Thread Cert.KernelOutproj.nD Cert.KernelOutproj.τ).loc Cert.KernelOutproj.main_arg5) = m ((c.tc : Thread Cert.KernelOutproj.nD Cert.KernelOutproj.τ).loc Cert.KernelOutproj.main_arg5)
      ∧ r.2.mem ((c.tc : Thread Cert.KernelOutproj.nD Cert.KernelOutproj.τ).loc Cert.KernelOutproj.main_arg6) = m ((c.tc : Thread Cert.KernelOutproj.nD Cert.KernelOutproj.τ).loc Cert.KernelOutproj.main_arg6))
      ∧ r.2.sem = fun _ => 0)

def quiescent_KernelOutprojIdeal [hKernelOutprojIdeal : Cert.KernelOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg), Pre_KernelOutprojIdeal m →
    θ_run (Cert.KernelOutprojIdeal.defs (F := Ideal)) (onTc (τ := Cert.KernelOutprojIdeal.τ) (Cert.KernelOutprojIdeal.main (F := Ideal))) ⟨m, fun _ => 0, g⟩ (fun r => (∀ c : Dev Cert.KernelOutprojIdeal.nD,
      r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
      ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
      ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
      ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
      ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4)
      ∧ r.2.mem ((c.tc : Thread Cert.KernelOutprojIdeal.nD Cert.KernelOutprojIdeal.τ).loc Cert.KernelOutprojIdeal.main_arg5) = m ((c.tc : Thread Cert.KernelOutprojIdeal.nD Cert.KernelOutprojIdeal.τ).loc Cert.KernelOutprojIdeal.main_arg5)
      ∧ r.2.mem ((c.tc : Thread Cert.KernelOutprojIdeal.nD Cert.KernelOutprojIdeal.τ).loc Cert.KernelOutprojIdeal.main_arg6) = m ((c.tc : Thread Cert.KernelOutprojIdeal.nD Cert.KernelOutprojIdeal.τ).loc Cert.KernelOutprojIdeal.main_arg6))
      ∧ r.2.sem = fun _ => 0)

def quiescent_ReferenceOutprojIdeal [hReferenceOutprojIdeal : Cert.ReferenceOutprojIdeal.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3)
      ∧ r.2.mem ((c.tc : Thread Cert.ReferenceOutprojIdeal.nD Cert.ReferenceOutprojIdeal.τ).loc Cert.ReferenceOutprojIdeal.main_arg4) = m ((c.tc : Thread Cert.ReferenceOutprojIdeal.nD Cert.ReferenceOutprojIdeal.τ).loc Cert.ReferenceOutprojIdeal.main_arg4)
      ∧ r.2.mem ((c.tc : Thread Cert.ReferenceOutprojIdeal.nD Cert.ReferenceOutprojIdeal.τ).loc Cert.ReferenceOutprojIdeal.main_arg5) = m ((c.tc : Thread Cert.ReferenceOutprojIdeal.nD Cert.ReferenceOutprojIdeal.τ).loc Cert.ReferenceOutprojIdeal.main_arg5)
      ∧ r.2.mem ((c.tc : Thread Cert.ReferenceOutprojIdeal.nD Cert.ReferenceOutprojIdeal.τ).loc Cert.ReferenceOutprojIdeal.main_arg6) = m ((c.tc : Thread Cert.ReferenceOutprojIdeal.nD Cert.ReferenceOutprojIdeal.τ).loc Cert.ReferenceOutprojIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelExperts_KernelExpertsIdeal : Prop :=
  True

def algebraic_KernelExpertsIdeal_ReferenceExpertsIdeal_on_used_rows [hKernelExpertsIdeal : Cert.KernelExpertsIdeal.Facts] [hReferenceExpertsIdeal : Cert.ReferenceExpertsIdeal.Facts] [hPre_schedule : Cert.Pre_schedule.Facts] [hOn_used_rows : Cert.On_used_rows.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_KernelExpertsIdeal m →
    (∀ c : Dev Cert.KernelExpertsIdeal.nD,
      m' ((c.tc : Thread Cert.ReferenceExpertsIdeal.nD Cert.ReferenceExpertsIdeal.τ).loc Cert.ReferenceExpertsIdeal.main_arg0) = m ((c.tc : Thread Cert.KernelExpertsIdeal.nD Cert.KernelExpertsIdeal.τ).loc Cert.KernelExpertsIdeal.main_arg0)
      ∧ m' ((c.tc : Thread Cert.ReferenceExpertsIdeal.nD Cert.ReferenceExpertsIdeal.τ).loc Cert.ReferenceExpertsIdeal.main_arg1) = m ((c.tc : Thread Cert.KernelExpertsIdeal.nD Cert.KernelExpertsIdeal.τ).loc Cert.KernelExpertsIdeal.main_arg1)
      ∧ m' ((c.tc : Thread Cert.ReferenceExpertsIdeal.nD Cert.ReferenceExpertsIdeal.τ).loc Cert.ReferenceExpertsIdeal.main_arg2) = m ((c.tc : Thread Cert.KernelExpertsIdeal.nD Cert.KernelExpertsIdeal.τ).loc Cert.KernelExpertsIdeal.main_arg2)
      ∧ m' ((c.tc : Thread Cert.ReferenceExpertsIdeal.nD Cert.ReferenceExpertsIdeal.τ).loc Cert.ReferenceExpertsIdeal.main_arg3) = m ((c.tc : Thread Cert.KernelExpertsIdeal.nD Cert.KernelExpertsIdeal.τ).loc Cert.KernelExpertsIdeal.main_arg3)
      ∧ m' ((c.tc : Thread Cert.ReferenceExpertsIdeal.nD Cert.ReferenceExpertsIdeal.τ).loc Cert.ReferenceExpertsIdeal.main_arg4) = m ((c.tc : Thread Cert.KernelExpertsIdeal.nD Cert.KernelExpertsIdeal.τ).loc Cert.KernelExpertsIdeal.main_arg4)
      ∧ m' ((c.tc : Thread Cert.ReferenceExpertsIdeal.nD Cert.ReferenceExpertsIdeal.τ).loc Cert.ReferenceExpertsIdeal.main_arg5) = m ((c.tc : Thread Cert.KernelExpertsIdeal.nD Cert.KernelExpertsIdeal.τ).loc Cert.KernelExpertsIdeal.main_arg5)
      ∧ m' ((c.tc : Thread Cert.ReferenceExpertsIdeal.nD Cert.ReferenceExpertsIdeal.τ).loc Cert.ReferenceExpertsIdeal.main_arg6) = m ((c.tc : Thread Cert.KernelExpertsIdeal.nD Cert.KernelExpertsIdeal.τ).loc Cert.KernelExpertsIdeal.main_arg6)
      ∧ m' ((c.tc : Thread Cert.ReferenceExpertsIdeal.nD Cert.ReferenceExpertsIdeal.τ).loc Cert.ReferenceExpertsIdeal.main_arg7) = m ((c.tc : Thread Cert.KernelExpertsIdeal.nD Cert.KernelExpertsIdeal.τ).loc Cert.KernelExpertsIdeal.main_arg7)
      ∧ m' ((c.tc : Thread Cert.ReferenceExpertsIdeal.nD Cert.ReferenceExpertsIdeal.τ).loc Cert.ReferenceExpertsIdeal.main_arg8) = m ((c.tc : Thread Cert.KernelExpertsIdeal.nD Cert.KernelExpertsIdeal.τ).loc Cert.KernelExpertsIdeal.main_arg8)
      ∧ m' ((c.tc : Thread Cert.ReferenceExpertsIdeal.nD Cert.ReferenceExpertsIdeal.τ).loc Cert.ReferenceExpertsIdeal.main_arg9) = m ((c.tc : Thread Cert.KernelExpertsIdeal.nD Cert.KernelExpertsIdeal.τ).loc Cert.KernelExpertsIdeal.main_arg9)) →
    ∃ (v0 : (c : Dev Cert.KernelExpertsIdeal.nD) → Buf (Elt Ideal) ((c.tc : Thread Cert.KernelExpertsIdeal.nD Cert.KernelExpertsIdeal.τ).loc Cert.KernelExpertsIdeal.main_v0)),
      θ_run (Cert.KernelExpertsIdeal.defs (F := Ideal)) (onTc (τ := Cert.KernelExpertsIdeal.τ) (Cert.KernelExpertsIdeal.main (F := Ideal))) ⟨m, fun _ => 0, g⟩ (fun r => ∀ c : Dev Cert.KernelExpertsIdeal.nD,
          (∀ i : (⟨2, ![40960, 2048]⟩ : Shape).Idx, (Cert.On_used_rows.fn (F := Ideal) (m ((c.tc : Thread Cert.KernelExpertsIdeal.nD Cert.KernelExpertsIdeal.τ).loc Cert.KernelExpertsIdeal.main_arg0)) (m ((c.tc : Thread Cert.KernelExpertsIdeal.nD Cert.KernelExpertsIdeal.τ).loc Cert.KernelExpertsIdeal.main_arg1)) (m ((c.tc : Thread Cert.KernelExpertsIdeal.nD Cert.KernelExpertsIdeal.τ).loc Cert.KernelExpertsIdeal.main_arg2)) (m ((c.tc : Thread Cert.KernelExpertsIdeal.nD Cert.KernelExpertsIdeal.τ).loc Cert.KernelExpertsIdeal.main_arg3)) (m ((c.tc : Thread Cert.KernelExpertsIdeal.nD Cert.KernelExpertsIdeal.τ).loc Cert.KernelExpertsIdeal.main_arg4)) (m ((c.tc : Thread Cert.KernelExpertsIdeal.nD Cert.KernelExpertsIdeal.τ).loc Cert.KernelExpertsIdeal.main_arg5)) (m ((c.tc : Thread Cert.KernelExpertsIdeal.nD Cert.KernelExpertsIdeal.τ).loc Cert.KernelExpertsIdeal.main_arg6)) (m ((c.tc : Thread Cert.KernelExpertsIdeal.nD Cert.KernelExpertsIdeal.τ).loc Cert.KernelExpertsIdeal.main_arg7)) (m ((c.tc : Thread Cert.KernelExpertsIdeal.nD Cert.KernelExpertsIdeal.τ).loc Cert.KernelExpertsIdeal.main_arg8)) (m ((c.tc : Thread Cert.KernelExpertsIdeal.nD Cert.KernelExpertsIdeal.τ).loc Cert.KernelExpertsIdeal.main_arg9))) i = 1#1 → r.2.mem ((c.tc : Thread Cert.KernelExpertsIdeal.nD Cert.KernelExpertsIdeal.τ).loc Cert.KernelExpertsIdeal.main_v0) i = v0 c i)
          ∧ r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
          ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
          ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
          ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
          ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4)
          ∧ r.2.mem ((c.tc : Thread Cert.KernelExpertsIdeal.nD Cert.KernelExpertsIdeal.τ).loc Cert.KernelExpertsIdeal.main_arg5) = m ((c.tc : Thread Cert.KernelExpertsIdeal.nD Cert.KernelExpertsIdeal.τ).loc Cert.KernelExpertsIdeal.main_arg5)
          ∧ r.2.mem ((c.tc : Thread Cert.KernelExpertsIdeal.nD Cert.KernelExpertsIdeal.τ).loc Cert.KernelExpertsIdeal.main_arg6) = m ((c.tc : Thread Cert.KernelExpertsIdeal.nD Cert.KernelExpertsIdeal.τ).loc Cert.KernelExpertsIdeal.main_arg6)
          ∧ r.2.mem ((c.tc : Thread Cert.KernelExpertsIdeal.nD Cert.KernelExpertsIdeal.τ).loc Cert.KernelExpertsIdeal.main_arg7) = m ((c.tc : Thread Cert.KernelExpertsIdeal.nD Cert.KernelExpertsIdeal.τ).loc Cert.KernelExpertsIdeal.main_arg7)
          ∧ r.2.mem ((c.tc : Thread Cert.KernelExpertsIdeal.nD Cert.KernelExpertsIdeal.τ).loc Cert.KernelExpertsIdeal.main_arg8) = m ((c.tc : Thread Cert.KernelExpertsIdeal.nD Cert.KernelExpertsIdeal.τ).loc Cert.KernelExpertsIdeal.main_arg8)
          ∧ r.2.mem ((c.tc : Thread Cert.KernelExpertsIdeal.nD Cert.KernelExpertsIdeal.τ).loc Cert.KernelExpertsIdeal.main_arg9) = m ((c.tc : Thread Cert.KernelExpertsIdeal.nD Cert.KernelExpertsIdeal.τ).loc Cert.KernelExpertsIdeal.main_arg9))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          (∀ i : (⟨2, ![40960, 2048]⟩ : Shape).Idx, (Cert.On_used_rows.fn (F := Ideal) (m ((c.tc : Thread Cert.KernelExpertsIdeal.nD Cert.KernelExpertsIdeal.τ).loc Cert.KernelExpertsIdeal.main_arg0)) (m ((c.tc : Thread Cert.KernelExpertsIdeal.nD Cert.KernelExpertsIdeal.τ).loc Cert.KernelExpertsIdeal.main_arg1)) (m ((c.tc : Thread Cert.KernelExpertsIdeal.nD Cert.KernelExpertsIdeal.τ).loc Cert.KernelExpertsIdeal.main_arg2)) (m ((c.tc : Thread Cert.KernelExpertsIdeal.nD Cert.KernelExpertsIdeal.τ).loc Cert.KernelExpertsIdeal.main_arg3)) (m ((c.tc : Thread Cert.KernelExpertsIdeal.nD Cert.KernelExpertsIdeal.τ).loc Cert.KernelExpertsIdeal.main_arg4)) (m ((c.tc : Thread Cert.KernelExpertsIdeal.nD Cert.KernelExpertsIdeal.τ).loc Cert.KernelExpertsIdeal.main_arg5)) (m ((c.tc : Thread Cert.KernelExpertsIdeal.nD Cert.KernelExpertsIdeal.τ).loc Cert.KernelExpertsIdeal.main_arg6)) (m ((c.tc : Thread Cert.KernelExpertsIdeal.nD Cert.KernelExpertsIdeal.τ).loc Cert.KernelExpertsIdeal.main_arg7)) (m ((c.tc : Thread Cert.KernelExpertsIdeal.nD Cert.KernelExpertsIdeal.τ).loc Cert.KernelExpertsIdeal.main_arg8)) (m ((c.tc : Thread Cert.KernelExpertsIdeal.nD Cert.KernelExpertsIdeal.τ).loc Cert.KernelExpertsIdeal.main_arg9))) i = 1#1 → r.2.mem ((c.tc : Thread Cert.ReferenceExpertsIdeal.nD Cert.ReferenceExpertsIdeal.τ).loc Cert.ReferenceExpertsIdeal.main_v32) i = v0 c i)
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4)
          ∧ r.2.mem ((c.tc : Thread Cert.ReferenceExpertsIdeal.nD Cert.ReferenceExpertsIdeal.τ).loc Cert.ReferenceExpertsIdeal.main_arg5) = m' ((c.tc : Thread Cert.ReferenceExpertsIdeal.nD Cert.ReferenceExpertsIdeal.τ).loc Cert.ReferenceExpertsIdeal.main_arg5)
          ∧ r.2.mem ((c.tc : Thread Cert.ReferenceExpertsIdeal.nD Cert.ReferenceExpertsIdeal.τ).loc Cert.ReferenceExpertsIdeal.main_arg6) = m' ((c.tc : Thread Cert.ReferenceExpertsIdeal.nD Cert.ReferenceExpertsIdeal.τ).loc Cert.ReferenceExpertsIdeal.main_arg6)
          ∧ r.2.mem ((c.tc : Thread Cert.ReferenceExpertsIdeal.nD Cert.ReferenceExpertsIdeal.τ).loc Cert.ReferenceExpertsIdeal.main_arg7) = m' ((c.tc : Thread Cert.ReferenceExpertsIdeal.nD Cert.ReferenceExpertsIdeal.τ).loc Cert.ReferenceExpertsIdeal.main_arg7)
          ∧ r.2.mem ((c.tc : Thread Cert.ReferenceExpertsIdeal.nD Cert.ReferenceExpertsIdeal.τ).loc Cert.ReferenceExpertsIdeal.main_arg8) = m' ((c.tc : Thread Cert.ReferenceExpertsIdeal.nD Cert.ReferenceExpertsIdeal.τ).loc Cert.ReferenceExpertsIdeal.main_arg8)
          ∧ r.2.mem ((c.tc : Thread Cert.ReferenceExpertsIdeal.nD Cert.ReferenceExpertsIdeal.τ).loc Cert.ReferenceExpertsIdeal.main_arg9) = m' ((c.tc : Thread Cert.ReferenceExpertsIdeal.nD Cert.ReferenceExpertsIdeal.τ).loc Cert.ReferenceExpertsIdeal.main_arg9))

def preserves_KernelInproj_KernelInprojIdeal : Prop :=
  IdealRules.named_const.Statement Cert.KernelInprojIdeal.κ "scale" .f32 0x3DB504F3#32 (((Real.sqrt 128)⁻¹ : ℝ) : EReal)

def algebraic_KernelInprojIdeal_ReferenceInprojIdeal [hKernelInprojIdeal : Cert.KernelInprojIdeal.Facts] [hReferenceInprojIdeal : Cert.ReferenceInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)
      ∧ m' ((c.tc : Thread Cert.ReferenceInprojIdeal.nD Cert.ReferenceInprojIdeal.τ).loc Cert.ReferenceInprojIdeal.main_arg3) = m ((c.tc : Thread Cert.KernelInprojIdeal.nD Cert.KernelInprojIdeal.τ).loc Cert.KernelInprojIdeal.main_arg3)
      ∧ m' ((c.tc : Thread Cert.ReferenceInprojIdeal.nD Cert.ReferenceInprojIdeal.τ).loc Cert.ReferenceInprojIdeal.main_arg4) = m ((c.tc : Thread Cert.KernelInprojIdeal.nD Cert.KernelInprojIdeal.τ).loc Cert.KernelInprojIdeal.main_arg4)
      ∧ m' ((c.tc : Thread Cert.ReferenceInprojIdeal.nD Cert.ReferenceInprojIdeal.τ).loc Cert.ReferenceInprojIdeal.main_arg5) = m ((c.tc : Thread Cert.KernelInprojIdeal.nD Cert.KernelInprojIdeal.τ).loc Cert.KernelInprojIdeal.main_arg5)) →
    ∃ (v0 : (c : Dev Cert.KernelInprojIdeal.nD) → Buf (Elt Ideal) ((c.tc : Thread Cert.KernelInprojIdeal.nD Cert.KernelInprojIdeal.τ).loc Cert.KernelInprojIdeal.main_v8_0)) (v1 : (c : Dev Cert.KernelInprojIdeal.nD) → Buf (Elt Ideal) ((c.tc : Thread Cert.KernelInprojIdeal.nD Cert.KernelInprojIdeal.τ).loc Cert.KernelInprojIdeal.main_v8_1)) (v2 : (c : Dev Cert.KernelInprojIdeal.nD) → Buf (Elt Ideal) ((c.tc : Thread Cert.KernelInprojIdeal.nD Cert.KernelInprojIdeal.τ).loc Cert.KernelInprojIdeal.main_v8_2)) (v3 : (c : Dev Cert.KernelInprojIdeal.nD) → Buf (Elt Ideal) ((c.tc : Thread Cert.KernelInprojIdeal.nD Cert.KernelInprojIdeal.τ).loc Cert.KernelInprojIdeal.main_v8_3)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v8_0) = v0 c
          ∧ r.2.mem ((c.tc : Thread Cert.KernelInprojIdeal.nD Cert.KernelInprojIdeal.τ).loc Cert.KernelInprojIdeal.main_v8_1) = v1 c
          ∧ r.2.mem ((c.tc : Thread Cert.KernelInprojIdeal.nD Cert.KernelInprojIdeal.τ).loc Cert.KernelInprojIdeal.main_v8_2) = v2 c
          ∧ r.2.mem ((c.tc : Thread Cert.KernelInprojIdeal.nD Cert.KernelInprojIdeal.τ).loc Cert.KernelInprojIdeal.main_v8_3) = v3 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
          ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
          ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
          ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v114) = v0 c
          ∧ r.2.mem ((c.tc : Thread Cert.ReferenceInprojIdeal.nD Cert.ReferenceInprojIdeal.τ).loc Cert.ReferenceInprojIdeal.main_v117) = v1 c
          ∧ r.2.mem ((c.tc : Thread Cert.ReferenceInprojIdeal.nD Cert.ReferenceInprojIdeal.τ).loc Cert.ReferenceInprojIdeal.main_v121) = v2 c
          ∧ r.2.mem ((c.tc : Thread Cert.ReferenceInprojIdeal.nD Cert.ReferenceInprojIdeal.τ).loc Cert.ReferenceInprojIdeal.main_v19) = v3 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2)
          ∧ r.2.mem ((c.tc : Thread Cert.ReferenceInprojIdeal.nD Cert.ReferenceInprojIdeal.τ).loc Cert.ReferenceInprojIdeal.main_arg3) = m' ((c.tc : Thread Cert.ReferenceInprojIdeal.nD Cert.ReferenceInprojIdeal.τ).loc Cert.ReferenceInprojIdeal.main_arg3)
          ∧ r.2.mem ((c.tc : Thread Cert.ReferenceInprojIdeal.nD Cert.ReferenceInprojIdeal.τ).loc Cert.ReferenceInprojIdeal.main_arg4) = m' ((c.tc : Thread Cert.ReferenceInprojIdeal.nD Cert.ReferenceInprojIdeal.τ).loc Cert.ReferenceInprojIdeal.main_arg4)
          ∧ r.2.mem ((c.tc : Thread Cert.ReferenceInprojIdeal.nD Cert.ReferenceInprojIdeal.τ).loc Cert.ReferenceInprojIdeal.main_arg5) = m' ((c.tc : Thread Cert.ReferenceInprojIdeal.nD Cert.ReferenceInprojIdeal.τ).loc Cert.ReferenceInprojIdeal.main_arg5))

def preserves_KernelOutproj_KernelOutprojIdeal : Prop :=
  True

def algebraic_KernelOutprojIdeal_ReferenceOutprojIdeal [hKernelOutprojIdeal : Cert.KernelOutprojIdeal.Facts] [hReferenceOutprojIdeal : Cert.ReferenceOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg)
    (m' : (ℓ : Loc Cert.ReferenceOutprojIdeal.nD Cert.ReferenceOutprojIdeal.τ Cert.ReferenceOutprojIdeal.sig) → Buf (Elt Ideal) ℓ) (g' : Dev Cert.ReferenceOutprojIdeal.nD → PrngReg), Pre_KernelOutprojIdeal m →
    (∀ c : Dev Cert.KernelOutprojIdeal.nD,
      m' ((c.tc : Thread Cert.ReferenceOutprojIdeal.nD Cert.ReferenceOutprojIdeal.τ).loc Cert.ReferenceOutprojIdeal.main_arg0) = m ((c.tc : Thread Cert.KernelOutprojIdeal.nD Cert.KernelOutprojIdeal.τ).loc Cert.KernelOutprojIdeal.main_arg0)
      ∧ m' ((c.tc : Thread Cert.ReferenceOutprojIdeal.nD Cert.ReferenceOutprojIdeal.τ).loc Cert.ReferenceOutprojIdeal.main_arg1) = m ((c.tc : Thread Cert.KernelOutprojIdeal.nD Cert.KernelOutprojIdeal.τ).loc Cert.KernelOutprojIdeal.main_arg1)
      ∧ m' ((c.tc : Thread Cert.ReferenceOutprojIdeal.nD Cert.ReferenceOutprojIdeal.τ).loc Cert.ReferenceOutprojIdeal.main_arg2) = m ((c.tc : Thread Cert.KernelOutprojIdeal.nD Cert.KernelOutprojIdeal.τ).loc Cert.KernelOutprojIdeal.main_arg2)
      ∧ m' ((c.tc : Thread Cert.ReferenceOutprojIdeal.nD Cert.ReferenceOutprojIdeal.τ).loc Cert.ReferenceOutprojIdeal.main_arg3) = m ((c.tc : Thread Cert.KernelOutprojIdeal.nD Cert.KernelOutprojIdeal.τ).loc Cert.KernelOutprojIdeal.main_arg3)
      ∧ m' ((c.tc : Thread Cert.ReferenceOutprojIdeal.nD Cert.ReferenceOutprojIdeal.τ).loc Cert.ReferenceOutprojIdeal.main_arg4) = m ((c.tc : Thread Cert.KernelOutprojIdeal.nD Cert.KernelOutprojIdeal.τ).loc Cert.KernelOutprojIdeal.main_arg4)
      ∧ m' ((c.tc : Thread Cert.ReferenceOutprojIdeal.nD Cert.ReferenceOutprojIdeal.τ).loc Cert.ReferenceOutprojIdeal.main_arg5) = m ((c.tc : Thread Cert.KernelOutprojIdeal.nD Cert.KernelOutprojIdeal.τ).loc Cert.KernelOutprojIdeal.main_arg5)
      ∧ m' ((c.tc : Thread Cert.ReferenceOutprojIdeal.nD Cert.ReferenceOutprojIdeal.τ).loc Cert.ReferenceOutprojIdeal.main_arg6) = m ((c.tc : Thread Cert.KernelOutprojIdeal.nD Cert.KernelOutprojIdeal.τ).loc Cert.KernelOutprojIdeal.main_arg6)) →
    ∃ (v0 : (c : Dev Cert.KernelOutprojIdeal.nD) → Buf (Elt Ideal) ((c.tc : Thread Cert.KernelOutprojIdeal.nD Cert.KernelOutprojIdeal.τ).loc Cert.KernelOutprojIdeal.main_v0_0)),
      θ_run (Cert.KernelOutprojIdeal.defs (F := Ideal)) (onTc (τ := Cert.KernelOutprojIdeal.τ) (Cert.KernelOutprojIdeal.main (F := Ideal))) ⟨m, fun _ => 0, g⟩ (fun r => ∀ c : Dev Cert.KernelOutprojIdeal.nD,
          r.2.mem ((c.tc : Thread Cert.KernelOutprojIdeal.nD Cert.KernelOutprojIdeal.τ).loc Cert.KernelOutprojIdeal.main_v0_0) = v0 c
          ∧ r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
          ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
          ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
          ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
          ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4)
          ∧ r.2.mem ((c.tc : Thread Cert.KernelOutprojIdeal.nD Cert.KernelOutprojIdeal.τ).loc Cert.KernelOutprojIdeal.main_arg5) = m ((c.tc : Thread Cert.KernelOutprojIdeal.nD Cert.KernelOutprojIdeal.τ).loc Cert.KernelOutprojIdeal.main_arg5)
          ∧ r.2.mem ((c.tc : Thread Cert.KernelOutprojIdeal.nD Cert.KernelOutprojIdeal.τ).loc Cert.KernelOutprojIdeal.main_arg6) = m ((c.tc : Thread Cert.KernelOutprojIdeal.nD Cert.KernelOutprojIdeal.τ).loc Cert.KernelOutprojIdeal.main_arg6))
      ∧ θ_run (Cert.ReferenceOutprojIdeal.defs (F := Ideal)) (onTc (τ := Cert.ReferenceOutprojIdeal.τ) (Cert.ReferenceOutprojIdeal.main (F := Ideal))) ⟨m', fun _ => 0, g'⟩ (fun r => ∀ c : Dev Cert.ReferenceOutprojIdeal.nD,
          r.2.mem ((c.tc : Thread Cert.ReferenceOutprojIdeal.nD Cert.ReferenceOutprojIdeal.τ).loc Cert.ReferenceOutprojIdeal.main_v6) = v0 c
          ∧ r.2.mem ((c.tc : Thread Cert.ReferenceOutprojIdeal.nD Cert.ReferenceOutprojIdeal.τ).loc Cert.ReferenceOutprojIdeal.main_arg0) = m' ((c.tc : Thread Cert.ReferenceOutprojIdeal.nD Cert.ReferenceOutprojIdeal.τ).loc Cert.ReferenceOutprojIdeal.main_arg0)
          ∧ r.2.mem ((c.tc : Thread Cert.ReferenceOutprojIdeal.nD Cert.ReferenceOutprojIdeal.τ).loc Cert.ReferenceOutprojIdeal.main_arg1) = m' ((c.tc : Thread Cert.ReferenceOutprojIdeal.nD Cert.ReferenceOutprojIdeal.τ).loc Cert.ReferenceOutprojIdeal.main_arg1)
          ∧ r.2.mem ((c.tc : Thread Cert.ReferenceOutprojIdeal.nD Cert.ReferenceOutprojIdeal.τ).loc Cert.ReferenceOutprojIdeal.main_arg2) = m' ((c.tc : Thread Cert.ReferenceOutprojIdeal.nD Cert.ReferenceOutprojIdeal.τ).loc Cert.ReferenceOutprojIdeal.main_arg2)
          ∧ r.2.mem ((c.tc : Thread Cert.ReferenceOutprojIdeal.nD Cert.ReferenceOutprojIdeal.τ).loc Cert.ReferenceOutprojIdeal.main_arg3) = m' ((c.tc : Thread Cert.ReferenceOutprojIdeal.nD Cert.ReferenceOutprojIdeal.τ).loc Cert.ReferenceOutprojIdeal.main_arg3)
          ∧ r.2.mem ((c.tc : Thread Cert.ReferenceOutprojIdeal.nD Cert.ReferenceOutprojIdeal.τ).loc Cert.ReferenceOutprojIdeal.main_arg4) = m' ((c.tc : Thread Cert.ReferenceOutprojIdeal.nD Cert.ReferenceOutprojIdeal.τ).loc Cert.ReferenceOutprojIdeal.main_arg4)
          ∧ r.2.mem ((c.tc : Thread Cert.ReferenceOutprojIdeal.nD Cert.ReferenceOutprojIdeal.τ).loc Cert.ReferenceOutprojIdeal.main_arg5) = m' ((c.tc : Thread Cert.ReferenceOutprojIdeal.nD Cert.ReferenceOutprojIdeal.τ).loc Cert.ReferenceOutprojIdeal.main_arg5)
          ∧ r.2.mem ((c.tc : Thread Cert.ReferenceOutprojIdeal.nD Cert.ReferenceOutprojIdeal.τ).loc Cert.ReferenceOutprojIdeal.main_arg6) = m' ((c.tc : Thread Cert.ReferenceOutprojIdeal.nD Cert.ReferenceOutprojIdeal.τ).loc Cert.ReferenceOutprojIdeal.main_arg6))

def Claim : Prop :=
  ∃ (hKernel : Cert.Kernel.Facts) (hKernelIdeal : Cert.KernelIdeal.Facts) (hReferenceIdeal : Cert.ReferenceIdeal.Facts) (hKernelExperts : Cert.KernelExperts.Facts) (hKernelExpertsIdeal : Cert.KernelExpertsIdeal.Facts) (hReferenceExpertsIdeal : Cert.ReferenceExpertsIdeal.Facts) (hKernelInproj : Cert.KernelInproj.Facts) (hKernelInprojIdeal : Cert.KernelInprojIdeal.Facts) (hReferenceInprojIdeal : Cert.ReferenceInprojIdeal.Facts) (hKernelOutproj : Cert.KernelOutproj.Facts) (hKernelOutprojIdeal : Cert.KernelOutprojIdeal.Facts) (hReferenceOutprojIdeal : Cert.ReferenceOutprojIdeal.Facts) (hPre_finite_scores : Cert.Pre_finite_scores.Facts) (hPre_schedule : Cert.Pre_schedule.Facts) (hOn_used_rows : Cert.On_used_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelExperts (hKernelExperts := hKernelExperts) (hPre_schedule := hPre_schedule)
    ∧ quiescent_KernelExpertsIdeal (hKernelExpertsIdeal := hKernelExpertsIdeal) (hPre_schedule := hPre_schedule)
    ∧ quiescent_ReferenceExpertsIdeal (hReferenceExpertsIdeal := hReferenceExpertsIdeal)
    ∧ quiescent_ReferenceExpertsIdeal_pre_schedule (hReferenceExpertsIdeal := hReferenceExpertsIdeal) (hPre_schedule := hPre_schedule)
    ∧ quiescent_KernelInproj (hKernelInproj := hKernelInproj)
    ∧ quiescent_KernelInprojIdeal (hKernelInprojIdeal := hKernelInprojIdeal)
    ∧ quiescent_ReferenceInprojIdeal (hReferenceInprojIdeal := hReferenceInprojIdeal)
    ∧ quiescent_KernelOutproj (hKernelOutproj := hKernelOutproj)
    ∧ quiescent_KernelOutprojIdeal (hKernelOutprojIdeal := hKernelOutprojIdeal)
    ∧ quiescent_ReferenceOutprojIdeal (hReferenceOutprojIdeal := hReferenceOutprojIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelExperts_KernelExpertsIdeal
    ∧ algebraic_KernelExpertsIdeal_ReferenceExpertsIdeal_on_used_rows (hKernelExpertsIdeal := hKernelExpertsIdeal) (hReferenceExpertsIdeal := hReferenceExpertsIdeal) (hPre_schedule := hPre_schedule) (hOn_used_rows := hOn_used_rows)
    ∧ preserves_KernelInproj_KernelInprojIdeal
    ∧ algebraic_KernelInprojIdeal_ReferenceInprojIdeal (hKernelInprojIdeal := hKernelInprojIdeal) (hReferenceInprojIdeal := hReferenceInprojIdeal)
    ∧ preserves_KernelOutproj_KernelOutprojIdeal
    ∧ algebraic_KernelOutprojIdeal_ReferenceOutprojIdeal (hKernelOutprojIdeal := hKernelOutprojIdeal) (hReferenceOutprojIdeal := hReferenceOutprojIdeal)
-- ==== On_used_rows.lean ====
abbrev S160 : Shape := ⟨1, ![160]⟩
abbrev S1 : Shape := ⟨1, ![1]⟩
abbrev S40960x2048 : Shape := ⟨2, ![40960, 2048]⟩
abbrev S1x2048 : Shape := ⟨2, ![1, 2048]⟩
abbrev S4x32x2048x512 : Shape := ⟨4, ![4, 32, 2048, 512]⟩
abbrev S4x32x512x2048 : Shape := ⟨4, ![4, 32, 512, 2048]⟩
abbrev S_ : Shape := ⟨0, ![]⟩

class Facts : Prop where
  shapeCasts_S1_S_ : S1.ShapeCasts S_
  bcast_S_S40960x2048 : S_.BroadcastsInDim S40960x2048 (![] : Fin 0 → Fin S40960x2048.rank)

variable [Facts]

def fn {F : FTy → Type} [FloatOps F] (main_arg0 : IVec S160 32) (main_arg1 : IVec S1 32) (main_arg2 : IVec S160 32) (main_arg3 : IVec S160 32) (main_arg4 : IVec S160 32) (main_arg5 : FVec F S40960x2048 .f32) (main_arg6 : FVec F S1x2048 .f32) (main_arg7 : FVec F S4x32x2048x512 .f32) (main_arg8 : FVec F S4x32x2048x512 .f32) (main_arg9 : FVec F S4x32x512x2048 .f32) : IVec S40960x2048 1 :=
  let main_v0 : IVec S40960x2048 32 := iotaInDim S40960x2048 32 0
  let main_v1 : IVec S_ 32 := shapeCast S_ main_arg1 shapeCasts_S1_S_
  let main_c : IVec S_ 32 := constantI S_ 32 256#32
  let main_v2 : IVec S_ 32 := muli main_v1 main_c
  let main_v3 : IVec S40960x2048 32 := broadcastInDim S40960x2048 ![] bcast_S_S40960x2048 main_v2
  let main_v4 : IVec S40960x2048 1 := cmpi .slt main_v0 main_v3
  main_v4
-- ==== Pre_finite_scores.lean ====
abbrev S2x8x8192x128 : Shape := ⟨4, ![2, 8, 8192, 128]⟩
abbrev S_ : Shape := ⟨0, ![]⟩

class Facts : Prop where
  bcast_S_S2x8x8192x128 : S_.BroadcastsInDim S2x8x8192x128 (![] : Fin 0 → Fin S2x8x8192x128.rank)

variable [Facts]

def fn {F : FTy → Type} [FloatOps F] (main_arg0 : FVec F S2x8x8192x128 .bf16) (main_arg1 : FVec F S2x8x8192x128 .bf16) (main_arg2 : FVec F S2x8x8192x128 .bf16) : IVec S2x8x8192x128 1 :=
  let main_cst : FVec F S_ .bf16 := constant S_ .bf16 0xFF80#16
  let main_v0 : FVec F S2x8x8192x128 .bf16 := broadcastInDim S2x8x8192x128 ![] bcast_S_S2x8x8192x128 main_cst
  let main_v1 : IVec S2x8x8192x128 1 := cmpf .ogt main_arg0 main_v0
  let main_cst_0 : FVec F S_ .bf16 := constant S_ .bf16 0x7F80#16
  let main_v2 : FVec F S2x8x8192x128 .bf16 := broadcastInDim S2x8x8192x128 ![] bcast_S_S2x8x8192x128 main_cst_0
  let main_v3 : IVec S2x8x8192x128 1 := cmpf .olt main_arg0 main_v2
  let main_v4 : IVec S2x8x8192x128 1 := andi main_v1 main_v3
  let main_cst_1 : FVec F S_ .bf16 := constant S_ .bf16 0xFF80#16
  let main_v5 : FVec F S2x8x8192x128 .bf16 := broadcastInDim S2x8x8192x128 ![] bcast_S_S2x8x8192x128 main_cst_1
  let main_v6 : IVec S2x8x8192x128 1 := cmpf .ogt main_arg1 main_v5
  let main_v7 : IVec S2x8x8192x128 1 := andi main_v4 main_v6
  let main_cst_2 : FVec F S_ .bf16 := constant S_ .bf16 0x7F80#16
  let main_v8 : FVec F S2x8x8192x128 .bf16 := broadcastInDim S2x8x8192x128 ![] bcast_S_S2x8x8192x128 main_cst_2
  let main_v9 : IVec S2x8x8192x128 1 := cmpf .olt main_arg1 main_v8
  let main_v10 : IVec S2x8x8192x128 1 := andi main_v7 main_v9
  main_v10
-- ==== Pre_schedule.lean ====
abbrev S160 : Shape := ⟨1, ![160]⟩
abbrev S1 : Shape := ⟨1, ![1]⟩
abbrev S40960x2048 : Shape := ⟨2, ![40960, 2048]⟩
abbrev S1x2048 : Shape := ⟨2, ![1, 2048]⟩
abbrev S4x32x2048x512 : Shape := ⟨4, ![4, 32, 2048, 512]⟩
abbrev S4x32x512x2048 : Shape := ⟨4, ![4, 32, 512, 2048]⟩
abbrev S_ : Shape := ⟨0, ![]⟩
abbrev S159 : Shape := ⟨1, ![159]⟩

class Facts : Prop where
  shapeCasts_S1_S_ : S1.ShapeCasts S_
  slices_S160_S159_1 : S160.Slices ![1] S159
  slices_S160_S1_0 : S160.Slices ![0] S1
  concatenates_S159_S1_S160_d0 : Shape.Concatenates [S159, S1] S160 0
  bcast_S_S160 : S_.BroadcastsInDim S160 (![] : Fin 0 → Fin S160.rank)

variable [Facts]

def fn_part3 {F : FTy → Type} [FloatOps F] (main_arg0 : IVec S160 32) (main_arg3 : IVec S160 32) (main_arg4 : IVec S160 32) (main_v1 : IVec S_ 32) (main_v4 : IVec S160 32) (main_v7 : IVec S160 32) (main_v13 : IVec S160 32) (main_v57 : IVec S160 1) (main_v59 : IVec S160 32) : IVec S160 1 :=
  let main_v60 : IVec S160 32 := broadcastInDim S160 ![] bcast_S_S160 main_v1
  let main_v61 : IVec S160 1 := cmpi .sge main_v59 main_v60
  let main_v62 : IVec S160 1 := cmpi .eq main_v4 main_arg0
  let main_v63 : IVec S160 1 := ori main_v61 main_v62
  let main_c_11 : IVec S_ 32 := constantI S_ 32 1#32
  let main_v64 : IVec S160 32 := broadcastInDim S160 ![] bcast_S_S160 main_c_11
  let main_v65 : IVec S160 1 := cmpi .eq main_v7 main_v64
  let main_c_12 : IVec S_ 32 := constantI S_ 32 1#32
  let main_v66 : IVec S160 32 := broadcastInDim S160 ![] bcast_S_S160 main_c_12
  let main_v67 : IVec S160 32 := subi main_v66 main_arg4
  let main_v68 : IVec S160 1 := cmpi .eq main_v13 main_v67
  let main_v69 : IVec S160 1 := andi main_v65 main_v68
  let main_v70 : IVec S160 1 := cmpi .eq main_arg3 main_v4
  let main_v71 : IVec S160 1 := andi main_v69 main_v70
  let main_v72 : IVec S160 1 := ori main_v63 main_v71
  let main_v73 : IVec S160 1 := andi main_v57 main_v72
  main_v73

def fn_part2 {F : FTy → Type} [FloatOps F] (main_arg0 : IVec S160 32) (main_arg3 : IVec S160 32) (main_arg4 : IVec S160 32) (main_v0 : IVec S160 32) (main_v1 : IVec S_ 32) (main_v4 : IVec S160 32) (main_v7 : IVec S160 32) (main_v10 : IVec S160 32) (main_v13 : IVec S160 32) (main_v35 : IVec S160 1) (main_v39 : IVec S160 1) : IVec S160 1 :=
  let main_c_7 : IVec S_ 32 := constantI S_ 32 4294967295#32
  let main_v40 : IVec S160 32 := broadcastInDim S160 ![] bcast_S_S160 main_c_7
  let main_v41 : IVec S160 1 := cmpi .eq main_arg3 main_v40
  let main_v42 : IVec S160 1 := ori main_v39 main_v41
  let main_v43 : IVec S160 1 := andi main_v35 main_v42
  let main_c_8 : IVec S_ 32 := constantI S_ 32 1#32
  let main_v44 : IVec S160 32 := broadcastInDim S160 ![] bcast_S_S160 main_c_8
  let main_v45 : IVec S160 32 := addi main_v0 main_v44
  let main_v46 : IVec S160 32 := broadcastInDim S160 ![] bcast_S_S160 main_v1
  let main_v47 : IVec S160 1 := cmpi .sge main_v45 main_v46
  let main_v48 : IVec S160 1 := cmpi .ne main_v4 main_arg0
  let main_v49 : IVec S160 1 := ori main_v47 main_v48
  let main_c_9 : IVec S_ 32 := constantI S_ 32 0#32
  let main_v50 : IVec S160 32 := broadcastInDim S160 ![] bcast_S_S160 main_c_9
  let main_v51 : IVec S160 1 := cmpi .eq main_v7 main_v50
  let main_v52 : IVec S160 1 := cmpi .eq main_v13 main_arg4
  let main_v53 : IVec S160 1 := andi main_v51 main_v52
  let main_v54 : IVec S160 1 := cmpi .eq main_arg3 main_v10
  let main_v55 : IVec S160 1 := andi main_v53 main_v54
  let main_v56 : IVec S160 1 := ori main_v49 main_v55
  let main_v57 : IVec S160 1 := andi main_v43 main_v56
  let main_c_10 : IVec S_ 32 := constantI S_ 32 1#32
  let main_v58 : IVec S160 32 := broadcastInDim S160 ![] bcast_S_S160 main_c_10
  let main_v59 : IVec S160 32 := addi main_v0 main_v58
  fn_part3 (F := F) main_arg0 main_arg3 main_arg4 main_v1 main_v4 main_v7 main_v13 main_v57 main_v59

def fn_part1 {F : FTy → Type} [FloatOps F] (main_arg0 : IVec S160 32) (main_arg2 : IVec S160 32) (main_arg3 : IVec S160 32) (main_arg4 : IVec S160 32) (main_v0 : IVec S160 32) (main_v1 : IVec S_ 32) (main_v4 : IVec S160 32) (main_v7 : IVec S160 32) (main_v10 : IVec S160 32) (main_v13 : IVec S160 32) (main_v16 : IVec S_ 1) (main_v18 : IVec S160 1) (main_v20 : IVec S160 1) : IVec S160 1 :=
  let main_c_2 : IVec S_ 32 := constantI S_ 32 32#32
  let main_v21 : IVec S160 32 := broadcastInDim S160 ![] bcast_S_S160 main_c_2
  let main_v22 : IVec S160 1 := cmpi .slt main_arg0 main_v21
  let main_v23 : IVec S160 1 := andi main_v20 main_v22
  let main_v24 : IVec S160 1 := ori main_v18 main_v23
  let main_v25 : IVec S160 1 := broadcastInDim S160 ![] bcast_S_S160 main_v16
  let main_v26 : IVec S160 1 := andi main_v25 main_v24
  let main_c_3 : IVec S_ 32 := constantI S_ 32 0#32
  let main_v27 : IVec S160 32 := broadcastInDim S160 ![] bcast_S_S160 main_c_3
  let main_v28 : IVec S160 1 := cmpi .sgt main_v0 main_v27
  let main_c_4 : IVec S_ 32 := constantI S_ 32 1#32
  let main_v29 : IVec S160 32 := broadcastInDim S160 ![] bcast_S_S160 main_c_4
  let main_v30 : IVec S160 1 := cmpi .eq main_arg2 main_v29
  let main_c_5 : IVec S_ 32 := constantI S_ 32 0#32
  let main_v31 : IVec S160 32 := broadcastInDim S160 ![] bcast_S_S160 main_c_5
  let main_v32 : IVec S160 1 := cmpi .eq main_arg4 main_v31
  let main_v33 : IVec S160 1 := andi main_v30 main_v32
  let main_v34 : IVec S160 1 := ori main_v28 main_v33
  let main_v35 : IVec S160 1 := andi main_v26 main_v34
  let main_c_6 : IVec S_ 32 := constantI S_ 32 1#32
  let main_v36 : IVec S160 32 := broadcastInDim S160 ![] bcast_S_S160 main_c_6
  let main_v37 : IVec S160 32 := addi main_v0 main_v36
  let main_v38 : IVec S160 32 := broadcastInDim S160 ![] bcast_S_S160 main_v1
  let main_v39 : IVec S160 1 := cmpi .ne main_v37 main_v38
  fn_part2 (F := F) main_arg0 main_arg3 main_arg4 main_v0 main_v1 main_v4 main_v7 main_v10 main_v13 main_v35 main_v39

def fn {F : FTy → Type} [FloatOps F] (main_arg0 : IVec S160 32) (main_arg1 : IVec S1 32) (main_arg2 : IVec S160 32) (main_arg3 : IVec S160 32) (main_arg4 : IVec S160 32) (main_arg5 : FVec F S40960x2048 .f32) (main_arg6 : FVec F S1x2048 .f32) (main_arg7 : FVec F S4x32x2048x512 .f32) (main_arg8 : FVec F S4x32x2048x512 .f32) (main_arg9 : FVec F S4x32x512x2048 .f32) : IVec S160 1 :=
  let main_v0 : IVec S160 32 := iotaInDim S160 32 0
  let main_v1 : IVec S_ 32 := shapeCast S_ main_arg1 shapeCasts_S1_S_
  let main_v2 : IVec S159 32 := (extractStridedSlice S159 ![1] · slices_S160_S159_1) main_arg0
  let main_v3 : IVec S1 32 := (extractStridedSlice S1 ![0] · slices_S160_S1_0) main_arg0
  let main_v4 : IVec S160 32 := (fun a b => concatenate S160 0 [⟨S159, a⟩, ⟨S1, b⟩] concatenates_S159_S1_S160_d0) main_v2 main_v3
  let main_v5 : IVec S159 32 := (extractStridedSlice S159 ![1] · slices_S160_S159_1) main_arg2
  let main_v6 : IVec S1 32 := (extractStridedSlice S1 ![0] · slices_S160_S1_0) main_arg2
  let main_v7 : IVec S160 32 := (fun a b => concatenate S160 0 [⟨S159, a⟩, ⟨S1, b⟩] concatenates_S159_S1_S160_d0) main_v5 main_v6
  let main_v8 : IVec S159 32 := (extractStridedSlice S159 ![1] · slices_S160_S159_1) main_arg3
  let main_v9 : IVec S1 32 := (extractStridedSlice S1 ![0] · slices_S160_S1_0) main_arg3
  let main_v10 : IVec S160 32 := (fun a b => concatenate S160 0 [⟨S159, a⟩, ⟨S1, b⟩] concatenates_S159_S1_S160_d0) main_v8 main_v9
  let main_v11 : IVec S159 32 := (extractStridedSlice S159 ![1] · slices_S160_S159_1) main_arg4
  let main_v12 : IVec S1 32 := (extractStridedSlice S1 ![0] · slices_S160_S1_0) main_arg4
  let main_v13 : IVec S160 32 := (fun a b => concatenate S160 0 [⟨S159, a⟩, ⟨S1, b⟩] concatenates_S159_S1_S160_d0) main_v11 main_v12
  let main_c : IVec S_ 32 := constantI S_ 32 1#32
  let main_v14 : IVec S_ 1 := cmpi .sge main_v1 main_c
  let main_c_0 : IVec S_ 32 := constantI S_ 32 160#32
  let main_v15 : IVec S_ 1 := cmpi .sle main_v1 main_c_0
  let main_v16 : IVec S_ 1 := andi main_v14 main_v15
  let main_v17 : IVec S160 32 := broadcastInDim S160 ![] bcast_S_S160 main_v1
  let main_v18 : IVec S160 1 := cmpi .sge main_v0 main_v17
  let main_c_1 : IVec S_ 32 := constantI S_ 32 0#32
  let main_v19 : IVec S160 32 := broadcastInDim S160 ![] bcast_S_S160 main_c_1
  let main_v20 : IVec S160 1 := cmpi .sge main_arg0 main_v19
  fn_part1 (F := F) main_arg0 main_arg2 main_arg3 main_arg4 main_v0 main_v1 main_v4 main_v7 main_v10 main_v13 main_v16 main_v18 main_v20
-- ==== Kernel.lean ====
abbrev S2x8x8192x128 : Shape := ⟨4, ![2, 8, 8192, 128]⟩
abbrev S1x1x2048x128 : Shape := ⟨4, ![1, 1, 2048, 128]⟩
abbrev S2048x128 : Shape := ⟨2, ![2048, 128]⟩
abbrev S4096x128 : Shape := ⟨2, ![4096, 128]⟩
abbrev S3x2048x128 : Shape := ⟨3, ![3, 2048, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩
abbrev S1x256x128 : Shape := ⟨3, ![1, 256, 128]⟩
abbrev S1x1x256x128 : Shape := ⟨4, ![1, 1, 256, 128]⟩

abbrev nBuf : Space → Nat
  | .hbm => 4
  | .vmem => 18
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x8x8192x128, .bf16⟩
  | .hbm, ⟨3, _⟩ => ⟨S2x8x8192x128, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x2048x128, .bf16⟩
  | .local _ .vmem, ⟨9, _⟩ => ⟨S1x1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S2048x128, .f32⟩
  | .local _ .vmem, ⟨13, _⟩ => ⟨S4096x128, .f32⟩
  | .local _ .vmem, ⟨14, _⟩ => ⟨S4096x128, .f32⟩
  | .local _ .vmem, ⟨15, _⟩ => ⟨S3x2048x128, .f32⟩
  | .local _ .vmem, ⟨16, _⟩ => ⟨S3x2048x128, .f32⟩
  | .local _ .vmem, ⟨17, _⟩ => ⟨S3x2048x128, .f32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 4], ![false, false, false]⟩

@[reducible] def k0_t1_loop : Scf.Loop 32 :=
  let c0_i32 : BitVec 32 := 0#32
  let c16_i32 : BitVec 32 := 16#32
  let v46 : BitVec 32 := Scalar.addi c0_i32 c16_i32
  let c1_i32 : BitVec 32 := 1#32
  ⟨c0_i32, v46, c1_i32⟩
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c0_i32_45 : BitVec 32 := 0#32
  let v51 : BitVec 1 := Scalar.cmpi .sgt arg15 c0_i32_45
  let v52 : BitVec 32 := Scalar.extui v51
  let c0_i32_46 : BitVec 32 := 0#32
  let v53 : BitVec 1 := Scalar.cmpi .slt arg15 c0_i32_46
  let v54 : BitVec 32 := Scalar.extui v53
  let v55 : BitVec 32 := Scalar.subi v52 v54
  let c1_i32_44 : BitVec 32 := 1#32
  let c0_i32_47 : BitVec 32 := 0#32
  let v56 : BitVec 1 := Scalar.cmpi .sgt c1_i32_44 c0_i32_47
  let v57 : BitVec 32 := Scalar.extui v56
  let c0_i32_48 : BitVec 32 := 0#32
  let v58 : BitVec 1 := Scalar.cmpi .slt c1_i32_44 c0_i32_48
  let v59 : BitVec 32 := Scalar.extui v58
  let v60 : BitVec 32 := Scalar.subi v57 v59
  let v61 : BitVec 1 := Scalar.cmpi .ne v55 v60
  let v62 : BitVec 32 := Scalar.remsi arg15 c1_i32_44
  let c0_i32_49 : BitVec 32 := 0#32
  let v63 : BitVec 1 := Scalar.cmpi .ne v62 c0_i32_49
  let v64 : BitVec 1 := Scalar.andi v61 v63
  let v50 : BitVec 32 := Scalar.divsi arg15 c1_i32_44
  let c1_i32_50 : BitVec 32 := 1#32
  let v65 : BitVec 32 := Scalar.subi v50 c1_i32_50
  let v66 : BitVec 32 := Scalar.select v64 v65 v50
  let c128_i32_51 : BitVec 32 := 128#32
  let v67 : BitVec 32 := Scalar.muli v66 c128_i32_51
  let c1_i32_52 : BitVec 32 := 1#32
  let c0_i32_53 : BitVec 32 := 0#32
  let v68 : BitVec 1 := Scalar.cmpi .eq c1_i32_52 c0_i32_53
  let c1_i32_54 : BitVec 32 := 1#32
  let v69 : BitVec 32 := Scalar.select v68 c1_i32_54 c1_i32_52
  let v70 : BitVec 32 := Scalar.remsi arg15 v69
  let c0_i32_56 : BitVec 32 := 0#32
  let v72 : BitVec 1 := Scalar.cmpi .slt v70 c0_i32_56
  let c0_i32_57 : BitVec 32 := 0#32
  let v73 : BitVec 1 := Scalar.cmpi .slt v69 c0_i32_57
  let v74 : BitVec 1 := Scalar.xori v72 v73
  let c0_i32_55 : BitVec 32 := 0#32
  let v71 : BitVec 1 := Scalar.cmpi .ne v70 c0_i32_55
  let v75 : BitVec 1 := Scalar.andi v74 v71
  let v76 : BitVec 32 := Scalar.addi v70 v69
  let v77 : BitVec 32 := Scalar.select v75 v76 v70
  let v78 : BitVec 32 := Scalar.addi v67 v77
  let v81 : Index := Scalar.indexCast v78
  let c0_59 : Index := 0#32
  ![v81.toNat, 0]
def k0_off2 (k0_t1 : Fin k0_t1_loop.trips) : Fin 2 → Nat :=
  let c2048_i32 : BitVec 32 := 2048#32
  let c0_i32 : BitVec 32 := 0#32
  let c1_i32 : BitVec 32 := 1#32
  let arg15 : BitVec 32 := Scf.iv c0_i32 c1_i32 k0_t1
  let c0_i32_45 : BitVec 32 := 0#32
  let v51 : BitVec 1 := Scalar.cmpi .sgt arg15 c0_i32_45
  let v52 : BitVec 32 := Scalar.extui v51
  let c0_i32_46 : BitVec 32 := 0#32
  let v53 : BitVec 1 := Scalar.cmpi .slt arg15 c0_i32_46
  let v54 : BitVec 32 := Scalar.extui v53
  let v55 : BitVec 32 := Scalar.subi v52 v54
  let c1_i32_44 : BitVec 32 := 1#32
  let c0_i32_47 : BitVec 32 := 0#32
  let v56 : BitVec 1 := Scalar.cmpi .sgt c1_i32_44 c0_i32_47
  let v57 : BitVec 32 := Scalar.extui v56
  let c0_i32_48 : BitVec 32 := 0#32
  let v58 : BitVec 1 := Scalar.cmpi .slt c1_i32_44 c0_i32_48
  let v59 : BitVec 32 := Scalar.extui v58
  let v60 : BitVec 32 := Scalar.subi v57 v59
  let v61 : BitVec 1 := Scalar.cmpi .ne v55 v60
  let v62 : BitVec 32 := Scalar.remsi arg15 c1_i32_44
  let c0_i32_49 : BitVec 32 := 0#32
  let v63 : BitVec 1 := Scalar.cmpi .ne v62 c0_i32_49
  let v64 : BitVec 1 := Scalar.andi v61 v63
  let v50 : BitVec 32 := Scalar.divsi arg15 c1_i32_44
  let c1_i32_50 : BitVec 32 := 1#32
  let v65 : BitVec 32 := Scalar.subi v50 c1_i32_50
  let v66 : BitVec 32 := Scalar.select v64 v65 v50
  let c128_i32_51 : BitVec 32 := 128#32
  let v67 : BitVec 32 := Scalar.muli v66 c128_i32_51
  let c1_i32_52 : BitVec 32 := 1#32
  let c0_i32_53 : BitVec 32 := 0#32
  let v68 : BitVec 1 := Scalar.cmpi .eq c1_i32_52 c0_i32_53
  let c1_i32_54 : BitVec 32 := 1#32
  let v69 : BitVec 32 := Scalar.select v68 c1_i32_54 c1_i32_52
  let v70 : BitVec 32 := Scalar.remsi arg15 v69
  let c0_i32_56 : BitVec 32 := 0#32
  let v72 : BitVec 1 := Scalar.cmpi .slt v70 c0_i32_56
  let c0_i32_57 : BitVec 32 := 0#32
  let v73 : BitVec 1 := Scalar.cmpi .slt v69 c0_i32_57
  let v74 : BitVec 1 := Scalar.xori v72 v73
  let c0_i32_55 : BitVec 32 := 0#32
  let v71 : BitVec 1 := Scalar.cmpi .ne v70 c0_i32_55
  let v75 : BitVec 1 := Scalar.andi v74 v71
  let v76 : BitVec 32 := Scalar.addi v70 v69
  let v77 : BitVec 32 := Scalar.select v75 v76 v70
  let v78 : BitVec 32 := Scalar.addi v67 v77
  let v79 : BitVec 32 := Scalar.addi c2048_i32 v78
  let c128_i32_58 : BitVec 32 := 128#32
  let v80 : BitVec 32 := Scalar.subi v79 c128_i32_58
  let v84 : Index := Scalar.indexCast v80
  let c0_60 : Index := 0#32
  ![v84.toNat, 0]
def k0_off3 (k0_t1 : Fin k0_t1_loop.trips) : Fin 3 → Nat :=
  let c0_66 : Index := 0#32
  let c0_i32 : BitVec 32 := 0#32
  let c1_i32 : BitVec 32 := 1#32
  let arg15 : BitVec 32 := Scf.iv c0_i32 c1_i32 k0_t1
  let c0_i32_45 : BitVec 32 := 0#32
  let v51 : BitVec 1 := Scalar.cmpi .sgt arg15 c0_i32_45
  let v52 : BitVec 32 := Scalar.extui v51
  let c0_i32_46 : BitVec 32 := 0#32
  let v53 : BitVec 1 := Scalar.cmpi .slt arg15 c0_i32_46
  let v54 : BitVec 32 := Scalar.extui v53
  let v55 : BitVec 32 := Scalar.subi v52 v54
  let c1_i32_44 : BitVec 32 := 1#32
  let c0_i32_47 : BitVec 32 := 0#32
  let v56 : BitVec 1 := Scalar.cmpi .sgt c1_i32_44 c0_i32_47
  let v57 : BitVec 32 := Scalar.extui v56
  let c0_i32_48 : BitVec 32 := 0#32
  let v58 : BitVec 1 := Scalar.cmpi .slt c1_i32_44 c0_i32_48
  let v59 : BitVec 32 := Scalar.extui v58
  let v60 : BitVec 32 := Scalar.subi v57 v59
  let v61 : BitVec 1 := Scalar.cmpi .ne v55 v60
  let v62 : BitVec 32 := Scalar.remsi arg15 c1_i32_44
  let c0_i32_49 : BitVec 32 := 0#32
  let v63 : BitVec 1 := Scalar.cmpi .ne v62 c0_i32_49
  let v64 : BitVec 1 := Scalar.andi v61 v63
  let v50 : BitVec 32 := Scalar.divsi arg15 c1_i32_44
  let c1_i32_50 : BitVec 32 := 1#32
  let v65 : BitVec 32 := Scalar.subi v50 c1_i32_50
  let v66 : BitVec 32 := Scalar.select v64 v65 v50
  let c128_i32_51 : BitVec 32 := 128#32
  let v67 : BitVec 32 := Scalar.muli v66 c128_i32_51
  let c1_i32_52 : BitVec 32 := 1#32
  let c0_i32_53 : BitVec 32 := 0#32
  let v68 : BitVec 1 := Scalar.cmpi .eq c1_i32_52 c0_i32_53
  let c1_i32_54 : BitVec 32 := 1#32
  let v69 : BitVec 32 := Scalar.select v68 c1_i32_54 c1_i32_52
  let v70 : BitVec 32 := Scalar.remsi arg15 v69
  let c0_i32_56 : BitVec 32 := 0#32
  let v72 : BitVec 1 := Scalar.cmpi .slt v70 c0_i32_56
  let c0_i32_57 : BitVec 32 := 0#32
  let v73 : BitVec 1 := Scalar.cmpi .slt v69 c0_i32_57
  let v74 : BitVec 1 := Scalar.xori v72 v73
  let c0_i32_55 : BitVec 32 := 0#32
  let v71 : BitVec 1 := Scalar.cmpi .ne v70 c0_i32_55
  let v75 : BitVec 1 := Scalar.andi v74 v71
  let v76 : BitVec 32 := Scalar.addi v70 v69
  let v77 : BitVec 32 := Scalar.select v75 v76 v70
  let v78 : BitVec 32 := Scalar.addi v67 v77
  let v103 : Index := Scalar.indexCast v78
  let c0_67 : Index := 0#32
  ![0, v103.toNat, 0]
@[reducible] def k0_t2_loop : Scf.Loop 32 :=
  let c0_i32_33 : BitVec 32 := 0#32
  let c16_i32_34 : BitVec 32 := 16#32
  let v47 : BitVec 32 := Scalar.addi c0_i32_33 c16_i32_34
  let c1_i32_35 : BitVec 32 := 1#32
  ⟨c0_i32_33, v47, c1_i32_35⟩
def k0_off4 (k0_t2 : Fin k0_t2_loop.trips) : Fin 2 → Nat :=
  let c0_i32_33 : BitVec 32 := 0#32
  let c1_i32_35 : BitVec 32 := 1#32
  let arg15 : BitVec 32 := Scf.iv c0_i32_33 c1_i32_35 k0_t2
  let c0_i32_44 : BitVec 32 := 0#32
  let v51 : BitVec 1 := Scalar.cmpi .sgt arg15 c0_i32_44
  let v52 : BitVec 32 := Scalar.extui v51
  let c0_i32_45 : BitVec 32 := 0#32
  let v53 : BitVec 1 := Scalar.cmpi .slt arg15 c0_i32_45
  let v54 : BitVec 32 := Scalar.extui v53
  let v55 : BitVec 32 := Scalar.subi v52 v54
  let c4_i32 : BitVec 32 := 4#32
  let c0_i32_46 : BitVec 32 := 0#32
  let v56 : BitVec 1 := Scalar.cmpi .sgt c4_i32 c0_i32_46
  let v57 : BitVec 32 := Scalar.extui v56
  let c0_i32_47 : BitVec 32 := 0#32
  let v58 : BitVec 1 := Scalar.cmpi .slt c4_i32 c0_i32_47
  let v59 : BitVec 32 := Scalar.extui v58
  let v60 : BitVec 32 := Scalar.subi v57 v59
  let v61 : BitVec 1 := Scalar.cmpi .ne v55 v60
  let v62 : BitVec 32 := Scalar.remsi arg15 c4_i32
  let c0_i32_48 : BitVec 32 := 0#32
  let v63 : BitVec 1 := Scalar.cmpi .ne v62 c0_i32_48
  let v64 : BitVec 1 := Scalar.andi v61 v63
  let v50 : BitVec 32 := Scalar.divsi arg15 c4_i32
  let c1_i32_49 : BitVec 32 := 1#32
  let v65 : BitVec 32 := Scalar.subi v50 c1_i32_49
  let v66 : BitVec 32 := Scalar.select v64 v65 v50
  let c512_i32 : BitVec 32 := 512#32
  let v67 : BitVec 32 := Scalar.muli v66 c512_i32
  let c4_i32_50 : BitVec 32 := 4#32
  let c0_i32_51 : BitVec 32 := 0#32
  let v68 : BitVec 1 := Scalar.cmpi .eq c4_i32_50 c0_i32_51
  let c1_i32_52 : BitVec 32 := 1#32
  let v69 : BitVec 32 := Scalar.select v68 c1_i32_52 c4_i32_50
  let v70 : BitVec 32 := Scalar.remsi arg15 v69
  let c0_i32_54 : BitVec 32 := 0#32
  let v72 : BitVec 1 := Scalar.cmpi .slt v70 c0_i32_54
  let c0_i32_55 : BitVec 32 := 0#32
  let v73 : BitVec 1 := Scalar.cmpi .slt v69 c0_i32_55
  let v74 : BitVec 1 := Scalar.xori v72 v73
  let c0_i32_53 : BitVec 32 := 0#32
  let v71 : BitVec 1 := Scalar.cmpi .ne v70 c0_i32_53
  let v75 : BitVec 1 := Scalar.andi v74 v71
  let v76 : BitVec 32 := Scalar.addi v70 v69
  let v77 : BitVec 32 := Scalar.select v75 v76 v70
  let v78 : BitVec 32 := Scalar.addi v67 v77
  let v81 : Index := Scalar.indexCast v78
  let c0_57 : Index := 0#32
  ![v81.toNat, 0]
def k0_off5 (k0_t2 : Fin k0_t2_loop.trips) : Fin 2 → Nat :=
  let c2048_i32 : BitVec 32 := 2048#32
  let c0_i32_33 : BitVec 32 := 0#32
  let c1_i32_35 : BitVec 32 := 1#32
  let arg15 : BitVec 32 := Scf.iv c0_i32_33 c1_i32_35 k0_t2
  let c0_i32_44 : BitVec 32 := 0#32
  let v51 : BitVec 1 := Scalar.cmpi .sgt arg15 c0_i32_44
  let v52 : BitVec 32 := Scalar.extui v51
  let c0_i32_45 : BitVec 32 := 0#32
  let v53 : BitVec 1 := Scalar.cmpi .slt arg15 c0_i32_45
  let v54 : BitVec 32 := Scalar.extui v53
  let v55 : BitVec 32 := Scalar.subi v52 v54
  let c4_i32 : BitVec 32 := 4#32
  let c0_i32_46 : BitVec 32 := 0#32
  let v56 : BitVec 1 := Scalar.cmpi .sgt c4_i32 c0_i32_46
  let v57 : BitVec 32 := Scalar.extui v56
  let c0_i32_47 : BitVec 32 := 0#32
  let v58 : BitVec 1 := Scalar.cmpi .slt c4_i32 c0_i32_47
  let v59 : BitVec 32 := Scalar.extui v58
  let v60 : BitVec 32 := Scalar.subi v57 v59
  let v61 : BitVec 1 := Scalar.cmpi .ne v55 v60
  let v62 : BitVec 32 := Scalar.remsi arg15 c4_i32
  let c0_i32_48 : BitVec 32 := 0#32
  let v63 : BitVec 1 := Scalar.cmpi .ne v62 c0_i32_48
  let v64 : BitVec 1 := Scalar.andi v61 v63
  let v50 : BitVec 32 := Scalar.divsi arg15 c4_i32
  let c1_i32_49 : BitVec 32 := 1#32
  let v65 : BitVec 32 := Scalar.subi v50 c1_i32_49
  let v66 : BitVec 32 := Scalar.select v64 v65 v50
  let c512_i32 : BitVec 32 := 512#32
  let v67 : BitVec 32 := Scalar.muli v66 c512_i32
  let c4_i32_50 : BitVec 32 := 4#32
  let c0_i32_51 : BitVec 32 := 0#32
  let v68 : BitVec 1 := Scalar.cmpi .eq c4_i32_50 c0_i32_51
  let c1_i32_52 : BitVec 32 := 1#32
  let v69 : BitVec 32 := Scalar.select v68 c1_i32_52 c4_i32_50
  let v70 : BitVec 32 := Scalar.remsi arg15 v69
  let c0_i32_54 : BitVec 32 := 0#32
  let v72 : BitVec 1 := Scalar.cmpi .slt v70 c0_i32_54
  let c0_i32_55 : BitVec 32 := 0#32
  let v73 : BitVec 1 := Scalar.cmpi .slt v69 c0_i32_55
  let v74 : BitVec 1 := Scalar.xori v72 v73
  let c0_i32_53 : BitVec 32 := 0#32
  let v71 : BitVec 1 := Scalar.cmpi .ne v70 c0_i32_53
  let v75 : BitVec 1 := Scalar.andi v74 v71
  let v76 : BitVec 32 := Scalar.addi v70 v69
  let v77 : BitVec 32 := Scalar.select v75 v76 v70
  let v78 : BitVec 32 := Scalar.addi v67 v77
  let v79 : BitVec 32 := Scalar.addi c2048_i32 v78
  let c512_i32_56 : BitVec 32 := 512#32
  let v80 : BitVec 32 := Scalar.subi v79 c512_i32_56
  let v84 : Index := Scalar.indexCast v80
  let c0_58 : Index := 0#32
  ![v84.toNat, 0]
def k0_off6 (k0_t2 : Fin k0_t2_loop.trips) : Fin 3 → Nat :=
  let c1 : Index := 1#32
  let c0_i32_33 : BitVec 32 := 0#32
  let c1_i32_35 : BitVec 32 := 1#32
  let arg15 : BitVec 32 := Scf.iv c0_i32_33 c1_i32_35 k0_t2
  let c0_i32_44 : BitVec 32 := 0#32
  let v51 : BitVec 1 := Scalar.cmpi .sgt arg15 c0_i32_44
  let v52 : BitVec 32 := Scalar.extui v51
  let c0_i32_45 : BitVec 32 := 0#32
  let v53 : BitVec 1 := Scalar.cmpi .slt arg15 c0_i32_45
  let v54 : BitVec 32 := Scalar.extui v53
  let v55 : BitVec 32 := Scalar.subi v52 v54
  let c4_i32 : BitVec 32 := 4#32
  let c0_i32_46 : BitVec 32 := 0#32
  let v56 : BitVec 1 := Scalar.cmpi .sgt c4_i32 c0_i32_46
  let v57 : BitVec 32 := Scalar.extui v56
  let c0_i32_47 : BitVec 32 := 0#32
  let v58 : BitVec 1 := Scalar.cmpi .slt c4_i32 c0_i32_47
  let v59 : BitVec 32 := Scalar.extui v58
  let v60 : BitVec 32 := Scalar.subi v57 v59
  let v61 : BitVec 1 := Scalar.cmpi .ne v55 v60
  let v62 : BitVec 32 := Scalar.remsi arg15 c4_i32
  let c0_i32_48 : BitVec 32 := 0#32
  let v63 : BitVec 1 := Scalar.cmpi .ne v62 c0_i32_48
  let v64 : BitVec 1 := Scalar.andi v61 v63
  let v50 : BitVec 32 := Scalar.divsi arg15 c4_i32
  let c1_i32_49 : BitVec 32 := 1#32
  let v65 : BitVec 32 := Scalar.subi v50 c1_i32_49
  let v66 : BitVec 32 := Scalar.select v64 v65 v50
  let c512_i32 : BitVec 32 := 512#32
  let v67 : BitVec 32 := Scalar.muli v66 c512_i32
  let c4_i32_50 : BitVec 32 := 4#32
  let c0_i32_51 : BitVec 32 := 0#32
  let v68 : BitVec 1 := Scalar.cmpi .eq c4_i32_50 c0_i32_51
  let c1_i32_52 : BitVec 32 := 1#32
  let v69 : BitVec 32 := Scalar.select v68 c1_i32_52 c4_i32_50
  let v70 : BitVec 32 := Scalar.remsi arg15 v69
  let c0_i32_54 : BitVec 32 := 0#32
  let v72 : BitVec 1 := Scalar.cmpi .slt v70 c0_i32_54
  let c0_i32_55 : BitVec 32 := 0#32
  let v73 : BitVec 1 := Scalar.cmpi .slt v69 c0_i32_55
  let v74 : BitVec 1 := Scalar.xori v72 v73
  let c0_i32_53 : BitVec 32 := 0#32
  let v71 : BitVec 1 := Scalar.cmpi .ne v70 c0_i32_53
  let v75 : BitVec 1 := Scalar.andi v74 v71
  let v76 : BitVec 32 := Scalar.addi v70 v69
  let v77 : BitVec 32 := Scalar.select v75 v76 v70
  let v78 : BitVec 32 := Scalar.addi v67 v77
  let v103 : Index := Scalar.indexCast v78
  let c0_64 : Index := 0#32
  ![1, v103.toNat, 0]
@[reducible] def k0_t3_loop : Scf.Loop 32 :=
  let c0_i32_37 : BitVec 32 := 0#32
  let c16_i32_38 : BitVec 32 := 16#32
  let v48 : BitVec 32 := Scalar.addi c0_i32_37 c16_i32_38
  let c1_i32_39 : BitVec 32 := 1#32
  ⟨c0_i32_37, v48, c1_i32_39⟩
def k0_off7 (k0_t3 : Fin k0_t3_loop.trips) : Fin 2 → Nat :=
  let c0_i32_37 : BitVec 32 := 0#32
  let c1_i32_39 : BitVec 32 := 1#32
  let arg15 : BitVec 32 := Scf.iv c0_i32_37 c1_i32_39 k0_t3
  let c0_i32_45 : BitVec 32 := 0#32
  let v51 : BitVec 1 := Scalar.cmpi .sgt arg15 c0_i32_45
  let v52 : BitVec 32 := Scalar.extui v51
  let c0_i32_46 : BitVec 32 := 0#32
  let v53 : BitVec 1 := Scalar.cmpi .slt arg15 c0_i32_46
  let v54 : BitVec 32 := Scalar.extui v53
  let v55 : BitVec 32 := Scalar.subi v52 v54
  let c16_i32_44 : BitVec 32 := 16#32
  let c0_i32_47 : BitVec 32 := 0#32
  let v56 : BitVec 1 := Scalar.cmpi .sgt c16_i32_44 c0_i32_47
  let v57 : BitVec 32 := Scalar.extui v56
  let c0_i32_48 : BitVec 32 := 0#32
  let v58 : BitVec 1 := Scalar.cmpi .slt c16_i32_44 c0_i32_48
  let v59 : BitVec 32 := Scalar.extui v58
  let v60 : BitVec 32 := Scalar.subi v57 v59
  let v61 : BitVec 1 := Scalar.cmpi .ne v55 v60
  let v62 : BitVec 32 := Scalar.remsi arg15 c16_i32_44
  let c0_i32_49 : BitVec 32 := 0#32
  let v63 : BitVec 1 := Scalar.cmpi .ne v62 c0_i32_49
  let v64 : BitVec 1 := Scalar.andi v61 v63
  let v50 : BitVec 32 := Scalar.divsi arg15 c16_i32_44
  let c1_i32_50 : BitVec 32 := 1#32
  let v65 : BitVec 32 := Scalar.subi v50 c1_i32_50
  let v66 : BitVec 32 := Scalar.select v64 v65 v50
  let c2048_i32 : BitVec 32 := 2048#32
  let v67 : BitVec 32 := Scalar.muli v66 c2048_i32
  let c16_i32_51 : BitVec 32 := 16#32
  let c0_i32_52 : BitVec 32 := 0#32
  let v68 : BitVec 1 := Scalar.cmpi .eq c16_i32_51 c0_i32_52
  let c1_i32_53 : BitVec 32 := 1#32
  let v69 : BitVec 32 := Scalar.select v68 c1_i32_53 c16_i32_51
  let v70 : BitVec 32 := Scalar.remsi arg15 v69
  let c0_i32_55 : BitVec 32 := 0#32
  let v72 : BitVec 1 := Scalar.cmpi .slt v70 c0_i32_55
  let c0_i32_56 : BitVec 32 := 0#32
  let v73 : BitVec 1 := Scalar.cmpi .slt v69 c0_i32_56
  let v74 : BitVec 1 := Scalar.xori v72 v73
  let c0_i32_54 : BitVec 32 := 0#32
  let v71 : BitVec 1 := Scalar.cmpi .ne v70 c0_i32_54
  let v75 : BitVec 1 := Scalar.andi v74 v71
  let v76 : BitVec 32 := Scalar.addi v70 v69
  let v77 : BitVec 32 := Scalar.select v75 v76 v70
  let v78 : BitVec 32 := Scalar.addi v67 v77
  let v81 : Index := Scalar.indexCast v78
  let c0_59 : Index := 0#32
  ![v81.toNat, 0]
def k0_off8 (k0_t3 : Fin k0_t3_loop.trips) : Fin 2 → Nat :=
  let c2048_i32_57 : BitVec 32 := 2048#32
  let c0_i32_37 : BitVec 32 := 0#32
  let c1_i32_39 : BitVec 32 := 1#32
  let arg15 : BitVec 32 := Scf.iv c0_i32_37 c1_i32_39 k0_t3
  let c0_i32_45 : BitVec 32 := 0#32
  let v51 : BitVec 1 := Scalar.cmpi .sgt arg15 c0_i32_45
  let v52 : BitVec 32 := Scalar.extui v51
  let c0_i32_46 : BitVec 32 := 0#32
  let v53 : BitVec 1 := Scalar.cmpi .slt arg15 c0_i32_46
  let v54 : BitVec 32 := Scalar.extui v53
  let v55 : BitVec 32 := Scalar.subi v52 v54
  let c16_i32_44 : BitVec 32 := 16#32
  let c0_i32_47 : BitVec 32 := 0#32
  let v56 : BitVec 1 := Scalar.cmpi .sgt c16_i32_44 c0_i32_47
  let v57 : BitVec 32 := Scalar.extui v56
  let c0_i32_48 : BitVec 32 := 0#32
  let v58 : BitVec 1 := Scalar.cmpi .slt c16_i32_44 c0_i32_48
  let v59 : BitVec 32 := Scalar.extui v58
  let v60 : BitVec 32 := Scalar.subi v57 v59
  let v61 : BitVec 1 := Scalar.cmpi .ne v55 v60
  let v62 : BitVec 32 := Scalar.remsi arg15 c16_i32_44
  let c0_i32_49 : BitVec 32 := 0#32
  let v63 : BitVec 1 := Scalar.cmpi .ne v62 c0_i32_49
  let v64 : BitVec 1 := Scalar.andi v61 v63
  let v50 : BitVec 32 := Scalar.divsi arg15 c16_i32_44
  let c1_i32_50 : BitVec 32 := 1#32
  let v65 : BitVec 32 := Scalar.subi v50 c1_i32_50
  let v66 : BitVec 32 := Scalar.select v64 v65 v50
  let c2048_i32 : BitVec 32 := 2048#32
  let v67 : BitVec 32 := Scalar.muli v66 c2048_i32
  let c16_i32_51 : BitVec 32 := 16#32
  let c0_i32_52 : BitVec 32 := 0#32
  let v68 : BitVec 1 := Scalar.cmpi .eq c16_i32_51 c0_i32_52
  let c1_i32_53 : BitVec 32 := 1#32
  let v69 : BitVec 32 := Scalar.select v68 c1_i32_53 c16_i32_51
  let v70 : BitVec 32 := Scalar.remsi arg15 v69
  let c0_i32_55 : BitVec 32 := 0#32
  let v72 : BitVec 1 := Scalar.cmpi .slt v70 c0_i32_55
  let c0_i32_56 : BitVec 32 := 0#32
  let v73 : BitVec 1 := Scalar.cmpi .slt v69 c0_i32_56
  let v74 : BitVec 1 := Scalar.xori v72 v73
  let c0_i32_54 : BitVec 32 := 0#32
  let v71 : BitVec 1 := Scalar.cmpi .ne v70 c0_i32_54
  let v75 : BitVec 1 := Scalar.andi v74 v71
  let v76 : BitVec 32 := Scalar.addi v70 v69
  let v77 : BitVec 32 := Scalar.select v75 v76 v70
  let v78 : BitVec 32 := Scalar.addi v67 v77
  let v79 : BitVec 32 := Scalar.addi c2048_i32_57 v78
  let c2048_i32_58 : BitVec 32 := 2048#32
  let v80 : BitVec 32 := Scalar.subi v79 c2048_i32_58
  let v84 : Index := Scalar.indexCast v80
  let c0_60 : Index := 0#32
  ![v84.toNat, 0]
def k0_off9 (k0_t3 : Fin k0_t3_loop.trips) : Fin 3 → Nat :=
  let c2 : Index := 2#32
  let c0_i32_37 : BitVec 32 := 0#32
  let c1_i32_39 : BitVec 32 := 1#32
  let arg15 : BitVec 32 := Scf.iv c0_i32_37 c1_i32_39 k0_t3
  let c0_i32_45 : BitVec 32 := 0#32
  let v51 : BitVec 1 := Scalar.cmpi .sgt arg15 c0_i32_45
  let v52 : BitVec 32 := Scalar.extui v51
  let c0_i32_46 : BitVec 32 := 0#32
  let v53 : BitVec 1 := Scalar.cmpi .slt arg15 c0_i32_46
  let v54 : BitVec 32 := Scalar.extui v53
  let v55 : BitVec 32 := Scalar.subi v52 v54
  let c16_i32_44 : BitVec 32 := 16#32
  let c0_i32_47 : BitVec 32 := 0#32
  let v56 : BitVec 1 := Scalar.cmpi .sgt c16_i32_44 c0_i32_47
  let v57 : BitVec 32 := Scalar.extui v56
  let c0_i32_48 : BitVec 32 := 0#32
  let v58 : BitVec 1 := Scalar.cmpi .slt c16_i32_44 c0_i32_48
  let v59 : BitVec 32 := Scalar.extui v58
  let v60 : BitVec 32 := Scalar.subi v57 v59
  let v61 : BitVec 1 := Scalar.cmpi .ne v55 v60
  let v62 : BitVec 32 := Scalar.remsi arg15 c16_i32_44
  let c0_i32_49 : BitVec 32 := 0#32
  let v63 : BitVec 1 := Scalar.cmpi .ne v62 c0_i32_49
  let v64 : BitVec 1 := Scalar.andi v61 v63
  let v50 : BitVec 32 := Scalar.divsi arg15 c16_i32_44
  let c1_i32_50 : BitVec 32 := 1#32
  let v65 : BitVec 32 := Scalar.subi v50 c1_i32_50
  let v66 : BitVec 32 := Scalar.select v64 v65 v50
  let c2048_i32 : BitVec 32 := 2048#32
  let v67 : BitVec 32 := Scalar.muli v66 c2048_i32
  let c16_i32_51 : BitVec 32 := 16#32
  let c0_i32_52 : BitVec 32 := 0#32
  let v68 : BitVec 1 := Scalar.cmpi .eq c16_i32_51 c0_i32_52
  let c1_i32_53 : BitVec 32 := 1#32
  let v69 : BitVec 32 := Scalar.select v68 c1_i32_53 c16_i32_51
  let v70 : BitVec 32 := Scalar.remsi arg15 v69
  let c0_i32_55 : BitVec 32 := 0#32
  let v72 : BitVec 1 := Scalar.cmpi .slt v70 c0_i32_55
  let c0_i32_56 : BitVec 32 := 0#32
  let v73 : BitVec 1 := Scalar.cmpi .slt v69 c0_i32_56
  let v74 : BitVec 1 := Scalar.xori v72 v73
  let c0_i32_54 : BitVec 32 := 0#32
  let v71 : BitVec 1 := Scalar.cmpi .ne v70 c0_i32_54
  let v75 : BitVec 1 := Scalar.andi v74 v71
  let v76 : BitVec 32 := Scalar.addi v70 v69
  let v77 : BitVec 32 := Scalar.select v75 v76 v70
  let v78 : BitVec 32 := Scalar.addi v67 v77
  let v103 : Index := Scalar.indexCast v78
  let c0_66 : Index := 0#32
  ![2, v103.toNat, 0]
@[reducible] def k0_t4_loop : Scf.Loop 32 :=
  let c0_i32_41 : BitVec 32 := 0#32
  let c8_i32 : BitVec 32 := 8#32
  let v49 : BitVec 32 := Scalar.addi c0_i32_41 c8_i32
  let c1_i32_42 : BitVec 32 := 1#32
  ⟨c0_i32_41, v49, c1_i32_42⟩
def k0_mult1 (k0_t4 : Fin k0_t4_loop.trips) : BitVec 32 :=
  let c0_i32_41 : BitVec 32 := 0#32
  let c1_i32_42 : BitVec 32 := 1#32
  let arg15 : BitVec 32 := Scf.iv c0_i32_41 c1_i32_42 k0_t4
  let c256_i32 : BitVec 32 := 256#32
  let v50 : BitVec 32 := Scalar.muli arg15 c256_i32
  v50
def k0_off10 (k0_t4 : Fin k0_t4_loop.trips) : Fin 3 → Nat :=
  let c0_44 : Index := 0#32
  let c0_i32_41 : BitVec 32 := 0#32
  let c1_i32_42 : BitVec 32 := 1#32
  let arg15 : BitVec 32 := Scf.iv c0_i32_41 c1_i32_42 k0_t4
  let c256_i32 : BitVec 32 := 256#32
  let v50 : BitVec 32 := Scalar.muli arg15 c256_i32
  let v51 : BitVec 32 := v50
  let v52 : Index := Scalar.indexCast v51
  let c0_45 : Index := 0#32
  ![0, v52.toNat, 0]
def k0_off11 (k0_t4 : Fin k0_t4_loop.trips) : Fin 3 → Nat :=
  let c1 : Index := 1#32
  let c0_i32_41 : BitVec 32 := 0#32
  let c1_i32_42 : BitVec 32 := 1#32
  let arg15 : BitVec 32 := Scf.iv c0_i32_41 c1_i32_42 k0_t4
  let c256_i32 : BitVec 32 := 256#32
  let v50 : BitVec 32 := Scalar.muli arg15 c256_i32
  let v51 : BitVec 32 := v50
  let v55 : Index := Scalar.indexCast v51
  let c0_46 : Index := 0#32
  ![1, v55.toNat, 0]
def k0_off12 (k0_t4 : Fin k0_t4_loop.trips) : Fin 3 → Nat :=
  let c2 : Index := 2#32
  let c0_i32_41 : BitVec 32 := 0#32
  let c1_i32_42 : BitVec 32 := 1#32
  let arg15 : BitVec 32 := Scf.iv c0_i32_41 c1_i32_42 k0_t4
  let c256_i32 : BitVec 32 := 256#32
  let v50 : BitVec 32 := Scalar.muli arg15 c256_i32
  let v51 : BitVec 32 := v50
  let v58 : Index := Scalar.indexCast v51
  let c0_47 : Index := 0#32
  ![2, v58.toNat, 0]
def k0_off13 (k0_t4 : Fin k0_t4_loop.trips) : Fin 4 → Nat :=
  let c0_62 : Index := 0#32
  let c0_63 : Index := 0#32
  let c0_i32_41 : BitVec 32 := 0#32
  let c1_i32_42 : BitVec 32 := 1#32
  let arg15 : BitVec 32 := Scf.iv c0_i32_41 c1_i32_42 k0_t4
  let c256_i32 : BitVec 32 := 256#32
  let v50 : BitVec 32 := Scalar.muli arg15 c256_i32
  let v51 : BitVec 32 := v50
  let v103 : Index := Scalar.indexCast v51
  let c0_64 : Index := 0#32
  ![0, 0, v103.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8x8192x128 : Shape := ⟨4, ![2, 8, 8192, 128]⟩
abbrev S2x8192x8x128 : Shape := ⟨4, ![2, 8192, 8, 128]⟩
abbrev S2x64x128x1x8x128 : Shape := ⟨6, ![2, 64, 128, 1, 8, 128]⟩
abbrev S2x63x128x1x8x128 : Shape := ⟨6, ![2, 63, 128, 1, 8, 128]⟩
abbrev S_ : Shape := ⟨0, ![]⟩
abbrev S2x64x256x1x8x128 : Shape := ⟨6, ![2, 64, 256, 1, 8, 128]⟩
abbrev S2x64x1x8x128x256 : Shape := ⟨6, ![2, 64, 1, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S2x64x1x8x128 : Shape := ⟨5, ![2, 64, 1, 8, 128]⟩
abbrev S2x64x1x8x128x1 : Shape := ⟨6, ![2, 64, 1, 8, 128, 1]⟩
abbrev S2x64x1x8x128x128 : Shape := ⟨6, ![2, 64, 1, 8, 128, 128]⟩
abbrev S2x64x128x1x8 : Shape := ⟨5, ![2, 64, 128, 1, 8]⟩
abbrev S2x64x128x1x8x1 : Shape := ⟨6, ![2, 64, 128, 1, 8, 1]⟩
abbrev S2x8192x8 : Shape := ⟨3, ![2, 8192, 8]⟩
abbrev S2x16x128x4x8x128 : Shape := ⟨6, ![2, 16, 128, 4, 8, 128]⟩
abbrev S2x15x128x4x8x128 : Shape := ⟨6, ![2, 15, 128, 4, 8, 128]⟩
abbrev S2x16x256x4x8x128 : Shape := ⟨6, ![2, 16, 256, 4, 8, 128]⟩
abbrev S2x16x4x8x128x256 : Shape := ⟨6, ![2, 16, 4, 8, 128, 256]⟩
abbrev S16 : Shape := ⟨1, ![16]⟩
abbrev S16x1x1 : Shape := ⟨3, ![16, 1, 1]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x16x4x8x128 : Shape := ⟨5, ![2, 16, 4, 8, 128]⟩
abbrev S2x16x4x8x128x1 : Shape := ⟨6, ![2, 16, 4, 8, 128, 1]⟩
abbrev S2x16x4x8x128x128 : Shape := ⟨6, ![2, 16, 4, 8, 128, 128]⟩
abbrev S2x16x128x4x8 : Shape := ⟨5, ![2, 16, 128, 4, 8]⟩
abbrev S2x16x128x4x8x1 : Shape := ⟨6, ![2, 16, 128, 4, 8, 1]⟩
abbrev S2x4x128x16x8x128 : Shape := ⟨6, ![2, 4, 128, 16, 8, 128]⟩
abbrev S2x3x128x16x8x128 : Shape := ⟨6, ![2, 3, 128, 16, 8, 128]⟩
abbrev S2x4x256x16x8x128 : Shape := ⟨6, ![2, 4, 256, 16, 8, 128]⟩
abbrev S2x4x16x8x128x256 : Shape := ⟨6, ![2, 4, 16, 8, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S1x4x1x1x128x256 : Shape := ⟨6, ![1, 4, 1, 1, 128, 256]⟩
abbrev S2x4x16x8x128 : Shape := ⟨5, ![2, 4, 16, 8, 128]⟩
abbrev S2x4x16x8x128x1 : Shape := ⟨6, ![2, 4, 16, 8, 128, 1]⟩
abbrev S2x4x16x8x128x128 : Shape := ⟨6, ![2, 4, 16, 8, 128, 128]⟩
abbrev S2x4x128x16x8 : Shape := ⟨5, ![2, 4, 128, 16, 8]⟩
abbrev S2x4x128x16x8x1 : Shape := ⟨6, ![2, 4, 128, 16, 8, 1]⟩
abbrev S1x2x8192x8 : Shape := ⟨4, ![1, 2, 8192, 8]⟩
abbrev S3x2x8192x8 : Shape := ⟨4, ![3, 2, 8192, 8]⟩
abbrev S3x2x8192x8x1 : Shape := ⟨5, ![3, 2, 8192, 8, 1]⟩
abbrev S1x2x8192x8x128 : Shape := ⟨5, ![1, 2, 8192, 8, 128]⟩
abbrev S3x2x8192x8x128 : Shape := ⟨5, ![3, 2, 8192, 8, 128]⟩

abbrev nBuf : Space → Nat
  | .hbm => 266
  | .vmem => 0
  | .smem => 0
  | _ => 0

abbrev hbmTy0_0 (i : Nat) : BufTy := match i % 128 with
  | 0 => ⟨S2x8x8192x128, .bf16⟩
  | 1 => ⟨S2x8x8192x128, .bf16⟩
  | 2 => ⟨S2x8x8192x128, .bf16⟩
  | 3 => ⟨S2x8x8192x128, .f32⟩
  | 4 => ⟨S2x8192x8x128, .f32⟩
  | 5 => ⟨S2x8x8192x128, .f32⟩
  | 6 => ⟨S2x8192x8x128, .f32⟩
  | 7 => ⟨S2x8x8192x128, .f32⟩
  | 8 => ⟨S2x8192x8x128, .f32⟩
  | 9 => ⟨S2x64x128x1x8x128, .f32⟩
  | 10 => ⟨S2x64x128x1x8x128, .f32⟩
  | 11 => ⟨S2x63x128x1x8x128, .f32⟩
  | 12 => ⟨S_, .i32⟩
  | 13 => ⟨S_, .f32⟩
  | 14 => ⟨S2x64x128x1x8x128, .f32⟩
  | 15 => ⟨S2x64x256x1x8x128, .f32⟩
  | 16 => ⟨S2x64x128x1x8x128, .f32⟩
  | 17 => ⟨S2x63x128x1x8x128, .f32⟩
  | 18 => ⟨S_, .i32⟩
  | 19 => ⟨S_, .f32⟩
  | 20 => ⟨S2x64x128x1x8x128, .f32⟩
  | 21 => ⟨S2x64x256x1x8x128, .f32⟩
  | 22 => ⟨S2x64x1x8x128x256, .f32⟩
  | 23 => ⟨S128, .i32⟩
  | 24 => ⟨S128x1, .i32⟩
  | 25 => ⟨S256, .i32⟩
  | 26 => ⟨S1x256, .i32⟩
  | 27 => ⟨S_, .i32⟩
  | 28 => ⟨S128x1, .i32⟩
  | 29 => ⟨S128x1, .i32⟩
  | 30 => ⟨S128x256, .i32⟩
  | 31 => ⟨S128x256, .i32⟩
  | 32 => ⟨S128x256, .i32⟩
  | 33 => ⟨S64, .i32⟩
  | 34 => ⟨S64x1x1, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S_, .i32⟩
  | 43 => ⟨S64x1x1, .i32⟩
  | 44 => ⟨S64x1x1, .i32⟩
  | 45 => ⟨S1x1x256, .i32⟩
  | 46 => ⟨S64x1x256, .i32⟩
  | 47 => ⟨S64x1x256, .i32⟩
  | 48 => ⟨S64x1x256, .i32⟩
  | 49 => ⟨S_, .i32⟩
  | 50 => ⟨S64x1x256, .i32⟩
  | 51 => ⟨S64x1x256, .i32⟩
  | 52 => ⟨S_, .i32⟩
  | 53 => ⟨S64x1x256, .i32⟩
  | 54 => ⟨S64x1x256, .i1⟩
  | 55 => ⟨S1x128x256, .i1⟩
  | 56 => ⟨S64x128x256, .i1⟩
  | 57 => ⟨S64x128x256, .i1⟩
  | 58 => ⟨S64x128x256, .i1⟩
  | 59 => ⟨S1x64x1x1x128x256, .i1⟩
  | 60 => ⟨S_, .f32⟩
  | 61 => ⟨S_, .f32⟩
  | 62 => ⟨S2x64x1x8x128x256, .i1⟩
  | 63 => ⟨S2x64x1x8x128x256, .f32⟩
  | 64 => ⟨S2x64x1x8x128x256, .f32⟩
  | 65 => ⟨S_, .f32⟩
  | 66 => ⟨S2x64x1x8x128, .f32⟩
  | 67 => ⟨S2x64x1x8x128x1, .f32⟩
  | 68 => ⟨S2x64x1x8x128x256, .f32⟩
  | 69 => ⟨S2x64x1x8x128x256, .f32⟩
  | 70 => ⟨S2x64x1x8x128x256, .f32⟩
  | 71 => ⟨S_, .f32⟩
  | 72 => ⟨S2x64x1x8x128, .f32⟩
  | 73 => ⟨S2x64x1x8x128x128, .f32⟩
  | 74 => ⟨S2x64x128x1x8x128, .f32⟩
  | 75 => ⟨S2x64x128x1x8, .f32⟩
  | 76 => ⟨S2x64x128x1x8x1, .f32⟩
  | 77 => ⟨S2x64x128x1x8x128, .f32⟩
  | 78 => ⟨S2x64x128x1x8x128, .f32⟩
  | 79 => ⟨S2x64x1x8x128, .f32⟩
  | 80 => ⟨S2x64x1x8x128, .f32⟩
  | 81 => ⟨S2x64x1x8x128, .f32⟩
  | 82 => ⟨S2x64x128x1x8, .f32⟩
  | 83 => ⟨S2x8192x8x128, .f32⟩
  | 84 => ⟨S2x8192x8, .f32⟩
  | 85 => ⟨S2x16x128x4x8x128, .f32⟩
  | 86 => ⟨S2x16x128x4x8x128, .f32⟩
  | 87 => ⟨S2x15x128x4x8x128, .f32⟩
  | 88 => ⟨S_, .i32⟩
  | 89 => ⟨S_, .f32⟩
  | 90 => ⟨S2x16x128x4x8x128, .f32⟩
  | 91 => ⟨S2x16x256x4x8x128, .f32⟩
  | 92 => ⟨S2x16x128x4x8x128, .f32⟩
  | 93 => ⟨S2x15x128x4x8x128, .f32⟩
  | 94 => ⟨S_, .i32⟩
  | 95 => ⟨S_, .f32⟩
  | 96 => ⟨S2x16x128x4x8x128, .f32⟩
  | 97 => ⟨S2x16x256x4x8x128, .f32⟩
  | 98 => ⟨S2x16x4x8x128x256, .f32⟩
  | 99 => ⟨S128, .i32⟩
  | 100 => ⟨S128x1, .i32⟩
  | 101 => ⟨S256, .i32⟩
  | 102 => ⟨S1x256, .i32⟩
  | 103 => ⟨S_, .i32⟩
  | 104 => ⟨S128x1, .i32⟩
  | 105 => ⟨S128x1, .i32⟩
  | 106 => ⟨S128x256, .i32⟩
  | 107 => ⟨S128x256, .i32⟩
  | 108 => ⟨S128x256, .i32⟩
  | 109 => ⟨S16, .i32⟩
  | 110 => ⟨S16x1x1, .i32⟩
  | 111 => ⟨S_, .i32⟩
  | 112 => ⟨S128x256, .i32⟩
  | 113 => ⟨S128x256, .i1⟩
  | 114 => ⟨S_, .i32⟩
  | 115 => ⟨S128x256, .i32⟩
  | 116 => ⟨S128x256, .i1⟩
  | 117 => ⟨S128x256, .i1⟩
  | 118 => ⟨S_, .i32⟩
  | 119 => ⟨S16x1x1, .i32⟩
  | 120 => ⟨S16x1x1, .i32⟩
  | 121 => ⟨S1x1x256, .i32⟩
  | 122 => ⟨S16x1x256, .i32⟩
  | 123 => ⟨S16x1x256, .i32⟩
  | 124 => ⟨S16x1x256, .i32⟩
  | 125 => ⟨S_, .i32⟩
  | 126 => ⟨S16x1x256, .i32⟩
  | 127 => ⟨S16x1x256, .i32⟩
  | _ => ⟨S2x8x8192x128, .bf16⟩

abbrev hbmTy0_1 (i : Nat) : BufTy := match i % 128 with
  | 0 => ⟨S_, .i32⟩
  | 1 => ⟨S16x1x256, .i32⟩
  | 2 => ⟨S16x1x256, .i1⟩
  | 3 => ⟨S1x128x256, .i1⟩
  | 4 => ⟨S16x128x256, .i1⟩
  | 5 => ⟨S16x128x256, .i1⟩
  | 6 => ⟨S16x128x256, .i1⟩
  | 7 => ⟨S1x16x1x1x128x256, .i1⟩
  | 8 => ⟨S_, .f32⟩
  | 9 => ⟨S_, .f32⟩
  | 10 => ⟨S2x16x4x8x128x256, .i1⟩
  | 11 => ⟨S2x16x4x8x128x256, .f32⟩
  | 12 => ⟨S2x16x4x8x128x256, .f32⟩
  | 13 => ⟨S_, .f32⟩
  | 14 => ⟨S2x16x4x8x128, .f32⟩
  | 15 => ⟨S2x16x4x8x128x1, .f32⟩
  | 16 => ⟨S2x16x4x8x128x256, .f32⟩
  | 17 => ⟨S2x16x4x8x128x256, .f32⟩
  | 18 => ⟨S2x16x4x8x128x256, .f32⟩
  | 19 => ⟨S_, .f32⟩
  | 20 => ⟨S2x16x4x8x128, .f32⟩
  | 21 => ⟨S2x16x4x8x128x128, .f32⟩
  | 22 => ⟨S2x16x128x4x8x128, .f32⟩
  | 23 => ⟨S2x16x128x4x8, .f32⟩
  | 24 => ⟨S2x16x128x4x8x1, .f32⟩
  | 25 => ⟨S2x16x128x4x8x128, .f32⟩
  | 26 => ⟨S2x16x128x4x8x128, .f32⟩
  | 27 => ⟨S2x16x4x8x128, .f32⟩
  | 28 => ⟨S2x16x4x8x128, .f32⟩
  | 29 => ⟨S2x16x4x8x128, .f32⟩
  | 30 => ⟨S2x16x128x4x8, .f32⟩
  | 31 => ⟨S2x8192x8x128, .f32⟩
  | 32 => ⟨S2x8192x8, .f32⟩
  | 33 => ⟨S2x4x128x16x8x128, .f32⟩
  | 34 => ⟨S2x4x128x16x8x128, .f32⟩
  | 35 => ⟨S2x3x128x16x8x128, .f32⟩
  | 36 => ⟨S_, .i32⟩
  | 37 => ⟨S_, .f32⟩
  | 38 => ⟨S2x4x128x16x8x128, .f32⟩
  | 39 => ⟨S2x4x256x16x8x128, .f32⟩
  | 40 => ⟨S2x4x128x16x8x128, .f32⟩
  | 41 => ⟨S2x3x128x16x8x128, .f32⟩
  | 42 => ⟨S_, .i32⟩
  | 43 => ⟨S_, .f32⟩
  | 44 => ⟨S2x4x128x16x8x128, .f32⟩
  | 45 => ⟨S2x4x256x16x8x128, .f32⟩
  | 46 => ⟨S2x4x16x8x128x256, .f32⟩
  | 47 => ⟨S128, .i32⟩
  | 48 => ⟨S128x1, .i32⟩
  | 49 => ⟨S256, .i32⟩
  | 50 => ⟨S1x256, .i32⟩
  | 51 => ⟨S_, .i32⟩
  | 52 => ⟨S128x1, .i32⟩
  | 53 => ⟨S128x1, .i32⟩
  | 54 => ⟨S128x256, .i32⟩
  | 55 => ⟨S128x256, .i32⟩
  | 56 => ⟨S128x256, .i32⟩
  | 57 => ⟨S4, .i32⟩
  | 58 => ⟨S4x1x1, .i32⟩
  | 59 => ⟨S_, .i32⟩
  | 60 => ⟨S128x256, .i32⟩
  | 61 => ⟨S128x256, .i1⟩
  | 62 => ⟨S_, .i32⟩
  | 63 => ⟨S128x256, .i32⟩
  | 64 => ⟨S128x256, .i1⟩
  | 65 => ⟨S128x256, .i1⟩
  | 66 => ⟨S_, .i32⟩
  | 67 => ⟨S4x1x1, .i32⟩
  | 68 => ⟨S4x1x1, .i32⟩
  | 69 => ⟨S1x1x256, .i32⟩
  | 70 => ⟨S4x1x256, .i32⟩
  | 71 => ⟨S4x1x256, .i32⟩
  | 72 => ⟨S4x1x256, .i32⟩
  | 73 => ⟨S_, .i32⟩
  | 74 => ⟨S4x1x256, .i32⟩
  | 75 => ⟨S4x1x256, .i32⟩
  | 76 => ⟨S_, .i32⟩
  | 77 => ⟨S4x1x256, .i32⟩
  | 78 => ⟨S4x1x256, .i1⟩
  | 79 => ⟨S1x128x256, .i1⟩
  | 80 => ⟨S4x128x256, .i1⟩
  | 81 => ⟨S4x128x256, .i1⟩
  | 82 => ⟨S4x128x256, .i1⟩
  | 83 => ⟨S1x4x1x1x128x256, .i1⟩
  | 84 => ⟨S_, .f32⟩
  | 85 => ⟨S_, .f32⟩
  | 86 => ⟨S2x4x16x8x128x256, .i1⟩
  | 87 => ⟨S2x4x16x8x128x256, .f32⟩
  | 88 => ⟨S2x4x16x8x128x256, .f32⟩
  | 89 => ⟨S_, .f32⟩
  | 90 => ⟨S2x4x16x8x128, .f32⟩
  | 91 => ⟨S2x4x16x8x128x1, .f32⟩
  | 92 => ⟨S2x4x16x8x128x256, .f32⟩
  | 93 => ⟨S2x4x16x8x128x256, .f32⟩
  | 94 => ⟨S2x4x16x8x128x256, .f32⟩
  | 95 => ⟨S_, .f32⟩
  | 96 => ⟨S2x4x16x8x128, .f32⟩
  | 97 => ⟨S2x4x16x8x128x128, .f32⟩
  | 98 => ⟨S2x4x128x16x8x128, .f32⟩
  | 99 => ⟨S2x4x128x16x8, .f32⟩
  | 100 => ⟨S2x4x128x16x8x1, .f32⟩
  | 101 => ⟨S2x4x128x16x8x128, .f32⟩
  | 102 => ⟨S2x4x128x16x8x128, .f32⟩
  | 103 => ⟨S2x4x16x8x128, .f32⟩
  | 104 => ⟨S2x4x16x8x128, .f32⟩
  | 105 => ⟨S2x4x16x8x128, .f32⟩
  | 106 => ⟨S2x4x128x16x8, .f32⟩
  | 107 => ⟨S2x8192x8x128, .f32⟩
  | 108 => ⟨S2x8192x8, .f32⟩
  | 109 => ⟨S1x2x8192x8, .f32⟩
  | 110 => ⟨S1x2x8192x8, .f32⟩
  | 111 => ⟨S1x2x8192x8, .f32⟩
  | 112 => ⟨S3x2x8192x8, .f32⟩
  | 113 => ⟨S_, .f32⟩
  | 114 => ⟨S2x8192x8, .f32⟩
  | 115 => ⟨S_, .f32⟩
  | 116 => ⟨S2x8192x8, .f32⟩
  | 117 => ⟨S2x8192x8, .f32⟩
  | 118 => ⟨S1x2x8192x8, .f32⟩
  | 119 => ⟨S3x2x8192x8, .f32⟩
  | 120 => ⟨S3x2x8192x8, .f32⟩
  | 121 => ⟨S3x2x8192x8, .f32⟩
  | 122 => ⟨S_, .f32⟩
  | 123 => ⟨S2x8192x8, .f32⟩
  | 124 => ⟨S1x2x8192x8, .f32⟩
  | 125 => ⟨S3x2x8192x8, .f32⟩
  | 126 => ⟨S3x2x8192x8, .f32⟩
  | 127 => ⟨S3x2x8192x8x1, .f32⟩
  | _ => ⟨S2x8x8192x128, .bf16⟩

abbrev hbmTy0_2 (i : Nat) : BufTy := match i % 128 with
  | 0 => ⟨S1x2x8192x8x128, .f32⟩
  | 1 => ⟨S1x2x8192x8x128, .f32⟩
  | 2 => ⟨S1x2x8192x8x128, .f32⟩
  | 3 => ⟨S3x2x8192x8x128, .f32⟩
  | 4 => ⟨S3x2x8192x8x128, .f32⟩
  | 5 => ⟨S3x2x8192x8x128, .f32⟩
  | 6 => ⟨S_, .f32⟩
  | 7 => ⟨S2x8192x8x128, .f32⟩
  | 8 => ⟨S2x8x8192x128, .f32⟩
  | 9 => ⟨S2x8x8192x128, .bf16⟩
  | _ => ⟨S2x8x8192x128, .bf16⟩

abbrev hbmTy (i : Nat) : BufTy := match i / 128 with
  | 0 => hbmTy0_0 i
  | 1 => hbmTy0_1 i
  | 2 => hbmTy0_2 i
  | _ => ⟨S2x8x8192x128, .bf16⟩

abbrev bufTy : (tb : Table) → Fin (tcTables nBuf tb) → BufTy
  | .hbm, ⟨i, _⟩ => hbmTy i
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_9 : Ref sig .tc := ⟨.hbm, 88, rfl⟩
abbrev main_call3_v0 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_10 : Ref sig .tc := ⟨.hbm, 94, rfl⟩
abbrev main_call4_v0 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_11 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_12 : Ref sig .tc := ⟨.hbm, 111, rfl⟩
abbrev main_v87 : Ref sig .tc := ⟨.hbm, 112, rfl⟩
abbrev main_v88 : Ref sig .tc := ⟨.hbm, 113, rfl⟩
abbrev main_c_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_15 : Ref sig .tc := ⟨.hbm, 125, rfl⟩
abbrev main_v98 : Ref sig .tc := ⟨.hbm, 126, rfl⟩
abbrev main_v99 : Ref sig .tc := ⟨.hbm, 127, rfl⟩
abbrev main_c_16 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_17 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_v107 : Ref sig .tc := ⟨.hbm, 140, rfl⟩
abbrev main_cst_18 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_c_20 : Ref sig .tc := ⟨.hbm, 164, rfl⟩
abbrev main_call6_v0 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_c_21 : Ref sig .tc := ⟨.hbm, 170, rfl⟩
abbrev main_call7_v0 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_22 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_c_23 : Ref sig .tc := ⟨.hbm, 187, rfl⟩
abbrev main_v147 : Ref sig .tc := ⟨.hbm, 188, rfl⟩
abbrev main_v148 : Ref sig .tc := ⟨.hbm, 189, rfl⟩
abbrev main_c_24 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_c_25 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_c_26 : Ref sig .tc := ⟨.hbm, 201, rfl⟩
abbrev main_v158 : Ref sig .tc := ⟨.hbm, 202, rfl⟩
abbrev main_v159 : Ref sig .tc := ⟨.hbm, 203, rfl⟩
abbrev main_c_27 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_28 : Ref sig .tc := ⟨.hbm, 212, rfl⟩
abbrev main_call8_v0 : Ref sig .tc := ⟨.hbm, 213, rfl⟩
abbrev main_call8_v1 : Ref sig .tc := ⟨.hbm, 214, rfl⟩
abbrev main_call8_v2 : Ref sig .tc := ⟨.hbm, 215, rfl⟩
abbrev main_v167 : Ref sig .tc := ⟨.hbm, 216, rfl⟩
abbrev main_cst_29 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_cst_30 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_31 : Ref sig .tc := ⟨.hbm, 241, rfl⟩
abbrev main_v190 : Ref sig .tc := ⟨.hbm, 242, rfl⟩
abbrev main_cst_32 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_33 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_34 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩

abbrev nD : Nat := 1
abbrev τ : Topo := Topo.v7x

variable {F : FTy → Type} [FloatOps F]
-- ==== KernelExperts.lean ====
abbrev S160 : Shape := ⟨1, ![160]⟩
abbrev S1 : Shape := ⟨1, ![1]⟩
abbrev S40960x2048 : Shape := ⟨2, ![40960, 2048]⟩
abbrev S1x2048 : Shape := ⟨2, ![1, 2048]⟩
abbrev S4x32x2048x512 : Shape := ⟨4, ![4, 32, 2048, 512]⟩
abbrev S4x32x512x2048 : Shape := ⟨4, ![4, 32, 512, 2048]⟩
abbrev S256x2048 : Shape := ⟨2, ![256, 2048]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2x3 : Shape := ⟨2, ![2, 3]⟩
abbrev S1x1 : Shape := ⟨2, ![1, 1]⟩
abbrev S_ : Shape := ⟨0, ![]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S256 : Shape := ⟨1, ![256]⟩
abbrev S256x1 : Shape := ⟨2, ![256, 1]⟩
abbrev S256x512 : Shape := ⟨2, ![256, 512]⟩

abbrev nBuf : Space → Nat
  | .hbm => 6
  | .vmem => 11
  | .smem => 5
  | _ => 0

abbrev bufTy : (tb : Table) → Fin (tcTables nBuf tb) → BufTy
  | .hbm, ⟨0, _⟩ => ⟨S40960x2048, .f32⟩
  | .hbm, ⟨1, _⟩ => ⟨S1x2048, .f32⟩
  | .hbm, ⟨2, _⟩ => ⟨S4x32x2048x512, .f32⟩
  | .hbm, ⟨3, _⟩ => ⟨S4x32x2048x512, .f32⟩
  | .hbm, ⟨4, _⟩ => ⟨S4x32x512x2048, .f32⟩
  | .hbm, ⟨5, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S2x2048x512, .f32⟩
  | .local _ .vmem, ⟨6, _⟩ => ⟨S2x2048x512, .f32⟩
  | .local _ .vmem, ⟨7, _⟩ => ⟨S2x512x2048, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | .local _ .smem, ⟨4, _⟩ => ⟨S160, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![160], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def k0_cond3 (i : grid0.Coords) : BitVec 1 :=
  let arg0 : BitVec 32 := BitVec.ofNat 32 (i 0).val
  let c0_i32_18 : BitVec 32 := 0#32
  let v37 : BitVec 1 := Scalar.cmpi .eq arg0 c0_i32_18
  let v38 : BitVec 32 := Scalar.extui v37
  let c0_i32_19 : BitVec 32 := 0#32
  let v39 : BitVec 1 := Scalar.cmpi .ne v38 c0_i32_19
  v39

def k0_off2 (v86 : BitVec 32) : Fin 4 → Nat :=
  let c0_i32_52 : BitVec 32 := 0#32
  let c0_i32_58 : BitVec 32 := 0#32
  let c0_i32_59 : BitVec 32 := 0#32
  ![0, v86.toNat, 0, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (v7 : BitVec 32) : BitVec 1 :=
  let c1_i32 : BitVec 32 := 1#32
  let v8 : BitVec 1 := Scalar.cmpi .eq v7 c1_i32
  let v9 : BitVec 32 := Scalar.extui v8
  let c0_i32_0 : BitVec 32 := 0#32
  let v10 : BitVec 1 := Scalar.cmpi .ne v9 c0_i32_0
  v10

def k0_off3 (v86 : BitVec 32) : Fin 4 → Nat :=
  let c0_i32_68 : BitVec 32 := 0#32
  let c0_i32_74 : BitVec 32 := 0#32
  let c0_i32_75 : BitVec 32 := 0#32
  ![0, v86.toNat, 0, 0]

def k0_chk1 (i : grid0.Coords) (v0 : BitVec 32) (v7 : BitVec 32) (v86 : BitVec 32) : Prop :=
  (∀ (k0_h1 : k0_cond1 i v0 = 1#1), ∀ (k0_h2 : k0_cond2 v7 = 1#1), ∀ (k0_h3 : k0_cond3 i = 1#1), ∀ a, (k0_off2 v86) a + S1x1x2048x512.size a ≤ S4x32x2048x512.size a) ∧
  (∀ (k0_h1 : k0_cond1 i v0 = 1#1), ∀ (k0_h2 : k0_cond2 v7 = 1#1), ∀ (k0_h3 : k0_cond3 i = 1#1), ∀ a, (k0_off3 v86) a + S1x1x512x2048.size a ≤ S4x32x512x2048.size a)
theorem k0_off2_inb : ∀ (i : grid0.Coords) (v0 : BitVec 32) (v7 : BitVec 32) (v86 : BitVec 32) (k0_hw1 : k0_chk1 i v0 v7 v86), ∀ (k0_h1 : k0_cond1 i v0 = 1#1), ∀ (k0_h2 : k0_cond2 v7 = 1#1), ∀ (k0_h3 : k0_cond3 i = 1#1), ∀ a, (k0_off2 v86) a + S1x1x2048x512.size a ≤ S4x32x2048x512.size a := fun i v0 v7 v86 k0_hw1 k0_h1 k0_h2 k0_h3 => k0_hw1.1 k0_h1 k0_h2 k0_h3
theorem k0_off3_inb : ∀ (i : grid0.Coords) (v0 : BitVec 32) (v7 : BitVec 32) (v86 : BitVec 32) (k0_hw1 : k0_chk1 i v0 v7 v86), ∀ (k0_h1 : k0_cond1 i v0 = 1#1), ∀ (k0_h2 : k0_cond2 v7 = 1#1), ∀ (k0_h3 : k0_cond3 i = 1#1), ∀ a, (k0_off3 v86) a + S1x1x512x2048.size a ≤ S4x32x512x2048.size a := fun i v0 v7 v86 k0_hw1 k0_h1 k0_h2 k0_h3 => k0_hw1.2 k0_h1 k0_h2 k0_h3

def k0_off4 (i : grid0.Coords) : Fin 1 → Nat :=
  let arg0 : BitVec 32 := BitVec.ofNat 32 (i 0).val
  let v40 : Index := Scalar.indexCast arg0
  ![v40.toNat]
def k0_off5 (v5 : BitVec 32) : Fin 2 → Nat :=
  let c0_i32_21 : BitVec 32 := 0#32
  ![v5.toNat, 0]

def k0_off6 (v5 : BitVec 32) : Fin 3 → Nat :=
  let c0_i32_22 : BitVec 32 := 0#32
  let c0_i32_23 : BitVec 32 := 0#32
  ![v5.toNat, 0, 0]
def k0_off7 (v41 : BitVec 32) : Fin 4 → Nat :=
  let c0_i32_20 : BitVec 32 := 0#32
  let c0_i32_24 : BitVec 32 := 0#32
  let c0_i32_25 : BitVec 32 := 0#32
  ![0, v41.toNat, 0, 0]

def k0_off8 (v5 : BitVec 32) : Fin 2 → Nat :=
  let c1_i32_27 : BitVec 32 := 1#32
  ![v5.toNat, 1]
def k0_off9 (v5 : BitVec 32) : Fin 3 → Nat :=
  let c0_i32_28 : BitVec 32 := 0#32
  let c0_i32_29 : BitVec 32 := 0#32
  ![v5.toNat, 0, 0]
def k0_off10 (v5 : BitVec 32) : Fin 2 → Nat :=
  let c2_i32 : BitVec 32 := 2#32
  ![v5.toNat, 2]
def k0_off11 (v5 : BitVec 32) : Fin 3 → Nat :=
  let c0_i32_33 : BitVec 32 := 0#32
  let c0_i32_34 : BitVec 32 := 0#32
  ![v5.toNat, 0, 0]
def k0_off12 (v41 : BitVec 32) : Fin 4 → Nat :=
  let c0_i32_32 : BitVec 32 := 0#32
  let c0_i32_35 : BitVec 32 := 0#32
  let c0_i32_36 : BitVec 32 := 0#32
  ![0, v41.toNat, 0, 0]

def k0_chk3 (i : grid0.Coords) (v0 : BitVec 32) (v7 : BitVec 32) (v41 : BitVec 32) : Prop :=
  (∀ (k0_h1 : k0_cond1 i v0 = 1#1), ∀ (k0_h2 : k0_cond2 v7 = 1#1), ∀ a, (k0_off7 v41) a + S1x1x2048x512.size a ≤ S4x32x2048x512.size a) ∧
  (∀ (k0_h1 : k0_cond1 i v0 = 1#1), ∀ (k0_h2 : k0_cond2 v7 = 1#1), ∀ a, (k0_off12 v41) a + S1x1x512x2048.size a ≤ S4x32x512x2048.size a)
theorem k0_off7_inb : ∀ (i : grid0.Coords) (v0 : BitVec 32) (v7 : BitVec 32) (v41 : BitVec 32) (k0_hw3 : k0_chk3 i v0 v7 v41), ∀ (k0_h1 : k0_cond1 i v0 = 1#1), ∀ (k0_h2 : k0_cond2 v7 = 1#1), ∀ a, (k0_off7 v41) a + S1x1x2048x512.size a ≤ S4x32x2048x512.size a := fun i v0 v7 v41 k0_hw3 k0_h1 k0_h2 => k0_hw3.1 k0_h1 k0_h2
theorem k0_off12_inb : ∀ (i : grid0.Coords) (v0 : BitVec 32) (v7 : BitVec 32) (v41 : BitVec 32) (k0_hw3 : k0_chk3 i v0 v7 v41), ∀ (k0_h1 : k0_cond1 i v0 = 1#1), ∀ (k0_h2 : k0_cond2 v7 = 1#1), ∀ a, (k0_off12 v41) a + S1x1x512x2048.size a ≤ S4x32x512x2048.size a := fun i v0 v7 v41 k0_hw3 k0_h1 k0_h2 => k0_hw3.2 k0_h1 k0_h2

def k0_off13 (i : grid0.Coords) : Fin 1 → Nat :=
  let arg0 : BitVec 32 := BitVec.ofNat 32 (i 0).val
  let v60 : Index := Scalar.indexCast arg0
  ![v60.toNat]
def k0_off14 (i : grid0.Coords) : Fin 1 → Nat :=
  let arg0 : BitVec 32 := BitVec.ofNat 32 (i 0).val
  let v86 : Index := Scalar.indexCast arg0
  ![v86.toNat]
def k0_off15 (v5 : BitVec 32) : Fin 2 → Nat :=
  let c1_i32_51 : BitVec 32 := 1#32
  let v88 : BitVec 32 := Scalar.subi c1_i32_51 v5
  let c0_i32_53 : BitVec 32 := 0#32
  ![v88.toNat, 0]
def k0_cond4 (v61 : BitVec 32) : BitVec 1 :=
  let c0_i32_37 : BitVec 32 := 0#32
  let v62 : BitVec 1 := Scalar.cmpi .sge v61 c0_i32_37
  let v63 : BitVec 32 := Scalar.extui v62
  let c0_i32_38 : BitVec 32 := 0#32
  let v64 : BitVec 1 := Scalar.cmpi .ne v63 c0_i32_38
  v64

def k0_off16 (v5 : BitVec 32) : Fin 3 → Nat :=
  let c1_i32_51 : BitVec 32 := 1#32
  let v88 : BitVec 32 := Scalar.subi c1_i32_51 v5
  let c0_i32_54 : BitVec 32 := 0#32
  let c0_i32_55 : BitVec 32 := 0#32
  ![v88.toNat, 0, 0]
def k0_off17 (v87 : BitVec 32) : Fin 4 → Nat :=
  let c0_i32_52 : BitVec 32 := 0#32
  let c0_i32_56 : BitVec 32 := 0#32
  let c0_i32_57 : BitVec 32 := 0#32
  ![0, v87.toNat, 0, 0]

def k0_off18 (v5 : BitVec 32) : Fin 2 → Nat :=
  let c1_i32_51 : BitVec 32 := 1#32
  let v88 : BitVec 32 := Scalar.subi c1_i32_51 v5
  let c1_i32_59 : BitVec 32 := 1#32
  ![v88.toNat, 1]
def k0_off19 (v5 : BitVec 32) : Fin 3 → Nat :=
  let c1_i32_51 : BitVec 32 := 1#32
  let v88 : BitVec 32 := Scalar.subi c1_i32_51 v5
  let c0_i32_60 : BitVec 32 := 0#32
  let c0_i32_61 : BitVec 32 := 0#32
  ![v88.toNat, 0, 0]
def k0_off20 (v5 : BitVec 32) : Fin 2 → Nat :=
  let c1_i32_51 : BitVec 32 := 1#32
  let v88 : BitVec 32 := Scalar.subi c1_i32_51 v5
  let c2_i32_65 : BitVec 32 := 2#32
  ![v88.toNat, 2]
def k0_off21 (v5 : BitVec 32) : Fin 3 → Nat :=
  let c1_i32_51 : BitVec 32 := 1#32
  let v88 : BitVec 32 := Scalar.subi c1_i32_51 v5
  let c0_i32_66 : BitVec 32 := 0#32
  let c0_i32_67 : BitVec 32 := 0#32
  ![v88.toNat, 0, 0]

def k0_chk4 (i : grid0.Coords) (v0 : BitVec 32) (v5 : BitVec 32) (v7 : BitVec 32) (v61 : BitVec 32) : Prop :=
  (∀ (k0_h1 : k0_cond1 i v0 = 1#1), ∀ (k0_h2 : k0_cond2 v7 = 1#1), ∀ (k0_h4 : k0_cond4 v61 = 1#1), ∀ a, (k0_off15 v5) a + S1x1.size a ≤ S2x3.size a) ∧
  (∀ (k0_h1 : k0_cond1 i v0 = 1#1), ∀ (k0_h2 : k0_cond2 v7 = 1#1), ∀ (k0_h4 : k0_cond4 v61 = 1#1), ∀ a, (k0_off16 v5) a + S1x2048x512.size a ≤ S2x2048x512.size a) ∧
  (∀ (k0_h1 : k0_cond1 i v0 = 1#1), ∀ (k0_h2 : k0_cond2 v7 = 1#1), ∀ (k0_h4 : k0_cond4 v61 = 1#1), ∀ a, (k0_off18 v5) a + S1x1.size a ≤ S2x3.size a) ∧
  (∀ (k0_h1 : k0_cond1 i v0 = 1#1), ∀ (k0_h2 : k0_cond2 v7 = 1#1), ∀ (k0_h4 : k0_cond4 v61 = 1#1), ∀ a, (k0_off19 v5) a + S1x2048x512.size a ≤ S2x2048x512.size a) ∧
  (∀ (k0_h1 : k0_cond1 i v0 = 1#1), ∀ (k0_h2 : k0_cond2 v7 = 1#1), ∀ (k0_h4 : k0_cond4 v61 = 1#1), ∀ a, (k0_off20 v5) a + S1x1.size a ≤ S2x3.size a) ∧
  (∀ (k0_h1 : k0_cond1 i v0 = 1#1), ∀ (k0_h2 : k0_cond2 v7 = 1#1), ∀ (k0_h4 : k0_cond4 v61 = 1#1), ∀ a, (k0_off21 v5) a + S1x512x2048.size a ≤ S2x512x2048.size a)
theorem k0_off15_inb : ∀ (i : grid0.Coords) (v0 : BitVec 32) (v5 : BitVec 32) (v7 : BitVec 32) (v61 : BitVec 32) (k0_hw4 : k0_chk4 i v0 v5 v7 v61), ∀ (k0_h1 : k0_cond1 i v0 = 1#1), ∀ (k0_h2 : k0_cond2 v7 = 1#1), ∀ (k0_h4 : k0_cond4 v61 = 1#1), ∀ a, (k0_off15 v5) a + S1x1.size a ≤ S2x3.size a := fun i v0 v5 v7 v61 k0_hw4 k0_h1 k0_h2 k0_h4 => k0_hw4.1 k0_h1 k0_h2 k0_h4
theorem k0_off16_inb : ∀ (i : grid0.Coords) (v0 : BitVec 32) (v5 : BitVec 32) (v7 : BitVec 32) (v61 : BitVec 32) (k0_hw4 : k0_chk4 i v0 v5 v7 v61), ∀ (k0_h1 : k0_cond1 i v0 = 1#1), ∀ (k0_h2 : k0_cond2 v7 = 1#1), ∀ (k0_h4 : k0_cond4 v61 = 1#1), ∀ a, (k0_off16 v5) a + S1x2048x512.size a ≤ S2x2048x512.size a := fun i v0 v5 v7 v61 k0_hw4 k0_h1 k0_h2 k0_h4 => k0_hw4.2.1 k0_h1 k0_h2 k0_h4
theorem k0_off18_inb : ∀ (i : grid0.Coords) (v0 : BitVec 32) (v5 : BitVec 32) (v7 : BitVec 32) (v61 : BitVec 32) (k0_hw4 : k0_chk4 i v0 v5 v7 v61), ∀ (k0_h1 : k0_cond1 i v0 = 1#1), ∀ (k0_h2 : k0_cond2 v7 = 1#1), ∀ (k0_h4 : k0_cond4 v61 = 1#1), ∀ a, (k0_off18 v5) a + S1x1.size a ≤ S2x3.size a := fun i v0 v5 v7 v61 k0_hw4 k0_h1 k0_h2 k0_h4 => k0_hw4.2.2.1 k0_h1 k0_h2 k0_h4
theorem k0_off19_inb : ∀ (i : grid0.Coords) (v0 : BitVec 32) (v5 : BitVec 32) (v7 : BitVec 32) (v61 : BitVec 32) (k0_hw4 : k0_chk4 i v0 v5 v7 v61), ∀ (k0_h1 : k0_cond1 i v0 = 1#1), ∀ (k0_h2 : k0_cond2 v7 = 1#1), ∀ (k0_h4 : k0_cond4 v61 = 1#1), ∀ a, (k0_off19 v5) a + S1x2048x512.size a ≤ S2x2048x512.size a := fun i v0 v5 v7 v61 k0_hw4 k0_h1 k0_h2 k0_h4 => k0_hw4.2.2.2.1 k0_h1 k0_h2 k0_h4
theorem k0_off20_inb : ∀ (i : grid0.Coords) (v0 : BitVec 32) (v5 : BitVec 32) (v7 : BitVec 32) (v61 : BitVec 32) (k0_hw4 : k0_chk4 i v0 v5 v7 v61), ∀ (k0_h1 : k0_cond1 i v0 = 1#1), ∀ (k0_h2 : k0_cond2 v7 = 1#1), ∀ (k0_h4 : k0_cond4 v61 = 1#1), ∀ a, (k0_off20 v5) a + S1x1.size a ≤ S2x3.size a := fun i v0 v5 v7 v61 k0_hw4 k0_h1 k0_h2 k0_h4 => k0_hw4.2.2.2.2.1 k0_h1 k0_h2 k0_h4
theorem k0_off21_inb : ∀ (i : grid0.Coords) (v0 : BitVec 32) (v5 : BitVec 32) (v7 : BitVec 32) (v61 : BitVec 32) (k0_hw4 : k0_chk4 i v0 v5 v7 v61), ∀ (k0_h1 : k0_cond1 i v0 = 1#1), ∀ (k0_h2 : k0_cond2 v7 = 1#1), ∀ (k0_h4 : k0_cond4 v61 = 1#1), ∀ a, (k0_off21 v5) a + S1x512x2048.size a ≤ S2x512x2048.size a := fun i v0 v5 v7 v61 k0_hw4 k0_h1 k0_h2 k0_h4 => k0_hw4.2.2.2.2.2 k0_h1 k0_h2 k0_h4

def k0_off22 (v87 : BitVec 32) : Fin 4 → Nat :=
  let c0_i32_64 : BitVec 32 := 0#32
  let c0_i32_68 : BitVec 32 := 0#32
  let c0_i32_69 : BitVec 32 := 0#32
  ![0, v87.toNat, 0, 0]

def k0_chk5 (i : grid0.Coords) (v0 : BitVec 32) (v7 : BitVec 32) (v61 : BitVec 32) (v87 : BitVec 32) : Prop :=
  (∀ (k0_h1 : k0_cond1 i v0 = 1#1), ∀ (k0_h2 : k0_cond2 v7 = 1#1), ∀ (k0_h4 : k0_cond4 v61 = 1#1), ∀ a, (k0_off17 v87) a + S1x1x2048x512.size a ≤ S4x32x2048x512.size a) ∧
  (∀ (k0_h1 : k0_cond1 i v0 = 1#1), ∀ (k0_h2 : k0_cond2 v7 = 1#1), ∀ (k0_h4 : k0_cond4 v61 = 1#1), ∀ a, (k0_off22 v87) a + S1x1x512x2048.size a ≤ S4x32x512x2048.size a)
theorem k0_off17_inb : ∀ (i : grid0.Coords) (v0 : BitVec 32) (v7 : BitVec 32) (v61 : BitVec 32) (v87 : BitVec 32) (k0_hw5 : k0_chk5 i v0 v7 v61 v87), ∀ (k0_h1 : k0_cond1 i v0 = 1#1), ∀ (k0_h2 : k0_cond2 v7 = 1#1), ∀ (k0_h4 : k0_cond4 v61 = 1#1), ∀ a, (k0_off17 v87) a + S1x1x2048x512.size a ≤ S4x32x2048x512.size a := fun i v0 v7 v61 v87 k0_hw5 k0_h1 k0_h2 k0_h4 => k0_hw5.1 k0_h1 k0_h2 k0_h4
theorem k0_off22_inb : ∀ (i : grid0.Coords) (v0 : BitVec 32) (v7 : BitVec 32) (v61 : BitVec 32) (v87 : BitVec 32) (k0_hw5 : k0_chk5 i v0 v7 v61 v87), ∀ (k0_h1 : k0_cond1 i v0 = 1#1), ∀ (k0_h2 : k0_cond2 v7 = 1#1), ∀ (k0_h4 : k0_cond4 v61 = 1#1), ∀ a, (k0_off22 v87) a + S1x1x512x2048.size a ≤ S4x32x512x2048.size a := fun i v0 v7 v61 v87 k0_hw5 k0_h1 k0_h2 k0_h4 => k0_hw5.2 k0_h1 k0_h2 k0_h4

def k0_off23 (v5 : BitVec 32) : Fin 3 → Nat :=
  let v65 : Index := Scalar.indexCast v5
  let c0_39 : Index := 0#32
  let c0_40 : Index := 0#32
  ![v65.toNat, 0, 0]
def k0_off24 (v5 : BitVec 32) : Fin 3 → Nat :=
  let v79 : Index := Scalar.indexCast v5
  let c0_47 : Index := 0#32
  let c0_48 : Index := 0#32
  ![v79.toNat, 0, 0]

def k0_chk2 (i : grid0.Coords) (v0 : BitVec 32) (v5 : BitVec 32) (v7 : BitVec 32) : Prop :=
  (∀ (k0_h1 : k0_cond1 i v0 = 1#1), ∀ (k0_h2 : k0_cond2 v7 = 1#1), ∀ a, (k0_off5 v5) a + S1x1.size a ≤ S2x3.size a) ∧
  (∀ (k0_h1 : k0_cond1 i v0 = 1#1), ∀ (k0_h2 : k0_cond2 v7 = 1#1), ∀ a, (k0_off6 v5) a + S1x2048x512.size a ≤ S2x2048x512.size a) ∧
  (∀ (k0_h1 : k0_cond1 i v0 = 1#1), ∀ (k0_h2 : k0_cond2 v7 = 1#1), ∀ a, (k0_off8 v5) a + S1x1.size a ≤ S2x3.size a) ∧
  (∀ (k0_h1 : k0_cond1 i v0 = 1#1), ∀ (k0_h2 : k0_cond2 v7 = 1#1), ∀ a, (k0_off9 v5) a + S1x2048x512.size a ≤ S2x2048x512.size a) ∧
  (∀ (k0_h1 : k0_cond1 i v0 = 1#1), ∀ (k0_h2 : k0_cond2 v7 = 1#1), ∀ a, (k0_off10 v5) a + S1x1.size a ≤ S2x3.size a) ∧
  (∀ (k0_h1 : k0_cond1 i v0 = 1#1), ∀ (k0_h2 : k0_cond2 v7 = 1#1), ∀ a, (k0_off11 v5) a + S1x512x2048.size a ≤ S2x512x2048.size a) ∧
  (∀ (k0_h1 : k0_cond1 i v0 = 1#1), ∀ (k0_h2 : k0_cond2 v7 = 1#1), ∀ a, (k0_off23 v5) a + S1x2048x512.size a ≤ S2x2048x512.size a) ∧
  (∀ (k0_h1 : k0_cond1 i v0 = 1#1), ∀ (k0_h2 : k0_cond2 v7 = 1#1), ∀ a, (k0_off24 v5) a + S1x512x2048.size a ≤ S2x512x2048.size a)
theorem k0_off5_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off5 v5) a + S1x1.size a ≤ S2x3.size a := fun i v0 v5 v7 k0_hw2 k0_h1 k0_h2 => k0_hw2.1 k0_h1 k0_h2
theorem k0_off6_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off6 v5) a + S1x2048x512.size a ≤ S2x2048x512.size a := fun i v0 v5 v7 k0_hw2 k0_h1 k0_h2 => k0_hw2.2.1 k0_h1 k0_h2
theorem k0_off8_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off8 v5) a + S1x1.size a ≤ S2x3.size a := fun i v0 v5 v7 k0_hw2 k0_h1 k0_h2 => k0_hw2.2.2.1 k0_h1 k0_h2
theorem k0_off9_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off9 v5) a + S1x2048x512.size a ≤ S2x2048x512.size a := fun i v0 v5 v7 k0_hw2 k0_h1 k0_h2 => k0_hw2.2.2.2.1 k0_h1 k0_h2
theorem k0_off10_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off10 v5) a + S1x1.size a ≤ S2x3.size a := fun i v0 v5 v7 k0_hw2 k0_h1 k0_h2 => k0_hw2.2.2.2.2.1 k0_h1 k0_h2
theorem k0_off11_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off11 v5) a + S1x512x2048.size a ≤ S2x512x2048.size a := fun i v0 v5 v7 k0_hw2 k0_h1 k0_h2 => k0_hw2.2.2.2.2.2.1 k0_h1 k0_h2
theorem k0_off23_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off23 v5) a + S1x2048x512.size a ≤ S2x2048x512.size a := fun i v0 v5 v7 k0_hw2 k0_h1 k0_h2 => k0_hw2.2.2.2.2.2.2.1 k0_h1 k0_h2
theorem k0_off24_inb : ∀ (i : grid0.Coords) (v0 : BitVec 32) (v5 : BitVec 32) (v7 : BitVec 32) (k0_hw2 : k0_chk2 i v0 v5 v7), ∀ (k0_h1 : k0_cond1 i v0 = 1#1), ∀ (k0_h2 : k0_cond2 v7 = 1#1), ∀ a, (k0_off24 v5) a + S1x512x2048.size a ≤ S2x512x2048.size a := fun i v0 v5 v7 k0_hw2 k0_h1 k0_h2 => k0_hw2.2.2.2.2.2.2.2 k0_h1 k0_h2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceExpertsIdeal.lean ====
abbrev S160 : Shape := ⟨1, ![160]⟩
abbrev S1 : Shape := ⟨1, ![1]⟩
abbrev S40960x2048 : Shape := ⟨2, ![40960, 2048]⟩
abbrev S1x2048 : Shape := ⟨2, ![1, 2048]⟩
abbrev S4x32x2048x512 : Shape := ⟨4, ![4, 32, 2048, 512]⟩
abbrev S4x32x512x2048 : Shape := ⟨4, ![4, 32, 512, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S160x256 : Shape := ⟨2, ![160, 256]⟩
abbrev S1x32x2048x512 : Shape := ⟨4, ![1, 32, 2048, 512]⟩
abbrev S32x2048x512 : Shape := ⟨3, ![32, 2048, 512]⟩
abbrev S40960x32x512 : Shape := ⟨3, ![40960, 32, 512]⟩
abbrev S1x32x512x2048 : Shape := ⟨4, ![1, 32, 512, 2048]⟩
abbrev S32x512x2048 : Shape := ⟨3, ![32, 512, 2048]⟩
abbrev S32x2048x40960 : Shape := ⟨3, ![32, 2048, 40960]⟩
abbrev S40960x32x2048 : Shape := ⟨3, ![40960, 32, 2048]⟩
abbrev S1x32 : Shape := ⟨2, ![1, 32]⟩
abbrev S40960x32 : Shape := ⟨2, ![40960, 32]⟩
abbrev S40960x32x1 : Shape := ⟨3, ![40960, 32, 1]⟩

abbrev nBuf : Space → Nat
  | .hbm => 60
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S160, .i32⟩
  | .hbm, ⟨3, _⟩ => ⟨S160, .i32⟩
  | .hbm, ⟨4, _⟩ => ⟨S160, .i32⟩
  | .hbm, ⟨5, _⟩ => ⟨S40960x2048, .f32⟩
  | .hbm, ⟨6, _⟩ => ⟨S1x2048, .f32⟩
  | .hbm, ⟨7, _⟩ => ⟨S4x32x2048x512, .f32⟩
  | .hbm, ⟨8, _⟩ => ⟨S4x32x2048x512, .f32⟩
  | .hbm, ⟨9, _⟩ => ⟨S4x32x512x2048, .f32⟩
  | .hbm, ⟨10, _⟩ => ⟨S2048, .f32⟩
  | .hbm, ⟨11, _⟩ => ⟨S40960x2048, .f32⟩
  | .hbm, ⟨12, _⟩ => ⟨S_, .f32⟩
  | .hbm, ⟨13, _⟩ => ⟨S40960, .f32⟩
  | .hbm, ⟨14, _⟩ => ⟨S40960x1, .f32⟩
  | .hbm, ⟨15, _⟩ => ⟨S_, .f32⟩
  | .hbm, ⟨16, _⟩ => ⟨S40960x1, .f32⟩
  | .hbm, ⟨17, _⟩ => ⟨S40960x1, .f32⟩
  | .hbm, ⟨18, _⟩ => ⟨S_, .f32⟩
  | .hbm, ⟨19, _⟩ => ⟨S40960x1, .f32⟩
  | .hbm, ⟨20, _⟩ => ⟨S40960x1, .f32⟩
  | .hbm, ⟨21, _⟩ => ⟨S40960x1, .f32⟩
  | .hbm, ⟨22, _⟩ => ⟨S40960x2048, .f32⟩
  | .hbm, ⟨23, _⟩ => ⟨S40960x2048, .f32⟩
  | .hbm, ⟨24, _⟩ => ⟨S1x2048, .f32⟩
  | .hbm, ⟨25, _⟩ => ⟨S40960x2048, .f32⟩
  | .hbm, ⟨26, _⟩ => ⟨S40960x2048, .f32⟩
  | .hbm, ⟨27, _⟩ => ⟨S160x256, .i32⟩
  | .hbm, ⟨28, _⟩ => ⟨S40960, .i32⟩
  | .hbm, ⟨29, _⟩ => ⟨S1x32x2048x512, .f32⟩
  | .hbm, ⟨30, _⟩ => ⟨S32x2048x512, .f32⟩
  | .hbm, ⟨31, _⟩ => ⟨S40960x32x512, .f32⟩
  | .hbm, ⟨32, _⟩ => ⟨S40960x32x512, .f32⟩
  | .hbm, ⟨33, _⟩ => ⟨S40960x32x512, .f32⟩
  | .hbm, ⟨34, _⟩ => ⟨S_, .f32⟩
  | .hbm, ⟨35, _⟩ => ⟨S40960x32x512, .f32⟩
  | .hbm, ⟨36, _⟩ => ⟨S40960x32x512, .f32⟩
  | .hbm, ⟨37, _⟩ => ⟨S_, .f32⟩
  | .hbm, ⟨38, _⟩ => ⟨S40960x32x512, .f32⟩
  | .hbm, ⟨39, _⟩ => ⟨S40960x32x512, .f32⟩
  | .hbm, ⟨40, _⟩ => ⟨S40960x32x512, .f32⟩
  | .hbm, ⟨41, _⟩ => ⟨S1x32x2048x512, .f32⟩
  | .hbm, ⟨42, _⟩ => ⟨S32x2048x512, .f32⟩
  | .hbm, ⟨43, _⟩ => ⟨S40960x32x512, .f32⟩
  | .hbm, ⟨44, _⟩ => ⟨S40960x32x512, .f32⟩
  | .hbm, ⟨45, _⟩ => ⟨S1x32x512x2048, .f32⟩
  | .hbm, ⟨46, _⟩ => ⟨S32x512x2048, .f32⟩
  | .hbm, ⟨47, _⟩ => ⟨S32x2048x40960, .f32⟩
  | .hbm, ⟨48, _⟩ => ⟨S40960x32x2048, .f32⟩
  | .hbm, ⟨49, _⟩ => ⟨S40960x1, .i32⟩
  | .hbm, ⟨50, _⟩ => ⟨S1x32, .i32⟩
  | .hbm, ⟨51, _⟩ => ⟨S40960x32, .i32⟩
  | .hbm, ⟨52, _⟩ => ⟨S40960x32, .i32⟩
  | .hbm, ⟨53, _⟩ => ⟨S40960x32, .i1⟩
  | .hbm, ⟨54, _⟩ => ⟨S40960x32, .f32⟩
  | .hbm, ⟨55, _⟩ => ⟨S40960x32x1, .f32⟩
  | .hbm, ⟨56, _⟩ => ⟨S40960x32x2048, .f32⟩
  | .hbm, ⟨57, _⟩ => ⟨S40960x32x2048, .f32⟩
  | .hbm, ⟨58, _⟩ => ⟨S_, .f32⟩
  | .hbm, ⟨59, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩

abbrev nD : Nat := 1
abbrev τ : Topo := Topo.v7x

variable {F : FTy → Type} [FloatOps F]
-- ==== KernelInproj.lean ====
abbrev S16384x2048 : Shape := ⟨2, ![16384, 2048]⟩
abbrev S16384x1 : Shape := ⟨2, ![16384, 1]⟩
abbrev S1x2048 : Shape := ⟨2, ![1, 2048]⟩
abbrev S2048x5120 : Shape := ⟨2, ![2048, 5120]⟩
abbrev S1x128 : Shape := ⟨2, ![1, 128]⟩
abbrev S64 : Shape := ⟨1, ![64]⟩
abbrev S_ : Shape := ⟨0, ![]⟩
abbrev S128 : Shape := ⟨1, ![128]⟩
abbrev S2x8x8192x128 : Shape := ⟨4, ![2, 8, 8192, 128]⟩
abbrev S256x2048 : Shape := ⟨2, ![256, 2048]⟩
abbrev S256x1 : Shape := ⟨2, ![256, 1]⟩
abbrev S1x8x256x128 : Shape := ⟨4, ![1, 8, 256, 128]⟩
abbrev S256 : Shape := ⟨1, ![256]⟩
abbrev S256x128 : Shape := ⟨2, ![256, 128]⟩
abbrev S2048x1024 : Shape := ⟨2, ![2048, 1024]⟩
abbrev S256x1024 : Shape := ⟨2, ![256, 1024]⟩
abbrev S1x1x256x128 : Shape := ⟨4, ![1, 1, 256, 128]⟩

abbrev nBuf : Space → Nat
  | .hbm => 20
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x1, .i32⟩
  | .hbm, ⟨2, _⟩ => ⟨S1x2048, .f32⟩
  | .hbm, ⟨3, _⟩ => ⟨S2048x5120, .bf16⟩
  | .hbm, ⟨4, _⟩ => ⟨S1x128, .f32⟩
  | .hbm, ⟨5, _⟩ => ⟨S1x128, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S128, .f32⟩
  | .hbm, ⟨15, _⟩ => ⟨S1x128, .f32⟩
  | .hbm, ⟨16, _⟩ => ⟨S2x8x8192x128, .bf16⟩
  | .hbm, ⟨17, _⟩ => ⟨S2x8x8192x128, .bf16⟩
  | .hbm, ⟨18, _⟩ => ⟨S2x8x8192x128, .bf16⟩
  | .hbm, ⟨19, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1, .i32⟩
  | .local _ .vmem, ⟨3, _⟩ => ⟨S256x1, .i32⟩
  | .local _ .vmem, ⟨4, _⟩ => ⟨S1x2048, .f32⟩
  | .local _ .vmem, ⟨5, _⟩ => ⟨S2048x5120, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x8x256x128, .bf16⟩
  | .local _ .vmem, ⟨10, _⟩ => ⟨S1x8x256x128, .bf16⟩
  | .local _ .vmem, ⟨11, _⟩ => ⟨S1x8x256x128, .bf16⟩
  | .local _ .vmem, ⟨12, _⟩ => ⟨S1x8x256x128, .bf16⟩
  | .local _ .vmem, ⟨13, _⟩ => ⟨S1x8x256x128, .bf16⟩
  | .local _ .vmem, ⟨14, _⟩ => ⟨S1x8x256x128, .bf16⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelInprojIdeal.lean ====
variable {F : FTy → Type} [FloatOps F] [Named F]
def κ : String → Option EReal := fun
  | "scale" => some (((Real.sqrt 128)⁻¹ : ℝ) : EReal)
  | _ => none
-- ==== ReferenceInprojIdeal.lean ====
abbrev S16384x2048 : Shape := ⟨2, ![16384, 2048]⟩
abbrev S16384x1 : Shape := ⟨2, ![16384, 1]⟩
abbrev S1x2048 : Shape := ⟨2, ![1, 2048]⟩
abbrev S2048x5120 : Shape := ⟨2, ![2048, 5120]⟩
abbrev S1x128 : Shape := ⟨2, ![1, 128]⟩
abbrev S2048 : Shape := ⟨1, ![2048]⟩
abbrev S_ : Shape := ⟨0, ![]⟩
abbrev S16384 : Shape := ⟨1, ![16384]⟩
abbrev S16384x5120 : Shape := ⟨2, ![16384, 5120]⟩
abbrev S16384x1024 : Shape := ⟨2, ![16384, 1024]⟩
abbrev S16384x8x128 : Shape := ⟨3, ![16384, 8, 128]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩
abbrev S64 : Shape := ⟨1, ![64]⟩
abbrev S1x64 : Shape := ⟨2, ![1, 64]⟩
abbrev S16384x64 : Shape := ⟨2, ![16384, 64]⟩
abbrev S16384x1x64 : Shape := ⟨3, ![16384, 1, 64]⟩
abbrev S16384x8x64 : Shape := ⟨3, ![16384, 8, 64]⟩
abbrev S2x8192x8x128 : Shape := ⟨4, ![2, 8192, 8, 128]⟩
abbrev S2x8x8192x128 : Shape := ⟨4, ![2, 8, 8192, 128]⟩

abbrev nBuf : Space → Nat
  | .hbm => 142
  | .vmem => 0
  | .smem => 0
  | _ => 0

abbrev hbmTy0_0 (i : Nat) : BufTy := match i % 128 with
  | 0 => ⟨S16384x2048, .f32⟩
  | 1 => ⟨S16384x1, .i32⟩
  | 2 => ⟨S1x2048, .f32⟩
  | 3 => ⟨S2048x5120, .bf16⟩
  | 4 => ⟨S1x128, .f32⟩
  | 5 => ⟨S1x128, .f32⟩
  | 6 => ⟨S2048, .f32⟩
  | 7 => ⟨S16384x2048, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x2048, .f32⟩
  | 19 => ⟨S16384x2048, .f32⟩
  | 20 => ⟨S1x2048, .f32⟩
  | 21 => ⟨S16384x2048, .f32⟩
  | 22 => ⟨S16384x2048, .f32⟩
  | 23 => ⟨S2048x5120, .f32⟩
  | 24 => ⟨S16384x5120, .f32⟩
  | 25 => ⟨S16384x1024, .f32⟩
  | 26 => ⟨S16384x1024, .f32⟩
  | 27 => ⟨S16384x1024, .f32⟩
  | 28 => ⟨S16384x2048, .f32⟩
  | 29 => ⟨S16384, .i32⟩
  | 30 => ⟨S16384x8x128, .f32⟩
  | 31 => ⟨S128, .f32⟩
  | 32 => ⟨S16384x8x128, .f32⟩
  | 33 => ⟨S_, .f32⟩
  | 34 => ⟨S16384x8, .f32⟩
  | 35 => ⟨S16384x8x1, .f32⟩
  | 36 => ⟨S_, .f32⟩
  | 37 => ⟨S16384x8x1, .f32⟩
  | 38 => ⟨S16384x8x1, .f32⟩
  | 39 => ⟨S_, .f32⟩
  | 40 => ⟨S16384x8x1, .f32⟩
  | 41 => ⟨S16384x8x1, .f32⟩
  | 42 => ⟨S16384x8x1, .f32⟩
  | 43 => ⟨S16384x8x128, .f32⟩
  | 44 => ⟨S16384x8x128, .f32⟩
  | 45 => ⟨S1x1x128, .f32⟩
  | 46 => ⟨S16384x8x128, .f32⟩
  | 47 => ⟨S16384x8x128, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S16384, .f32⟩
  | 57 => ⟨S16384x1, .f32⟩
  | 58 => ⟨S1x64, .f32⟩
  | 59 => ⟨S16384x64, .f32⟩
  | 60 => ⟨S16384x64, .f32⟩
  | 61 => ⟨S16384x64, .f32⟩
  | 62 => ⟨S16384x64, .f32⟩
  | 63 => ⟨S16384x1x64, .f32⟩
  | 64 => ⟨S16384x64, .f32⟩
  | 65 => ⟨S16384x1x64, .f32⟩
  | 66 => ⟨S16384x8x64, .f32⟩
  | 67 => ⟨S16384x8x64, .f32⟩
  | 68 => ⟨S16384x8x64, .f32⟩
  | 69 => ⟨S16384x8x64, .f32⟩
  | 70 => ⟨S16384x8x64, .f32⟩
  | 71 => ⟨S16384x8x64, .f32⟩
  | 72 => ⟨S16384x8x64, .f32⟩
  | 73 => ⟨S16384x8x64, .f32⟩
  | 74 => ⟨S16384x8x64, .f32⟩
  | 75 => ⟨S16384x8x64, .f32⟩
  | 76 => ⟨S16384x8x64, .f32⟩
  | 77 => ⟨S16384x8x64, .f32⟩
  | 78 => ⟨S16384x8x128, .f32⟩
  | 79 => ⟨S_, .f32⟩
  | 80 => ⟨S_, .f32⟩
  | 81 => ⟨S16384x8x128, .f32⟩
  | 82 => ⟨S16384x8x128, .f32⟩
  | 83 => ⟨S16384x8x128, .f32⟩
  | 84 => ⟨S128, .f32⟩
  | 85 => ⟨S16384x8x128, .f32⟩
  | 86 => ⟨S_, .f32⟩
  | 87 => ⟨S16384x8, .f32⟩
  | 88 => ⟨S16384x8x1, .f32⟩
  | 89 => ⟨S_, .f32⟩
  | 90 => ⟨S16384x8x1, .f32⟩
  | 91 => ⟨S16384x8x1, .f32⟩
  | 92 => ⟨S_, .f32⟩
  | 93 => ⟨S16384x8x1, .f32⟩
  | 94 => ⟨S16384x8x1, .f32⟩
  | 95 => ⟨S16384x8x1, .f32⟩
  | 96 => ⟨S16384x8x128, .f32⟩
  | 97 => ⟨S16384x8x128, .f32⟩
  | 98 => ⟨S1x1x128, .f32⟩
  | 99 => ⟨S16384x8x128, .f32⟩
  | 100 => ⟨S16384x8x128, .f32⟩
  | 101 => ⟨S64, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S16384, .f32⟩
  | 110 => ⟨S16384x1, .f32⟩
  | 111 => ⟨S1x64, .f32⟩
  | 112 => ⟨S16384x64, .f32⟩
  | 113 => ⟨S16384x64, .f32⟩
  | 114 => ⟨S16384x64, .f32⟩
  | 115 => ⟨S16384x64, .f32⟩
  | 116 => ⟨S16384x1x64, .f32⟩
  | 117 => ⟨S16384x64, .f32⟩
  | 118 => ⟨S16384x1x64, .f32⟩
  | 119 => ⟨S16384x8x64, .f32⟩
  | 120 => ⟨S16384x8x64, .f32⟩
  | 121 => ⟨S16384x8x64, .f32⟩
  | 122 => ⟨S16384x8x64, .f32⟩
  | 123 => ⟨S16384x8x64, .f32⟩
  | 124 => ⟨S16384x8x64, .f32⟩
  | 125 => ⟨S16384x8x64, .f32⟩
  | 126 => ⟨S16384x8x64, .f32⟩
  | 127 => ⟨S16384x8x64, .f32⟩
  | _ => ⟨S16384x2048, .f32⟩

abbrev hbmTy0_1 (i : Nat) : BufTy := match i % 128 with
  | 0 => ⟨S16384x8x64, .f32⟩
  | 1 => ⟨S16384x8x64, .f32⟩
  | 2 => ⟨S16384x8x64, .f32⟩
  | 3 => ⟨S16384x8x128, .f32⟩
  | 4 => ⟨S2x8192x8x128, .f32⟩
  | 5 => ⟨S2x8x8192x128, .f32⟩
  | 6 => ⟨S2x8x8192x128, .bf16⟩
  | 7 => ⟨S2x8192x8x128, .f32⟩
  | 8 => ⟨S2x8x8192x128, .f32⟩
  | 9 => ⟨S2x8x8192x128, .bf16⟩
  | 10 => ⟨S16384x8x128, .f32⟩
  | 11 => ⟨S2x8192x8x128, .f32⟩
  | 12 => ⟨S2x8x8192x128, .f32⟩
  | 13 => ⟨S2x8x8192x128, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_11 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩

abbrev nD : Nat := 1
abbrev τ : Topo := Topo.v7x

variable {F : FTy → Type} [FloatOps F]
-- ==== KernelOutproj.lean ====
abbrev S2x8x8192x128 : Shape := ⟨4, ![2, 8, 8192, 128]⟩
abbrev S16384x1024 : Shape := ⟨2, ![16384, 1024]⟩
abbrev S16384x2048 : Shape := ⟨2, ![16384, 2048]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S16384x128 : Shape := ⟨2, ![16384, 128]⟩
abbrev S1x8x512x128 : Shape := ⟨4, ![1, 8, 512, 128]⟩
abbrev S512x1024 : Shape := ⟨2, ![512, 1024]⟩
abbrev S512x2048 : Shape := ⟨2, ![512, 2048]⟩
abbrev S512x128 : Shape := ⟨2, ![512, 128]⟩
abbrev S1x1x256x128 : Shape := ⟨4, ![1, 1, 256, 128]⟩
abbrev S256x128 : Shape := ⟨2, ![256, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 11
  | .vmem => 18
  | .smem => 0
  | _ => 0

abbrev bufTy : (tb : Table) → Fin (tcTables nBuf tb) → BufTy
  | .hbm, ⟨0, _⟩ => ⟨S2x8x8192x128, .bf16⟩
  | .hbm, ⟨1, _⟩ => ⟨S16384x1024, .bf16⟩
  | .hbm, ⟨2, _⟩ => ⟨S16384x2048, .f32⟩
  | .hbm, ⟨3, _⟩ => ⟨S2048x2048, .bf16⟩
  | .hbm, ⟨4, _⟩ => ⟨S1x2048, .f32⟩
  | .hbm, ⟨5, _⟩ => ⟨S2048x128, .bf16⟩
  | .hbm, ⟨6, _⟩ => ⟨S1x128, .f32⟩
  | .hbm, ⟨7, _⟩ => ⟨S16384x2048, .f32⟩
  | .hbm, ⟨8, _⟩ => ⟨S16384x128, .i32⟩
  | .hbm, ⟨9, _⟩ => ⟨S16384x128, .f32⟩
  | .hbm, ⟨10, _⟩ => ⟨S1x128, .f32⟩
  | .local _ .vmem, ⟨0, _⟩ => ⟨S1x8x512x128, .bf16⟩
  | .local _ .vmem, ⟨1, _⟩ => ⟨S1x8x512x128, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S512x128, .i32⟩
  | .local _ .vmem, ⟨13, _⟩ => ⟨S512x128, .i32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceOutprojIdeal.lean ====
abbrev S2x8x8192x128 : Shape := ⟨4, ![2, 8, 8192, 128]⟩
abbrev S16384x1024 : Shape := ⟨2, ![16384, 1024]⟩
abbrev S16384x2048 : Shape := ⟨2, ![16384, 2048]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S2x8192x8x128 : Shape := ⟨4, ![2, 8192, 8, 128]⟩

abbrev nBuf : Space → Nat
  | .hbm => 14
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S16384x1024, .bf16⟩
  | .hbm, ⟨2, _⟩ => ⟨S16384x2048, .f32⟩
  | .hbm, ⟨3, _⟩ => ⟨S2048x2048, .bf16⟩
  | .hbm, ⟨4, _⟩ => ⟨S1x2048, .f32⟩
  | .hbm, ⟨5, _⟩ => ⟨S2048x128, .bf16⟩
  | .hbm, ⟨6, _⟩ => ⟨S1x128, .f32⟩
  | .hbm, ⟨7, _⟩ => ⟨S2x8192x8x128, .bf16⟩
  | .hbm, ⟨8, _⟩ => ⟨S16384x1024, .bf16⟩
  | .hbm, ⟨9, _⟩ => ⟨S16384x2048, .bf16⟩
  | .hbm, ⟨10, _⟩ => ⟨S16384x2048, .f32⟩
  | .hbm, ⟨11, _⟩ => ⟨S2048x2048, .f32⟩
  | .hbm, ⟨12, _⟩ => ⟨S16384x2048, .f32⟩
  | .hbm, ⟨13, _⟩ => ⟨S16384x2048, .f32⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Proof.P.Body.lean ====
/-
  The attention kernel as written: what one grid point needs and leaves. The body widens the query block and the two
  key and value blocks into scratch rows, runs three counted loops (one for each dilation) that fill the three planes
  of row maxima, row sums and weighted value sums, and a fourth loop that merges the planes into the output block.
  The frame claim asks nothing of what the scratch and the output hold, so each loop carries only the fact that
  the buffers are held.
-/
module

public import proofs.«01_k».proof.Proof.Gen.Kernel.Frame
public import proofs.«01_k».proof.Proof.Gen.Kernel.Skeleton
public import Idealize.ShloMosaic.Lib.Tactic
public import Idealize.ShloMosaic.Lib.Pipeline.Kit

@[expose] public section

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

local notation "𝕄" => MT nD τ sig Unit (Elt F) ℕ (UR sig nD τ) ℕ

/-- A memref's buffer on core `c` held whole at the contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The same at some contents. -/
abbrev held (c : Dev nD) {sp : Space} {S : Shape} {e : EltTy} (M : Memref sig .tc sp S e) : sProp 𝕄 :=
  iprop(∃ f, pt (F := F) c M f)

variable (c : Dev nD) (i : grid0.Coords)
  (arg3 : Memref sig .tc .vmem S1x1x2048x128 .bf16) (harg3 : arg3.IsWhole)
  (arg4 : Memref sig .tc .vmem S1x1x2048x128 .bf16) (harg4 : arg4.IsWhole)
  (arg5 : Memref sig .tc .vmem S1x1x2048x128 .bf16) (harg5 : arg5.IsWhole)
  (arg6 : Memref sig .tc .vmem S1x1x2048x128 .bf16) (harg6 : arg6.IsWhole)
  (arg7 : Memref sig .tc .vmem S1x1x2048x128 .bf16) (harg7 : arg7.IsWhole)
  (arg8 : Memref sig .tc .vmem S1x1x2048x128 .bf16) (harg8 : arg8.IsWhole)
  (arg9 : Memref sig .tc .vmem S2048x128 .f32) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S3x2048x128 .f32) (harg12 : arg12.IsWhole)
  (arg13 : Memref sig .tc .vmem S3x2048x128 .f32) (harg13 : arg13.IsWhole)
  (arg14 : Memref sig .tc .vmem S3x2048x128 .f32) (harg14 : arg14.IsWhole)

/-- What the first three loops hold: the widened rows and the three planes. -/
abbrev rows : sProp 𝕄 :=
  iprop(held (F := F) c arg9 ∗ held (F := F) c arg10 ∗ held (F := F) c arg11 ∗ held (F := F) c arg12 ∗ held (F := F) c arg13 ∗ held (F := F) c arg14)

/-- What the merging loop holds. -/
abbrev planes : sProp 𝕄 :=
  iprop((∃ X, owns (c : Thread nD τ) arg8 fullShare X) ∗ held (F := F) c arg12 ∗ held (F := F) c arg13 ∗ held (F := F) c arg14)

set_option maxHeartbeats 2000000 in
/-- One trip of the loop of the undilated branch. -/
theorem trip1 (a2 : BitVec 32) (k : Fin k0_t1_loop.trips) :
    rows (F := F) c arg9 arg10 arg11 arg12 arg13 arg14
    ⊢ wp frame (wpE (defs₀ (F := F)) 𝒱₀ c none) Set.univ
        (k0_t1_body i arg3 harg3 arg4 harg4 arg5 harg5 arg6 harg6 arg7 harg7 arg8 harg8 arg9 harg9 arg10 harg10 arg11 harg11 arg12 harg12 arg13 harg13 arg14 harg14 a2 k ⟨⟩)
        (fun _ => rows (F := F) c arg9 arg10 arg11 arg12 arg13 arg14) := by
  unfold k0_t1_body
  iintro ⟨⟨%f9, H9⟩, ⟨%f10, H10⟩, ⟨%f11, H11⟩, ⟨%f12, H12⟩, ⟨%f13, H13⟩, ⟨%f14, H14⟩⟩
  sl_exec
  sl_step
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 2000000 in
/-- One trip of the loop of the branch of dilation four. -/
theorem trip2 (a2 : BitVec 32) (k : Fin k0_t2_loop.trips) :
    rows (F := F) c arg9 arg10 arg11 arg12 arg13 arg14
    ⊢ wp frame (wpE (defs₀ (F := F)) 𝒱₀ c none) Set.univ
        (k0_t2_body i arg3 harg3 arg4 harg4 arg5 harg5 arg6 harg6 arg7 harg7 arg8 harg8 arg9 harg9 arg10 harg10 arg11 harg11 arg12 harg12 arg13 harg13 arg14 harg14 a2 k ⟨⟩)
        (fun _ => rows (F := F) c arg9 arg10 arg11 arg12 arg13 arg14) := by
  unfold k0_t2_body
  iintro ⟨⟨%f9, H9⟩, ⟨%f10, H10⟩, ⟨%f11, H11⟩, ⟨%f12, H12⟩, ⟨%f13, H13⟩, ⟨%f14, H14⟩⟩
  sl_exec
  sl_step
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 2000000 in
/-- One trip of the loop of the branch of dilation sixteen. -/
theorem trip3 (a2 : BitVec 32) (k : Fin k0_t3_loop.trips) :
    rows (F := F) c arg9 arg10 arg11 arg12 arg13 arg14
    ⊢ wp frame (wpE (defs₀ (F := F)) 𝒱₀ c none) Set.univ
        (k0_t3_body i arg3 harg3 arg4 harg4 arg5 harg5 arg6 harg6 arg7 harg7 arg8 harg8 arg9 harg9 arg10 harg10 arg11 harg11 arg12 harg12 arg13 harg13 arg14 harg14 a2 k ⟨⟩)
        (fun _ => rows (F := F) c arg9 arg10 arg11 arg12 arg13 arg14) := by
  unfold k0_t3_body
  iintro ⟨⟨%f9, H9⟩, ⟨%f10, H10⟩, ⟨%f11, H11⟩, ⟨%f12, H12⟩, ⟨%f13, H13⟩, ⟨%f14, H14⟩⟩
  sl_exec
  sl_step
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 2000000 in
/-- One trip of the merging loop. -/
theorem trip4 (k : Fin k0_t4_loop.trips) :
    planes (F := F) c arg8 arg12 arg13 arg14
    ⊢ wp frame (wpE (defs₀ (F := F)) 𝒱₀ c none) Set.univ
        (k0_t4_body i arg3 harg3 arg4 harg4 arg5 harg5 arg6 harg6 arg7 harg7 arg8 harg8 arg9 harg9 arg10 harg10 arg11 harg11 arg12 harg12 arg13 harg13 arg14 harg14 k ⟨⟩)
        (fun _ => planes (F := F) c arg8 arg12 arg13 arg14) := by
  unfold planes k0_t4_body owns
  iintro ⟨⟨%X8, %f8, -, H8⟩, ⟨%f12, H12⟩, ⟨%f13, H13⟩, ⟨%f14, H14⟩⟩
  sl_exec
  sl_step
  isplitl [H8]
  · iexists _; iexists _; isplitr
    swap; · iexact H8
    ipureintro; rfl
  isplitl [H12]; · iexists _; iexact H12
  isplitl [H13]; · iexists _; iexact H13
  iexists _; iexact H14

set_option maxHeartbeats 4000000 in
/-- One grid point: the input blocks are handed back as found, the scratch and the output at some contents. -/
theorem point (X3 X4 X5 X6 X7 : S1x1x2048x128.Idx → Elt F .bf16) :
    iprop(owns (c : Thread nD τ) arg3 fullShare X3 ∗ owns (c : Thread nD τ) arg4 fullShare X4 ∗ owns (c : Thread nD τ) arg5 fullShare X5
      ∗ owns (c : Thread nD τ) arg6 fullShare X6 ∗ owns (c : Thread nD τ) arg7 fullShare X7 ∗ (∃ X, owns (c : Thread nD τ) arg8 fullShare X)
      ∗ rows (F := F) c arg9 arg10 arg11 arg12 arg13 arg14)
    ⊢ wp frame (wpE (defs₀ (F := F)) 𝒱₀ c none) Set.univ
        (cc0_dilated_attn i arg3 harg3 arg4 harg4 arg5 harg5 arg6 harg6 arg7 harg7 arg8 harg8 arg9 harg9 arg10 harg10 arg11 harg11 arg12 harg12 arg13 harg13 arg14 harg14)
        (fun _ => iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ (∃ X, owns (c : Thread nD τ) arg8 fullShare X)
          ∗ rows (F := F) c arg9 arg10 arg11 arg12 arg13 arg14)) := by
  rw [cc0_dilated_attn_eq_skeleton]
  unfold cc0_dilated_attn_skel owns
  iintro ⟨⟨%f3, %h3, H3⟩, ⟨%f4, %h4, H4⟩, ⟨%f5, %h5, H5⟩, ⟨%f6, %h6, H6⟩, ⟨%f7, %h7, H7⟩, ⟨%X8, %f8, %h8, H8⟩,
    ⟨%f9, H9⟩, ⟨%f10, H10⟩, ⟨%f11, H11⟩, ⟨%f12, H12⟩, ⟨%f13, H13⟩, ⟨%f14, H14⟩⟩
  sl_exec
  sl_for (fun _ _ => rows (F := F) c arg9 arg10 arg11 arg12 arg13 arg14) $$ [H9 H10 H11 H12 H13 H14]
  · exact fun k _ => trip1 c i arg3 harg3 arg4 harg4 arg5 harg5 arg6 harg6 arg7 harg7 arg8 harg8 arg9 harg9 arg10 harg10 arg11 harg11 arg12 harg12 arg13 harg13 arg14 harg14 _ k
  · isplitl [H9]; · iexists _; iexact H9
    isplitl [H10]; · iexists _; iexact H10
    isplitl [H11]; · iexists _; iexact H11
    isplitl [H12]; · iexists _; iexact H12
    isplitl [H13]; · iexists _; iexact H13
    iexists _; iexact H14
  iintro %acc1 HR
  sl_exec
  sl_for (fun _ _ => rows (F := F) c arg9 arg10 arg11 arg12 arg13 arg14) $$ [HR]
  · exact fun k _ => trip2 c i arg3 harg3 arg4 harg4 arg5 harg5 arg6 harg6 arg7 harg7 arg8 harg8 arg9 harg9 arg10 harg10 arg11 harg11 arg12 harg12 arg13 harg13 arg14 harg14 _ k
  · iexact HR
  iintro %acc2 HR
  sl_exec
  sl_for (fun _ _ => rows (F := F) c arg9 arg10 arg11 arg12 arg13 arg14) $$ [HR]
  · exact fun k _ => trip3 c i arg3 harg3 arg4 harg4 arg5 harg5 arg6 harg6 arg7 harg7 arg8 harg8 arg9 harg9 arg10 harg10 arg11 harg11 arg12 harg12 arg13 harg13 arg14 harg14 _ k
  · iexact HR
  iintro %acc3 ⟨H9, H10, H11, H12, H13, H14⟩
  sl_exec
  sl_for (fun _ _ => planes (F := F) c arg8 arg12 arg13 arg14) $$ [H8 H12 H13 H14]
  · exact fun k _ => trip4 c i arg3 harg3 arg4 harg4 arg5 harg5 arg6 harg6 arg7 harg7 arg8 harg8 arg9 harg9 arg10 harg10 arg11 harg11 arg12 harg12 arg13 harg13 arg14 harg14 k
  · isplitl [H8]
    · unfold owns; iexists X8; iexists f8; isplitr; · ipureintro; exact h8
      iexact H8
    isplitl [H12]; · iexact H12
    isplitl [H13]; · iexact H13
    iexact H14
  iintro %acc4 ⟨H8, H12, H13, H14⟩
  sl_exec
  sl_step
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · unfold owns; iexact H8
  isplitl [H9]; · iexact H9
  isplitl [H10]; · iexact H10
  isplitl [H11]; · iexact H11
  isplitl [H12]; · iexact H12
  isplitl [H13]; · iexact H13
  iexact H14

end Cert.Proof.P

end
-- ==== Proof.P.Run.lean ====
/-
  The attention kernel as written: the run. Every argument array is unchanged at the end and every semaphore counter
  is at zero; nothing is said of the output's contents.
-/
module

public import proofs.«01_k».proof.Proof.P.Body

@[expose] public section

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one nothing is said of. -/
def forgets0 : Fin 6 → Bool := fun | 0 => false | 1 => false | 2 => false | 3 => false | 4 => false | 5 => true

/-- What the body leaves in each window: an input's block as it was. -/
def after0 (c : Dev nD) (w : Fin cfg0.W) (t : Fin cfg0.N) : (cfg0.win w).block.Idx → Elt F (cfg0.win w).elt :=
  match w with
  | 0 => iblk m c 0 t | 1 => iblk m c 1 t | 2 => iblk m c 2 t | 3 => iblk m c 3 t | 4 => iblk m c 4 t
  | 5 => Pipeline.Dat.unnamed (cfg := cfg0) 5 t

/-- The proof data on core `c`. -/
def dats (_ : Fin 1) (c : Dev nD) : Dat τ (Elt F) Unit ℕ (UR sig nD τ) ℕ cfg0 c where
  A w := V m c (Pipeline.arrRef spec0 w)
  after w t := after0 m c w t
  Φ _ := Pipeline.ΦA spec0 c
  q w := Pipeline.shareOf spec0 w
  owed _ := 0

/-- The kernel's scratch and the generator's register, at some contents. -/
theorem phi_eq (c : Dev nD) : (Pipeline.ΦA (Val := Elt F) spec0 c : sProp 𝕄)
    = iprop(rows (F := F) c (Memref.whole cc0_scratch0) (Memref.whole cc0_scratch1) (Memref.whole cc0_scratch2)
        (Memref.whole cc0_scratch3) (Memref.whole cc0_scratch4) (Memref.whole cc0_scratch5) ∗ ∃ r, prngReg c r) := by
  unfold Pipeline.ΦA; rw [scopedRest0_eq]

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

set_option maxHeartbeats 1000000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  simp only [before_0, before_1, before_2, before_3, before_4]
  iintro ⟨⟨HS, Hg⟩, HO, ⟨%d0, H0⟩, ⟨%d1, H1⟩, ⟨%d2, H2⟩, ⟨%d3, H3⟩, ⟨%d4, H4⟩, H5⟩
  iapply (wp_wand frame (wpE (defs₀ (F := F)) 𝒱₀ c none) Set.univ) $$ [HS H0 H1 H2 H3 H4 H5]
  · iapply (point c (grid0.coords t) _ _ _ _ _ _ _ _ _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexact H5
    iexact HS
  iintro %u ⟨H0, H1, H2, H3, H4, H5, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

set_option backward.isDefEq.respectTransparency.types false in
/-- The run ends with the arguments unchanged and every counter at zero. -/
theorem run_main : θ_run defs (onTc (τ := τ) (main (F := F))) ⟨m, fun _ => 0, ρ⟩
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ 𝒱₀ forgets0 m ρ main
    (hbody := fun c => (body_obligation m c).loose) (hq := fun _ _ _ => rfl) (howed := fun _ _ => rfl) (V := V m)
    (hmain := hmain m 𝒱₀) (hA := fun _ _ => rfl) (hΦ := fun _ _ => rfl)

/-- The frame claim's post. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨Pipeline.RDat.FramePost.arr_in h.1 c 0 rfl, Pipeline.RDat.FramePost.arr_in h.1 c 2 rfl,
    Pipeline.RDat.FramePost.arr_in h.1 c 4 rfl⟩, h.2⟩) (run_main m ρ)

end Cert.Proof.P

end
-- ==== Proof.Rows.lean ====
/-
  The geometry of strided rows. A chunk of 2048 rows is cut, for a dilation `d`, into sixteen trips of 128 rows
  each: trip `k` takes the rows `start d k + d * i`, for `i < 128`. Every row belongs to exactly one trip, `trip d r`, at
  exactly one place in it, `pos d r`. A store through the trip's strided rectangle of a plane therefore fills the
  rows of that trip and leaves every other row alone, so that after all trips of a plane every row of it holds what its
  own trip stored, whatever the buffer held before.
-/
module

public import Idealize.ShloMosaic.Lib.Writes
public import Idealize.ShloMosaic.Lib.ValueIdxCore

@[expose] public section

noncomputable section

namespace Cert.Proof.Rows

open Idealize.ShloMosaic Idealize.ShloMosaic.ValueIdx

/-- The dilation of each plane. -/
def dil : ℕ → ℕ | 0 => 1 | 1 => 4 | _ => 16

theorem dil_cases (p : ℕ) : dil p = 1 ∨ dil p = 4 ∨ dil p = 16 := by
  match p with
  | 0 => exact .inl rfl
  | 1 => exact .inr (.inl rfl)
  | _ + 2 => exact .inr (.inr rfl)

/-- The first row of trip `k`. -/
def start (d k : ℕ) : ℕ := (k / d) * (128 * d) + k % d
/-- The trip of row `r`. -/
def trip (d r : ℕ) : ℕ := (r / (128 * d)) * d + r % d
/-- The place of row `r` in its trip. -/
def pos (d r : ℕ) : ℕ := (r % (128 * d)) / d

variable {d : ℕ} (hd : d = 1 ∨ d = 4 ∨ d = 16)
include hd

theorem trip_lt {r : ℕ} (hr : r < 2048) : trip d r < 16 := by
  unfold trip; rcases hd with rfl | rfl | rfl <;> omega
theorem pos_lt (r : ℕ) : pos d r < 128 := by
  unfold pos; rcases hd with rfl | rfl | rfl <;> omega
theorem start_add_pos (r : ℕ) : start d (trip d r) + d * pos d r = r := by
  unfold start trip pos; rcases hd with rfl | rfl | rfl <;> omega
theorem trip_start {k i : ℕ} (hi : i < 128) : trip d (start d k + d * i) = k := by
  unfold start trip; rcases hd with rfl | rfl | rfl <;> omega
theorem pos_start {k i : ℕ} (hi : i < 128) : pos d (start d k + d * i) = i := by
  unfold start pos; rcases hd with rfl | rfl | rfl <;> omega
theorem start_add_lt {k i : ℕ} (hk : k < 16) (hi : i < 128) : start d k + d * i < 2048 := by
  unfold start; rcases hd with rfl | rfl | rfl <;> omega
theorem back_le (k : ℕ) : 128 * d ≤ 2048 + start d k := by
  unfold start; rcases hd with rfl | rfl | rfl <;> omega
theorem key_lt {k j : ℕ} (hk : k < 16) (hj : j < 256) : 2048 + start d k - 128 * d + d * j < 4096 := by
  unfold start; rcases hd with rfl | rfl | rfl <;> omega

omit hd

/-- The shape of the three planes, of one trip's tile, and of the row buffers. -/
abbrev SPlanes : Shape := ⟨3, ![3, 2048, 128]⟩
abbrev STile : Shape := ⟨3, ![1, 128, 128]⟩
abbrev SQ : Shape := ⟨2, ![2048, 128]⟩
abbrev SK : Shape := ⟨2, ![4096, 128]⟩
abbrev SSlab : Shape := ⟨3, ![1, 256, 128]⟩
abbrev SOut : Shape := ⟨4, ![1, 1, 2048, 128]⟩
abbrev SOutSlab : Shape := ⟨4, ![1, 1, 256, 128]⟩

variable {α : Type}

/-- The planes that the tiles of all trips make up. -/
def planes (tile : (p : ℕ) → (k : Fin 16) → STile.Idx → α) : SPlanes.Idx → α := fun y =>
  tile (y 0).val ⟨trip (dil (y 0).val) (y 1).val, trip_lt (dil_cases _) (y 1).isLt⟩
    (ix3 (n0 := 1) 0 ⟨pos (dil (y 0).val) (y 1).val, pos_lt (dil_cases _) _⟩ (y 2))

/-- The planes below `p` are done, and plane `p` is done up to trip `k`. -/
def Done (M : SPlanes.Idx → α) (p k : ℕ) (X : SPlanes.Idx → α) : Prop :=
  ∀ y : SPlanes.Idx, ((y 0).val < p ∨ ((y 0).val = p ∧ trip (dil p) (y 1).val < k)) → X y = M y

theorem done_zero (M X : SPlanes.Idx → α) : Done M 0 0 X := fun y h => by omega

theorem done_next {M X : SPlanes.Idx → α} {p : ℕ} (h : Done M p 16 X) : Done M (p + 1) 0 X := fun y hy => by
  refine h y ?_
  have := trip_lt (dil_cases p) (y 1).isLt
  omega

theorem done_all {M X : SPlanes.Idx → α} (h : Done M 2 16 X) : X = M := funext fun y => by
  refine h y ?_
  have h1 := trip_lt (dil_cases 2) (y 1).isLt
  have h0 : (y 0).val < 3 := (y 0).isLt
  omega

/-- A trip's store through its strided rectangle does the trip. -/
theorem done_store {sig : RefSig} {κ : Kind} {sp : Space} {e : EltTy} {Val : EltTy → Type}
    (v : View sig κ sp SPlanes e) (tile : (p : ℕ) → (k : Fin 16) → STile.Idx → Val e) {p k : ℕ} (hp : p < 3) (hk : k < 16)
    (f : v.ty.Contents Val) (r : Rect SPlanes) (w : r.shape.Idx → Val e)
    (hoff : r.off = ![p, start (dil p) k, 0]) (hstr : r.stride = ![1, dil p, 1]) (hsize : r.size = ![1, 128, 128])
    (hw : ∀ x : r.shape.Idx, w x = tile p ⟨k, hk⟩ (ix3 (n0 := 1) 0 ⟨(x 1).val, by have := (x 1).isLt; simpa [hsize] using this⟩
      ⟨(x 2).val, by have := (x 2).isLt; simpa [hsize] using this⟩))
    (h : Done (planes tile) p k (v.read Val f)) :
    Done (planes tile) p (k + 1) (v.read Val (v.writes Val f [⟨r, w⟩])) := by
  intro y hy
  by_cases hm : (y 0).val = p ∧ trip (dil p) (y 1).val = k
  · obtain ⟨h0, h1⟩ := hm
    have hd := dil_cases p
    have e1 := start_add_pos hd (y 1).val
    have hlt := pos_lt hd (y 1).val
    have l2 : (y 2).val < 128 := (y 2).isLt
    let x : r.shape.Idx := fun a => match a with
      | ⟨0, _⟩ => ⟨0, by simp [hsize]⟩
      | ⟨1, _⟩ => ⟨pos (dil p) (y 1).val, by simpa [hsize] using hlt⟩
      | ⟨2, _⟩ => ⟨(y 2).val, by simpa [hsize] using l2⟩
    have hx : r.emb x = y := Rect.emb_eq_of_coords r x y (fun a => by
      rw [hoff, hstr]
      match a with
      | ⟨0, _⟩ => show (y 0).val = p + 1 * 0; omega
      | ⟨1, _⟩ => show (y 1).val = start (dil p) k + dil p * pos (dil p) (y 1).val; rw [← h1]; exact e1.symm
      | ⟨2, _⟩ => show (y 2).val = 0 + 1 * (y 2).val; omega)
    rw [← hx, View.read_writes_cons_emb, hw, hx]
    unfold planes
    subst h0
    congr 1
    exact Fin.ext h1.symm
  · have hn : y ∉ r.set := fun hmem => by
      have hc := r.mem_set.mp hmem
      obtain ⟨j0, hj0, e0⟩ := hc 0
      obtain ⟨j1, hj1, e1⟩ := hc 1
      rw [hsize] at hj0 hj1; rw [hoff, hstr] at e0 e1
      replace hj0 : j0 < 1 := hj0
      replace hj1 : j1 < 128 := hj1
      replace e0 : (y 0).val = p + 1 * j0 := e0
      replace e1 : (y 1).val = start (dil p) k + dil p * j1 := e1
      exact hm ⟨by omega, by rw [e1]; exact trip_start (dil_cases p) hj1⟩
    rw [View.read_writes_cons_miss _ _ _ _ _ hn]
    exact h y (by omega)

/-- The rows of a trip, out of the queries' row buffer. -/
def qRows (Q : SQ.Idx → α) (p : ℕ) (k : Fin 16) : (⟨2, ![128, 128]⟩ : Shape).Idx → α := fun x =>
  Q (ix2 ⟨start (dil p) k.val + dil p * (x 0).val, start_add_lt (dil_cases p) k.isLt (x 0).isLt⟩ (x 1))

/-- The rows of a trip's keys or values: one tile before the trip's own rows and those rows. -/
def kRows (K : SK.Idx → α) (p : ℕ) (k : Fin 16) : (⟨2, ![256, 128]⟩ : Shape).Idx → α := fun x =>
  K (ix2 ⟨2048 + start (dil p) k.val - 128 * dil p + dil p * (x 0).val, key_lt (dil_cases p) k.isLt (x 0).isLt⟩ (x 1))

/-- The trip's first key row, as the word the kernel compares with the chunk's length. -/
def keyWord (p : ℕ) (k : Fin 16) : BitVec 32 := BitVec.ofNat 32 (2048 + start (dil p) k.val - 128 * dil p)

theorem qRows_of (Q : SQ.Idx → α) (p : ℕ) (k : Fin 16) (r : LoadRect SQ) (hoff : r.off = ![start (dil p) k.val, 0])
    (hstr : r.stride = ![dil p, 1]) (hsize : r.size = ![128, 128]) (x : r.shape.Idx) :
    Q (r.idx x) = qRows Q p k (ix2 ⟨(x 0).val, by have := (x 0).isLt; simpa [hsize] using this⟩
      ⟨(x 1).val, by have := (x 1).isLt; simpa [hsize] using this⟩) := by
  unfold qRows
  refine congrArg Q (funext fun a => Fin.ext ?_)
  rw [LoadRect.idx_apply, hoff, hstr]
  match a with
  | ⟨0, _⟩ => rfl
  | ⟨1, _⟩ => show 0 + 1 * (x 1).val = (x 1).val; omega

theorem kRows_of (K : SK.Idx → α) (p : ℕ) (k : Fin 16) (r : LoadRect SK)
    (hoff : r.off = ![2048 + start (dil p) k.val - 128 * dil p, 0])
    (hstr : r.stride = ![dil p, 1]) (hsize : r.size = ![256, 128]) (x : r.shape.Idx) :
    K (r.idx x) = kRows K p k (ix2 ⟨(x 0).val, by have := (x 0).isLt; simpa [hsize] using this⟩
      ⟨(x 1).val, by have := (x 1).isLt; simpa [hsize] using this⟩) := by
  unfold kRows
  refine congrArg K (funext fun a => Fin.ext ?_)
  rw [LoadRect.idx_apply, hoff, hstr]
  match a with
  | ⟨0, _⟩ => rfl
  | ⟨1, _⟩ => show 0 + 1 * (x 1).val = (x 1).val; omega

/-- Steps of one. -/
theorem ones2 : (fun _ : Fin 2 => 1) = ![1, 1] := by decide
theorem ones3 : (fun _ : Fin 3 => 1) = ![1, 1, 1] := by decide
theorem ones4 : (fun _ : Fin 4 => 1) = ![1, 1, 1, 1] := by decide

theorem qRows_read {sig : RefSig} {κ : Kind} {sp : Space} {e : EltTy} {Val : EltTy → Type} (v : View sig κ sp SQ e)
    (f : v.ty.Contents Val) {Q : SQ.Idx → Val e} (hQ : v.read Val f = Q) (p : ℕ) (k : Fin 16) (r : LoadRect SQ)
    (hoff : r.off = ![start (dil p) k.val, 0]) (hstr : r.stride = ![dil p, 1]) (hsize : r.size = ![128, 128]) (x : r.shape.Idx) :
    v.readAt Val r f x = qRows Q p k (ix2 ⟨(x 0).val, by have := (x 0).isLt; simpa [hsize] using this⟩
      ⟨(x 1).val, by have := (x 1).isLt; simpa [hsize] using this⟩) := by
  rw [View.readAt_apply, hQ]; exact qRows_of Q p k r hoff hstr hsize x

theorem kRows_read {sig : RefSig} {κ : Kind} {sp : Space} {e : EltTy} {Val : EltTy → Type} (v : View sig κ sp SK e)
    (f : v.ty.Contents Val) {K : SK.Idx → Val e} (hK : v.read Val f = K) (p : ℕ) (k : Fin 16) (r : LoadRect SK)
    (hoff : r.off = ![2048 + start (dil p) k.val - 128 * dil p, 0])
    (hstr : r.stride = ![dil p, 1]) (hsize : r.size = ![256, 128]) (x : r.shape.Idx) :
    v.readAt Val r f x = kRows K p k (ix2 ⟨(x 0).val, by have := (x 0).isLt; simpa [hsize] using this⟩
      ⟨(x 1).val, by have := (x 1).isLt; simpa [hsize] using this⟩) := by
  rw [View.readAt_apply, hK]; exact kRows_of K p k r hoff hstr hsize x

/-- A tile's index by its row and column, its leading coordinate being zero. -/
theorem eq_tile (x : STile.Idx) : x = ix3 (n0 := 1) 0 (x 1) (x 2) := by
  have h0 : x 0 = (0 : Fin 1) := Subsingleton.elim (α := Fin 1) _ _
  have h := eq_ix3 x
  rw [h0] at h; exact h
theorem eq_slab (x : SSlab.Idx) : x = ix3 (n0 := 1) 0 (x 1) (x 2) := by
  have h0 : x 0 = (0 : Fin 1) := Subsingleton.elim (α := Fin 1) _ _
  have h := eq_ix3 x
  rw [h0] at h; exact h
theorem eq_outSlab (x : SOutSlab.Idx) : x = ix4 (n0 := 1) (n1 := 1) 0 0 (x 2) (x 3) := by
  have h0 : x 0 = (0 : Fin 1) := Subsingleton.elim (α := Fin 1) _ _
  have h1 : x 1 = (0 : Fin 1) := Subsingleton.elim (α := Fin 1) _ _
  have h := eq_ix4 x
  rw [h0, h1] at h; exact h

/-! ## The merging loop's slabs -/

/-- 256 rows of a plane. -/
def slab (M : SPlanes.Idx → α) (p : Fin 3) (k : Fin 8) : SSlab.Idx → α := fun x =>
  M (ix3 p ⟨256 * k.val + (x 1).val, by have h : (x 1).val < 256 := (x 1).isLt; have := k.isLt; omega⟩ (x 2))

theorem slab_of (M : SPlanes.Idx → α) (p : Fin 3) (k : Fin 8) (r : LoadRect SPlanes) (hoff : r.off = ![p.val, 256 * k.val, 0])
    (hstr : r.stride = ![1, 1, 1]) (hsize : r.size = ![1, 256, 128]) (x : r.shape.Idx) :
    M (r.idx x) = slab M p k (ix3 (n0 := 1) 0 ⟨(x 1).val, by have := (x 1).isLt; simpa [hsize] using this⟩
      ⟨(x 2).val, by have := (x 2).isLt; simpa [hsize] using this⟩) := by
  unfold slab
  refine congrArg M (funext fun a => Fin.ext ?_)
  rw [LoadRect.idx_apply, hoff, hstr]
  match a with
  | ⟨0, _⟩ =>
    have : (x 0).val < 1 := by have := (x 0).isLt; simpa [hsize] using this
    show p.val + 1 * (x 0).val = p.val; omega
  | ⟨1, _⟩ => show 256 * k.val + 1 * (x 1).val = 256 * k.val + (x 1).val; omega
  | ⟨2, _⟩ => show 0 + 1 * (x 2).val = (x 2).val; omega

theorem slab_read {sig : RefSig} {κ : Kind} {sp : Space} {e : EltTy} {Val : EltTy → Type} (v : View sig κ sp SPlanes e)
    (f : v.ty.Contents Val) {M : SPlanes.Idx → Val e} (hM : v.read Val f = M) (p : Fin 3) (k : Fin 8) (r : LoadRect SPlanes)
    (hoff : r.off = ![p.val, 256 * k.val, 0]) (hstr : r.stride = ![1, 1, 1]) (hsize : r.size = ![1, 256, 128]) (x : r.shape.Idx) :
    v.readAt Val r f x = slab M p k (ix3 (n0 := 1) 0 ⟨(x 1).val, by have := (x 1).isLt; simpa [hsize] using this⟩
      ⟨(x 2).val, by have := (x 2).isLt; simpa [hsize] using this⟩) := by
  rw [View.readAt_apply, hM]; exact slab_of M p k r hoff hstr hsize x

/-- The output block that the eight slabs make up. -/
def outOf (o : Fin 8 → SOutSlab.Idx → α) : SOut.Idx → α := fun y =>
  o ⟨(y 2).val / 256, by have : (y 2).val < 2048 := (y 2).isLt; omega⟩
    (ix4 (n0 := 1) (n1 := 1) 0 0 ⟨(y 2).val % 256, Nat.mod_lt _ (by decide)⟩ (y 3))

/-- The output's first `k` slabs are done. -/
def OutDone (O : SOut.Idx → α) (k : ℕ) (X : SOut.Idx → α) : Prop := ∀ y : SOut.Idx, (y 2).val < 256 * k → X y = O y

theorem outDone_zero (O X : SOut.Idx → α) : OutDone O 0 X := fun y h => by omega
theorem outDone_all {O X : SOut.Idx → α} (h : OutDone O 8 X) : X = O := funext fun y => h y (by
  have : (y 2).val < 2048 := (y 2).isLt
  omega)

theorem outDone_store {sig : RefSig} {κ : Kind} {sp : Space} {e : EltTy} {Val : EltTy → Type}
    (v : View sig κ sp SOut e) (o : Fin 8 → SOutSlab.Idx → Val e) {k : ℕ} (hk : k < 8)
    (f : v.ty.Contents Val) (r : Rect SOut) (w : r.shape.Idx → Val e)
    (hoff : r.off = ![0, 0, 256 * k, 0]) (hstr : r.stride = ![1, 1, 1, 1]) (hsize : r.size = ![1, 1, 256, 128])
    (hw : ∀ x : r.shape.Idx, w x = o ⟨k, hk⟩ (ix4 (n0 := 1) (n1 := 1) 0 0 ⟨(x 2).val, by have := (x 2).isLt; simpa [hsize] using this⟩
      ⟨(x 3).val, by have := (x 3).isLt; simpa [hsize] using this⟩))
    (h : OutDone (outOf o) k (v.read Val f)) :
    OutDone (outOf o) (k + 1) (v.read Val (v.writes Val f [⟨r, w⟩])) := by
  intro y hy
  have l0 : (y 0).val < 1 := (y 0).isLt
  have l1 : (y 1).val < 1 := (y 1).isLt
  have l3 : (y 3).val < 128 := (y 3).isLt
  by_cases hm : 256 * k ≤ (y 2).val
  · let x : r.shape.Idx := fun a => match a with
      | ⟨0, _⟩ => ⟨0, by simp [hsize]⟩
      | ⟨1, _⟩ => ⟨0, by simp [hsize]⟩
      | ⟨2, _⟩ => ⟨(y 2).val - 256 * k, by simp [hsize]; omega⟩
      | ⟨3, _⟩ => ⟨(y 3).val, by simpa [hsize] using l3⟩
    have hx : r.emb x = y := Rect.emb_eq_of_coords r x y (fun a => by
      rw [hoff, hstr]
      match a with
      | ⟨0, _⟩ => show (y 0).val = 0 + 1 * 0; omega
      | ⟨1, _⟩ => show (y 1).val = 0 + 1 * 0; omega
      | ⟨2, _⟩ => show (y 2).val = 256 * k + 1 * ((y 2).val - 256 * k); omega
      | ⟨3, _⟩ => show (y 3).val = 0 + 1 * (y 3).val; omega)
    rw [← hx, View.read_writes_cons_emb, hw, hx]
    unfold outOf
    congr 1
    · refine Fin.ext ?_
      show k = (y 2).val / 256; omega
    · refine congrArg (fun z => ix4 (n0 := 1) (n1 := 1) 0 0 z _) (Fin.ext ?_)
      show (y 2).val - 256 * k = (y 2).val % 256; omega
  · have hn : y ∉ r.set := fun hmem => by
      obtain ⟨j2, hj2, e2⟩ := r.mem_set.mp hmem 2
      rw [hoff, hstr] at e2
      replace e2 : (y 2).val = 256 * k + 1 * j2 := e2
      omega
    rw [View.read_writes_cons_miss _ _ _ _ _ hn]
    exact h y (by omega)

/-! ## The row buffers -/

/-- The two chunks one after the other. -/
def twoChunks (A B : SQ.Idx → α) : SK.Idx → α := fun y =>
  if h : (y 0).val < 2048 then A (ix2 ⟨(y 0).val, h⟩ (y 1))
  else B (ix2 ⟨(y 0).val - 2048, by have : (y 0).val < 4096 := (y 0).isLt; omega⟩ (y 1))

theorem twoChunks_of {sig : RefSig} {κ : Kind} {sp : Space} {e : EltTy} {Val : EltTy → Type}
    (v : View sig κ sp SK e) (f : v.ty.Contents Val) (r0 r1 : Rect SK) (w0 : r0.shape.Idx → Val e) (w1 : r1.shape.Idx → Val e)
    (A B : SQ.Idx → Val e)
    (hoff0 : r0.off = ![0, 0]) (hstr0 : r0.stride = ![1, 1]) (hsize0 : r0.size = ![2048, 128])
    (hoff1 : r1.off = ![2048, 0]) (hstr1 : r1.stride = ![1, 1]) (hsize1 : r1.size = ![2048, 128])
    (h0 : ∀ x : r0.shape.Idx, w0 x = A (ix2 ⟨(x 0).val, by have := (x 0).isLt; simpa [hsize0] using this⟩
      ⟨(x 1).val, by have := (x 1).isLt; simpa [hsize0] using this⟩))
    (h1 : ∀ x : r1.shape.Idx, w1 x = B (ix2 ⟨(x 0).val, by have := (x 0).isLt; simpa [hsize1] using this⟩
      ⟨(x 1).val, by have := (x 1).isLt; simpa [hsize1] using this⟩)) :
    v.read Val (v.writes Val f [⟨r1, w1⟩, ⟨r0, w0⟩]) = twoChunks A B := by
  funext y
  have l0 : (y 0).val < 4096 := (y 0).isLt
  have l1 : (y 1).val < 128 := (y 1).isLt
  unfold twoChunks
  by_cases h : (y 0).val < 2048
  · rw [dif_pos h]
    have hn : y ∉ r1.set := fun hmem => by
      obtain ⟨j, hj, e⟩ := r1.mem_set.mp hmem 0
      rw [hoff1, hstr1] at e
      replace e : (y 0).val = 2048 + 1 * j := e
      omega
    rw [View.read_writes_cons_miss _ _ _ _ _ hn]
    let x : r0.shape.Idx := fun a => match a with
      | ⟨0, _⟩ => ⟨(y 0).val, by simpa [hsize0] using h⟩
      | ⟨1, _⟩ => ⟨(y 1).val, by simpa [hsize0] using l1⟩
    have hx : r0.emb x = y := Rect.emb_eq_of_coords r0 x y (fun a => by
      rw [hoff0, hstr0]
      match a with
      | ⟨0, _⟩ => show (y 0).val = 0 + 1 * (y 0).val; omega
      | ⟨1, _⟩ => show (y 1).val = 0 + 1 * (y 1).val; omega)
    rw [show v.read Val (v.writes Val f [⟨r0, w0⟩]) y = w0 x by rw [← hx]; exact View.read_writes_cons_emb _ _ _ _ _ _, h0]
    rfl
  · rw [dif_neg h]
    let x : r1.shape.Idx := fun a => match a with
      | ⟨0, _⟩ => ⟨(y 0).val - 2048, by simp [hsize1]; omega⟩
      | ⟨1, _⟩ => ⟨(y 1).val, by simpa [hsize1] using l1⟩
    have hx : r1.emb x = y := Rect.emb_eq_of_coords r1 x y (fun a => by
      rw [hoff1, hstr1]
      match a with
      | ⟨0, _⟩ => show (y 0).val = 2048 + 1 * ((y 0).val - 2048); omega
      | ⟨1, _⟩ => show (y 1).val = 0 + 1 * (y 1).val; omega)
    rw [show v.read Val (v.writes Val f [⟨r1, w1⟩, ⟨r0, w0⟩]) y = w1 x by rw [← hx]; exact View.read_writes_cons_emb _ _ _ _ _ _, h1]
    rfl

/-- A load of the whole block reads the block. -/
theorem whole_read {sig : RefSig} {κ : Kind} {sp : Space} {e : EltTy} {Val : EltTy → Type} (v : View sig κ sp SOut e)
    (f : v.ty.Contents Val) {X : SOut.Idx → Val e} (hX : v.read Val f = X) (r : LoadRect SOut)
    (hoff : r.off = ![0, 0, 0, 0]) (hstr : r.stride = ![1, 1, 1, 1]) (x : r.shape.Idx) {y : SOut.Idx}
    (hy : ∀ a, (y a).val = (x a).val) : v.readAt Val r f x = X y := by
  rw [View.readAt_apply, hX]
  refine congrArg X (funext fun a => Fin.ext ?_)
  rw [LoadRect.idx_apply, hoff, hstr, hy a]
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega

/-- A store of the whole row buffer leaves what it stores. -/
theorem wholeRows_of {sig : RefSig} {κ : Kind} {sp : Space} {e : EltTy} {Val : EltTy → Type}
    (v : View sig κ sp SQ e) (f : v.ty.Contents Val) (r : Rect SQ) (w : r.shape.Idx → Val e) (A : SQ.Idx → Val e)
    (hoff : r.off = ![0, 0]) (hstr : r.stride = ![1, 1]) (hsize : r.size = ![2048, 128])
    (h : ∀ x : r.shape.Idx, w x = A (ix2 ⟨(x 0).val, by have := (x 0).isLt; simpa [hsize] using this⟩
      ⟨(x 1).val, by have := (x 1).isLt; simpa [hsize] using this⟩)) :
    v.read Val (v.writes Val f [⟨r, w⟩]) = A := by
  funext y
  have l0 : (y 0).val < 2048 := (y 0).isLt
  have l1 : (y 1).val < 128 := (y 1).isLt
  let x : r.shape.Idx := fun a => match a with
    | ⟨0, _⟩ => ⟨(y 0).val, by simpa [hsize] using l0⟩
    | ⟨1, _⟩ => ⟨(y 1).val, by simpa [hsize] using l1⟩
  have hx : r.emb x = y := Rect.emb_eq_of_coords r x y (fun a => by
    rw [hoff, hstr]
    match a with
    | ⟨0, _⟩ => show (y 0).val = 0 + 1 * (y 0).val; omega
    | ⟨1, _⟩ => show (y 1).val = 0 + 1 * (y 1).val; omega)
  rw [show v.read Val (v.writes Val f [⟨r, w⟩]) y = w x by rw [← hx]; exact View.read_writes_cons_emb _ _ _ _ _ _, h]
  exact congrArg A (eq_ix2 y).symm

end Cert.Proof.Rows

end
-- ==== Proof.PI.Body.lean ====
/-
  The attention kernel at the ideal level: what one grid point computes. After the staging the scratch rows are the
  query block, and the previous and own key and value blocks one after the other. Each of the three dilated loops fills
  its plane of row maxima, row sums and weighted sums, trip by trip; the merging loop fills the output slab by slab.
-/
module

public import proofs.«01_k».proof.Proof.Rows
public import proofs.«01_k».proof.Proof.Gen.KernelIdeal.Frame
public import proofs.«01_k».proof.Proof.Gen.KernelIdeal.Skeleton
public import Idealize.ShloMosaic.Lib.Tactic
public import Idealize.ShloMosaic.Lib.Pipeline.Kit

@[expose] public section

noncomputable section

namespace Cert.Proof.PI

open Cert.KernelIdeal Cert.KernelIdeal.Gen
open Cert.Proof.Rows (qRows kRows keyWord Done OutDone outOf slab twoChunks)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev 𝒱₀ : Variants := Variants.none

local notation "𝕄" => MT nD τ sig Unit (Elt F) ℕ (UR sig nD τ) ℕ

/-- A memref's buffer on core `c` held whole at the contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The same at some contents. -/
abbrev held (c : Dev nD) {sp : Space} {S : Shape} {e : EltTy} (M : Memref sig .tc sp S e) : sProp 𝕄 :=
  iprop(∃ f, pt (F := F) c M f)

/-! ## The values -/

/-- A block of 2048 rows, widened. -/
abbrev widen (X : S1x1x2048x128.Idx → Elt F .bf16) : S2048x128.Idx → Elt F .f32 := k0_pay42 X
/-- The previous block's rows and then the block's own. -/
abbrev widenTwo (Xp X : S1x1x2048x128.Idx → Elt F .bf16) : S4096x128.Idx → Elt F .f32 := twoChunks (widen Xp) (widen X)

/-- A trip's row maxima, row sums and weighted sums, each as the tile the trip stores. -/
def tMax (a2 : BitVec 32) (Q : S2048x128.Idx → Elt F .f32) (K : S4096x128.Idx → Elt F .f32) (p : ℕ) (k : Fin 16) : S1x128x128.Idx → Elt F .f32 :=
  k0_pay8 a2 (keyWord p k) (k0_pay24 (qRows Q p k)) (k0_pay25 (kRows K p k))
def tSum (a2 : BitVec 32) (Q : S2048x128.Idx → Elt F .f32) (K : S4096x128.Idx → Elt F .f32) (p : ℕ) (k : Fin 16) : S1x128x128.Idx → Elt F .f32 :=
  k0_pay9 a2 (keyWord p k) (k0_pay24 (qRows Q p k)) (k0_pay25 (kRows K p k))
def tAcc (a2 : BitVec 32) (Q : S2048x128.Idx → Elt F .f32) (K V : S4096x128.Idx → Elt F .f32) (p : ℕ) (k : Fin 16) : S1x128x128.Idx → Elt F .f32 :=
  k0_pay10 a2 (keyWord p k) (k0_pay24 (qRows Q p k)) (k0_pay25 (kRows K p k)) (k0_pay26 (kRows V p k))

/-- The planes. -/
def pMax (a2 : BitVec 32) (Q : S2048x128.Idx → Elt F .f32) (K : S4096x128.Idx → Elt F .f32) : S3x2048x128.Idx → Elt F .f32 := Rows.planes (tMax a2 Q K)
def pSum (a2 : BitVec 32) (Q : S2048x128.Idx → Elt F .f32) (K : S4096x128.Idx → Elt F .f32) : S3x2048x128.Idx → Elt F .f32 := Rows.planes (tSum a2 Q K)
def pAcc (a2 : BitVec 32) (Q : S2048x128.Idx → Elt F .f32) (K V : S4096x128.Idx → Elt F .f32) : S3x2048x128.Idx → Elt F .f32 := Rows.planes (tAcc a2 Q K V)

/-- One slab of the merge. -/
def mergeSlab (M L A : S3x2048x128.Idx → Elt F .f32) (k : Fin 8) : S1x1x256x128.Idx → Elt F .bf16 :=
  k0_pay23 (k0_pay39 (slab M 0 k) (slab M 1 k) (slab M 2 k) (slab A 0 k) (slab A 1 k))
    (k0_pay40 (slab M 0 k) (slab M 1 k) (slab M 2 k) (slab L 0 k) (slab L 1 k))
    (k0_pay41 (slab M 0 k) (slab M 1 k) (slab M 2 k)) (slab A 2 k) (slab L 2 k)

/-- The output block. -/
def outBlock (a2 : BitVec 32) (X3 X4 X5 X6 X7 : S1x1x2048x128.Idx → Elt F .bf16) : S1x1x2048x128.Idx → Elt F .bf16 :=
  outOf (mergeSlab (pMax a2 (widen X3) (widenTwo X5 X4)) (pSum a2 (widen X3) (widenTwo X5 X4))
    (pAcc a2 (widen X3) (widenTwo X5 X4) (widenTwo X7 X6)))

variable (c : Dev nD) (i : grid0.Coords)
  (arg3 : Memref sig .tc .vmem S1x1x2048x128 .bf16) (harg3 : arg3.IsWhole)
  (arg4 : Memref sig .tc .vmem S1x1x2048x128 .bf16) (harg4 : arg4.IsWhole)
  (arg5 : Memref sig .tc .vmem S1x1x2048x128 .bf16) (harg5 : arg5.IsWhole)
  (arg6 : Memref sig .tc .vmem S1x1x2048x128 .bf16) (harg6 : arg6.IsWhole)
  (arg7 : Memref sig .tc .vmem S1x1x2048x128 .bf16) (harg7 : arg7.IsWhole)
  (arg8 : Memref sig .tc .vmem S1x1x2048x128 .bf16) (harg8 : arg8.IsWhole)
  (arg9 : Memref sig .tc .vmem S2048x128 .f32) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S3x2048x128 .f32) (harg12 : arg12.IsWhole)
  (arg13 : Memref sig .tc .vmem S3x2048x128 .f32) (harg13 : arg13.IsWhole)
  (arg14 : Memref sig .tc .vmem S3x2048x128 .f32) (harg14 : arg14.IsWhole)

/-- A buffer held whole at contents that read `X`. -/
abbrev at_ {sp : Space} {S : Shape} {e : EltTy} (M : Memref sig .tc sp S e) (P : (S.Idx → Elt F e) → Prop) : sProp 𝕄 :=
  iprop(∃ f, ⌜P (M.view.read (Elt F) f)⌝ ∗ pt (F := F) c M f)

/-- What the loop of plane `p` holds before trip `k`. -/
abbrev rows (a2 : BitVec 32) (Q : S2048x128.Idx → Elt F .f32) (K V : S4096x128.Idx → Elt F .f32) (p k : ℕ) : sProp 𝕄 :=
  iprop(at_ (F := F) c arg9 (· = Q) ∗ at_ (F := F) c arg10 (· = K) ∗ at_ (F := F) c arg11 (· = V)
    ∗ at_ (F := F) c arg12 (Done (pMax a2 Q K) p k) ∗ at_ (F := F) c arg13 (Done (pSum a2 Q K) p k) ∗ at_ (F := F) c arg14 (Done (pAcc a2 Q K V) p k))

/-- What the merging loop holds before trip `k`. -/
abbrev merging (M L A : S3x2048x128.Idx → Elt F .f32) (k : ℕ) : sProp 𝕄 :=
  iprop((∃ f, ⌜OutDone (outOf (mergeSlab M L A)) k (arg8.view.read (Elt F) f)⌝ ∗ (arg8.view.loc (c : Thread nD τ) ↦[arg8.view.set]{fullShare} f)) ∗ at_ (F := F) c arg12 (· = M) ∗ at_ (F := F) c arg13 (· = L) ∗ at_ (F := F) c arg14 (· = A))

/-- The scratch, at some contents. -/
abbrev scratch : sProp 𝕄 :=
  iprop(held (F := F) c arg9 ∗ held (F := F) c arg10 ∗ held (F := F) c arg11 ∗ held (F := F) c arg12 ∗ held (F := F) c arg13 ∗ held (F := F) c arg14)

/-- The three branches compute the same functions of their tiles. -/
theorem pay14_eq : @k0_pay14 F _ _ = @k0_pay8 F _ _ := by
  funext a b u v; unfold k0_pay14 k0_pay8; rw [show k0_pay12 a b u v = k0_pay6 a b u v from rfl]
theorem pay20_eq : @k0_pay20 F _ _ = @k0_pay8 F _ _ := by
  funext a b u v; unfold k0_pay20 k0_pay8; rw [show k0_pay18 a b u v = k0_pay6 a b u v from rfl]

/-- Where the trips of plane 0 read and write. -/
theorem off1_eq : ∀ k : Fin k0_t1_loop.trips, k0_off1 k = ![Rows.start (Rows.dil 0) k.val, 0] := by decide +kernel
theorem off2_eq : ∀ k : Fin k0_t1_loop.trips, k0_off2 k = ![2048 + Rows.start (Rows.dil 0) k.val - 128 * Rows.dil 0, 0] := by decide +kernel
theorem off3_eq : ∀ k : Fin k0_t1_loop.trips, k0_off3 k = ![0, Rows.start (Rows.dil 0) k.val, 0] := by decide +kernel

set_option maxHeartbeats 2000000 in
/-- One trip of the loop of the branch of dilation one. -/
theorem trip1 (a2 : BitVec 32) (Q : S2048x128.Idx → Elt F .f32) (K V : S4096x128.Idx → Elt F .f32) (k : Fin k0_t1_loop.trips) :
    rows (F := F) c arg9 arg10 arg11 arg12 arg13 arg14 a2 Q K V 0 k.val
    ⊢ wp frame (wpE (defs₀ (F := F)) 𝒱₀ c none) Set.univ
        (k0_t1_body i arg3 harg3 arg4 harg4 arg5 harg5 arg6 harg6 arg7 harg7 arg8 harg8 arg9 harg9 arg10 harg10 arg11 harg11 arg12 harg12 arg13 harg13 arg14 harg14 a2 k ⟨⟩)
        (fun _ => rows (F := F) c arg9 arg10 arg11 arg12 arg13 arg14 a2 Q K V 0 (k.val + 1)) := by
  unfold rows k0_t1_body
  iintro ⟨⟨%f9, %h9, H9⟩, ⟨%f10, %h10, H10⟩, ⟨%f11, %h11, H11⟩, ⟨%f12, %h12, H12⟩, ⟨%f13, %h13, H13⟩, ⟨%f14, %h14, H14⟩⟩
  sl_exec
  sl_step
  have hk : k.val < 16 := lt_of_lt_of_le k.isLt k0_t1_abs.2.1
  have e80 : trip1.sl.v80 k = keyWord 0 ⟨k.val, hk⟩ := (by decide +kernel : ∀ j : Fin k0_t1_loop.trips, trip1.sl.v80 j = BitVec.ofNat 32 (2048 + Rows.start (Rows.dil 0) j.val - 128 * Rows.dil 0)) k
  have e83 : trip1.sl.v83 arg9 k f9 = k0_pay24 (qRows Q 0 ⟨k.val, hk⟩) :=
    congrArg k0_pay24 (funext fun x => (Rows.qRows_read arg9.view f9 h9 0 ⟨k.val, hk⟩ _ (off1_eq k) Rows.ones2 rfl x).trans (congrArg _ (ValueIdx.eq_ix2 x).symm))
  have e86 : trip1.sl.v86 arg10 k f10 = k0_pay25 (kRows K 0 ⟨k.val, hk⟩) :=
    congrArg k0_pay25 (funext fun x => (Rows.kRows_read arg10.view f10 h10 0 ⟨k.val, hk⟩ _ (off2_eq k) Rows.ones2 rfl x).trans (congrArg _ (ValueIdx.eq_ix2 x).symm))
  have e89 : trip1.sl.v89 arg11 k f11 = k0_pay26 (kRows V 0 ⟨k.val, hk⟩) :=
    congrArg k0_pay26 (funext fun x => (Rows.kRows_read arg11.view f11 h11 0 ⟨k.val, hk⟩ _ (off2_eq k) Rows.ones2 rfl x).trans (congrArg _ (ValueIdx.eq_ix2 x).symm))
  rw [e80, e83, e86, e89]
  isplitl [H9]; · iexists f9; isplitr; · ipureintro; exact h9
                  iexact H9
  isplitl [H10]; · iexists f10; isplitr; · ipureintro; exact h10
                   iexact H10
  isplitl [H11]; · iexists f11; isplitr; · ipureintro; exact h11
                   iexact H11
  isplitl [H12]
  · iexists _; isplitr
    swap; · iexact H12
    ipureintro
    exact Rows.done_store arg12.view (tMax a2 Q K) (by decide) hk f12 _ _ (off3_eq k) Rows.ones3 rfl (fun x => congrArg (tMax a2 Q K 0 ⟨k.val, hk⟩) (Rows.eq_tile x)) h12
  isplitl [H13]
  · iexists _; isplitr
    swap; · iexact H13
    ipureintro
    exact Rows.done_store arg13.view (tSum a2 Q K) (by decide) hk f13 _ _ (off3_eq k) Rows.ones3 rfl (fun x => congrArg (tSum a2 Q K 0 ⟨k.val, hk⟩) (Rows.eq_tile x)) h13
  iexists _; isplitr
  swap; · iexact H14
  ipureintro
  exact Rows.done_store arg14.view (tAcc a2 Q K V) (by decide) hk f14 _ _ (off3_eq k) Rows.ones3 rfl (fun x => congrArg (tAcc a2 Q K V 0 ⟨k.val, hk⟩) (Rows.eq_tile x)) h14

/-- Where the trips of plane 1 read and write. -/
theorem off4_eq : ∀ k : Fin k0_t2_loop.trips, k0_off4 k = ![Rows.start (Rows.dil 1) k.val, 0] := by decide +kernel
theorem off5_eq : ∀ k : Fin k0_t2_loop.trips, k0_off5 k = ![2048 + Rows.start (Rows.dil 1) k.val - 128 * Rows.dil 1, 0] := by decide +kernel
theorem off6_eq : ∀ k : Fin k0_t2_loop.trips, k0_off6 k = ![1, Rows.start (Rows.dil 1) k.val, 0] := by decide +kernel

set_option maxHeartbeats 2000000 in
/-- One trip of the loop of the branch of dilation four. -/
theorem trip2 (a2 : BitVec 32) (Q : S2048x128.Idx → Elt F .f32) (K V : S4096x128.Idx → Elt F .f32) (k : Fin k0_t2_loop.trips) :
    rows (F := F) c arg9 arg10 arg11 arg12 arg13 arg14 a2 Q K V 1 k.val
    ⊢ wp frame (wpE (defs₀ (F := F)) 𝒱₀ c none) Set.univ
        (k0_t2_body i arg3 harg3 arg4 harg4 arg5 harg5 arg6 harg6 arg7 harg7 arg8 harg8 arg9 harg9 arg10 harg10 arg11 harg11 arg12 harg12 arg13 harg13 arg14 harg14 a2 k ⟨⟩)
        (fun _ => rows (F := F) c arg9 arg10 arg11 arg12 arg13 arg14 a2 Q K V 1 (k.val + 1)) := by
  unfold rows k0_t2_body
  iintro ⟨⟨%f9, %h9, H9⟩, ⟨%f10, %h10, H10⟩, ⟨%f11, %h11, H11⟩, ⟨%f12, %h12, H12⟩, ⟨%f13, %h13, H13⟩, ⟨%f14, %h14, H14⟩⟩
  sl_exec
  sl_step
  have hk : k.val < 16 := lt_of_lt_of_le k.isLt k0_t2_abs.2.1
  have e80 : trip2.sl.v80 k = keyWord 1 ⟨k.val, hk⟩ := (by decide +kernel : ∀ j : Fin k0_t2_loop.trips, trip2.sl.v80 j = BitVec.ofNat 32 (2048 + Rows.start (Rows.dil 1) j.val - 128 * Rows.dil 1)) k
  have e83 : trip2.sl.v83 arg9 k f9 = k0_pay24 (qRows Q 1 ⟨k.val, hk⟩) :=
    congrArg k0_pay24 (funext fun x => (Rows.qRows_read arg9.view f9 h9 1 ⟨k.val, hk⟩ _ (off4_eq k) rfl rfl x).trans (congrArg _ (ValueIdx.eq_ix2 x).symm))
  have e86 : trip2.sl.v86 arg10 k f10 = k0_pay25 (kRows K 1 ⟨k.val, hk⟩) :=
    congrArg k0_pay25 (funext fun x => (Rows.kRows_read arg10.view f10 h10 1 ⟨k.val, hk⟩ _ (off5_eq k) rfl rfl x).trans (congrArg _ (ValueIdx.eq_ix2 x).symm))
  have e89 : trip2.sl.v89 arg11 k f11 = k0_pay26 (kRows V 1 ⟨k.val, hk⟩) :=
    congrArg k0_pay26 (funext fun x => (Rows.kRows_read arg11.view f11 h11 1 ⟨k.val, hk⟩ _ (off5_eq k) rfl rfl x).trans (congrArg _ (ValueIdx.eq_ix2 x).symm))
  rw [e80, e83, e86, e89, pay14_eq]
  isplitl [H9]; · iexists f9; isplitr; · ipureintro; exact h9
                  iexact H9
  isplitl [H10]; · iexists f10; isplitr; · ipureintro; exact h10
                   iexact H10
  isplitl [H11]; · iexists f11; isplitr; · ipureintro; exact h11
                   iexact H11
  isplitl [H12]
  · iexists _; isplitr
    swap; · iexact H12
    ipureintro
    exact Rows.done_store arg12.view (tMax a2 Q K) (by decide) hk f12 _ _ (off6_eq k) rfl rfl (fun x => congrArg (tMax a2 Q K 1 ⟨k.val, hk⟩) (Rows.eq_tile x)) h12
  isplitl [H13]
  · iexists _; isplitr
    swap; · iexact H13
    ipureintro
    exact Rows.done_store arg13.view (tSum a2 Q K) (by decide) hk f13 _ _ (off6_eq k) rfl rfl (fun x => congrArg (tSum a2 Q K 1 ⟨k.val, hk⟩) (Rows.eq_tile x)) h13
  iexists _; isplitr
  swap; · iexact H14
  ipureintro
  exact Rows.done_store arg14.view (tAcc a2 Q K V) (by decide) hk f14 _ _ (off6_eq k) rfl rfl (fun x => congrArg (tAcc a2 Q K V 1 ⟨k.val, hk⟩) (Rows.eq_tile x)) h14

/-- Where the trips of plane 2 read and write. -/
theorem off7_eq : ∀ k : Fin k0_t3_loop.trips, k0_off7 k = ![Rows.start (Rows.dil 2) k.val, 0] := by decide +kernel
theorem off8_eq : ∀ k : Fin k0_t3_loop.trips, k0_off8 k = ![2048 + Rows.start (Rows.dil 2) k.val - 128 * Rows.dil 2, 0] := by decide +kernel
theorem off9_eq : ∀ k : Fin k0_t3_loop.trips, k0_off9 k = ![2, Rows.start (Rows.dil 2) k.val, 0] := by decide +kernel

set_option maxHeartbeats 2000000 in
/-- One trip of the loop of the branch of dilation sixteen. -/
theorem trip3 (a2 : BitVec 32) (Q : S2048x128.Idx → Elt F .f32) (K V : S4096x128.Idx → Elt F .f32) (k : Fin k0_t3_loop.trips) :
    rows (F := F) c arg9 arg10 arg11 arg12 arg13 arg14 a2 Q K V 2 k.val
    ⊢ wp frame (wpE (defs₀ (F := F)) 𝒱₀ c none) Set.univ
        (k0_t3_body i arg3 harg3 arg4 harg4 arg5 harg5 arg6 harg6 arg7 harg7 arg8 harg8 arg9 harg9 arg10 harg10 arg11 harg11 arg12 harg12 arg13 harg13 arg14 harg14 a2 k ⟨⟩)
        (fun _ => rows (F := F) c arg9 arg10 arg11 arg12 arg13 arg14 a2 Q K V 2 (k.val + 1)) := by
  unfold rows k0_t3_body
  iintro ⟨⟨%f9, %h9, H9⟩, ⟨%f10, %h10, H10⟩, ⟨%f11, %h11, H11⟩, ⟨%f12, %h12, H12⟩, ⟨%f13, %h13, H13⟩, ⟨%f14, %h14, H14⟩⟩
  sl_exec
  sl_step
  have hk : k.val < 16 := lt_of_lt_of_le k.isLt k0_t3_abs.2.1
  have e80 : trip3.sl.v80 k = keyWord 2 ⟨k.val, hk⟩ := (by decide +kernel : ∀ j : Fin k0_t3_loop.trips, trip3.sl.v80 j = BitVec.ofNat 32 (2048 + Rows.start (Rows.dil 2) j.val - 128 * Rows.dil 2)) k
  have e83 : trip3.sl.v83 arg9 k f9 = k0_pay24 (qRows Q 2 ⟨k.val, hk⟩) :=
    congrArg k0_pay24 (funext fun x => (Rows.qRows_read arg9.view f9 h9 2 ⟨k.val, hk⟩ _ (off7_eq k) rfl rfl x).trans (congrArg _ (ValueIdx.eq_ix2 x).symm))
  have e86 : trip3.sl.v86 arg10 k f10 = k0_pay25 (kRows K 2 ⟨k.val, hk⟩) :=
    congrArg k0_pay25 (funext fun x => (Rows.kRows_read arg10.view f10 h10 2 ⟨k.val, hk⟩ _ (off8_eq k) rfl rfl x).trans (congrArg _ (ValueIdx.eq_ix2 x).symm))
  have e89 : trip3.sl.v89 arg11 k f11 = k0_pay26 (kRows V 2 ⟨k.val, hk⟩) :=
    congrArg k0_pay26 (funext fun x => (Rows.kRows_read arg11.view f11 h11 2 ⟨k.val, hk⟩ _ (off8_eq k) rfl rfl x).trans (congrArg _ (ValueIdx.eq_ix2 x).symm))
  rw [e80, e83, e86, e89, pay20_eq]
  isplitl [H9]; · iexists f9; isplitr; · ipureintro; exact h9
                  iexact H9
  isplitl [H10]; · iexists f10; isplitr; · ipureintro; exact h10
                   iexact H10
  isplitl [H11]; · iexists f11; isplitr; · ipureintro; exact h11
                   iexact H11
  isplitl [H12]
  · iexists _; isplitr
    swap; · iexact H12
    ipureintro
    exact Rows.done_store arg12.view (tMax a2 Q K) (by decide) hk f12 _ _ (off9_eq k) rfl rfl (fun x => congrArg (tMax a2 Q K 2 ⟨k.val, hk⟩) (Rows.eq_tile x)) h12
  isplitl [H13]
  · iexists _; isplitr
    swap; · iexact H13
    ipureintro
    exact Rows.done_store arg13.view (tSum a2 Q K) (by decide) hk f13 _ _ (off9_eq k) rfl rfl (fun x => congrArg (tSum a2 Q K 2 ⟨k.val, hk⟩) (Rows.eq_tile x)) h13
  iexists _; isplitr
  swap; · iexact H14
  ipureintro
  exact Rows.done_store arg14.view (tAcc a2 Q K V) (by decide) hk f14 _ _ (off9_eq k) rfl rfl (fun x => congrArg (tAcc a2 Q K V 2 ⟨k.val, hk⟩) (Rows.eq_tile x)) h14

set_option maxHeartbeats 2000000 in
/-- One trip of the merging loop. -/
theorem trip4 (M L A : S3x2048x128.Idx → Elt F .f32) (k : Fin k0_t4_loop.trips) :
    merging (F := F) c arg8 arg12 arg13 arg14 M L A k.val
    ⊢ wp frame (wpE (defs₀ (F := F)) 𝒱₀ c none) Set.univ
        (k0_t4_body i arg3 harg3 arg4 harg4 arg5 harg5 arg6 harg6 arg7 harg7 arg8 harg8 arg9 harg9 arg10 harg10 arg11 harg11 arg12 harg12 arg13 harg13 arg14 harg14 k ⟨⟩)
        (fun _ => merging (F := F) c arg8 arg12 arg13 arg14 M L A (k.val + 1)) := by
  unfold merging k0_t4_body
  iintro ⟨⟨%f8, %h8, H8⟩, ⟨%f12, %h12, H12⟩, ⟨%f13, %h13, H13⟩, ⟨%f14, %h14, H14⟩⟩
  sl_exec
  sl_step
  have hk : k.val < 8 := lt_of_lt_of_le k.isLt k0_t4_abs.2.1
  have rd : ∀ {B : Memref sig .tc .vmem S3x2048x128 .f32} {f : B.view.ty.Contents (Elt F)} {X : S3x2048x128.Idx → Elt F .f32}
      (_ : B.view.read (Elt F) f = X) (p : Fin 3) (off : Fin 3 → ℕ) (inb : _) (_ : off = ![p.val, 256 * k.val, 0]),
      B.view.readAt (Elt F) (Rect.unit (s := S3x2048x128) off S1x256x128.size inb).toLoadRect f = slab X p ⟨k.val, hk⟩ :=
    fun {B f X} h p off inb ho => funext fun x => (Rows.slab_read B.view f h p ⟨k.val, hk⟩ _ ho Rows.ones3 rfl x).trans (congrArg (slab X p ⟨k.val, hk⟩) (Rows.eq_slab x).symm)
  have e83 : trip4.sl.v83 arg12 arg14 k f12 f14 = k0_pay39 (slab M 0 ⟨k.val, hk⟩) (slab M 1 ⟨k.val, hk⟩) (slab M 2 ⟨k.val, hk⟩) (slab A 0 ⟨k.val, hk⟩) (slab A 1 ⟨k.val, hk⟩) := by
    rw [← rd h12 0 _ (k0_off10_inb k) (k0_off10_eq k), ← rd h12 1 _ (k0_off11_inb k) (k0_off11_eq k), ← rd h12 2 _ (k0_off12_inb k) (k0_off12_eq k), ← rd h14 0 _ (k0_off10_inb k) (k0_off10_eq k), ← rd h14 1 _ (k0_off11_inb k) (k0_off11_eq k)]; rfl
  have e88 : trip4.sl.v88 arg12 arg13 k f12 f13 = k0_pay40 (slab M 0 ⟨k.val, hk⟩) (slab M 1 ⟨k.val, hk⟩) (slab M 2 ⟨k.val, hk⟩) (slab L 0 ⟨k.val, hk⟩) (slab L 1 ⟨k.val, hk⟩) := by
    rw [← rd h12 0 _ (k0_off10_inb k) (k0_off10_eq k), ← rd h12 1 _ (k0_off11_inb k) (k0_off11_eq k), ← rd h12 2 _ (k0_off12_inb k) (k0_off12_eq k), ← rd h13 0 _ (k0_off10_inb k) (k0_off10_eq k), ← rd h13 1 _ (k0_off11_inb k) (k0_off11_eq k)]; rfl
  have e90 : trip4.sl.v90 arg12 k f12 = k0_pay41 (slab M 0 ⟨k.val, hk⟩) (slab M 1 ⟨k.val, hk⟩) (slab M 2 ⟨k.val, hk⟩) := by
    rw [← rd h12 0 _ (k0_off10_inb k) (k0_off10_eq k), ← rd h12 1 _ (k0_off11_inb k) (k0_off11_eq k), ← rd h12 2 _ (k0_off12_inb k) (k0_off12_eq k)]; rfl
  rw [e83, e88, e90, rd h14 2 _ _ (k0_off12_eq k), rd h13 2 _ _ (k0_off12_eq k)]
  isplitl [H8]
  · iexists _; isplitr
    swap; · iexact H8
    ipureintro
    exact Rows.outDone_store arg8.view (mergeSlab M L A) hk f8 _ _ (k0_off13_eq k) Rows.ones4 rfl
      (fun x => congrArg (mergeSlab M L A ⟨k.val, hk⟩) (Rows.eq_outSlab x)) h8
  isplitl [H12]; · iexists f12; isplitr; · ipureintro; exact h12
                   iexact H12
  isplitl [H13]; · iexists f13; isplitr; · ipureintro; exact h13
                   iexact H13
  iexists f14; isplitr; · ipureintro; exact h14
  iexact H14

/-- How many trips each loop makes. -/
theorem trips1 : k0_t1_loop.trips = 16 := by decide +kernel
theorem trips2 : k0_t2_loop.trips = 16 := by decide +kernel
theorem trips3 : k0_t3_loop.trips = 16 := by decide +kernel
theorem trips4 : k0_t4_loop.trips = 8 := by decide +kernel

set_option maxHeartbeats 4000000 in
/-- One grid point: the input blocks are handed back as found, the output block is what the values say. -/
theorem point (X3 X4 X5 X6 X7 : S1x1x2048x128.Idx → Elt F .bf16) :
    iprop(owns (c : Thread nD τ) arg3 fullShare X3 ∗ owns (c : Thread nD τ) arg4 fullShare X4 ∗ owns (c : Thread nD τ) arg5 fullShare X5
      ∗ owns (c : Thread nD τ) arg6 fullShare X6 ∗ owns (c : Thread nD τ) arg7 fullShare X7 ∗ (∃ X, owns (c : Thread nD τ) arg8 fullShare X)
      ∗ scratch (F := F) c arg9 arg10 arg11 arg12 arg13 arg14)
    ⊢ wp frame (wpE (defs₀ (F := F)) 𝒱₀ c none) Set.univ
        (cc0_dilated_attn i arg3 harg3 arg4 harg4 arg5 harg5 arg6 harg6 arg7 harg7 arg8 harg8 arg9 harg9 arg10 harg10 arg11 harg11 arg12 harg12 arg13 harg13 arg14 harg14)
        (fun _ => iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7
          ∗ owns (c : Thread nD τ) arg8 fullShare (outBlock (BitVec.ofNat 32 (i 2).val) X3 X4 X5 X6 X7)
          ∗ scratch (F := F) c arg9 arg10 arg11 arg12 arg13 arg14)) := by
  rw [cc0_dilated_attn_eq_skeleton]
  unfold cc0_dilated_attn_skel owns
  iintro ⟨⟨%f3, %h3, H3⟩, ⟨%f4, %h4, H4⟩, ⟨%f5, %h5, H5⟩, ⟨%f6, %h6, H6⟩, ⟨%f7, %h7, H7⟩, ⟨%X8, %f8, %h8, H8⟩,
    ⟨%f9, H9⟩, ⟨%f10, H10⟩, ⟨%f11, H11⟩, ⟨%f12, H12⟩, ⟨%f13, H13⟩, ⟨%f14, H14⟩⟩
  sl_exec
  have rd : ∀ {B : Memref sig .tc .vmem S1x1x2048x128 .bf16} {f : B.view.ty.Contents (Elt F)} {X : S1x1x2048x128.Idx → Elt F .bf16}
      (_ : B.view.read (Elt F) f = X) (inb : _),
      B.view.readAt (Elt F) (Rect.unit (s := S1x1x2048x128) ![0, 0, 0, 0] S1x1x2048x128.size inb).toLoadRect f = X :=
    fun {B f X} h inb => funext fun x => Rows.whole_read B.view f h _ rfl Rows.ones4 x (fun _ => rfl)
  have e9 : arg9.view.read (Elt F) (arg9.view.writes (Elt F) arg9.view.junk (point.sl.H9_1 c arg3 f3)) = widen X3 := by
    unfold point.sl.H9_1
    exact Rows.wholeRows_of arg9.view _ _ _ (widen X3) rfl Rows.ones2 rfl
      fun x => (congrFun (congrArg k0_pay42 (rd h3 _)) x).trans (congrArg (widen X3) (ValueIdx.eq_ix2 x))
  have e10 : arg10.view.read (Elt F) (arg10.view.writes (Elt F) arg10.view.junk (point.sl.H10_2 c arg4 arg5 f4 f5)) = widenTwo X5 X4 := by
    unfold point.sl.H10_2
    exact Rows.twoChunks_of arg10.view _ _ _ _ _ (widen X5) (widen X4) rfl Rows.ones2 rfl rfl Rows.ones2 rfl
      (fun x => (congrFun (congrArg k0_pay42 (rd h5 _)) x).trans (congrArg (widen X5) (ValueIdx.eq_ix2 x)))
      (fun x => (congrFun (congrArg k0_pay42 (rd h4 _)) x).trans (congrArg (widen X4) (ValueIdx.eq_ix2 x)))
  have e11 : arg11.view.read (Elt F) (arg11.view.writes (Elt F) arg11.view.junk (point.sl.H11_2 c arg6 arg7 f6 f7)) = widenTwo X7 X6 := by
    unfold point.sl.H11_2
    exact Rows.twoChunks_of arg11.view _ _ _ _ _ (widen X7) (widen X6) rfl Rows.ones2 rfl rfl Rows.ones2 rfl
      (fun x => (congrFun (congrArg k0_pay42 (rd h7 _)) x).trans (congrArg (widen X7) (ValueIdx.eq_ix2 x)))
      (fun x => (congrFun (congrArg k0_pay42 (rd h6 _)) x).trans (congrArg (widen X6) (ValueIdx.eq_ix2 x)))
  generalize arg9.view.writes (Elt F) arg9.view.junk (point.sl.H9_1 c arg3 f3) = g9 at *
  generalize arg10.view.writes (Elt F) arg10.view.junk (point.sl.H10_2 c arg4 arg5 f4 f5) = g10 at *
  generalize arg11.view.writes (Elt F) arg11.view.junk (point.sl.H11_2 c arg6 arg7 f6 f7) = g11 at *
  sl_for (fun k _ => rows (F := F) c arg9 arg10 arg11 arg12 arg13 arg14 (BitVec.ofNat 32 (i 2).val) (widen X3) (widenTwo X5 X4) (widenTwo X7 X6) 0 k) $$ [H9 H10 H11 H12 H13 H14]
  · exact fun k _ => trip1 c i arg3 harg3 arg4 harg4 arg5 harg5 arg6 harg6 arg7 harg7 arg8 harg8 arg9 harg9 arg10 harg10 arg11 harg11 arg12 harg12 arg13 harg13 arg14 harg14 _ _ _ _ k
  · isplitl [H9]; · iexists g9; isplitr; · ipureintro; exact e9
                    iexact H9
    isplitl [H10]; · iexists g10; isplitr; · ipureintro; exact e10
                     iexact H10
    isplitl [H11]; · iexists g11; isplitr; · ipureintro; exact e11
                     iexact H11
    isplitl [H12]; · iexists f12; isplitr; · ipureintro; exact Rows.done_zero _ _
                     iexact H12
    isplitl [H13]; · iexists f13; isplitr; · ipureintro; exact Rows.done_zero _ _
                     iexact H13
    iexists f14; isplitr; · ipureintro; exact Rows.done_zero _ _
    iexact H14
  iintro %acc1 HR
  sl_exec
  sl_for (fun k _ => rows (F := F) c arg9 arg10 arg11 arg12 arg13 arg14 (BitVec.ofNat 32 (i 2).val) (widen X3) (widenTwo X5 X4) (widenTwo X7 X6) 1 k) $$ [HR]
  · exact fun k _ => trip2 c i arg3 harg3 arg4 harg4 arg5 harg5 arg6 harg6 arg7 harg7 arg8 harg8 arg9 harg9 arg10 harg10 arg11 harg11 arg12 harg12 arg13 harg13 arg14 harg14 _ _ _ _ k
  · rw [show Scf.trips k0_t1_loop.lb k0_t1_loop.ub k0_t1_loop.st = 16 from trips1]
    icases HR with ⟨H9, H10, H11, ⟨%f12, %h12, H12⟩, ⟨%f13, %h13, H13⟩, ⟨%f14, %h14, H14⟩⟩
    isplitl [H9]; · iexact H9
    isplitl [H10]; · iexact H10
    isplitl [H11]; · iexact H11
    isplitl [H12]; · iexists f12; isplitr; · ipureintro; exact Rows.done_next h12
                     iexact H12
    isplitl [H13]; · iexists f13; isplitr; · ipureintro; exact Rows.done_next h13
                     iexact H13
    iexists f14; isplitr; · ipureintro; exact Rows.done_next h14
    iexact H14
  iintro %acc2 HR
  sl_exec
  sl_for (fun k _ => rows (F := F) c arg9 arg10 arg11 arg12 arg13 arg14 (BitVec.ofNat 32 (i 2).val) (widen X3) (widenTwo X5 X4) (widenTwo X7 X6) 2 k) $$ [HR]
  · exact fun k _ => trip3 c i arg3 harg3 arg4 harg4 arg5 harg5 arg6 harg6 arg7 harg7 arg8 harg8 arg9 harg9 arg10 harg10 arg11 harg11 arg12 harg12 arg13 harg13 arg14 harg14 _ _ _ _ k
  · rw [show Scf.trips k0_t2_loop.lb k0_t2_loop.ub k0_t2_loop.st = 16 from trips2]
    icases HR with ⟨H9, H10, H11, ⟨%f12, %h12, H12⟩, ⟨%f13, %h13, H13⟩, ⟨%f14, %h14, H14⟩⟩
    isplitl [H9]; · iexact H9
    isplitl [H10]; · iexact H10
    isplitl [H11]; · iexact H11
    isplitl [H12]; · iexists f12; isplitr; · ipureintro; exact Rows.done_next h12
                     iexact H12
    isplitl [H13]; · iexists f13; isplitr; · ipureintro; exact Rows.done_next h13
                     iexact H13
    iexists f14; isplitr; · ipureintro; exact Rows.done_next h14
    iexact H14
  iintro %acc3 HR
  rw [show Scf.trips k0_t3_loop.lb k0_t3_loop.ub k0_t3_loop.st = 16 from trips3]
  icases HR with ⟨⟨%f9, %h9, H9⟩, ⟨%f10, %h10, H10⟩, ⟨%f11, %h11, H11⟩, ⟨%f12, %h12, H12⟩, ⟨%f13, %h13, H13⟩, ⟨%f14, %h14, H14⟩⟩
  sl_exec
  sl_for (fun k _ => merging (F := F) c arg8 arg12 arg13 arg14 (pMax (BitVec.ofNat 32 (i 2).val) (widen X3) (widenTwo X5 X4))
    (pSum (BitVec.ofNat 32 (i 2).val) (widen X3) (widenTwo X5 X4)) (pAcc (BitVec.ofNat 32 (i 2).val) (widen X3) (widenTwo X5 X4) (widenTwo X7 X6)) k) $$ [H8 H12 H13 H14]
  · exact fun k _ => trip4 c i arg3 harg3 arg4 harg4 arg5 harg5 arg6 harg6 arg7 harg7 arg8 harg8 arg9 harg9 arg10 harg10 arg11 harg11 arg12 harg12 arg13 harg13 arg14 harg14 _ _ _ k
  · isplitl [H8]; · iexists f8; isplitr; · ipureintro; exact Rows.outDone_zero _ _
                    iexact H8
    isplitl [H12]; · iexists f12; isplitr; · ipureintro; exact Rows.done_all h12
                     iexact H12
    isplitl [H13]; · iexists f13; isplitr; · ipureintro; exact Rows.done_all h13
                     iexact H13
    iexists f14; isplitr; · ipureintro; exact Rows.done_all h14
    iexact H14
  iintro %acc4 HR
  rw [show Scf.trips k0_t4_loop.lb k0_t4_loop.ub k0_t4_loop.st = 8 from trips4]
  icases HR with ⟨⟨%g8, %o8, H8⟩, ⟨%g12, -, H12⟩, ⟨%g13, -, H13⟩, ⟨%g14, -, H14⟩⟩
  sl_exec
  sl_step
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists g8; isplitr; · ipureintro; exact Rows.outDone_all o8
                  iexact H8
  isplitl [H9]; · iexists f9; iexact H9
  isplitl [H10]; · iexists f10; iexact H10
  isplitl [H11]; · iexists f11; iexact H11
  isplitl [H12]; · iexists g12; iexact H12
  isplitl [H13]; · iexists g13; iexact H13
  iexists g14; iexact H14

end Cert.Proof.PI

end
-- ==== Proof.PI.Run.lean ====
/-
  The attention kernel at the ideal level: the run. The output array's blocks are the grid points' output blocks, every
  argument array is unchanged at the end and every semaphore counter is at zero.
-/
module

public import proofs.«01_k».proof.Proof.PI.Body

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in each window: an input's block as it was, and in the output's window the output block. -/
def after0 (c : Dev nD) (w : Fin cfg0.W) (t : Fin cfg0.N) : (cfg0.win w).block.Idx → Elt F (cfg0.win w).elt :=
  match w with
  | 0 => iblk m c 0 t | 1 => iblk m c 1 t | 2 => iblk m c 2 t | 3 => iblk m c 3 t | 4 => iblk m c 4 t
  | 5 => outBlock (BitVec.ofNat 32 (grid0.coords t 2).val) (iblk m c 0 t) (iblk m c 1 t) (iblk m c 2 t) (iblk m c 3 t) (iblk m c 4 t)

/-- The proof data on core `c`. -/
def dats (_ : Fin 1) (c : Dev nD) : Dat τ (Elt F) Unit ℕ (UR sig nD τ) ℕ cfg0 c where
  A w := V m c (Pipeline.arrRef spec0 w)
  after w t := after0 m c w t
  Φ _ := Pipeline.ΦA spec0 c
  q w := Pipeline.shareOf spec0 w
  owed _ := 0

/-- The kernel's scratch and the generator's register, at some contents. -/
theorem phi_eq (c : Dev nD) : (Pipeline.ΦA (Val := Elt F) spec0 c : sProp 𝕄)
    = iprop(scratch (F := F) c (Memref.whole cc0_scratch0) (Memref.whole cc0_scratch1) (Memref.whole cc0_scratch2)
        (Memref.whole cc0_scratch3) (Memref.whole cc0_scratch4) (Memref.whole cc0_scratch5) ∗ ∃ r, prngReg c r) := by
  unfold Pipeline.ΦA; rw [scopedRest0_eq]

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  simp only [before_0, before_1, before_2, before_3, before_4]
  iintro ⟨⟨HS, Hg⟩, HO, ⟨%d0, H0⟩, ⟨%d1, H1⟩, ⟨%d2, H2⟩, ⟨%d3, H3⟩, ⟨%d4, H4⟩, ⟨%d5, H5⟩⟩
  iapply (wp_wand frame (wpE (defs₀ (F := F)) 𝒱₀ c none) Set.univ) $$ [HS H0 H1 H2 H3 H4 H5]
  · iapply (point c (grid0.coords t) _ _ _ _ _ _ _ _ _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexists _; iexact H5
    iexact HS
  iintro %u ⟨H0, H1, H2, H3, H4, H5, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run ends with the arrays as the proof data says and every counter at zero. -/
theorem run_main : θ_run defs (onTc (τ := τ) (main (F := F))) ⟨m, fun _ => 0, ρ⟩
    (fun r => Pipeline.FramePost cfgs (dats m) (0 : Fin 1) (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl) (howed := fun _ _ => rfl) (V := V m)
    (hmain := hmain m 𝒱₀) (hA := fun _ _ => rfl) (hΦ := fun _ _ => rfl)

/-- The run: the output array holds what the proof data says, the arguments are unchanged, every counter is at zero. -/
theorem run_post : θ_run defs (onTc (τ := τ) (main (F := F))) ⟨m, fun _ => 0, ρ⟩ (fun r => (∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 5, ((h.1 c).1 0).trans ((dats m 0 c).arrAt_in 0 rfl _),
    ((h.1 c).1 2).trans ((dats m 0 c).arrAt_in 2 rfl _), ((h.1 c).1 4).trans ((dats m 0 c).arrAt_in 4 rfl _)⟩, h.2⟩) (run_main m ρ)

/-- The frame claim's post. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_post m ρ)

end Cert.Proof.PI

end
-- ==== Proof.Spec.lean ====
/-
  What both texts compute, on the extended reals. A row of the sequence lies, for one dilation `d`, in block `n` at place
  `i` of residue class `r`, which is position `(128 n + i) d + r`. Its 256 keys are the 128 rows of the block before and
  the 128 of its own block in the same class, and key `j` is seen when it is at most 128 places behind the row, not ahead
  of it, and not before the start of the sequence. Its softmax against these keys has a maximum, a total and a weighted
  sum of the values. The three dilations' softmaxes are mixed into one row: the kernel adds them at a common maximum and
  divides once, the reference normalises each and weighs them by the softmax of their log-totals.
-/
module

public import Idealize.ShloMosaic.PureOps.Ideal.Laws
public import Idealize.ShloMosaic.Lib.ValueIdx

@[expose] public section

noncomputable section

namespace Cert.Proof.Spec

open Idealize.ShloMosaic
open scoped BigOperators

/-! ## One dilation -/

/-- Key `j` is seen by the row at place `i` of block `n`. -/
def Seen (n i : ℕ) (j : Fin 256) : Prop := i ≤ j.val ∧ j.val ≤ i + 128 ∧ 128 ≤ n * 128 + j.val

instance (n i : ℕ) (j : Fin 256) : Decidable (Seen n i j) := by unfold Seen; infer_instance

/-- The position of key `j`. -/
def keyPos (d n r : ℕ) (j : Fin 256) : ℕ := (n * 128 + j.val - 128) * d + r
/-- The position of the row. -/
def rowPos (d n i r : ℕ) : ℕ := (n * 128 + i) * d + r

/-- The scores of a row against its keys: an unseen key's is minus infinity. -/
def score (d n i r : ℕ) (Q K : ℕ → Fin 128 → EReal) (j : Fin 256) : EReal :=
  if Seen n i j then ∑ e : Fin 128, Q (rowPos d n i r) e * K (keyPos d n r j) e else ⊥

/-- A row's maximum, weights, total and weighted sum. -/
def top (s : Fin 256 → EReal) : EReal := Finset.univ.fold max ⊥ s
def weight (s : Fin 256 → EReal) (j : Fin 256) : EReal := Ideal.exp (s j - top s)
def total (s : Fin 256 → EReal) : EReal := ∑ j : Fin 256, weight s j
def blend (s v : Fin 256 → EReal) : EReal := ∑ j : Fin 256, weight s j * v j

/-- A key with score minus infinity has weight zero. -/
theorem weight_bot (s : Fin 256 → EReal) (j : Fin 256) (h : s j = ⊥) : weight s j = 0 := by
  unfold weight; rw [h, EReal.bot_sub]; rfl

/-- Hence the values at such keys do not matter. -/
theorem blend_congr (s v v' : Fin 256 → EReal) (h : ∀ j, s j ≠ ⊥ → v j = v' j) : blend s v = blend s v' := by
  unfold blend
  refine Finset.sum_congr rfl fun j _ => ?_
  by_cases hj : s j = ⊥
  · rw [weight_bot s j hj, zero_mul, zero_mul]
  · rw [h j hj]

/-- An unseen key's score. -/
theorem score_unseen {d n i r : ℕ} {Q K : ℕ → Fin 128 → EReal} {j : Fin 256} (h : ¬Seen n i j) : score d n i r Q K j = ⊥ := by
  unfold score; rw [if_neg h]

/-- The row's weighted sum, over the values at the positions of its keys. -/
def blendAt (d n i r : ℕ) (Q K V : ℕ → Fin 128 → EReal) (c : Fin 128) : EReal :=
  blend (score d n i r Q K) fun j => V (keyPos d n r j) c

/-- Any values that agree with these at the seen keys give the same. -/
theorem blendAt_of (d n i r : ℕ) (Q K V : ℕ → Fin 128 → EReal) (c : Fin 128) (v : Fin 256 → EReal)
    (h : ∀ j, Seen n i j → v j = V (keyPos d n r j) c) : blend (score d n i r Q K) v = blendAt d n i r Q K V c :=
  blend_congr _ _ _ fun j hj => h j (by by_contra hc; exact hj (score_unseen hc))

/-! ## Finite queries and keys -/

/-- Finite in every entry. -/
def Fin' (X : ℕ → Fin 128 → EReal) : Prop := ∀ p e, ∃ x : ℝ, X p e = (x : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A seen key's score is finite. -/
theorem score_seen {d n i r : ℕ} {Q K : ℕ → Fin 128 → EReal} (hQ : Fin' Q) (hK : Fin' K) {j : Fin 256} (h : Seen n i j) :
    ∃ x : ℝ, score d n i r Q K j = (x : EReal) := by
  choose q hq using hQ
  choose k hk using hK
  refine ⟨∑ e : Fin 128, q (rowPos d n i r) e * k (keyPos d n r j) e, ?_⟩
  unfold score
  rw [if_pos h, coe_sum]
  exact Finset.sum_congr rfl fun e _ => by rw [hq, hk, EReal.coe_mul]

/-- The row's own key is seen. -/
theorem seen_self {n i : ℕ} (hi : i < 128) : Seen n i ⟨i + 128, by omega⟩ := by
  unfold Seen; refine ⟨?_, le_refl _, ?_⟩ <;> simp only <;> omega

/-- Scores that are finite or minus infinity, one of them finite, have a finite maximum -/
theorem top_real (s : Fin 256 → EReal) (hs : ∀ j, s j = ⊥ ∨ ∃ x : ℝ, s j = (x : EReal)) (j₀ : Fin 256) (x₀ : ℝ)
    (h₀ : s j₀ = (x₀ : EReal)) : ∃ x : ℝ, top s = (x : EReal) := by
  have hb : top s ≠ ⊥ := by
    intro h
    have : s j₀ ≤ top s := by unfold top; exact (Finset.le_fold_max _).2 (Or.inr ⟨j₀, Finset.mem_univ _, le_refl _⟩)
    rw [h, h₀] at this
    exact EReal.coe_ne_bot x₀ (le_bot_iff.1 this)
  have ht : top s ≠ ⊤ := by
    apply ne_of_lt
    unfold top
    refine (Finset.fold_max_lt _).2 ⟨bot_lt_top, fun j _ => ?_⟩
    rcases hs j with h | ⟨x, h⟩
    · rw [h]; exact bot_lt_top
    · rw [h]; exact EReal.coe_lt_top x
  exact ⟨(top s).toReal, (EReal.coe_toReal ht hb).symm⟩

/-- and a finite positive total. -/
theorem total_real (s : Fin 256 → EReal) (hs : ∀ j, s j = ⊥ ∨ ∃ x : ℝ, s j = (x : EReal)) (j₀ : Fin 256) (x₀ : ℝ)
    (h₀ : s j₀ = (x₀ : EReal)) : ∃ x : ℝ, 0 < x ∧ total s = (x : EReal) := by
  obtain ⟨μ, hμ⟩ := top_real s hs j₀ x₀ h₀
  have hw : ∀ j, ∃ w : ℝ, 0 ≤ w ∧ weight s j = (w : EReal) := fun j => by
    rcases hs j with h | ⟨x, h⟩
    · exact ⟨0, le_refl _, weight_bot s j h⟩
    · refine ⟨Real.exp (x - μ), (Real.exp_pos _).le, ?_⟩
      unfold weight; rw [h, hμ, ← EReal.coe_sub]; rfl
  choose w hw0 hw using hw
  refine ⟨∑ j, w j, ?_, ?_⟩
  · refine Finset.sum_pos' (fun j _ => hw0 j) ⟨j₀, Finset.mem_univ _, ?_⟩
    have : weight s j₀ = ((Real.exp (x₀ - μ) : ℝ) : EReal) := by
      unfold weight; rw [h₀, hμ, ← EReal.coe_sub]; rfl
    rw [hw j₀] at this
    rw [EReal.coe_eq_coe_iff.1 this]; exact Real.exp_pos _
  · unfold total; rw [coe_sum]; exact Finset.sum_congr rfl fun j _ => hw j

/-- So a row's maximum is finite and its total finite and positive. -/
theorem row_real {d n i r : ℕ} {Q K : ℕ → Fin 128 → EReal} (hQ : Fin' Q) (hK : Fin' K) (hi : i < 128) :
    (∃ x : ℝ, top (score d n i r Q K) = (x : EReal)) ∧ ∃ x : ℝ, 0 < x ∧ total (score d n i r Q K) = (x : EReal) := by
  have hs : ∀ j, score d n i r Q K j = ⊥ ∨ ∃ x : ℝ, score d n i r Q K j = (x : EReal) := fun j => by
    by_cases h : Seen n i j
    · exact Or.inr (score_seen hQ hK h)
    · exact Or.inl (score_unseen h)
  obtain ⟨x₀, h₀⟩ := score_seen (d := d) (r := r) hQ hK (seen_self (n := n) hi)
  exact ⟨top_real _ hs _ _ h₀, total_real _ hs _ _ h₀⟩

/-! ## The mixture -/

/-- The kernel's: the three sums at the common maximum, divided once. -/
def mixK (m l a : Fin 3 → EReal) : EReal :=
  Ideal.div
    (0 + Ideal.exp (m 0 - max (max (m 0) (m 1)) (m 2)) * a 0 + Ideal.exp (m 1 - max (max (m 0) (m 1)) (m 2)) * a 1
      + Ideal.exp (m 2 - max (max (m 0) (m 1)) (m 2)) * a 2)
    (0 + Ideal.exp (m 0 - max (max (m 0) (m 1)) (m 2)) * l 0 + Ideal.exp (m 1 - max (max (m 0) (m 1)) (m 2)) * l 1
      + Ideal.exp (m 2 - max (max (m 0) (m 1)) (m 2)) * l 2)

/-- The reference's: each normalised, weighed by the softmax of the log-totals. -/
def lse (m l : Fin 3 → EReal) (k : Fin 3) : EReal := m k + Ideal.log (l k)
def lseTop (m l : Fin 3 → EReal) : EReal := max ⊥ (Finset.univ.fold max ⊥ (lse m l))
def lseWeight (m l : Fin 3 → EReal) (k : Fin 3) : EReal := Ideal.exp (lse m l k - lseTop m l)
def mixR (m l a : Fin 3 → EReal) : EReal :=
  0 + ∑ k : Fin 3, Ideal.div (lseWeight m l k) (0 + ∑ k : Fin 3, lseWeight m l k) * Ideal.div (a k) (l k)

/-- Division by a nonzero real. -/
theorem div_coe (x : EReal) {y : ℝ} (hy : y ≠ 0) : Ideal.div x (y : EReal) = x * ((y⁻¹ : ℝ) : EReal) := by
  unfold Ideal.div
  rw [if_neg (by exact_mod_cast hy), EReal.coe_inv]

/-- A nonnegative real factor distributes over any sum. -/
theorem mul_add_coe (x y : EReal) {c : ℝ} (hc : 0 ≤ c) : (x + y) * (c : EReal) = x * c + y * c :=
  EReal.right_distrib_of_nonneg_of_ne_top (by exact_mod_cast hc) (EReal.coe_ne_top c) x y

/-- Both mixtures are one: at finite maxima and finite positive totals, whatever the weighted sums. -/
theorem mix_eq (m l a : Fin 3 → EReal) (hm : ∀ k, ∃ x : ℝ, m k = (x : EReal)) (hl : ∀ k, ∃ x : ℝ, 0 < x ∧ l k = (x : EReal)) :
    mixK m l a = mixR m l a := by
  choose μ hμ using hm
  choose t ht0 ht using hl
  -- the reference's log-totals are finite, so is their maximum
  have hlse : ∀ k, lse m l k = ((μ k + Real.log (t k) : ℝ) : EReal) := fun k => by
    unfold lse
    rw [hμ, ht, EReal.coe_add]
    congr 1
    show (if t k ≤ 0 then (⊥ : EReal) else (Real.log (t k) : EReal)) = _
    rw [if_neg (not_le.2 (ht0 k))]
  obtain ⟨N, hN⟩ : ∃ N : ℝ, lseTop m l = (N : EReal) := by
    have hb : lseTop m l ≠ ⊥ := by
      intro h
      have : lse m l 0 ≤ lseTop m l :=
        le_max_of_le_right ((Finset.le_fold_max _).2 (Or.inr ⟨0, Finset.mem_univ _, le_refl _⟩))
      rw [h, hlse] at this
      exact EReal.coe_ne_bot _ (le_bot_iff.1 this)
    have htp : lseTop m l ≠ ⊤ := by
      apply ne_of_lt
      refine max_lt bot_lt_top ((Finset.fold_max_lt _).2 ⟨bot_lt_top, fun k _ => ?_⟩)
      rw [hlse]; exact EReal.coe_lt_top _
    exact ⟨_, (EReal.coe_toReal htp hb).symm⟩
  -- the kernel's common maximum is finite
  obtain ⟨M, hM⟩ : ∃ M : ℝ, max (max (m 0) (m 1)) (m 2) = (M : EReal) :=
    ⟨max (max (μ 0) (μ 1)) (μ 2), by rw [hμ, hμ, hμ, EReal.coe_strictMono.monotone.map_max, EReal.coe_strictMono.monotone.map_max]⟩
  have hwk : ∀ k, Ideal.exp (m k - (M : EReal)) = ((Real.exp (μ k - M) : ℝ) : EReal) := fun k => by
    rw [hμ, ← EReal.coe_sub]; rfl
  have hwr : ∀ k, lseWeight m l k = ((t k * Real.exp (μ k - N) : ℝ) : EReal) := fun k => by
    unfold lseWeight
    rw [hlse, hN, ← EReal.coe_sub]
    show ((Real.exp _ : ℝ) : EReal) = _
    rw [show μ k + Real.log (t k) - N = Real.log (t k) + (μ k - N) by ring, Real.exp_add, Real.exp_log (ht0 k)]
  have hD : 0 < t 0 * Real.exp (μ 0 - N) + t 1 * Real.exp (μ 1 - N) + t 2 * Real.exp (μ 2 - N) := by
    have := ht0 0; have := ht0 1; have := ht0 2
    positivity
  have hE : 0 < Real.exp (μ 0 - M) * t 0 + Real.exp (μ 1 - M) * t 1 + Real.exp (μ 2 - M) * t 2 := by
    have := ht0 0; have := ht0 1; have := ht0 2
    positivity
  unfold mixK mixR
  simp only [hM, hwk, hwr, ht, Fin.sum_univ_three, zero_add, ← EReal.coe_add, ← EReal.coe_mul]
  simp only [div_coe _ hD.ne', div_coe _ hE.ne', div_coe _ (ht0 _).ne', ← EReal.coe_mul]
  have hEi : 0 ≤ (Real.exp (μ 0 - M) * t 0 + Real.exp (μ 1 - M) * t 1 + Real.exp (μ 2 - M) * t 2)⁻¹ := (inv_pos.2 hE).le
  rw [mul_add_coe _ _ hEi, mul_add_coe _ _ hEi]
  -- each summand: its weighted sum times one real factor, the same on both sides
  have key : ∀ k, Real.exp (μ k - M) * (Real.exp (μ 0 - M) * t 0 + Real.exp (μ 1 - M) * t 1 + Real.exp (μ 2 - M) * t 2)⁻¹
      = t k * Real.exp (μ k - N) * (t 0 * Real.exp (μ 0 - N) + t 1 * Real.exp (μ 1 - N) + t 2 * Real.exp (μ 2 - N))⁻¹ * (t k)⁻¹ := fun k => by
    have hs : ∀ k, Real.exp (μ k - M) = Real.exp (μ k - N) * Real.exp (N - M) := fun k => by
      rw [← Real.exp_add]; congr 1; ring
    have hx := (Real.exp_pos (N - M)).ne'
    have htk := (ht0 k).ne'
    rw [show Real.exp (μ 0 - M) * t 0 + Real.exp (μ 1 - M) * t 1 + Real.exp (μ 2 - M) * t 2
        = (t 0 * Real.exp (μ 0 - N) + t 1 * Real.exp (μ 1 - N) + t 2 * Real.exp (μ 2 - N)) * Real.exp (N - M) by
      rw [hs 0, hs 1, hs 2]; ring]
    rw [hs k]
    field_simp
  have term : ∀ k, ((Real.exp (μ k - M) : ℝ) : EReal) * a k
        * (((Real.exp (μ 0 - M) * t 0 + Real.exp (μ 1 - M) * t 1 + Real.exp (μ 2 - M) * t 2)⁻¹ : ℝ) : EReal)
      = ((t k * Real.exp (μ k - N) * (t 0 * Real.exp (μ 0 - N) + t 1 * Real.exp (μ 1 - N) + t 2 * Real.exp (μ 2 - N))⁻¹ : ℝ) : EReal)
        * (a k * (((t k)⁻¹ : ℝ) : EReal)) := fun k => by
    rw [mul_comm _ (a k), mul_assoc, ← EReal.coe_mul, key k, EReal.coe_mul, mul_left_comm]
  rw [term 0, term 1, term 2]

/-! ## One position -/

/-- The scores, and the weighted sum, of the row at position `T`. -/
def rowScore (d T : ℕ) (Q K : ℕ → Fin 128 → EReal) : Fin 256 → EReal :=
  score d (T / (128 * d)) (T % (128 * d) / d) (T % d) Q K
def rowBlend (d T : ℕ) (Q K V : ℕ → Fin 128 → EReal) (c : Fin 128) : EReal :=
  blendAt d (T / (128 * d)) (T % (128 * d) / d) (T % d) Q K V c

/-- The three dilations. -/
def dilation (p : Fin 3) : ℕ := match p with | 0 => 1 | 1 => 4 | 2 => 16

/-- The kernel's row at position `T`, and the reference's. -/
def outK (Q K V : ℕ → Fin 128 → EReal) (T : ℕ) (c : Fin 128) : EReal :=
  mixK (fun p => top (rowScore (dilation p) T Q K)) (fun p => total (rowScore (dilation p) T Q K)) (fun p => rowBlend (dilation p) T Q K V c)
def outR (Q K V : ℕ → Fin 128 → EReal) (T : ℕ) (c : Fin 128) : EReal :=
  mixR (fun p => top (rowScore (dilation p) T Q K)) (fun p => total (rowScore (dilation p) T Q K)) (fun p => rowBlend (dilation p) T Q K V c)

/-- They are one at finite queries and keys. -/
theorem out_eq {Q K : ℕ → Fin 128 → EReal} (V : ℕ → Fin 128 → EReal) (hQ : Fin' Q) (hK : Fin' K) (T : ℕ) (c : Fin 128) :
    outK Q K V T c = outR Q K V T c := by
  have hi : ∀ p : Fin 3, T % (128 * dilation p) / dilation p < 128 := fun p => by
    match p with
    | 0 => show T % (128 * 1) / 1 < 128; omega
    | 1 => show T % (128 * 4) / 4 < 128; omega
    | 2 => show T % (128 * 16) / 16 < 128; omega
  exact mix_eq _ _ _ (fun p => (row_real hQ hK (hi p)).1) (fun p => (row_real hQ hK (hi p)).2)

/-- The rows of one head of one sequence: zero past the end. -/
def rowsOf (X : (⟨4, ![2, 8, 8192, 128]⟩ : Shape).Idx → EReal) (b : Fin 2) (h : Fin 8) : ℕ → Fin 128 → EReal := fun t e =>
  if ht : t < 8192 then X (ValueIdx.ix4 b h ⟨t, ht⟩ e) else 0

theorem rowsOf_lt (X : (⟨4, ![2, 8, 8192, 128]⟩ : Shape).Idx → EReal) (b : Fin 2) (h : Fin 8) {t : ℕ} (ht : t < 8192) (e : Fin 128) :
    rowsOf X b h t e = X (ValueIdx.ix4 b h ⟨t, ht⟩ e) := dif_pos ht

end Cert.Proof.Spec

end
-- ==== Proof.PI.Tile.lean ====
/-
  The attention kernel at the ideal level: what one grid point's planes and output block hold, in the words of Spec.lean.
  The grid point of chunk `c` sees the rows of its own chunk and of the chunk before it; trip `k` of a branch of dilation
  `d` is block `c (16 / d) + k / d` of residue class `k % d`.
-/
module

public import proofs.«01_k».proof.Proof.PI.Body
public import proofs.«01_k».proof.Proof.Spec
public import Idealize.ShloMosaic.Lib.MatmulPlain
public import Idealize.ShloMosaic.Lib.WordCmp
public import Idealize.ShloMosaic.Lib.ValueIdx
public import Idealize.ShloMosaic.Lib.Pipeline.Value

@[expose] public section

noncomputable section

namespace Cert.Proof.PI

open Cert.KernelIdeal Cert.KernelIdeal.Gen
open Cert.Proof.Rows (qRows kRows keyWord outOf slab twoChunks dil dil_cases start trip pos)
open Cert.Proof.Spec (Seen score top total blendAt rowScore rowBlend dilation outK mixK)
open Idealize.ShloMosaic Idealize.ShloMosaic.ValueIdx
open scoped BigOperators

/-! ## The masks -/

/-- The band: the key is neither ahead of the row nor more than 128 behind it. -/
theorem pay2_apply (i : Fin 128) (j : Fin 256) : k0_pay2 (ix2 i j) = BitVec.ofBool (decide (i.val ≤ j.val ∧ j.val ≤ i.val + 128)) := by
  have e1 : IntOp.cmpi .sge (BitVec.ofNat 32 j.val) (BitVec.ofNat 32 i.val) = BitVec.ofBool (decide (i.val ≤ j.val)) :=
    WordCmp.cmpi_sge_ofNat (by omega) (by omega)
  have e2 : IntOp.cmpi .sle (BitVec.ofNat 32 j.val) (BitVec.ofNat 32 (i.val + 128)) = BitVec.ofBool (decide (j.val ≤ i.val + 128)) :=
    WordCmp.cmpi_sle_ofNat (by omega) (by omega)
  have i0 : iota .tc S128x256 32 [0] iota_S128x256_d0_w32 (ix2 i j) = BitVec.ofNat 32 i.val := by
    rw [WordCmp.iota_at]; simp
  have i1 : iota .tc S128x256 32 [1] iota_S128x256_d1_w32 (ix2 i j) = BitVec.ofNat 32 j.val := by
    rw [WordCmp.iota_at]; simp
  show IntOp.andi (IntOp.cmpi .sge (iota .tc S128x256 32 [1] iota_S128x256_d1_w32 (ix2 i j)) (iota .tc S128x256 32 [0] iota_S128x256_d0_w32 (ix2 i j)))
    (IntOp.cmpi .sle (iota .tc S128x256 32 [1] iota_S128x256_d1_w32 (ix2 i j)) (iota .tc S128x256 32 [0] iota_S128x256_d0_w32 (ix2 i j) + 128#32)) = _
  rw [i0, i1]
  show IntOp.andi (IntOp.cmpi .sge (BitVec.ofNat 32 j.val) (BitVec.ofNat 32 i.val))
    (IntOp.cmpi .sle (BitVec.ofNat 32 j.val) (BitVec.ofNat 32 i.val + 128#32)) = _
  rw [show BitVec.ofNat 32 i.val + 128#32 = BitVec.ofNat 32 (i.val + 128) by rw [BitVec.ofNat_add], e1, e2, WordCmp.andi_ofBool, Bool.decide_and]

theorem mask_eq : (Named.named (F := Ideal) κ "mask" (φ := .f32) 0xF149F2CA#32 : EReal) = ⊥ :=
  IdealRules.named_const.ideal_named_scalar _ _ _ _ rfl

/-- A mask's value: zero where it lets the score through, minus infinity elsewhere. -/
theorem pay3_apply (i : Fin 128) (j : Fin 256) :
    k0_pay3 (F := Ideal) (ix2 i j) = if i.val ≤ j.val ∧ j.val ≤ i.val + 128 then (0 : EReal) else ⊥ := by
  show Scalar.select (k0_pay2 (ix2 i j)) (Ideal.ofBits .f32 0x00000000#32) (Named.named (F := Ideal) κ "mask" (φ := .f32) 0xF149F2CA#32 : EReal) = _
  rw [pay2_apply, mask_eq, Ideal.ofBits_zero_f32]
  unfold Scalar.select
  by_cases h : i.val ≤ j.val ∧ j.val ≤ i.val + 128 <;> simp [h]

theorem pay4_apply (i : Fin 128) (j : Fin 256) :
    k0_pay4 (F := Ideal) (ix2 i j) = if (i.val ≤ j.val ∧ j.val ≤ i.val + 128) ∧ 128 ≤ j.val then (0 : EReal) else ⊥ := by
  have e1 : IntOp.cmpi .sge (BitVec.ofNat 32 j.val) (BitVec.ofNat 32 128) = BitVec.ofBool (decide (128 ≤ j.val)) :=
    WordCmp.cmpi_sge_ofNat (by omega) (by omega)
  have i1 : iota .tc S128x256 32 [1] iota_S128x256_d1_w32 (ix2 i j) = BitVec.ofNat 32 j.val := by
    rw [WordCmp.iota_at]; simp
  show Scalar.select (IntOp.andi (k0_pay2 (ix2 i j)) (IntOp.cmpi .sge (iota .tc S128x256 32 [1] iota_S128x256_d1_w32 (ix2 i j)) (BitVec.ofNat 32 128)))
    (Ideal.ofBits .f32 0x00000000#32) (Named.named (F := Ideal) κ "mask" (φ := .f32) 0xF149F2CA#32 : EReal) = _
  rw [i1, pay2_apply, e1, WordCmp.andi_ofBool, mask_eq, Ideal.ofBits_zero_f32]
  unfold Scalar.select
  by_cases h : i.val ≤ j.val ∧ j.val ≤ i.val + 128 <;> by_cases h' : 128 ≤ j.val <;> simp [h, h']

/-- The word that chooses between the two masks: a chunk before this one, or a trip past the first block. -/
theorem open_eq {c w : ℕ} (hc : c < 4) (hw : w < 4096) :
    Scalar.ori (Scalar.cmpi .sgt (BitVec.ofNat 32 c) 0#32) (Scalar.cmpi .sge (BitVec.ofNat 32 w) 2048#32)
      = BitVec.ofBool (decide (0 < c ∨ 2048 ≤ w)) := by
  have e1 : IntOp.cmpi .sgt (BitVec.ofNat 32 c) (BitVec.ofNat 32 0) = BitVec.ofBool (decide (0 < c)) :=
    WordCmp.cmpi_sgt_ofNat (by omega) (by omega)
  have e2 : IntOp.cmpi .sge (BitVec.ofNat 32 w) (BitVec.ofNat 32 2048) = BitVec.ofBool (decide (2048 ≤ w)) :=
    WordCmp.cmpi_sge_ofNat (by omega) (by omega)
  show IntOp.ori (IntOp.cmpi .sgt (BitVec.ofNat 32 c) (BitVec.ofNat 32 0)) (IntOp.cmpi .sge (BitVec.ofNat 32 w) (BitVec.ofNat 32 2048)) = _
  rw [e1, e2, WordCmp.ori_ofBool, Bool.decide_or]

/-! ## A trip's tile -/

theorem pay5_apply {c w : ℕ} (hc : c < 4) (hw : w < 4096) (u : FVec Ideal S128x128 .bf16) (v : FVec Ideal S256x128 .bf16)
    (i : Fin 128) (j : Fin 256) :
    k0_pay5 (BitVec.ofNat 32 c) (BitVec.ofNat 32 w) u v (ix2 i j)
      = (∑ e : Fin 128, u (ix2 i e) * v (ix2 j e) : EReal)
        + if (i.val ≤ j.val ∧ j.val ≤ i.val + 128) ∧ ((0 < c ∨ 2048 ≤ w) ∨ 128 ≤ j.val) then (0 : EReal) else ⊥ := by
  have hm : FloatOps.matmul dot_S128x128_S256x128_S128x256_1_1_0_0_n_n none u v (constant S128x256 .f32 0x00000000#32) (ix2 i j)
      = (∑ e : Fin 128, u (ix2 i e) * v (ix2 j e) : EReal) :=
    (Ideal.matmul_transposedRhs_apply (M := 128) (K := 128) (N := 256) none u v _ i j).trans (by
      show Ideal.ofBits .f32 0x00000000#32 + _ = _
      rw [Ideal.ofBits_zero_f32, zero_add])
  show FloatOps.matmul dot_S128x128_S256x128_S128x256_1_1_0_0_n_n none u v (constant S128x256 .f32 0x00000000#32) (ix2 i j)
    + Scalar.select (Scalar.ori (Scalar.cmpi .sgt (BitVec.ofNat 32 c) 0#32) (Scalar.cmpi .sge (BitVec.ofNat 32 w) 2048#32))
      (k0_pay3 (F := Ideal)) (k0_pay4 (F := Ideal)) (ix2 i j) = _
  rw [hm, open_eq hc hw]
  congr 1
  unfold Scalar.select
  by_cases h : 0 < c ∨ 2048 ≤ w
  · rw [if_pos (by simp [h]), pay3_apply]
    simp [h]
  · rw [if_neg (by simp [h]), pay4_apply]
    simp [h]

/-- The reduced index with the dropped coordinate put back. -/
theorem lift_row (i : Fin 128) (j : Fin 256) : reduces_S128x256_S128.lift (ix1 i) j = ix2 i j := by
  funext a; apply Fin.ext
  match a with
  | ⟨0, _⟩ => rfl
  | ⟨1, _⟩ => rfl

variable (a2 w : BitVec 32) (u : FVec Ideal S128x128 .bf16) (v x : FVec Ideal S256x128 .bf16)

/-- The row's maximum. -/
theorem pay6_apply (i : Fin 128) (o : Fin 1) : k0_pay6 a2 w u v (ix2 i o) = top fun j => k0_pay5 a2 w u v (ix2 i j) := by
  have hb : (Ideal.ofBits .f32 0xFF800000#32 : EReal) = ⊥ := by simp [Ideal.ofBits, Ideal.ieee]
  unfold k0_pay6
  refine (shapeCast_apply _ _ (ix2 i o) (ix1 i) ?_).trans ?_
  · rw [Shape.rowMajor_val_one, Shape.rowMajor_val_two]; show i.val = i.val * 1 + o.val; omega
  · refine (Ideal.multiReduction_maximumf_single (a := 1) _ _ reduces_S128x256_S128 _ _ _).trans ?_
    show Finset.univ.fold max (Ideal.ofBits .f32 0xFF800000#32) (k0_pay5 a2 w u v ∘ reduces_S128x256_S128.lift (ix1 i)) = _
    rw [hb]
    unfold top
    refine congrArg (fun f => Finset.fold max (⊥ : EReal) f Finset.univ) (funext fun j => ?_)
    exact congrArg (k0_pay5 a2 w u v) (lift_row i j)

theorem pay7_apply (i : Fin 128) (j : Fin 256) :
    k0_pay7 a2 w u v (ix2 i j) = Spec.weight (fun j => k0_pay5 a2 w u v (ix2 i j)) j := by
  have h : broadcastTo S128x256 (k0_pay6 a2 w u v) broadcasts_S128x1_S128x256 (ix2 i j) = top fun j => k0_pay5 a2 w u v (ix2 i j) := by
    rw [← pay6_apply a2 w u v i 0]
    generalize k0_pay6 a2 w u v = y
    exact broadcastTo_apply y _ (ix2 i j) (ix2 i 0) (fun a => match a with | ⟨0, _⟩ => rfl | ⟨1, _⟩ => rfl)
  unfold k0_pay7
  show Ideal.exp (k0_pay5 a2 w u v (ix2 i j) - broadcastTo S128x256 (k0_pay6 a2 w u v) broadcasts_S128x1_S128x256 (ix2 i j)) = _
  rw [h]; rfl

/-- A column of one, as a tile of 128 columns. -/
theorem column_apply (y : S128x1.Idx → EReal) (h1 : S128x1.ShapeCasts S128x1) (h2 : S128x1.Broadcasts S128x128)
    (h3 : S128x128.ShapeCasts S1x128x128) (i e : Fin 128) :
    shapeCast S1x128x128 (broadcastTo S128x128 (shapeCast S128x1 y h1) h2) h3 (ix3 (n0 := 1) 0 i e) = y (ix2 i 0) := by
  refine (shapeCast_apply _ _ _ (ix2 i e) ?_).trans ((broadcastTo_apply _ _ _ (ix2 i 0) (fun a => match a with | ⟨0, _⟩ => rfl | ⟨1, _⟩ => rfl)).trans
    (shapeCast_apply _ _ _ (ix2 i 0) rfl))
  rw [Shape.rowMajor_val_two, Shape.rowMajor_val_three]
  show i.val * 128 + e.val = (0 * 128 + i.val) * 128 + e.val
  omega

theorem pay8_apply (i e : Fin 128) : k0_pay8 a2 w u v (ix3 (n0 := 1) 0 i e) = top fun j => k0_pay5 a2 w u v (ix2 i j) :=
  (column_apply (k0_pay6 a2 w u v) _ _ _ i e).trans (pay6_apply a2 w u v i 0)

theorem pay9_apply (i e : Fin 128) : k0_pay9 a2 w u v (ix3 (n0 := 1) 0 i e) = total fun j => k0_pay5 a2 w u v (ix2 i j) := by
  unfold k0_pay9
  refine (column_apply _ _ _ _ i e).trans ?_
  refine (shapeCast_apply _ _ (ix2 i 0) (ix1 i) ?_).trans ?_
  · rw [Shape.rowMajor_val_one, Shape.rowMajor_val_two]; show i.val = i.val * 1 + 0; omega
  · refine (Ideal.multiReduction_add_single (a := 1) _ _ reduces_S128x256_S128 _ _ _).trans ?_
    unfold total
    exact Finset.sum_congr rfl fun j _ => (congrArg _ (lift_row i j)).trans (pay7_apply a2 w u v i j)

theorem pay10_apply (i e : Fin 128) :
    k0_pay10 a2 w u v x (ix3 (n0 := 1) 0 i e) = Spec.blend (fun j => k0_pay5 a2 w u v (ix2 i j)) fun j => x (ix2 j e) := by
  unfold k0_pay10
  refine (shapeCast_apply _ _ _ (ix2 i e) ?_).trans ?_
  · rw [Shape.rowMajor_val_two, Shape.rowMajor_val_three]
    show i.val * 128 + e.val = (0 * 128 + i.val) * 128 + e.val
    omega
  · refine (Ideal.matmul_plain_apply (M := 128) (K := 256) (N := 128) none _ x _ i e).trans ?_
    show Ideal.ofBits .f32 0x00000000#32 + _ = _
    rw [Ideal.ofBits_zero_f32, zero_add]
    unfold Spec.blend
    exact Finset.sum_congr rfl fun j _ => congrArg (· * _) (pay7_apply a2 w u v i j)

/-! ## A trip in the sequence -/

/-- The row buffer holds the rows of chunk `c`. -/
def Own (c : ℕ) (X : ℕ → Fin 128 → EReal) (B : S2048x128.Idx → EReal) : Prop :=
  ∀ (y : Fin 2048) (e : Fin 128), B (ix2 y e) = X (2048 * c + y.val) e
/-- The row buffer holds the rows of the chunk before `c`, if there is one, and of `c`. -/
def Both (c : ℕ) (X : ℕ → Fin 128 → EReal) (B : S4096x128.Idx → EReal) : Prop :=
  ∀ (y : Fin 4096) (e : Fin 128), 2048 ≤ 2048 * c + y.val → B (ix2 y e) = X (2048 * c + y.val - 2048) e

variable {c : ℕ} (hc : c < 4) {Qr Kr Vr : ℕ → Fin 128 → EReal} {Q : S2048x128.Idx → EReal} {K V : S4096x128.Idx → EReal}

/-- The block of a trip. -/
def blockOf (c p : ℕ) (k : Fin 16) : ℕ := c * (16 / dil p) + k.val / dil p

theorem row_at (p : ℕ) (k : Fin 16) (i : Fin 128) :
    2048 * c + (start (dil p) k.val + dil p * i.val) = Spec.rowPos (dil p) (blockOf c p k) i.val (k.val % dil p) := by
  unfold Spec.rowPos blockOf start
  rcases dil_cases p with h | h | h <;> rw [h] <;> omega

theorem key_at (p : ℕ) (k : Fin 16) (j : Fin 256) (h : 128 ≤ blockOf c p k * 128 + j.val) :
    2048 ≤ 2048 * c + (2048 + start (dil p) k.val - 128 * dil p + dil p * j.val)
    ∧ 2048 * c + (2048 + start (dil p) k.val - 128 * dil p + dil p * j.val) - 2048 = Spec.keyPos (dil p) (blockOf c p k) (k.val % dil p) j := by
  unfold Spec.keyPos
  unfold blockOf at h ⊢
  unfold start
  rcases dil_cases p with h' | h' | h' <;> rw [h'] at h ⊢ <;> constructor <;> omega

include hc in
/-- The trip's scores are the sequence's. -/
theorem scores (hQ : Own c Qr Q) (hK : Both c Kr K) (p : ℕ) (k : Fin 16) (i : Fin 128) (j : Fin 256) :
    k0_pay5 (BitVec.ofNat 32 c) (keyWord p k) (k0_pay24 (F := Ideal) (qRows Q p k)) (k0_pay25 (F := Ideal) (kRows K p k)) (ix2 i j)
      = score (dil p) (blockOf c p k) i.val (k.val % dil p) Qr Kr j := by
  have hw : 2048 + start (dil p) k.val - 128 * dil p < 4096 := by
    have := Rows.key_lt (dil_cases p) k.isLt (show 0 < 256 by omega); omega
  have ho : (0 < c ∨ 2048 ≤ 2048 + start (dil p) k.val - 128 * dil p) ↔ 0 < blockOf c p k := by
    unfold blockOf start
    rcases dil_cases p with h | h | h <;> rw [h] <;> omega
  unfold keyWord
  rw [pay5_apply hc hw]
  by_cases hs : Seen (blockOf c p k) i.val j
  · have h3 : (0 < c ∨ 2048 ≤ 2048 + start (dil p) k.val - 128 * dil p) ∨ 128 ≤ j.val := by
      rw [ho]; have := hs.2.2; omega
    unfold score
    rw [if_pos ⟨⟨hs.1, hs.2.1⟩, h3⟩, add_zero, if_pos hs]
    refine Finset.sum_congr rfl fun e _ => ?_
    have e1 : k0_pay24 (F := Ideal) (qRows Q p k) (ix2 i e) = Qr (Spec.rowPos (dil p) (blockOf c p k) i.val (k.val % dil p)) e :=
      (hQ _ e).trans (congrArg (Qr · e) (row_at p k i))
    have e2 : k0_pay25 (F := Ideal) (kRows K p k) (ix2 j e) = Kr (Spec.keyPos (dil p) (blockOf c p k) (k.val % dil p) j) e :=
      (hK _ e (key_at p k j hs.2.2).1).trans (congrArg (Kr · e) (key_at p k j hs.2.2).2)
    rw [e1, e2]
  · rw [Spec.score_unseen hs, if_neg, EReal.add_bot]
    rintro ⟨⟨h1, h2⟩, h3⟩
    rw [ho] at h3
    exact hs ⟨h1, h2, by omega⟩

include hc in
theorem tMax_apply (hQ : Own c Qr Q) (hK : Both c Kr K) (p : ℕ) (k : Fin 16) (i e : Fin 128) :
    tMax (F := Ideal) (BitVec.ofNat 32 c) Q K p k (ix3 (n0 := 1) 0 i e) = top (score (dil p) (blockOf c p k) i.val (k.val % dil p) Qr Kr) :=
  (pay8_apply _ _ _ _ i e).trans (congrArg top (funext fun j => scores hc hQ hK p k i j))
include hc in
theorem tSum_apply (hQ : Own c Qr Q) (hK : Both c Kr K) (p : ℕ) (k : Fin 16) (i e : Fin 128) :
    tSum (F := Ideal) (BitVec.ofNat 32 c) Q K p k (ix3 (n0 := 1) 0 i e) = total (score (dil p) (blockOf c p k) i.val (k.val % dil p) Qr Kr) :=
  (pay9_apply _ _ _ _ i e).trans (congrArg total (funext fun j => scores hc hQ hK p k i j))
include hc in
theorem tAcc_apply (hQ : Own c Qr Q) (hK : Both c Kr K) (hV : Both c Vr V) (p : ℕ) (k : Fin 16) (i e : Fin 128) :
    tAcc (F := Ideal) (BitVec.ofNat 32 c) Q K V p k (ix3 (n0 := 1) 0 i e) = blendAt (dil p) (blockOf c p k) i.val (k.val % dil p) Qr Kr Vr e :=
  (pay10_apply _ _ _ _ _ i e).trans ((congrArg (fun s => Spec.blend s _) (funext fun j => scores hc hQ hK p k i j)).trans
    (Spec.blendAt_of _ _ _ _ _ _ _ _ _ fun j hj =>
      (hV _ e (key_at p k j hj.2.2).1).trans (congrArg (Vr · e) (key_at p k j hj.2.2).2)))

/-! ## The planes and the merge -/

theorem dil_eq (p : Fin 3) : dil p.val = dilation p := by
  match p with
  | 0 => rfl
  | 1 => rfl
  | 2 => rfl

/-- A row of the chunk in its trip is a position in the sequence. -/
theorem place (p : ℕ) (t : Fin 2048) (h : trip (dil p) t.val < 16) :
    blockOf c p ⟨trip (dil p) t.val, h⟩ = (2048 * c + t.val) / (128 * dil p)
    ∧ pos (dil p) t.val = (2048 * c + t.val) % (128 * dil p) / dil p
    ∧ trip (dil p) t.val % dil p = (2048 * c + t.val) % dil p := by
  unfold blockOf
  simp only
  unfold trip pos
  rcases dil_cases p with h' | h' | h' <;> rw [h'] <;> refine ⟨?_, ?_, ?_⟩ <;> omega

theorem planes_apply (tile : (p : ℕ) → (k : Fin 16) → Rows.STile.Idx → EReal) (p : Fin 3) (t : Fin 2048) (e : Fin 128) :
    Rows.planes tile (ix3 p t e) = tile p.val ⟨trip (dil p.val) t.val, Rows.trip_lt (dil_cases _) t.isLt⟩
      (ix3 (n0 := 1) 0 ⟨pos (dil p.val) t.val, Rows.pos_lt (dil_cases _) _⟩ e) := rfl

include hc in
theorem pMax_apply (hQ : Own c Qr Q) (hK : Both c Kr K) (p : Fin 3) (t : Fin 2048) (e : Fin 128) :
    pMax (F := Ideal) (BitVec.ofNat 32 c) Q K (ix3 p t e) = top (rowScore (dilation p) (2048 * c + t.val) Qr Kr) := by
  obtain ⟨h1, h2, h3⟩ := place (c := c) p.val t (Rows.trip_lt (dil_cases _) t.isLt)
  unfold pMax
  rw [planes_apply, tMax_apply hc hQ hK]
  unfold rowScore
  rw [← dil_eq, ← h1, ← h2, ← h3]
include hc in
theorem pSum_apply (hQ : Own c Qr Q) (hK : Both c Kr K) (p : Fin 3) (t : Fin 2048) (e : Fin 128) :
    pSum (F := Ideal) (BitVec.ofNat 32 c) Q K (ix3 p t e) = total (rowScore (dilation p) (2048 * c + t.val) Qr Kr) := by
  obtain ⟨h1, h2, h3⟩ := place (c := c) p.val t (Rows.trip_lt (dil_cases _) t.isLt)
  unfold pSum
  rw [planes_apply, tSum_apply hc hQ hK]
  unfold rowScore
  rw [← dil_eq, ← h1, ← h2, ← h3]
include hc in
theorem pAcc_apply (hQ : Own c Qr Q) (hK : Both c Kr K) (hV : Both c Vr V) (p : Fin 3) (t : Fin 2048) (e : Fin 128) :
    pAcc (F := Ideal) (BitVec.ofNat 32 c) Q K V (ix3 p t e) = rowBlend (dilation p) (2048 * c + t.val) Qr Kr Vr e := by
  obtain ⟨h1, h2, h3⟩ := place (c := c) p.val t (Rows.trip_lt (dil_cases _) t.isLt)
  unfold pAcc
  rw [planes_apply, tAcc_apply hc hQ hK hV]
  unfold rowBlend
  rw [← dil_eq, ← h1, ← h2, ← h3]

/-- A slab's rows by row and column. -/
theorem drop_apply (X : S1x256x128.Idx → EReal) (h : S1x256x128.ShapeCasts S256x128) (t : Fin 256) (e : Fin 128) :
    shapeCast S256x128 X h (ix2 t e) = X (ix3 (n0 := 1) 0 t e) := by
  refine shapeCast_apply _ _ _ _ ?_
  rw [Shape.rowMajor_val_two, Shape.rowMajor_val_three]
  show (0 * 256 + t.val) * 128 + e.val = t.val * 128 + e.val
  omega

/-- The merge, row by row. -/
theorem merge_apply (M0 M1 M2 L0 L1 L2 A0 A1 A2 : S1x256x128.Idx → EReal) (t : Fin 256) (e : Fin 128) :
    k0_pay23 (F := Ideal) (k0_pay39 M0 M1 M2 A0 A1) (k0_pay40 M0 M1 M2 L0 L1) (k0_pay41 M0 M1 M2) A2 L2 (ix4 (n0 := 1) (n1 := 1) 0 0 t e)
      = mixK ![M0 (ix3 (n0 := 1) 0 t e), M1 (ix3 (n0 := 1) 0 t e), M2 (ix3 (n0 := 1) 0 t e)]
          ![L0 (ix3 (n0 := 1) 0 t e), L1 (ix3 (n0 := 1) 0 t e), L2 (ix3 (n0 := 1) 0 t e)]
          ![A0 (ix3 (n0 := 1) 0 t e), A1 (ix3 (n0 := 1) 0 t e), A2 (ix3 (n0 := 1) 0 t e)] := by
  unfold k0_pay23
  refine (shapeCast_apply _ _ _ (ix2 t e) ?_).trans ?_
  · rw [Shape.rowMajor_val_two, Shape.rowMajor_val_four]
    show t.val * 128 + e.val = ((0 * 1 + 0) * 256 + t.val) * 128 + e.val
    omega
  · unfold k0_pay39 k0_pay40 k0_pay41 k0_pay37 k0_pay38 k0_pay36 k0_pay33 k0_pay34 k0_pay35 mixK
    show Ideal.div
      (Ideal.ofBits .f32 0x00000000#32
        + Ideal.exp (shapeCast S256x128 M0 _ (ix2 t e) - max (max (shapeCast S256x128 M0 _ (ix2 t e)) (shapeCast S256x128 M1 _ (ix2 t e))) (shapeCast S256x128 M2 _ (ix2 t e))) * shapeCast S256x128 A0 _ (ix2 t e)
        + Ideal.exp (shapeCast S256x128 M1 _ (ix2 t e) - max (max (shapeCast S256x128 M0 _ (ix2 t e)) (shapeCast S256x128 M1 _ (ix2 t e))) (shapeCast S256x128 M2 _ (ix2 t e))) * shapeCast S256x128 A1 _ (ix2 t e)
        + Ideal.exp (shapeCast S256x128 M2 _ (ix2 t e) - max (max (shapeCast S256x128 M0 _ (ix2 t e)) (shapeCast S256x128 M1 _ (ix2 t e))) (shapeCast S256x128 M2 _ (ix2 t e))) * shapeCast S256x128 A2 _ (ix2 t e))
      (Ideal.ofBits .f32 0x00000000#32
        + Ideal.exp (shapeCast S256x128 M0 _ (ix2 t e) - max (max (shapeCast S256x128 M0 _ (ix2 t e)) (shapeCast S256x128 M1 _ (ix2 t e))) (shapeCast S256x128 M2 _ (ix2 t e))) * shapeCast S256x128 L0 _ (ix2 t e)
        + Ideal.exp (shapeCast S256x128 M1 _ (ix2 t e) - max (max (shapeCast S256x128 M0 _ (ix2 t e)) (shapeCast S256x128 M1 _ (ix2 t e))) (shapeCast S256x128 M2 _ (ix2 t e))) * shapeCast S256x128 L1 _ (ix2 t e)
        + Ideal.exp (shapeCast S256x128 M2 _ (ix2 t e) - max (max (shapeCast S256x128 M0 _ (ix2 t e)) (shapeCast S256x128 M1 _ (ix2 t e))) (shapeCast S256x128 M2 _ (ix2 t e))) * shapeCast S256x128 L2 _ (ix2 t e)) = _
    simp only [drop_apply, Ideal.ofBits_zero_f32]
    rfl

/-- A block's rows, widened. -/
theorem widen_apply (X : S1x1x2048x128.Idx → EReal) (t : Fin 2048) (e : Fin 128) :
    widen (F := Ideal) X (ix2 t e) = X (ix4 (n0 := 1) (n1 := 1) 0 0 t e) := by
  unfold widen k0_pay42
  refine (shapeCast_apply _ _ _ (ix2 t e) rfl).trans (shapeCast_apply _ _ _ _ ?_)
  rw [Shape.rowMajor_val_two, Shape.rowMajor_val_four]
  show ((0 * 1 + 0) * 2048 + t.val) * 128 + e.val = t.val * 128 + e.val
  omega

include hc in
/-- The output block: each of its rows is the kernel's mixture at the row's position. -/
theorem outBlock_apply (X3 X4 X5 X6 X7 : S1x1x2048x128.Idx → EReal)
    (h3 : ∀ (y : Fin 2048) (e : Fin 128), X3 (ix4 (n0 := 1) (n1 := 1) 0 0 y e) = Qr (2048 * c + y.val) e)
    (h4 : ∀ (y : Fin 2048) (e : Fin 128), X4 (ix4 (n0 := 1) (n1 := 1) 0 0 y e) = Kr (2048 * c + y.val) e)
    (h5 : ∀ (y : Fin 2048) (e : Fin 128), 0 < c → X5 (ix4 (n0 := 1) (n1 := 1) 0 0 y e) = Kr (2048 * (c - 1) + y.val) e)
    (h6 : ∀ (y : Fin 2048) (e : Fin 128), X6 (ix4 (n0 := 1) (n1 := 1) 0 0 y e) = Vr (2048 * c + y.val) e)
    (h7 : ∀ (y : Fin 2048) (e : Fin 128), 0 < c → X7 (ix4 (n0 := 1) (n1 := 1) 0 0 y e) = Vr (2048 * (c - 1) + y.val) e)
    (t : Fin 2048) (e : Fin 128) :
    outBlock (F := Ideal) (BitVec.ofNat 32 c) X3 X4 X5 X6 X7 (ix4 (n0 := 1) (n1 := 1) 0 0 t e) = outK Qr Kr Vr (2048 * c + t.val) e := by
  have hQ : Own c Qr (widen (F := Ideal) X3) := fun y e => (widen_apply X3 y e).trans (h3 y e)
  have both : ∀ (X : ℕ → Fin 128 → EReal) (A B : S1x1x2048x128.Idx → EReal)
      (_ : ∀ (y : Fin 2048) (e : Fin 128), B (ix4 (n0 := 1) (n1 := 1) 0 0 y e) = X (2048 * c + y.val) e)
      (_ : ∀ (y : Fin 2048) (e : Fin 128), 0 < c → A (ix4 (n0 := 1) (n1 := 1) 0 0 y e) = X (2048 * (c - 1) + y.val) e),
      Both c X (widenTwo (F := Ideal) A B) := fun X A B hB hA y e hy => by
    unfold widenTwo twoChunks
    by_cases h : y.val < 2048
    · rw [dif_pos (show ((ix2 y e : S4096x128.Idx) 0).val < 2048 from h)]
      refine (widen_apply A ⟨y.val, h⟩ e).trans ((hA _ e (by omega)).trans (congrArg (X · e) ?_))
      show 2048 * (c - 1) + y.val = _
      omega
    · rw [dif_neg (show ¬((ix2 y e : S4096x128.Idx) 0).val < 2048 from h)]
      refine (widen_apply B ⟨y.val - 2048, by omega⟩ e).trans ((hB _ e).trans (congrArg (X · e) ?_))
      show 2048 * c + (y.val - 2048) = _
      omega
  have hK := both Kr X5 X4 h4 h5
  have hV := both Vr X7 X6 h6 h7
  have hrow : ∀ h, (⟨256 * (t.val / 256) + t.val % 256, h⟩ : Fin 2048) = t := fun h => Fin.ext (by show 256 * (t.val / 256) + t.val % 256 = t.val; omega)
  unfold outBlock outOf mergeSlab
  refine (merge_apply _ _ _ _ _ _ _ _ _ _ e).trans ?_
  have eM : ∀ p : Fin 3, slab (pMax (F := Ideal) (BitVec.ofNat 32 c) (widen (F := Ideal) X3) (widenTwo (F := Ideal) X5 X4)) p ⟨t.val / 256, by omega⟩
      (ix3 (n0 := 1) 0 ⟨t.val % 256, by omega⟩ e) = top (rowScore (dilation p) (2048 * c + t.val) Qr Kr) := fun p => by
    refine Eq.trans ?_ (pMax_apply hc hQ hK p t e)
    exact congrArg (fun z => pMax (F := Ideal) _ _ _ (ix3 p z e)) (hrow _)
  have eL : ∀ p : Fin 3, slab (pSum (F := Ideal) (BitVec.ofNat 32 c) (widen (F := Ideal) X3) (widenTwo (F := Ideal) X5 X4)) p ⟨t.val / 256, by omega⟩
      (ix3 (n0 := 1) 0 ⟨t.val % 256, by omega⟩ e) = total (rowScore (dilation p) (2048 * c + t.val) Qr Kr) := fun p => by
    refine Eq.trans ?_ (pSum_apply hc hQ hK p t e)
    exact congrArg (fun z => pSum (F := Ideal) _ _ _ (ix3 p z e)) (hrow _)
  have eA : ∀ p : Fin 3, slab (pAcc (F := Ideal) (BitVec.ofNat 32 c) (widen (F := Ideal) X3) (widenTwo (F := Ideal) X5 X4) (widenTwo (F := Ideal) X7 X6)) p ⟨t.val / 256, by omega⟩
      (ix3 (n0 := 1) 0 ⟨t.val % 256, by omega⟩ e) = rowBlend (dilation p) (2048 * c + t.val) Qr Kr Vr e := fun p => by
    refine Eq.trans ?_ (pAcc_apply hc hQ hK hV p t e)
    exact congrArg (fun z => pAcc (F := Ideal) _ _ _ _ (ix3 p z e)) (hrow _)
  unfold outK
  have three : ∀ f : Fin 3 → EReal, ![f 0, f 1, f 2] = f := fun f => by
    funext p
    match p with
    | 0 => rfl
    | 1 => rfl
    | 2 => rfl
  rw [← three (fun p => top (rowScore (dilation p) (2048 * c + t.val) Qr Kr)), ← three (fun p => total (rowScore (dilation p) (2048 * c + t.val) Qr Kr)),
    ← three (fun p => rowBlend (dilation p) (2048 * c + t.val) Qr Kr Vr e)]
  simp only [← eM, ← eL, ← eA]

end Cert.Proof.PI

end
-- ==== Proof.PI.Value.lean ====
/-
  The attention kernel at the ideal level: the output array. Each grid point writes the block of its sequence, head and
  chunk, so every row of the array is the kernel's mixture at the row's position.
-/
module

public import proofs.«01_k».proof.Proof.PI.Run
public import proofs.«01_k».proof.Proof.PI.Tile
public import Idealize.ShloMosaic.Lib.Pipeline.ValueKit

@[expose] public section

noncomputable section

namespace Cert.Proof.PI

open Cert.KernelIdeal Cert.KernelIdeal.Gen
open Cert.Proof.Spec (rowsOf outK)
open Idealize.ShloMosaic Idealize.ShloMosaic.TcCoe Idealize.ShloMosaic.ValueIdx
open Idealize.ShloMosaic.Pipeline (Dat)

/-- The output as a function of the arrays. -/
def out (Q K V : S2x8x8192x128.Idx → EReal) : S2x8x8192x128.Idx → EReal := fun y =>
  outK (rowsOf Q (y 0) (y 1)) (rowsOf K (y 0) (y 1)) (rowsOf V (y 0) (y 1)) (y 2).val (y 3)

/-- The blocks of a grid point: of its sequence, head and chunk, or of the chunk before (of the first, for the first). -/
theorem index_own : ∀ t : Fin cfg0.N, win0_0.index t = ![(grid0.coords t 0).val, (grid0.coords t 1).val, (grid0.coords t 2).val, 0]
    ∧ win0_1.index t = ![(grid0.coords t 0).val, (grid0.coords t 1).val, (grid0.coords t 2).val, 0]
    ∧ win0_3.index t = ![(grid0.coords t 0).val, (grid0.coords t 1).val, (grid0.coords t 2).val, 0]
    ∧ win0_5.index t = ![(grid0.coords t 0).val, (grid0.coords t 1).val, (grid0.coords t 2).val, 0] :=
  (by decide +kernel : ∀ t : Fin grid0.N, _)
theorem index_back : ∀ t : Fin cfg0.N, win0_2.index t = ![(grid0.coords t 0).val, (grid0.coords t 1).val, (grid0.coords t 2).val - 1, 0]
    ∧ win0_4.index t = ![(grid0.coords t 0).val, (grid0.coords t 1).val, (grid0.coords t 2).val - 1, 0] :=
  (by decide +kernel : ∀ t : Fin grid0.N, _)

variable (m : (ℓ : Loc nD τ sig) → Buf (Elt Ideal) ℓ)

/-- An entry of a block, in its array. -/
theorem block_at (X : S2x8x8192x128.Idx → EReal) (b : Fin 2) (h : Fin 8) (k : ℕ) (i : S2x8x8192x128.Idx) (y : Fin 2048) (e : Fin 128)
    (h0 : (i 0).val = b.val) (h1 : (i 1).val = h.val) (h2 : (i 2).val = k * 2048 + y.val) (h3 : (i 3).val = e.val) :
    X i = rowsOf X b h (2048 * k + y.val) e := by
  have l : (i 2).val < 8192 := (i 2).isLt
  rw [Spec.rowsOf_lt X b h (show 2048 * k + y.val < 8192 by omega) e]
  refine congrArg X (funext fun a => Fin.ext ?_)
  match a with
  | ⟨0, _⟩ => exact h0
  | ⟨1, _⟩ => exact h1
  | ⟨2, _⟩ => show (i 2).val = 2048 * k + y.val; omega
  | ⟨3, _⟩ => exact h3

/-- What a grid point leaves in the output's window, at an index. -/
theorem after_apply (c : Dev nD) (t : Fin cfg0.N) (y : S1x1x2048x128.Idx) :
    (dats m 0 c).after 5 t y = out (V m c main_arg0) (V m c main_arg1) (V m c main_arg2) ((win0_5.blk t).view.emb y) := by
  obtain ⟨e0, e1, e3, e5⟩ := index_own t
  obtain ⟨e2, e4⟩ := index_back t
  have hc : (grid0.coords t 2).val < 4 := (grid0.coords t 2).isLt
  have hy : y = ValueIdx.ix4 (n0 := 1) (n1 := 1) 0 0 (y 2) (y 3) := by
    have h0 : y 0 = (0 : Fin 1) := Subsingleton.elim (α := Fin 1) _ _
    have h1 : y 1 = (0 : Fin 1) := Subsingleton.elim (α := Fin 1) _ _
    have h := ValueIdx.eq_ix4 y
    rw [h0, h1] at h; exact h
  have hb0 : ((win0_5.blk t).view.emb y 0 : Fin _) = (⟨(grid0.coords t 0).val, (grid0.coords t 0).isLt⟩ : Fin 2) := by
    have l0 : (y 0).val < 1 := (y 0).isLt
    apply Fin.ext
    blk_simp [e5]
  have hb1 : ((win0_5.blk t).view.emb y 1 : Fin _) = (⟨(grid0.coords t 1).val, (grid0.coords t 1).isLt⟩ : Fin 8) := by
    have l0 : (y 1).val < 1 := (y 1).isLt
    apply Fin.ext
    blk_simp [e5]
  have hb2 : ((win0_5.blk t).view.emb y 2 : Fin _).val = 2048 * (grid0.coords t 2).val + (y 2).val := by
    blk_simp [e5]; show (grid0.coords t 2).val * 2048 + (y 2).val = _; omega
  have hb3 : ((win0_5.blk t).view.emb y 3 : Fin _) = y 3 := by
    apply Fin.ext
    blk_simp [e5]
  unfold out
  rw [hb0, hb1, hb2, hb3]
  refine (congrArg _ hy).trans ?_
  refine outBlock_apply hc _ _ _ _ _ (fun x e => ?_) (fun x e => ?_) (fun x e h => ?_) (fun x e => ?_) (fun x e h => ?_) (y 2) (y 3)
  · exact block_at (V m c main_arg0) _ _ _ ((win0_0.blk t).view.emb (ValueIdx.ix4 (n0 := 1) (n1 := 1) 0 0 x e)) x e
      (by blk_simp [e0]) (by blk_simp [e0]) (by blk_simp [e0]) (by blk_simp [e0])
  · exact block_at (V m c main_arg1) _ _ _ ((win0_1.blk t).view.emb (ValueIdx.ix4 (n0 := 1) (n1 := 1) 0 0 x e)) x e
      (by blk_simp [e1]) (by blk_simp [e1]) (by blk_simp [e1]) (by blk_simp [e1])
  · exact block_at (V m c main_arg1) _ _ _ ((win0_2.blk t).view.emb (ValueIdx.ix4 (n0 := 1) (n1 := 1) 0 0 x e)) x e
      (by blk_simp [e2]) (by blk_simp [e2]) (by blk_simp [e2]) (by blk_simp [e2])
  · exact block_at (V m c main_arg2) _ _ _ ((win0_3.blk t).view.emb (ValueIdx.ix4 (n0 := 1) (n1 := 1) 0 0 x e)) x e
      (by blk_simp [e3]) (by blk_simp [e3]) (by blk_simp [e3]) (by blk_simp [e3])
  · exact block_at (V m c main_arg2) _ _ _ ((win0_4.blk t).view.emb (ValueIdx.ix4 (n0 := 1) (n1 := 1) 0 0 x e)) x e
      (by blk_simp [e4]) (by blk_simp [e4]) (by blk_simp [e4]) (by blk_simp [e4])

/-- The output array after the run. -/
theorem final (c : Dev nD) : (dats m 0 c).arrAt 5 cfg0.N
    = out (m ((c.tc : Thread nD τ).loc main_arg0)) (m ((c.tc : Thread nD τ).loc main_arg1)) (m ((c.tc : Thread nD τ).loc main_arg2)) := by
  refine ((dats m 0 c).arrAt_eq_of_covers 5 (out (V m c main_arg0) (V m c main_arg1) (V m c main_arg2)) (by decide +kernel) fun t hf y => ?_).trans ?_
  · blk_simp
    exact after_apply m c t y
  · rw [V_main_arg0, V_main_arg1, V_main_arg2]

end Cert.Proof.PI

end
-- ==== Proof.Pre.lean ====
/-
  The precondition: where it holds, every query and every key is a real number.
-/
module

public import proofs.«01_k».proof.Pre_finite_scores
public import proofs.«01_k».proof.Proof.Spec
public import Idealize.ShloMosaic.PureOps.Ideal

@[expose] public section

noncomputable section

namespace Cert.Proof.Pre

open Cert.Pre_finite_scores Idealize.ShloMosaic Cert.Proof.Spec

/-- The relation the predicate's broadcasts state. -/
theorem facts : Cert.Pre_finite_scores.Facts where
  bcast_S_S2x8x8192x128 := ⟨by decide, fun a => a.elim0⟩

/-- Above minus infinity and below plus infinity is a real. -/
theorem real_of_between (x : EReal) (h1 : Ideal.cmp .ogt x ⊥ = 1#1) (h2 : Ideal.cmp .olt x ⊤ = 1#1) : ∃ r : ℝ, x = r := by
  induction x using EReal.rec with
  | bot => exact absurd h1 (by simp [Ideal.cmp])
  | coe r => exact ⟨r, rfl⟩
  | top => exact absurd h2 (by simp [Ideal.cmp])

theorem and_ones {a b : BitVec 1} (h : IntOp.andi a b = 1#1) : a = 1#1 ∧ b = 1#1 := by
  revert a b; decide

theorem bot_bits : (Ideal.ofBits .bf16 0xFF80#16 : EReal) = ⊥ := by simp [Ideal.ofBits, Ideal.ieee]
theorem top_bits : (Ideal.ofBits .bf16 0x7F80#16 : EReal) = ⊤ := by simp [Ideal.ofBits, Ideal.ieee]

/-- If the array is real, the rows of a head are real, past the end of the sequence too. -/
theorem rows_real (x : S2x8x8192x128.Idx → EReal) (hx : ∀ y, ∃ r : ℝ, x y = r) (b : Fin 2) (h : Fin 8) : Fin' (rowsOf x b h) := fun t e => by
  by_cases ht : t < 8192
  · rw [rowsOf_lt x b h ht]; exact hx _
  · exact ⟨0, dif_neg ht⟩

variable [Cert.Pre_finite_scores.Facts]

/-- What the predicate says at one element. -/
theorem reals (x0 x1 x2 : S2x8x8192x128.Idx → EReal) (hp : fn (F := Ideal) x0 x1 x2 = fun _ => 1#1) (y : S2x8x8192x128.Idx) :
    (∃ r : ℝ, x0 y = r) ∧ ∃ r : ℝ, x1 y = r := by
  have h : IntOp.andi (IntOp.andi (IntOp.andi (Ideal.cmp .ogt (x0 y) (Ideal.ofBits .bf16 0xFF80#16)) (Ideal.cmp .olt (x0 y) (Ideal.ofBits .bf16 0x7F80#16)))
      (Ideal.cmp .ogt (x1 y) (Ideal.ofBits .bf16 0xFF80#16))) (Ideal.cmp .olt (x1 y) (Ideal.ofBits .bf16 0x7F80#16)) = 1#1 := congrFun hp y
  rw [bot_bits, top_bits] at h
  obtain ⟨h, h4⟩ := and_ones h
  obtain ⟨h, h3⟩ := and_ones h
  obtain ⟨h1, h2⟩ := and_ones h
  exact ⟨real_of_between _ h1 h2, real_of_between _ h3 h4⟩

end Cert.Proof.Pre

end
-- ==== Proof.RI.Run.lean ====
/-
  The reference's run: it ends with its arguments unchanged, and since it has no semaphore every counter is zero.
-/
module

public import proofs.«01_k».proof.Defs
public import proofs.«01_k».proof.Proof.Gen.ReferenceIdeal.Run
public import Idealize.ShloMosaic.Lib.Quiescent

@[expose] public section

noncomputable section

namespace Cert.Proof.RI

open Cert.ReferenceIdeal Cert.ReferenceIdeal.Gen
open Idealize.ShloMosaic Idealize.ShloMosaic.TcCoe Idealize.SL.Sem

variable {F : FTy → Type} [FloatOps F]

/-- The reference runs, its arguments end unchanged, and every counter ends at zero. -/
theorem frame_main (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩)
    (Cert.ReferenceIdeal.Value.run m ρ)

end Cert.Proof.RI

end
-- ==== Proof.RI.Reads.lean ====
/-
  The reference's operations read at an index, for any dilation `d` cutting the 8192 positions into `nb` blocks of 128 rows
  in each of `d` residue classes: the reshape into blocks, the 256 keys of a block (the block before, padded in front of the
  first, then the block itself), the words of the mask, a maximum over the last axis, and the reshapes back to positions.
  `Branch` then says what one dilation's arrays come to, from what each of its stages reads.
-/
module

public import proofs.«01_k».proof.Proof.Spec
public import Idealize.ShloMosaic.Lib.ValueIdxRank6
public import Idealize.ShloMosaic.Lib.WordCmp
public import Idealize.ShloMosaic.Lib.KernelVsHost
public import Idealize.ShloMosaic.Lib.Pipeline.Value

@[expose] public section

noncomputable section

namespace Cert.Proof.RI

open Idealize.ShloMosaic Idealize.ShloMosaic.ValueIdx Cert.Proof.Spec
open scoped BigOperators

/-! ## Blocks of positions -/

/-- A position of the sequence, from its block, place and class. -/
theorem pos_lt {nb d : ℕ} (hT : nb * 128 * d = 8192) (n : Fin nb) (i : Fin 128) (r : Fin d) : (n.val * 128 + i.val) * d + r.val < 8192 := by
  have h1 : n.val * 128 + i.val + 1 ≤ nb * 128 := by omega
  have h2 := Nat.mul_le_mul_right d h1
  rw [Nat.add_mul] at h2
  omega

/-- The reshape of the positions into blocks. -/
theorem rows_apply {α : Type} {nb d : ℕ} (hT : nb * 128 * d = 8192) (X : (⟨4, ![2, 8192, 8, 128]⟩ : Shape).Idx → α)
    (hc : (⟨4, ![2, 8192, 8, 128]⟩ : Shape).ShapeCasts ⟨6, ![2, nb, 128, d, 8, 128]⟩)
    (b : Fin 2) (n : Fin nb) (i : Fin 128) (r : Fin d) (h : Fin 8) (e : Fin 128) :
    shapeCast ⟨6, ![2, nb, 128, d, 8, 128]⟩ X hc (ix6 b n i r h e) = X (ValueIdx.ix4 b ⟨(n.val * 128 + i.val) * d + r.val, pos_lt hT n i r⟩ h e) := by
  refine shapeCast_apply X hc _ _ ?_
  rw [Shape.rowMajor_val_four, Shape.rowMajor_val_six]
  show ((b.val * 8192 + ((n.val * 128 + i.val) * d + r.val)) * 8 + h.val) * 128 + e.val
    = ((((b.val * nb + n.val) * 128 + i.val) * d + r.val) * 8 + h.val) * 128 + e.val
  rw [← hT]; ring

/-- Position `t` lies in block `t / (128 d)`, at place `t % (128 d) / d`, in class `t % d`. -/
theorem pos_split {d : ℕ} (t : ℕ) : (t / (128 * d) * 128 + t % (128 * d) / d) * d + t % d = t := by
  have h1 : t % d = t % (128 * d) % d := (Nat.mod_mod_of_dvd t (Dvd.intro_left 128 rfl)).symm
  have h2 := Nat.div_add_mod (t % (128 * d)) d
  have h3 := Nat.div_add_mod t (128 * d)
  rw [h1]
  calc (t / (128 * d) * 128 + t % (128 * d) / d) * d + t % (128 * d) % d
      = 128 * d * (t / (128 * d)) + (d * (t % (128 * d) / d) + t % (128 * d) % d) := by ring
    _ = t := by rw [h2, h3]

theorem unblock {nb d : ℕ} (hT : nb * 128 * d = 8192) (b t : ℕ) :
    ((b * nb + t / (128 * d)) * 128 + t % (128 * d) / d) * d + t % d = b * 8192 + t := by
  have : ((b * nb + t / (128 * d)) * 128 + t % (128 * d) / d) * d + t % d
      = b * (nb * 128 * d) + ((t / (128 * d) * 128 + t % (128 * d) / d) * d + t % d) := by ring
  rw [this, hT, pos_split]

theorem block_lt {nb d : ℕ} (hT : nb * 128 * d = 8192) (t : Fin 8192) : t.val / (128 * d) < nb :=
  Nat.div_lt_of_lt_mul (by have := t.isLt; rw [Nat.mul_comm, ← Nat.mul_assoc, hT]; exact this)

theorem place_lt {nb d : ℕ} (hT : nb * 128 * d = 8192) (t : ℕ) : t % (128 * d) / d < 128 :=
  Nat.div_lt_of_lt_mul (by
    have hd : 0 < d := Nat.pos_of_ne_zero fun h0 => by rw [h0] at hT; simp at hT
    rw [Nat.mul_comm d]; exact Nat.mod_lt _ (by omega))

theorem class_lt {nb d : ℕ} (hT : nb * 128 * d = 8192) (t : ℕ) : t % d < d :=
  Nat.mod_lt _ (Nat.pos_of_ne_zero fun h0 => by rw [h0] at hT; simp at hT)

/-- The reshape back, of an array over the rows' elements. -/
theorem unrows_apply {α : Type} {nb d : ℕ} (hT : nb * 128 * d = 8192) (X : (⟨6, ![2, nb, 128, d, 8, 128]⟩ : Shape).Idx → α)
    (hc : (⟨6, ![2, nb, 128, d, 8, 128]⟩ : Shape).ShapeCasts ⟨4, ![2, 8192, 8, 128]⟩) (b : Fin 2) (t : Fin 8192) (h : Fin 8) (e : Fin 128) :
    shapeCast ⟨4, ![2, 8192, 8, 128]⟩ X hc (ValueIdx.ix4 b t h e)
      = X (ix6 b ⟨_, block_lt hT t⟩ ⟨_, place_lt hT t.val⟩ ⟨_, class_lt hT t.val⟩ h e) := by
  refine shapeCast_apply X hc _ _ ?_
  rw [Shape.rowMajor_val_four, Shape.rowMajor_val_six]
  show ((((b.val * nb + t.val / (128 * d)) * 128 + t.val % (128 * d) / d) * d + t.val % d) * 8 + h.val) * 128 + e.val
    = ((b.val * 8192 + t.val) * 8 + h.val) * 128 + e.val
  rw [unblock hT]

/-- The reshape back, of an array over the rows. -/
theorem unrows_apply' {α : Type} {nb d : ℕ} (hT : nb * 128 * d = 8192) (X : (⟨5, ![2, nb, 128, d, 8]⟩ : Shape).Idx → α)
    (hc : (⟨5, ![2, nb, 128, d, 8]⟩ : Shape).ShapeCasts ⟨3, ![2, 8192, 8]⟩) (b : Fin 2) (t : Fin 8192) (h : Fin 8) :
    shapeCast ⟨3, ![2, 8192, 8]⟩ X hc (ix3 b t h)
      = X (ix5 b ⟨_, block_lt hT t⟩ ⟨_, place_lt hT t.val⟩ ⟨_, class_lt hT t.val⟩ h) := by
  refine shapeCast_apply X hc _ _ ?_
  rw [Shape.rowMajor_val_three, Shape.rowMajor_val_five]
  show (((b.val * nb + t.val / (128 * d)) * 128 + t.val % (128 * d) / d) * d + t.val % d) * 8 + h.val
    = (b.val * 8192 + t.val) * 8 + h.val
  rw [unblock hT]

/-- Dropping a trailing axis of one. -/
theorem unit_apply {α : Type} {nb d : ℕ} (X : (⟨6, ![2, nb, d, 8, 128, 1]⟩ : Shape).Idx → α)
    (hc : (⟨6, ![2, nb, d, 8, 128, 1]⟩ : Shape).ShapeCasts ⟨5, ![2, nb, d, 8, 128]⟩) (b : Fin 2) (n : Fin nb) (r : Fin d) (h : Fin 8) (i : Fin 128) :
    shapeCast ⟨5, ![2, nb, d, 8, 128]⟩ X hc (ix5 b n r h i) = X (ix6 b n r h i 0) := by
  refine shapeCast_apply X hc _ _ ?_
  rw [Shape.rowMajor_val_six, Shape.rowMajor_val_five]
  show ((((b.val * nb + n.val) * d + r.val) * 8 + h.val) * 128 + i.val) * 1 + 0 = (((b.val * nb + n.val) * d + r.val) * 8 + h.val) * 128 + i.val
  omega

/-- The 256 keys of a block. Before the start of the sequence there is nothing to say. -/
theorem keys_apply {α : Type} {nb m d : ℕ} (hm : nb = m + 1) (hT : nb * 128 * d = 8192) (X : (⟨4, ![2, 8192, 8, 128]⟩ : Shape).Idx → α)
    {u : Shape} (v : u.Idx → α) (hu : 0 < u.numel)
    (hc : (⟨4, ![2, 8192, 8, 128]⟩ : Shape).ShapeCasts ⟨6, ![2, nb, 128, d, 8, 128]⟩)
    (hs : (⟨6, ![2, nb, 128, d, 8, 128]⟩ : Shape).Slices ![0, 0, 0, 0, 0, 0] ⟨6, ![2, m, 128, d, 8, 128]⟩)
    (hp : (⟨6, ![2, m, 128, d, 8, 128]⟩ : Shape).Pads ![0, 1, 0, 0, 0, 0] ![0, 0, 0, 0, 0, 0] ![0, 0, 0, 0, 0, 0] ⟨6, ![2, nb, 128, d, 8, 128]⟩)
    (hk : Shape.Concatenates [(⟨6, ![2, nb, 128, d, 8, 128]⟩ : Shape), ⟨6, ![2, nb, 128, d, 8, 128]⟩] ⟨6, ![2, nb, 256, d, 8, 128]⟩ 2)
    (b : Fin 2) (n : Fin nb) (j : Fin 256) (r : Fin d) (h : Fin 8) (e : Fin 128) (hj : 128 ≤ n.val * 128 + j.val)
    (ht : (n.val * 128 + j.val - 128) * d + r.val < 8192) :
    concatenate ⟨6, ![2, nb, 256, d, 8, 128]⟩ 2
        [⟨⟨6, ![2, nb, 128, d, 8, 128]⟩, pad ⟨6, ![2, nb, 128, d, 8, 128]⟩ ![0, 1, 0, 0, 0, 0] ![0, 0, 0, 0, 0, 0] ![0, 0, 0, 0, 0, 0]
            (extractStridedSlice ⟨6, ![2, m, 128, d, 8, 128]⟩ ![0, 0, 0, 0, 0, 0] (shapeCast ⟨6, ![2, nb, 128, d, 8, 128]⟩ X hc) hs) v hp hu⟩,
         ⟨⟨6, ![2, nb, 128, d, 8, 128]⟩, shapeCast ⟨6, ![2, nb, 128, d, 8, 128]⟩ X hc⟩] hk (ix6 b n j r h e)
      = X (ValueIdx.ix4 b ⟨(n.val * 128 + j.val - 128) * d + r.val, ht⟩ h e) := by
  by_cases hlt : j.val < 128
  · have hn : 1 ≤ n.val := by omega
    have hnm : n.val - 1 < m := by omega
    refine (concatenate_pair_apply_left (t := ⟨6, ![2, nb, 256, d, 8, 128]⟩) (2 : Fin 6) _ _ hk _ rfl (ix6 b n ⟨j.val, hlt⟩ r h e)
      (fun a => by match a with | ⟨0, _⟩ => rfl | ⟨1, _⟩ => rfl | ⟨2, _⟩ => rfl | ⟨3, _⟩ => rfl | ⟨4, _⟩ => rfl | ⟨5, _⟩ => rfl)).trans ?_
    refine (pad_apply_of_inside _ _ _ _ v hp hu _ (ix6 b ⟨n.val - 1, hnm⟩ ⟨j.val, hlt⟩ r h e) (fun a => by
      match a with
      | ⟨0, _⟩ => show b.val = 0 + b.val * (0 + 1); omega
      | ⟨1, _⟩ => show n.val = 1 + (n.val - 1) * (0 + 1); omega
      | ⟨2, _⟩ => show j.val = 0 + j.val * (0 + 1); omega
      | ⟨3, _⟩ => show r.val = 0 + r.val * (0 + 1); omega
      | ⟨4, _⟩ => show h.val = 0 + h.val * (0 + 1); omega
      | ⟨5, _⟩ => show e.val = 0 + e.val * (0 + 1); omega)).trans ?_
    refine (extractStridedSlice_apply _ _ hs _ (ix6 b ⟨n.val - 1, by omega⟩ ⟨j.val, hlt⟩ r h e) (fun a => by
      match a with
      | ⟨0, _⟩ => show b.val = 0 + b.val; omega
      | ⟨1, _⟩ => show n.val - 1 = 0 + (n.val - 1); omega
      | ⟨2, _⟩ => show j.val = 0 + j.val; omega
      | ⟨3, _⟩ => show r.val = 0 + r.val; omega
      | ⟨4, _⟩ => show h.val = 0 + h.val; omega
      | ⟨5, _⟩ => show e.val = 0 + e.val; omega)).trans ?_
    refine (rows_apply hT X hc b _ _ r h e).trans (congrArg (fun t => X (ValueIdx.ix4 b t h e)) (Fin.ext ?_))
    show ((n.val - 1) * 128 + j.val) * d + r.val = (n.val * 128 + j.val - 128) * d + r.val
    rw [show (n.val - 1) * 128 + j.val = n.val * 128 + j.val - 128 by omega]
  · have hj' : j.val - 128 < 128 := by omega
    refine (concatenate_pair_apply_right (t := ⟨6, ![2, nb, 256, d, 8, 128]⟩) (2 : Fin 6) _ _ hk _ rfl rfl (ix6 b n ⟨j.val - 128, hj'⟩ r h e)
      (fun a ha => by match a with | ⟨0, _⟩ => rfl | ⟨1, _⟩ => rfl | ⟨2, _⟩ => exact absurd rfl ha | ⟨3, _⟩ => rfl | ⟨4, _⟩ => rfl | ⟨5, _⟩ => rfl)
      (by show j.val - 128 + 128 = j.val; omega)).trans ?_
    refine (rows_apply hT X hc b _ _ r h e).trans (congrArg (fun t => X (ValueIdx.ix4 b t h e)) (Fin.ext ?_))
    show (n.val * 128 + (j.val - 128)) * d + r.val = (n.val * 128 + j.val - 128) * d + r.val
    rw [show n.val * 128 + (j.val - 128) = n.val * 128 + j.val - 128 by omega]

/-! ## The mask -/

/-- The mask's words at block `n`, place `i` and key `j`. -/
def maskWord (n i j : ℕ) : BitVec 1 :=
  IntOp.andi
    (IntOp.andi
      (IntOp.cmpi .sge (IntOp.subi (IntOp.addi (BitVec.ofNat 32 i) 128#32) (BitVec.ofNat 32 j)) 0#32)
      (IntOp.cmpi .sle (IntOp.subi (IntOp.addi (BitVec.ofNat 32 i) 128#32) (BitVec.ofNat 32 j)) 128#32))
    (IntOp.cmpi .sge (IntOp.subi (IntOp.addi (IntOp.muli (BitVec.ofNat 32 n) 128#32) (BitVec.ofNat 32 j)) 128#32) 0#32)

theorem toInt_diff {a b : ℕ} (ha : a < 2 ^ 20) (hb : b < 2 ^ 20) : (BitVec.ofNat 32 a - BitVec.ofNat 32 b).toInt = (a : ℤ) - b := by
  have small : ∀ c : ℕ, c < 2 ^ 20 → (BitVec.ofNat 32 c).toInt = (c : ℤ) := fun c hc => by
    have hn : (BitVec.ofNat 32 c).toNat = c := by rw [BitVec.toNat_ofNat]; omega
    rw [BitVec.toInt_eq_toNat_of_lt (by omega), hn]
  rw [BitVec.toInt_sub, small a ha, small b hb]
  simp only [Int.bmod]
  omega

/-- They say whether the key is seen. -/
theorem maskWord_eq {n i : ℕ} (hn : n < 64) (hi : i < 128) (j : Fin 256) : maskWord n i j.val = BitVec.ofBool (decide (Seen n i j)) := by
  have hj := j.isLt
  have e1 : IntOp.subi (IntOp.addi (BitVec.ofNat 32 i) 128#32) (BitVec.ofNat 32 j.val) = BitVec.ofNat 32 (i + 128) - BitVec.ofNat 32 j.val := by
    show (BitVec.ofNat 32 i + BitVec.ofNat 32 128) - _ = _
    rw [← BitVec.ofNat_add]
  have e2 : IntOp.subi (IntOp.addi (IntOp.muli (BitVec.ofNat 32 n) 128#32) (BitVec.ofNat 32 j.val)) 128#32
      = BitVec.ofNat 32 (n * 128 + j.val) - BitVec.ofNat 32 128 := by
    show (BitVec.ofNat 32 n * BitVec.ofNat 32 128 + _) - _ = _
    rw [← BitVec.ofNat_mul, ← BitVec.ofNat_add]
  unfold maskWord
  rw [e1, e2, WordCmp.cmpi_sge_eq, WordCmp.cmpi_sle_eq, WordCmp.cmpi_sge_eq, toInt_diff (by omega) (by omega), toInt_diff (by omega) (by omega),
    WordCmp.andi_ofBool, WordCmp.andi_ofBool]
  refine congrArg BitVec.ofBool ?_
  rw [← Bool.decide_and, ← Bool.decide_and]
  refine decide_eq_decide.mpr ?_
  show ((0#32).toInt ≤ _ ∧ _ ≤ (128#32).toInt) ∧ (0#32).toInt ≤ _ ↔ _
  have h0 : (0#32).toInt = 0 := by decide
  have h128 : (128#32).toInt = 128 := by decide
  rw [h0, h128]
  unfold Seen
  omega

/-- A selection under them. -/
theorem masked {n i : ℕ} (hn : n < 64) (hi : i < 128) (j : Fin 256) (x : EReal) :
    Scalar.select (maskWord n i j.val) x (Ideal.ofBits .f32 0xFF800000#32 : EReal) = if Seen n i j then x else ⊥ := by
  have hb : (Ideal.ofBits .f32 0xFF800000#32 : EReal) = ⊥ := by simp [Ideal.ofBits, Ideal.ieee]
  rw [maskWord_eq hn hi j, hb]
  by_cases h : Seen n i j <;> simp [Scalar.select, h]

/-! ## A maximum over one axis -/

/-- From minus infinity the host's reduce with a maximum body is the maximum of the scores along the axis. -/
theorem hostMax_apply {s t : Shape} {a : Fin s.rank} (x : FVec Ideal s .f32) (h' : s.ReducesTo [a] t) (h : s.Reduces [a] t)
    (hu : 0 < (⟨0, ![]⟩ : Shape).numel) (j : t.Idx) :
    Host.reduce FloatOps.maximumf x (constant (⟨0, ![]⟩ : Shape) .f32 0xFF800000#32) h' hu j
      = Finset.univ.fold max (⊥ : EReal) (fun k => x (h.lift j k)) := by
  rw [Host.reduce_eq_fold_single FloatOps.maximumf x _ h' h hu]
  have hb : (Ideal.ofBits .f32 0xFF800000#32 : EReal) = ⊥ := by simp [Ideal.ofBits, Ideal.ieee]
  exact congrArg (fun z : EReal => Finset.univ.fold max z (fun k => x (h.lift j k))) hb

/-- Along the last axis of the scores. -/
theorem lastMax_apply {nb d : ℕ} (x : FVec Ideal ⟨6, ![2, nb, d, 8, 128, 256]⟩ .f32)
    (h' : (⟨6, ![2, nb, d, 8, 128, 256]⟩ : Shape).ReducesTo [5] ⟨5, ![2, nb, d, 8, 128]⟩)
    (h : (⟨6, ![2, nb, d, 8, 128, 256]⟩ : Shape).Reduces [5] ⟨5, ![2, nb, d, 8, 128]⟩)
    (hu : 0 < (⟨0, ![]⟩ : Shape).numel) (b : Fin 2) (n : Fin nb) (r : Fin d) (h8 : Fin 8) (i : Fin 128) :
    Host.reduce FloatOps.maximumf x (constant (⟨0, ![]⟩ : Shape) .f32 0xFF800000#32) h' hu (ix5 b n r h8 i)
      = Finset.univ.fold max (⊥ : EReal) fun j : Fin 256 => x (ix6 b n r h8 i j) := by
  refine (hostMax_apply x h' h hu _).trans (congrArg (fun f => Finset.univ.fold max (⊥ : EReal) f) (funext fun j => congrArg x (funext fun a => Fin.ext ?_)))
  match a with | ⟨0, _⟩ => rfl | ⟨1, _⟩ => rfl | ⟨2, _⟩ => rfl | ⟨3, _⟩ => rfl | ⟨4, _⟩ => rfl | ⟨5, _⟩ => rfl

/-! ## An array at an index, by its coordinates -/

theorem at6 {n0 n1 n2 n3 n4 n5 : ℕ} (f : (⟨6, ![n0, n1, n2, n3, n4, n5]⟩ : Shape).Idx → EReal) (j : (⟨6, ![n0, n1, n2, n3, n4, n5]⟩ : Shape).Idx) :
    f j = f (ix6 (j 0) (j 1) (j 2) (j 3) (j 4) (j 5)) := congrArg f (eq_ix6 j)
theorem at5 {n0 n1 n2 n3 n4 : ℕ} (f : (⟨5, ![n0, n1, n2, n3, n4]⟩ : Shape).Idx → EReal) (j : (⟨5, ![n0, n1, n2, n3, n4]⟩ : Shape).Idx) :
    f j = f (ix5 (j 0) (j 1) (j 2) (j 3) (j 4)) := congrArg f (eq_ix5 j)
theorem at4 {n0 n1 n2 n3 : ℕ} (f : (⟨4, ![n0, n1, n2, n3]⟩ : Shape).Idx → EReal) (j : (⟨4, ![n0, n1, n2, n3]⟩ : Shape).Idx) :
    f j = f (ValueIdx.ix4 (j 0) (j 1) (j 2) (j 3)) := congrArg f (ValueIdx.eq_ix4 j)
theorem at3 {n0 n1 n2 : ℕ} (f : (⟨3, ![n0, n1, n2]⟩ : Shape).Idx → EReal) (j : (⟨3, ![n0, n1, n2]⟩ : Shape).Idx) :
    f j = f (ix3 (j 0) (j 1) (j 2)) := congrArg f (eq_ix3 j)

/-! ## One dilation -/

/-- The blocks of an array whose positions come before its heads: its rows. -/
theorem rows_read {nb d : ℕ} (hT : nb * 128 * d = 8192) (x : (⟨4, ![2, 8, 8192, 128]⟩ : Shape).Idx → EReal) (X : (⟨4, ![2, 8192, 8, 128]⟩ : Shape).Idx → EReal)
    (hX : ∀ b t h e, X (ValueIdx.ix4 b t h e) = x (ValueIdx.ix4 b h t e))
    (hc : (⟨4, ![2, 8192, 8, 128]⟩ : Shape).ShapeCasts ⟨6, ![2, nb, 128, d, 8, 128]⟩)
    (b : Fin 2) (n : Fin nb) (i : Fin 128) (r : Fin d) (h : Fin 8) (e : Fin 128) :
    shapeCast ⟨6, ![2, nb, 128, d, 8, 128]⟩ X hc (ix6 b n i r h e) = rowsOf x b h (rowPos d n.val i.val r.val) e :=
  (rows_apply hT X hc b n i r h e).trans ((hX _ _ _ _).trans (rowsOf_lt x b h (pos_lt hT n i r) e).symm)

theorem key_lt {nb d : ℕ} (hT : nb * 128 * d = 8192) (n : Fin nb) (j : Fin 256) (r : Fin d) : (n.val * 128 + j.val - 128) * d + r.val < 8192 := by
  have h1 : n.val * 128 + j.val - 128 + 1 ≤ nb * 128 := by omega
  have h2 := Nat.mul_le_mul_right d h1
  rw [Nat.add_mul] at h2
  omega

/-- The keys of its blocks: the rows at the keys' positions. -/
theorem keys_read {nb m d : ℕ} (hm : nb = m + 1) (hT : nb * 128 * d = 8192) (x : (⟨4, ![2, 8, 8192, 128]⟩ : Shape).Idx → EReal)
    (X : (⟨4, ![2, 8192, 8, 128]⟩ : Shape).Idx → EReal) (hX : ∀ b t h e, X (ValueIdx.ix4 b t h e) = x (ValueIdx.ix4 b h t e))
    {u : Shape} (v : u.Idx → EReal) (hu : 0 < u.numel)
    (hc : (⟨4, ![2, 8192, 8, 128]⟩ : Shape).ShapeCasts ⟨6, ![2, nb, 128, d, 8, 128]⟩)
    (hs : (⟨6, ![2, nb, 128, d, 8, 128]⟩ : Shape).Slices ![0, 0, 0, 0, 0, 0] ⟨6, ![2, m, 128, d, 8, 128]⟩)
    (hp : (⟨6, ![2, m, 128, d, 8, 128]⟩ : Shape).Pads ![0, 1, 0, 0, 0, 0] ![0, 0, 0, 0, 0, 0] ![0, 0, 0, 0, 0, 0] ⟨6, ![2, nb, 128, d, 8, 128]⟩)
    (hk : Shape.Concatenates [(⟨6, ![2, nb, 128, d, 8, 128]⟩ : Shape), ⟨6, ![2, nb, 128, d, 8, 128]⟩] ⟨6, ![2, nb, 256, d, 8, 128]⟩ 2)
    (b : Fin 2) (n : Fin nb) (j : Fin 256) (r : Fin d) (h : Fin 8) (e : Fin 128) (hj : 128 ≤ n.val * 128 + j.val) :
    concatenate ⟨6, ![2, nb, 256, d, 8, 128]⟩ 2
        [⟨⟨6, ![2, nb, 128, d, 8, 128]⟩, pad ⟨6, ![2, nb, 128, d, 8, 128]⟩ ![0, 1, 0, 0, 0, 0] ![0, 0, 0, 0, 0, 0] ![0, 0, 0, 0, 0, 0]
            (extractStridedSlice ⟨6, ![2, m, 128, d, 8, 128]⟩ ![0, 0, 0, 0, 0, 0] (shapeCast ⟨6, ![2, nb, 128, d, 8, 128]⟩ X hc) hs) v hp hu⟩,
         ⟨⟨6, ![2, nb, 128, d, 8, 128]⟩, shapeCast ⟨6, ![2, nb, 128, d, 8, 128]⟩ X hc⟩] hk (ix6 b n j r h e)
      = rowsOf x b h (keyPos d n.val r.val j) e :=
  (keys_apply hm hT X v hu hc hs hp hk b n j r h e hj (key_lt hT n j r)).trans ((hX _ _ _ _).trans (rowsOf_lt x b h (key_lt hT n j r) e).symm)

/-- What the stages of one dilation read: its queries `q`, keys `k` and values `v`, the masked scores `s`, their maximum `m`, the weights
    `w`, their total `l`, the weighted sum `o` of the values, its quotient `y` by the total, and the log-total `z`. -/
structure Branch (nb d : ℕ) (x0 x1 x2 : (⟨4, ![2, 8, 8192, 128]⟩ : Shape).Idx → EReal)
    (q : (⟨6, ![2, nb, 128, d, 8, 128]⟩ : Shape).Idx → EReal) (k v : (⟨6, ![2, nb, 256, d, 8, 128]⟩ : Shape).Idx → EReal)
    (s w : (⟨6, ![2, nb, d, 8, 128, 256]⟩ : Shape).Idx → EReal) (m l : (⟨5, ![2, nb, d, 8, 128]⟩ : Shape).Idx → EReal)
    (o : (⟨6, ![2, nb, d, 8, 128, 128]⟩ : Shape).Idx → EReal) (y : (⟨6, ![2, nb, 128, d, 8, 128]⟩ : Shape).Idx → EReal)
    (z : (⟨5, ![2, nb, 128, d, 8]⟩ : Shape).Idx → EReal) : Prop where
  blocks : nb * 128 * d = 8192 ∧ nb ≤ 64
  query : ∀ b n i r h e, q (ix6 b n i r h e) = rowsOf x0 b h (rowPos d n.val i.val r.val) e
  key : ∀ b n j r h e, 128 ≤ n.val * 128 + j.val → k (ix6 b n j r h e) = rowsOf x1 b h (keyPos d n.val r.val j) e
  value : ∀ b n j r h e, 128 ≤ n.val * 128 + j.val → v (ix6 b n j r h e) = rowsOf x2 b h (keyPos d n.val r.val j) e
  score : ∀ b n r h i j, s (ix6 b n r h i j) = Scalar.select (maskWord n.val i.val j.val)
    (∑ e : Fin 128, q (ix6 b n i r h e) * k (ix6 b n j r h e)) (Ideal.ofBits .f32 0xFF800000#32 : EReal)
  maximum : ∀ b n r h i, m (ix5 b n r h i) = Finset.univ.fold max ⊥ fun j : Fin 256 => s (ix6 b n r h i j)
  weight : ∀ b n r h i j, w (ix6 b n r h i j) = Ideal.exp (s (ix6 b n r h i j) - m (ix5 b n r h i))
  total : ∀ b n r h i, l (ix5 b n r h i) = Ideal.ofBits .f32 0x00000000#32 + ∑ j : Fin 256, w (ix6 b n r h i j)
  sum : ∀ b n r h e i, o (ix6 b n r h e i) = ∑ j : Fin 256, v (ix6 b n j r h e) * w (ix6 b n r h i j)
  mean : ∀ b n i r h e, y (ix6 b n i r h e) = Ideal.div (o (ix6 b n r h e i)) (l (ix5 b n r h i))
  logTotal : ∀ b n i r h, z (ix5 b n i r h) = m (ix5 b n r h i) + Ideal.log (l (ix5 b n r h i))

namespace Branch

variable {nb d : ℕ} {x0 x1 x2 : (⟨4, ![2, 8, 8192, 128]⟩ : Shape).Idx → EReal}
  {q : (⟨6, ![2, nb, 128, d, 8, 128]⟩ : Shape).Idx → EReal} {k v : (⟨6, ![2, nb, 256, d, 8, 128]⟩ : Shape).Idx → EReal}
  {s w : (⟨6, ![2, nb, d, 8, 128, 256]⟩ : Shape).Idx → EReal} {m l : (⟨5, ![2, nb, d, 8, 128]⟩ : Shape).Idx → EReal}
  {o : (⟨6, ![2, nb, d, 8, 128, 128]⟩ : Shape).Idx → EReal} {y : (⟨6, ![2, nb, 128, d, 8, 128]⟩ : Shape).Idx → EReal}
  {z : (⟨5, ![2, nb, 128, d, 8]⟩ : Shape).Idx → EReal}

/-- The masked scores. -/
theorem score_eq (B : Branch nb d x0 x1 x2 q k v s w m l o y z) (b : Fin 2) (n : Fin nb) (r : Fin d) (h : Fin 8) (i : Fin 128) :
    (fun j => s (ix6 b n r h i j)) = Spec.score d n.val i.val r.val (rowsOf x0 b h) (rowsOf x1 b h) := by
  funext j
  rw [B.score, masked (Nat.lt_of_lt_of_le n.isLt B.blocks.2) i.isLt]
  unfold Spec.score
  by_cases hS : Seen n.val i.val j
  · rw [if_pos hS, if_pos hS]
    exact Finset.sum_congr rfl fun e _ => by rw [B.query, B.key _ _ _ _ _ _ hS.2.2]
  · rw [if_neg hS, if_neg hS]

theorem maximum_eq (B : Branch nb d x0 x1 x2 q k v s w m l o y z) (b : Fin 2) (n : Fin nb) (r : Fin d) (h : Fin 8) (i : Fin 128) :
    m (ix5 b n r h i) = top (Spec.score d n.val i.val r.val (rowsOf x0 b h) (rowsOf x1 b h)) := by
  rw [B.maximum, B.score_eq]; rfl

theorem weight_eq (B : Branch nb d x0 x1 x2 q k v s w m l o y z) (b : Fin 2) (n : Fin nb) (r : Fin d) (h : Fin 8) (i : Fin 128) (j : Fin 256) :
    w (ix6 b n r h i j) = Spec.weight (Spec.score d n.val i.val r.val (rowsOf x0 b h) (rowsOf x1 b h)) j := by
  rw [B.weight, B.maximum_eq, congrFun (B.score_eq b n r h i) j]; rfl

theorem total_eq (B : Branch nb d x0 x1 x2 q k v s w m l o y z) (b : Fin 2) (n : Fin nb) (r : Fin d) (h : Fin 8) (i : Fin 128) :
    l (ix5 b n r h i) = Spec.total (Spec.score d n.val i.val r.val (rowsOf x0 b h) (rowsOf x1 b h)) := by
  rw [B.total, Ideal.ofBits_zero_f32, zero_add]
  exact Finset.sum_congr rfl fun j _ => B.weight_eq b n r h i j

theorem sum_eq (B : Branch nb d x0 x1 x2 q k v s w m l o y z) (b : Fin 2) (n : Fin nb) (r : Fin d) (h : Fin 8) (e i : Fin 128) :
    o (ix6 b n r h e i) = blendAt d n.val i.val r.val (rowsOf x0 b h) (rowsOf x1 b h) (rowsOf x2 b h) e := by
  rw [B.sum, ← blendAt_of d n.val i.val r.val _ _ _ e (fun j => v (ix6 b n j r h e)) fun j hS => B.value b n j r h e hS.2.2]
  exact Finset.sum_congr rfl fun j _ => by rw [B.weight_eq, mul_comm]

/-- The log-total of the row at position `t`. -/
theorem logTotal_eq (B : Branch nb d x0 x1 x2 q k v s w m l o y z) (hc : (⟨5, ![2, nb, 128, d, 8]⟩ : Shape).ShapeCasts ⟨3, ![2, 8192, 8]⟩)
    (b : Fin 2) (t : Fin 8192) (h : Fin 8) :
    shapeCast ⟨3, ![2, 8192, 8]⟩ z hc (ix3 b t h)
      = top (rowScore d t.val (rowsOf x0 b h) (rowsOf x1 b h)) + Ideal.log (Spec.total (rowScore d t.val (rowsOf x0 b h) (rowsOf x1 b h))) := by
  rw [unrows_apply' B.blocks.1, B.logTotal, B.maximum_eq, B.total_eq]; rfl

/-- The row's normalised sum of values. -/
theorem mean_eq (B : Branch nb d x0 x1 x2 q k v s w m l o y z) (hc : (⟨6, ![2, nb, 128, d, 8, 128]⟩ : Shape).ShapeCasts ⟨4, ![2, 8192, 8, 128]⟩)
    (b : Fin 2) (t : Fin 8192) (h : Fin 8) (e : Fin 128) :
    shapeCast ⟨4, ![2, 8192, 8, 128]⟩ y hc (ValueIdx.ix4 b t h e)
      = Ideal.div (rowBlend d t.val (rowsOf x0 b h) (rowsOf x1 b h) (rowsOf x2 b h) e) (Spec.total (rowScore d t.val (rowsOf x0 b h) (rowsOf x1 b h))) := by
  rw [unrows_apply B.blocks.1, B.mean, B.sum_eq, B.total_eq]; rfl

end Branch

/-! ## The mixture of the three -/

/-- Three slabs stacked, over the rows. -/
theorem stack_apply (A : Fin 3 → (⟨4, ![1, 2, 8192, 8]⟩ : Shape).Idx → EReal)
    (hk : Shape.Concatenates [(⟨4, ![1, 2, 8192, 8]⟩ : Shape), ⟨4, ![1, 2, 8192, 8]⟩, ⟨4, ![1, 2, 8192, 8]⟩] ⟨4, ![3, 2, 8192, 8]⟩ 0)
    (k : Fin 3) (b : Fin 2) (t : Fin 8192) (h : Fin 8) :
    concatenate ⟨4, ![3, 2, 8192, 8]⟩ 0 [⟨_, A 0⟩, ⟨_, A 1⟩, ⟨_, A 2⟩] hk (ValueIdx.ix4 k b t h) = A k (ValueIdx.ix4 0 b t h) := by
  have piece := fun (p : ℕ) hp x hx hpre ha => concatenate_apply_piece (t := ⟨4, ![3, 2, 8192, 8]⟩) (0 : Fin 4)
    [⟨_, A 0⟩, ⟨_, A 1⟩, ⟨_, A 2⟩] hk (ValueIdx.ix4 k b t h) p hp ⟨4, ![1, 2, 8192, 8]⟩ x hx rfl p hpre (ValueIdx.ix4 0 b t h)
    (fun a ha => by match a with | ⟨0, _⟩ => exact absurd rfl ha | ⟨1, _⟩ => rfl | ⟨2, _⟩ => rfl | ⟨3, _⟩ => rfl) ha
  match k with
  | 0 => exact piece 0 (show 0 < 3 by decide) (A 0) rfl rfl rfl
  | 1 => exact piece 1 (show 1 < 3 by decide) (A 1) rfl rfl rfl
  | 2 => exact piece 2 (show 2 < 3 by decide) (A 2) rfl rfl rfl

/-- Three slabs stacked, over the rows' elements. -/
theorem stack_apply' (A : Fin 3 → (⟨5, ![1, 2, 8192, 8, 128]⟩ : Shape).Idx → EReal)
    (hk : Shape.Concatenates [(⟨5, ![1, 2, 8192, 8, 128]⟩ : Shape), ⟨5, ![1, 2, 8192, 8, 128]⟩, ⟨5, ![1, 2, 8192, 8, 128]⟩] ⟨5, ![3, 2, 8192, 8, 128]⟩ 0)
    (k : Fin 3) (b : Fin 2) (t : Fin 8192) (h : Fin 8) (e : Fin 128) :
    concatenate ⟨5, ![3, 2, 8192, 8, 128]⟩ 0 [⟨_, A 0⟩, ⟨_, A 1⟩, ⟨_, A 2⟩] hk (ix5 k b t h e) = A k (ix5 0 b t h e) := by
  have piece := fun (p : ℕ) hp x hx hpre ha => concatenate_apply_piece (t := ⟨5, ![3, 2, 8192, 8, 128]⟩) (0 : Fin 5)
    [⟨_, A 0⟩, ⟨_, A 1⟩, ⟨_, A 2⟩] hk (ix5 k b t h e) p hp ⟨5, ![1, 2, 8192, 8, 128]⟩ x hx rfl p hpre (ix5 0 b t h e)
    (fun a ha => by match a with | ⟨0, _⟩ => exact absurd rfl ha | ⟨1, _⟩ => rfl | ⟨2, _⟩ => rfl | ⟨3, _⟩ => rfl | ⟨4, _⟩ => rfl) ha
  match k with
  | 0 => exact piece 0 (show 0 < 3 by decide) (A 0) rfl rfl rfl
  | 1 => exact piece 1 (show 1 < 3 by decide) (A 1) rfl rfl rfl
  | 2 => exact piece 2 (show 2 < 3 by decide) (A 2) rfl rfl rfl

/-- From minus infinity, the maximum over the three. -/
theorem stackMax_apply (x : FVec Ideal ⟨4, ![3, 2, 8192, 8]⟩ .f32) (h' : (⟨4, ![3, 2, 8192, 8]⟩ : Shape).ReducesTo [0] ⟨3, ![2, 8192, 8]⟩)
    (h : (⟨4, ![3, 2, 8192, 8]⟩ : Shape).Reduces [0] ⟨3, ![2, 8192, 8]⟩) (hu : 0 < (⟨0, ![]⟩ : Shape).numel) (b : Fin 2) (t : Fin 8192) (h8 : Fin 8) :
    Host.reduce FloatOps.maximumf x (constant (⟨0, ![]⟩ : Shape) .f32 0xFF800000#32) h' hu (ix3 b t h8)
      = Finset.univ.fold max (⊥ : EReal) fun k : Fin 3 => x (ValueIdx.ix4 k b t h8) := by
  refine (hostMax_apply x h' h hu _).trans (congrArg (fun f => Finset.univ.fold max (⊥ : EReal) f) (funext fun j => congrArg x (funext fun a => Fin.ext ?_)))
  match a with | ⟨0, _⟩ => rfl | ⟨1, _⟩ => rfl | ⟨2, _⟩ => rfl | ⟨3, _⟩ => rfl

/-- What the mixing stages read: the three log-totals `z` stacked in `s`, their maximum `m`, the weights `w` and their total `l`, the three
    normalised sums `y` stacked in `a`, and their weighed sum `o`. -/
structure Mixture (z : Fin 3 → (⟨3, ![2, 8192, 8]⟩ : Shape).Idx → EReal) (y : Fin 3 → (⟨4, ![2, 8192, 8, 128]⟩ : Shape).Idx → EReal)
    (s w : (⟨4, ![3, 2, 8192, 8]⟩ : Shape).Idx → EReal) (m l : (⟨3, ![2, 8192, 8]⟩ : Shape).Idx → EReal)
    (a : (⟨5, ![3, 2, 8192, 8, 128]⟩ : Shape).Idx → EReal) (o : (⟨4, ![2, 8192, 8, 128]⟩ : Shape).Idx → EReal) : Prop where
  stack : ∀ k b t h, s (ValueIdx.ix4 k b t h) = z k (ix3 b t h)
  maximum : ∀ b t h, m (ix3 b t h) = max (Ideal.ofBits .f32 0xFF800000#32 : EReal) (Finset.univ.fold max ⊥ fun k : Fin 3 => s (ValueIdx.ix4 k b t h))
  weight : ∀ k b t h, w (ValueIdx.ix4 k b t h) = Ideal.exp (s (ValueIdx.ix4 k b t h) - m (ix3 b t h))
  total : ∀ b t h, l (ix3 b t h) = Ideal.ofBits .f32 0x00000000#32 + ∑ k : Fin 3, w (ValueIdx.ix4 k b t h)
  stack' : ∀ k b t h e, a (ix5 k b t h e) = y k (ValueIdx.ix4 b t h e)
  sum : ∀ b t h e, o (ValueIdx.ix4 b t h e)
    = Ideal.ofBits .f32 0x00000000#32 + ∑ k : Fin 3, Ideal.div (w (ValueIdx.ix4 k b t h)) (l (ix3 b t h)) * a (ix5 k b t h e)

/-- The mixture of the three dilations' rows. -/
theorem Mixture.sum_eq {z : Fin 3 → (⟨3, ![2, 8192, 8]⟩ : Shape).Idx → EReal} {y : Fin 3 → (⟨4, ![2, 8192, 8, 128]⟩ : Shape).Idx → EReal}
    {s w : (⟨4, ![3, 2, 8192, 8]⟩ : Shape).Idx → EReal} {m l : (⟨3, ![2, 8192, 8]⟩ : Shape).Idx → EReal}
    {a : (⟨5, ![3, 2, 8192, 8, 128]⟩ : Shape).Idx → EReal} {o : (⟨4, ![2, 8192, 8, 128]⟩ : Shape).Idx → EReal} (B : Mixture z y s w m l a o)
    (Q K V : ℕ → Fin 128 → EReal) (b : Fin 2) (t : Fin 8192) (h : Fin 8) (e : Fin 128)
    (hz : ∀ k, z k (ix3 b t h) = top (rowScore (dilation k) t.val Q K) + Ideal.log (Spec.total (rowScore (dilation k) t.val Q K)))
    (hy : ∀ k, y k (ValueIdx.ix4 b t h e) = Ideal.div (rowBlend (dilation k) t.val Q K V e) (Spec.total (rowScore (dilation k) t.val Q K))) :
    o (ValueIdx.ix4 b t h e) = outR Q K V t.val e := by
  have hb : (Ideal.ofBits .f32 0xFF800000#32 : EReal) = ⊥ := by simp [Ideal.ofBits, Ideal.ieee]
  have hs : (fun k : Fin 3 => s (ValueIdx.ix4 k b t h))
      = lse (fun p => top (rowScore (dilation p) t.val Q K)) (fun p => Spec.total (rowScore (dilation p) t.val Q K)) :=
    funext fun k => (B.stack k b t h).trans (hz k)
  have hm : m (ix3 b t h) = lseTop (fun p => top (rowScore (dilation p) t.val Q K)) (fun p => Spec.total (rowScore (dilation p) t.val Q K)) := by
    rw [B.maximum, hs, hb]; rfl
  have hw : ∀ k, w (ValueIdx.ix4 k b t h)
      = lseWeight (fun p => top (rowScore (dilation p) t.val Q K)) (fun p => Spec.total (rowScore (dilation p) t.val Q K)) k := fun k => by
    rw [B.weight, hm, congrFun hs k]; rfl
  rw [B.sum, Ideal.ofBits_zero_f32, B.total, Ideal.ofBits_zero_f32]
  unfold outR mixR
  refine congrArg (0 + ·) (Finset.sum_congr rfl fun k _ => ?_)
  rw [hw k, B.stack', hy k, Finset.sum_congr rfl fun k _ => hw k]

end Cert.Proof.RI

end
-- ==== Proof.RI.Value.lean ====
/-
  What the reference computes, read off its stages: each dilation is a `Branch`, and their three log-totals and normalised
  sums are mixed by the softmax of the log-totals.
-/
module

public import proofs.«01_k».proof.Proof.Gen.ReferenceIdeal.Run
public import proofs.«01_k».proof.Proof.Gen.ReferenceIdeal.Read
public import proofs.«01_k».proof.Proof.RI.Reads

@[expose] public section

noncomputable section

namespace Cert.Proof.RI

open Cert.ReferenceIdeal Cert.ReferenceIdeal.Gen Cert.ReferenceIdeal.Read Idealize.ShloMosaic Idealize.ShloMosaic.ValueIdx Cert.Proof.Spec
open scoped BigOperators

/-- The three arguments' contents. -/
abbrev Arg := (⟨S2x8x8192x128, .bf16⟩ : BufTy).Contents (Elt Ideal)

/-! ## The positions before the heads -/

theorem v1_read (x : Arg) (b t h e) : val_main_v1 (F := Ideal) x (ValueIdx.ix4 b t h e) = x (ValueIdx.ix4 b h t e) := by
  rw [val_main_v1_apply]
  exact congrArg x (funext fun a => by match a with | ⟨0, _⟩ => rfl | ⟨1, _⟩ => rfl | ⟨2, _⟩ => rfl | ⟨3, _⟩ => rfl)
theorem v3_read (x : Arg) (b t h e) : val_main_v3 (F := Ideal) x (ValueIdx.ix4 b t h e) = x (ValueIdx.ix4 b h t e) := by
  rw [show val_main_v3 (F := Ideal) x = val_main_v1 x from rfl]; exact v1_read x b t h e
theorem v5_read (x : Arg) (b t h e) : val_main_v5 (F := Ideal) x (ValueIdx.ix4 b t h e) = x (ValueIdx.ix4 b h t e) := by
  rw [show val_main_v5 (F := Ideal) x = val_main_v1 x from rfl]; exact v1_read x b t h e

/-! ## The three dilations -/

theorem mask1 (b : Fin 2) (n : Fin 64) (r : Fin 1) (h : Fin 8) (i : Fin 128) (j : Fin 256) :
    val_main_call2_v1 (F := Ideal) (ix6 b n r h i j) = maskWord n.val i.val j.val := by
  rfl

theorem branch1 (x0 x1 x2 : Arg) : Branch 64 1 x0 x1 x2 (val_main_v6 (F := Ideal) x0) (val_main_v10 (F := Ideal) x1) (val_main_v14 (F := Ideal) x2)
    (val_main_v47 (F := Ideal) x0 x1) (val_main_v52 (F := Ideal) x0 x1) (val_main_v48 (F := Ideal) x0 x1) (val_main_v53 (F := Ideal) x0 x1)
    (val_main_v54 (F := Ideal) x0 x1 x2) (val_main_v59 (F := Ideal) x0 x1 x2) (val_main_v63 (F := Ideal) x0 x1) where
  blocks := ⟨rfl, le_refl _⟩
  query b n i r h e := rows_read rfl x0 (val_main_v1 (F := Ideal) x0) (v1_read x0) _ b n i r h e
  key b n j r h e hj := keys_read (m := 63) rfl rfl x1 (val_main_v3 (F := Ideal) x1) (v3_read x1) _ _ _ _ _ _ b n j r h e hj
  value b n j r h e hj := keys_read (m := 63) rfl rfl x2 (val_main_v5 (F := Ideal) x2) (v5_read x2) _ _ _ _ _ _ b n j r h e hj
  score b n r h i j := by
    obtain rfl : r = 0 := Subsingleton.elim _ _
    rw [val_main_v47_apply, mask1, val_main_v15_apply]
    exact congrArg (fun x => Scalar.select (maskWord n.val i.val j.val) x (Ideal.ofBits .f32 0xFF800000#32 : EReal))
      (Finset.sum_congr rfl fun e _ => congrArg₂ (· * ·) (at6 (val_main_v6 (F := Ideal) x0) _) (at6 (val_main_v10 (F := Ideal) x1) _))
  maximum b n r h i := lastMax_apply (val_main_v47 (F := Ideal) x0 x1) _ (by decide) _ b n r h i
  weight b n r h i j := by
    obtain rfl : r = 0 := Subsingleton.elim _ _
    rw [val_main_v52_apply, val_main_v51_apply, val_main_v50_apply, val_main_v49_apply]
    exact congrArg (fun x => Ideal.exp (val_main_v47 (F := Ideal) x0 x1 (ix6 b n 0 h i j) - x)) (at5 (val_main_v48 (F := Ideal) x0 x1) _)
  total b n r h i := by
    rw [val_main_v53_apply]
    exact congrArg (fun x => Ideal.ofBits .f32 0x00000000#32 + x) (Finset.sum_congr rfl fun j _ => at6 (val_main_v52 (F := Ideal) x0 x1) _)
  sum b n r h e i := by
    rw [val_main_v54_apply]
    exact Finset.sum_congr rfl fun j _ => congrArg₂ (· * ·) (at6 (val_main_v14 (F := Ideal) x2) _) (at6 (val_main_v52 (F := Ideal) x0 x1) _)
  mean b n i r h e := by
    obtain rfl : r = 0 := Subsingleton.elim _ _
    rw [val_main_v59_apply, val_main_v55_apply, val_main_v58_apply, val_main_v57_apply, val_main_v56_apply]
    exact congrArg₂ Ideal.div (at6 (val_main_v54 (F := Ideal) x0 x1 x2) _) (at5 (val_main_v53 (F := Ideal) x0 x1) _)
  logTotal b n i r h := by
    obtain rfl : r = 0 := Subsingleton.elim _ _
    rw [val_main_v63_apply, val_main_v62_apply, val_main_v61_apply, val_main_v60]
    refine congrArg₂ (fun x y : EReal => x + Ideal.log y) ?_ (at5 (val_main_v53 (F := Ideal) x0 x1) _)
    refine (at5 (shapeCast S2x64x1x8x128 (val_main_v49 (F := Ideal) x0 x1) _) _).trans ?_
    refine (unit_apply (val_main_v49 (F := Ideal) x0 x1) _ b n 0 h i).trans ?_
    rw [val_main_v49_apply]
    exact at5 (val_main_v48 (F := Ideal) x0 x1) _

theorem mask2 (b : Fin 2) (n : Fin 16) (r : Fin 4) (h : Fin 8) (i : Fin 128) (j : Fin 256) :
    val_main_call5_v1 (F := Ideal) (ix6 b n r h i j) = maskWord n.val i.val j.val := by
  rfl

theorem branch2 (x0 x1 x2 : Arg) : Branch 16 4 x0 x1 x2 (val_main_v66 (F := Ideal) x0) (val_main_v70 (F := Ideal) x1) (val_main_v74 (F := Ideal) x2)
    (val_main_v107 (F := Ideal) x0 x1) (val_main_v112 (F := Ideal) x0 x1) (val_main_v108 (F := Ideal) x0 x1) (val_main_v113 (F := Ideal) x0 x1)
    (val_main_v114 (F := Ideal) x0 x1 x2) (val_main_v119 (F := Ideal) x0 x1 x2) (val_main_v123 (F := Ideal) x0 x1) where
  blocks := ⟨rfl, by decide⟩
  query b n i r h e := rows_read rfl x0 (val_main_v1 (F := Ideal) x0) (v1_read x0) _ b n i r h e
  key b n j r h e hj := keys_read (m := 15) rfl rfl x1 (val_main_v3 (F := Ideal) x1) (v3_read x1) _ _ _ _ _ _ b n j r h e hj
  value b n j r h e hj := keys_read (m := 15) rfl rfl x2 (val_main_v5 (F := Ideal) x2) (v5_read x2) _ _ _ _ _ _ b n j r h e hj
  score b n r h i j := by
    rw [val_main_v107_apply, mask2, val_main_v75_apply]
    exact congrArg (fun x => Scalar.select (maskWord n.val i.val j.val) x (Ideal.ofBits .f32 0xFF800000#32 : EReal))
      (Finset.sum_congr rfl fun e _ => congrArg₂ (· * ·) (at6 (val_main_v66 (F := Ideal) x0) _) (at6 (val_main_v70 (F := Ideal) x1) _))
  maximum b n r h i := lastMax_apply (val_main_v107 (F := Ideal) x0 x1) _ (by decide) _ b n r h i
  weight b n r h i j := by
    rw [val_main_v112_apply, val_main_v111_apply, val_main_v110_apply, val_main_v109_apply]
    exact congrArg (fun x => Ideal.exp (val_main_v107 (F := Ideal) x0 x1 (ix6 b n r h i j) - x)) (at5 (val_main_v108 (F := Ideal) x0 x1) _)
  total b n r h i := by
    rw [val_main_v113_apply]
    exact congrArg (fun x => Ideal.ofBits .f32 0x00000000#32 + x) (Finset.sum_congr rfl fun j _ => at6 (val_main_v112 (F := Ideal) x0 x1) _)
  sum b n r h e i := by
    rw [val_main_v114_apply]
    exact Finset.sum_congr rfl fun j _ => congrArg₂ (· * ·) (at6 (val_main_v74 (F := Ideal) x2) _) (at6 (val_main_v112 (F := Ideal) x0 x1) _)
  mean b n i r h e := by
    rw [val_main_v119_apply, val_main_v115_apply, val_main_v118_apply, val_main_v117_apply, val_main_v116_apply]
    exact congrArg₂ Ideal.div (at6 (val_main_v114 (F := Ideal) x0 x1 x2) _) (at5 (val_main_v113 (F := Ideal) x0 x1) _)
  logTotal b n i r h := by
    rw [val_main_v123_apply, val_main_v122_apply, val_main_v121_apply, val_main_v120]
    refine congrArg₂ (fun x y : EReal => x + Ideal.log y) ?_ (at5 (val_main_v113 (F := Ideal) x0 x1) _)
    refine (at5 (shapeCast S2x16x4x8x128 (val_main_v109 (F := Ideal) x0 x1) _) _).trans ?_
    refine (unit_apply (val_main_v109 (F := Ideal) x0 x1) _ b n r h i).trans ?_
    rw [val_main_v109_apply]
    exact at5 (val_main_v108 (F := Ideal) x0 x1) _

theorem mask3 (b : Fin 2) (n : Fin 4) (r : Fin 16) (h : Fin 8) (i : Fin 128) (j : Fin 256) :
    val_main_call8_v1 (F := Ideal) (ix6 b n r h i j) = maskWord n.val i.val j.val := by
  rfl

theorem branch3 (x0 x1 x2 : Arg) : Branch 4 16 x0 x1 x2 (val_main_v126 (F := Ideal) x0) (val_main_v130 (F := Ideal) x1) (val_main_v134 (F := Ideal) x2)
    (val_main_v167 (F := Ideal) x0 x1) (val_main_v172 (F := Ideal) x0 x1) (val_main_v168 (F := Ideal) x0 x1) (val_main_v173 (F := Ideal) x0 x1)
    (val_main_v174 (F := Ideal) x0 x1 x2) (val_main_v179 (F := Ideal) x0 x1 x2) (val_main_v183 (F := Ideal) x0 x1) where
  blocks := ⟨rfl, by decide⟩
  query b n i r h e := rows_read rfl x0 (val_main_v1 (F := Ideal) x0) (v1_read x0) _ b n i r h e
  key b n j r h e hj := keys_read (m := 3) rfl rfl x1 (val_main_v3 (F := Ideal) x1) (v3_read x1) _ _ _ _ _ _ b n j r h e hj
  value b n j r h e hj := keys_read (m := 3) rfl rfl x2 (val_main_v5 (F := Ideal) x2) (v5_read x2) _ _ _ _ _ _ b n j r h e hj
  score b n r h i j := by
    rw [val_main_v167_apply, mask3, val_main_v135_apply]
    exact congrArg (fun x => Scalar.select (maskWord n.val i.val j.val) x (Ideal.ofBits .f32 0xFF800000#32 : EReal))
      (Finset.sum_congr rfl fun e _ => congrArg₂ (· * ·) (at6 (val_main_v126 (F := Ideal) x0) _) (at6 (val_main_v130 (F := Ideal) x1) _))
  maximum b n r h i := lastMax_apply (val_main_v167 (F := Ideal) x0 x1) _ (by decide) _ b n r h i
  weight b n r h i j := by
    rw [val_main_v172_apply, val_main_v171_apply, val_main_v170_apply, val_main_v169_apply]
    exact congrArg (fun x => Ideal.exp (val_main_v167 (F := Ideal) x0 x1 (ix6 b n r h i j) - x)) (at5 (val_main_v168 (F := Ideal) x0 x1) _)
  total b n r h i := by
    rw [val_main_v173_apply]
    exact congrArg (fun x => Ideal.ofBits .f32 0x00000000#32 + x) (Finset.sum_congr rfl fun j _ => at6 (val_main_v172 (F := Ideal) x0 x1) _)
  sum b n r h e i := by
    rw [val_main_v174_apply]
    exact Finset.sum_congr rfl fun j _ => congrArg₂ (· * ·) (at6 (val_main_v134 (F := Ideal) x2) _) (at6 (val_main_v172 (F := Ideal) x0 x1) _)
  mean b n i r h e := by
    rw [val_main_v179_apply, val_main_v175_apply, val_main_v178_apply, val_main_v177_apply, val_main_v176_apply]
    exact congrArg₂ Ideal.div (at6 (val_main_v174 (F := Ideal) x0 x1 x2) _) (at5 (val_main_v173 (F := Ideal) x0 x1) _)
  logTotal b n i r h := by
    rw [val_main_v183_apply, val_main_v182_apply, val_main_v181_apply, val_main_v180]
    refine congrArg₂ (fun x y : EReal => x + Ideal.log y) ?_ (at5 (val_main_v173 (F := Ideal) x0 x1) _)
    refine (at5 (shapeCast S2x4x16x8x128 (val_main_v169 (F := Ideal) x0 x1) _) _).trans ?_
    refine (unit_apply (val_main_v169 (F := Ideal) x0 x1) _ b n r h i).trans ?_
    rw [val_main_v169_apply]
    exact at5 (val_main_v168 (F := Ideal) x0 x1) _

/-! ## The mixture -/

theorem mixture (x0 x1 x2 : Arg) :
    Mixture (fun k => match k with | 0 => val_main_v65 (F := Ideal) x0 x1 | 1 => val_main_v125 (F := Ideal) x0 x1 | 2 => val_main_v185 (F := Ideal) x0 x1)
      (fun k => match k with | 0 => val_main_v64 (F := Ideal) x0 x1 x2 | 1 => val_main_v124 (F := Ideal) x0 x1 x2 | 2 => val_main_v184 (F := Ideal) x0 x1 x2)
      (val_main_v189 (F := Ideal) x0 x1) (val_main_v196 (F := Ideal) x0 x1) (val_main_v192 (F := Ideal) x0 x1) (val_main_v197 (F := Ideal) x0 x1)
      (val_main_v205 (F := Ideal) x0 x1 x2) (val_main_v208 (F := Ideal) x0 x1 x2) where
  stack k b t h := by
    refine (stack_apply (fun k => match k with
      | 0 => val_main_v186 (F := Ideal) x0 x1 | 1 => val_main_v187 (F := Ideal) x0 x1 | 2 => val_main_v188 (F := Ideal) x0 x1) _ k b t h).trans ?_
    match k with
    | 0 => exact (val_main_v186_apply x0 x1 _).trans (at3 (val_main_v65 (F := Ideal) x0 x1) _)
    | 1 => exact (val_main_v187_apply x0 x1 _).trans (at3 (val_main_v125 (F := Ideal) x0 x1) _)
    | 2 => exact (val_main_v188_apply x0 x1 _).trans (at3 (val_main_v185 (F := Ideal) x0 x1) _)
  maximum b t h := by
    rw [val_main_v192_apply, val_main_v191_apply]
    exact congrArg (fun x => max (Ideal.ofBits .f32 0xFF800000#32 : EReal) x) (stackMax_apply (val_main_v189 (F := Ideal) x0 x1) _ (by decide) _ b t h)
  weight k b t h := by
    rw [val_main_v196_apply, val_main_v195_apply, val_main_v194_apply, val_main_v193_apply]
    exact congrArg (fun x => Ideal.exp (val_main_v189 (F := Ideal) x0 x1 (ValueIdx.ix4 k b t h) - x)) (at3 (val_main_v192 (F := Ideal) x0 x1) _)
  total b t h := by
    rw [val_main_v197_apply]
    exact congrArg (fun x => Ideal.ofBits .f32 0x00000000#32 + x) (Finset.sum_congr rfl fun k _ => at4 (val_main_v196 (F := Ideal) x0 x1) _)
  stack' k b t h e := by
    refine (stack_apply' (fun k => match k with
      | 0 => val_main_v202 (F := Ideal) x0 x1 x2 | 1 => val_main_v203 (F := Ideal) x0 x1 x2 | 2 => val_main_v204 (F := Ideal) x0 x1 x2) _ k b t h e).trans ?_
    match k with
    | 0 => exact (val_main_v202_apply x0 x1 x2 _).trans (at4 (val_main_v64 (F := Ideal) x0 x1 x2) _)
    | 1 => exact (val_main_v203_apply x0 x1 x2 _).trans (at4 (val_main_v124 (F := Ideal) x0 x1 x2) _)
    | 2 => exact (val_main_v204_apply x0 x1 x2 _).trans (at4 (val_main_v184 (F := Ideal) x0 x1 x2) _)
  sum b t h e := by
    rw [val_main_v208_apply]
    refine congrArg (fun x => Ideal.ofBits .f32 0x00000000#32 + x) (Finset.sum_congr rfl fun k _ => ?_)
    rw [val_main_v207_apply, val_main_v206_apply, val_main_v201_apply, val_main_v200_apply, val_main_v199_apply, val_main_v198_apply]
    exact congrArg₂ (· * ·) (congrArg₂ Ideal.div (at4 (val_main_v196 (F := Ideal) x0 x1) _) (at3 (val_main_v197 (F := Ideal) x0 x1) _))
      (at5 (val_main_v205 (F := Ideal) x0 x1 x2) _)

/-- The reference's result. -/
theorem result (x0 x1 x2 : Arg) (y : S2x8x8192x128.Idx) :
    val_main_v210 (F := Ideal) x0 x1 x2 y = outR (rowsOf x0 (y 0) (y 1)) (rowsOf x1 (y 0) (y 1)) (rowsOf x2 (y 0) (y 1)) (y 2).val (y 3) := by
  rw [val_main_v210_apply, val_main_v209_apply]
  refine (at4 (val_main_v208 (F := Ideal) x0 x1 x2) _).trans ?_
  refine (mixture x0 x1 x2).sum_eq _ _ _ (y 0) (y 2) (y 1) (y 3) (fun k => ?_) (fun k => ?_)
  · match k with
    | 0 => exact (branch1 x0 x1 x2).logTotal_eq _ (y 0) (y 2) (y 1)
    | 1 => exact (branch2 x0 x1 x2).logTotal_eq _ (y 0) (y 2) (y 1)
    | 2 => exact (branch3 x0 x1 x2).logTotal_eq _ (y 0) (y 2) (y 1)
  · match k with
    | 0 => exact (branch1 x0 x1 x2).mean_eq _ (y 0) (y 2) (y 1) (y 3)
    | 1 => exact (branch2 x0 x1 x2).mean_eq _ (y 0) (y 2) (y 1) (y 3)
    | 2 => exact (branch3 x0 x1 x2).mean_eq _ (y 0) (y 2) (y 1) (y 3)

end Cert.Proof.RI

end
-- ==== Proof.XI.Set.lean ====
/-
  The experts' kernel: its operands, its scratch in two slots, its own semaphores, a weight copy's two ends.
-/
module

public import proofs.«01_k».proof.Proof.Gen.KernelExpertsIdeal.Launch
public import proofs.«01_k».proof.Proof.Gen.KernelExpertsIdeal.Skeleton
public import Idealize.ShloMosaic.Lib.Pipeline.FrameBody
public import Idealize.ShloMosaic.Lib.Ring
public import Idealize.ShloMosaic.Lib.ValueIdxCore
public import Idealize.ShloMosaic.Lib.Tactic

@[expose] public section

noncomputable section

namespace Cert.KernelExpertsIdeal.Hand

open Cert.KernelExpertsIdeal Cert.KernelExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelExpertsIdeal.Facts]

/-- The proof's user algebra: the pipeline library's beside the transfers' counters. -/
local notation "𝕄" => MT nD τ sig Unit (Elt F) ℕ (Pipeline.UD sig nD τ) ℕ

/-! ## The operands -/

abbrev tbM0 : Memref sig .tc .smem S160 .i32 := Memref.whole main_arg0
abbrev tbM1 : Memref sig .tc .smem S1 .i32 := Memref.whole main_arg1
abbrev tbM2 : Memref sig .tc .smem S160 .i32 := Memref.whole main_arg2
abbrev tbM3 : Memref sig .tc .smem S160 .i32 := Memref.whole main_arg3
abbrev tbM4 : Memref sig .tc .smem S160 .i32 := Memref.whole main_arg4
abbrev hbM0 : Memref sig .tc .hbm S4x32x2048x512 .f32 := Memref.whole main_arg7
abbrev hbM1 : Memref sig .tc .hbm S4x32x2048x512 .f32 := Memref.whole main_arg8
abbrev hbM2 : Memref sig .tc .hbm S4x32x512x2048 .f32 := Memref.whole main_arg9
abbrev scM0 : Memref sig .tc .vmem S2x2048x512 .f32 := Memref.whole cc0_scratch0
abbrev scM1 : Memref sig .tc .vmem S2x2048x512 .f32 := Memref.whole cc0_scratch1
abbrev scM2 : Memref sig .tc .vmem S2x512x2048 .f32 := Memref.whole cc0_scratch2
abbrev scM3 : Memref sig .tc .vmem S2048x512 .bf16 := Memref.whole cc0_scratch3
abbrev scM4 : Memref sig .tc .vmem S2048x512 .bf16 := Memref.whole cc0_scratch4
abbrev scM5 : Memref sig .tc .vmem S512x2048 .bf16 := Memref.whole cc0_scratch5

/-- A buffer of the core whole, at share `q`. -/
abbrev pt {sp : Space} {sh : Shape} {ty : EltTy} (c : Dev nD) (M : Memref sig .tc sp sh ty) (q : PosShare TreeShare) (f : Buf (Elt F) (M.view.loc (c : Thread nD τ))) : sProp 𝕄 :=
  M.view.loc (c : Thread nD τ) ↦{q} f

/-! ## The slots, a copy's two ends, its semaphore -/

/-- The slots and experts inside the arrays. -/
abbrev SlotOk (v : BitVec 32) : Prop := ∀ a, k0_off6 v a + S1x2048x512.size a ≤ S2x2048x512.size a
abbrev SlotOk' (v : BitVec 32) : Prop := ∀ a, k0_off11 v a + S1x512x2048.size a ≤ S2x512x2048.size a
abbrev ExOk (e : BitVec 32) : Prop := ∀ a, k0_off7 e a + S1x1x2048x512.size a ≤ S4x32x2048x512.size a
abbrev ExOk' (e : BitVec 32) : Prop := ∀ a, k0_off12 e a + S1x1x512x2048.size a ≤ S4x32x512x2048.size a

/-- A slot of the gate's and of the up projection's scratch; a slot of the down projection's. -/
abbrev slot (M : Memref sig .tc .vmem S2x2048x512 .f32) (v : BitVec 32) (h : SlotOk v) : Memref sig .tc .vmem S2048x512 .f32 :=
  (M.slice (Rect.unit (s := S2x2048x512) (k0_off6 v) S1x2048x512.size h) (fun _ => rfl)).squeeze S2048x512 squeezes_S1x2048x512_S2048x512
abbrev slot' (M : Memref sig .tc .vmem S2x512x2048 .f32) (v : BitVec 32) (h : SlotOk' v) : Memref sig .tc .vmem S512x2048 .f32 :=
  (M.slice (Rect.unit (s := S2x512x2048) (k0_off11 v) S1x512x2048.size h) (fun _ => rfl)).squeeze S512x2048 squeezes_S1x512x2048_S512x2048

/-- An expert's weights of the first layer. -/
abbrev wts (M : Memref sig .tc .hbm S4x32x2048x512 .f32) (e : BitVec 32) (h : ExOk e) : Memref sig .tc .hbm S2048x512 .f32 :=
  (M.slice (Rect.unit (s := S4x32x2048x512) (k0_off7 e) S1x1x2048x512.size h) (fun _ => rfl)).squeeze S2048x512 squeezes_S1x1x2048x512_S2048x512
abbrev wts' (M : Memref sig .tc .hbm S4x32x512x2048 .f32) (e : BitVec 32) (h : ExOk' e) : Memref sig .tc .hbm S512x2048 .f32 :=
  (M.slice (Rect.unit (s := S4x32x512x2048) (k0_off12 e) S1x1x512x2048.size h) (fun _ => rfl)).squeeze S512x2048 squeezes_S1x1x512x2048_S512x2048

/-- A slot's semaphores, one a weight array. -/
abbrev sem0 (v : BitVec 32) (h : ∀ a, k0_off5 v a + S1x1.size a ≤ S2x3.size a) : DmaSem sig :=
  ((cc0_scratch6.slice (Rect.unit (s := S2x3) (k0_off5 v) S1x1.size h)).squeeze S_ squeezes_S1x1_S_).sem
abbrev sem1 (v : BitVec 32) (h : ∀ a, k0_off8 v a + S1x1.size a ≤ S2x3.size a) : DmaSem sig :=
  ((cc0_scratch6.slice (Rect.unit (s := S2x3) (k0_off8 v) S1x1.size h)).squeeze S_ squeezes_S1x1_S_).sem
abbrev sem2 (v : BitVec 32) (h : ∀ a, k0_off10 v a + S1x1.size a ≤ S2x3.size a) : DmaSem sig :=
  ((cc0_scratch6.slice (Rect.unit (s := S2x3) (k0_off10 v) S1x1.size h)).squeeze S_ squeezes_S1x1_S_).sem

theorem slotOk_of (v : BitVec 32) (h : v.toNat < 2) : SlotOk v := fun a => by
  fin_cases a <;> simp [k0_off6, S1x2048x512, S2x2048x512] <;> omega
theorem slotOk'_of (v : BitVec 32) (h : v.toNat < 2) : SlotOk' v := fun a => by
  fin_cases a <;> simp [k0_off11, S1x512x2048, S2x512x2048] <;> omega
theorem exOk_of (e : BitVec 32) (h : e.toNat < 32) : ExOk e := fun a => by
  fin_cases a <;> simp [k0_off7, S1x1x2048x512, S4x32x2048x512] <;> omega
theorem exOk'_of (e : BitVec 32) (h : e.toNat < 32) : ExOk' e := fun a => by
  fin_cases a <;> simp [k0_off12, S1x1x512x2048, S4x32x512x2048] <;> omega
theorem semOk0 (v : BitVec 32) (h : v.toNat < 2) : ∀ a, k0_off5 v a + S1x1.size a ≤ S2x3.size a := fun a => by
  fin_cases a <;> simp [k0_off5, S1x1, S2x3] <;> omega
theorem semOk1 (v : BitVec 32) (h : v.toNat < 2) : ∀ a, k0_off8 v a + S1x1.size a ≤ S2x3.size a := fun a => by
  fin_cases a <;> simp [k0_off8, S1x1, S2x3] <;> omega
theorem semOk2 (v : BitVec 32) (h : v.toNat < 2) : ∀ a, k0_off10 v a + S1x1.size a ≤ S2x3.size a := fun a => by
  fin_cases a <;> simp [k0_off10, S1x1, S2x3] <;> omega

/-- A copy's delivery: the slot at the weights, over whatever it held, and the weights back. -/
abbrev dlv (c : Dev nD) (M : Memref sig .tc .hbm S4x32x2048x512 .f32) (N : Memref sig .tc .vmem S2x2048x512 .f32) (q : PosShare TreeShare)
    (v e : BitVec 32) (hv : SlotOk v) (he : ExOk e) (fs : Buf (Elt F) (M.view.loc (c : Thread nD τ))) (fd : Buf (Elt F) (N.view.loc (c : Thread nD τ))) : sProp 𝕄 :=
  iprop(((slot N v hv).view.loc (c : Thread nD τ) ↦[(slot N v hv).view.set]{fullShare} (slot N v hv).view.writes (Elt F) fd [⟨Rect.whole S2048x512, (wts M e he).view.read (Elt F) fs⟩])
    ∗ ((wts M e he).view.loc (c : Thread nD τ) ↦[(wts M e he).view.set]{q} fs))
abbrev dlv' (c : Dev nD) (M : Memref sig .tc .hbm S4x32x512x2048 .f32) (N : Memref sig .tc .vmem S2x512x2048 .f32) (q : PosShare TreeShare)
    (v e : BitVec 32) (hv : SlotOk' v) (he : ExOk' e) (fs : Buf (Elt F) (M.view.loc (c : Thread nD τ))) (fd : Buf (Elt F) (N.view.loc (c : Thread nD τ))) : sProp 𝕄 :=
  iprop(((slot' N v hv).view.loc (c : Thread nD τ) ↦[(slot' N v hv).view.set]{fullShare} (slot' N v hv).view.writes (Elt F) fd [⟨Rect.whole S512x2048, (wts' M e he).view.read (Elt F) fs⟩])
    ∗ ((wts' M e he).view.loc (c : Thread nD τ) ↦[(wts' M e he).view.set]{q} fs))

/-- The tables at shares. -/
def Tables (c : Dev nD) (q : Fin 5 → PosShare TreeShare) (T0 : Buf (Elt F) (tbM0.view.loc (c : Thread nD τ))) (T1 : Buf (Elt F) (tbM1.view.loc (c : Thread nD τ)))
    (T2 : Buf (Elt F) (tbM2.view.loc (c : Thread nD τ))) (T3 : Buf (Elt F) (tbM3.view.loc (c : Thread nD τ))) (T4 : Buf (Elt F) (tbM4.view.loc (c : Thread nD τ))) : sProp 𝕄 :=
  iprop(pt c tbM0 (q 0) T0 ∗ pt c tbM1 (q 1) T1 ∗ pt c tbM2 (q 2) T2 ∗ pt c tbM3 (q 3) T3 ∗ pt c tbM4 (q 4) T4)

/-- The weights of an expert, as a slot is read and as the kernel keeps them. -/
def wcopy (W : S4x32x2048x512.Idx → Elt F .f32) (e : Fin 32) : S1x2048x512.Idx → Elt F .f32 := fun x => W (ValueIdx.ix4 (n0 := 4) 0 e (x 1) (x 2))
def wcopy' (W : S4x32x512x2048.Idx → Elt F .f32) (e : Fin 32) : S1x512x2048.Idx → Elt F .f32 := fun x => W (ValueIdx.ix4 (n0 := 4) 0 e (x 1) (x 2))

/-- The scratch the weights are kept in, cast. -/
def Kept (c : Dev nD) (X Y : S2048x512.Idx → Elt F .bf16) (Z : S512x2048.Idx → Elt F .bf16) : sProp 𝕄 :=
  iprop(owns (c : Thread nD τ) scM3 fullShare X ∗ owns (c : Thread nD τ) scM4 fullShare Y ∗ owns (c : Thread nD τ) scM5 fullShare Z)

/-- The three copies of expert `e` into slot `v` under way. -/
def InFl (c : Dev nD) (q : PosShare TreeShare) (v e : BitVec 32) (hv : v.toNat < 2) (he : e.toNat < 32)
    (W0 : Buf (Elt F) ((c : Thread nD τ).loc main_arg7)) (W1 : Buf (Elt F) ((c : Thread nD τ).loc main_arg8)) (W2 : Buf (Elt F) ((c : Thread nD τ).loc main_arg9)) : sProp 𝕄 :=
  iprop((∃ f, Transfers.Flight (countersEmb (U := Pipeline.UD sig nD τ)) (c : Thread nD τ) (.dma (sem0 v (semOk0 v hv))) () ((slot scM0 v (slotOk_of v hv)).view.amount (.dma (sem0 v (semOk0 v hv))))
      (dlv c hbM0 scM0 q v e (slotOk_of v hv) (exOk_of e he) W0 f))
    ∗ (∃ f, Transfers.Flight (countersEmb (U := Pipeline.UD sig nD τ)) (c : Thread nD τ) (.dma (sem1 v (semOk1 v hv))) () ((slot scM1 v (slotOk_of v hv)).view.amount (.dma (sem1 v (semOk1 v hv))))
      (dlv c hbM1 scM1 q v e (slotOk_of v hv) (exOk_of e he) W1 f))
    ∗ (∃ f, Transfers.Flight (countersEmb (U := Pipeline.UD sig nD τ)) (c : Thread nD τ) (.dma (sem2 v (semOk2 v hv))) () ((slot' scM2 v (slotOk'_of v hv)).view.amount (.dma (sem2 v (semOk2 v hv))))
      (dlv' c hbM2 scM2 q v e (slotOk'_of v hv) (exOk'_of e he) W2 f)))

/-- Slot `v` idle: its scratch at anything, its semaphores at zero. -/
def Idle (c : Dev nD) (v : BitVec 32) (hv : v.toNat < 2) : sProp 𝕄 :=
  iprop((∃ f : Buf (Elt F) _, (slot scM0 v (slotOk_of v hv)).view.loc (c : Thread nD τ) ↦[(slot scM0 v (slotOk_of v hv)).view.set]{fullShare} f)
    ∗ (∃ f : Buf (Elt F) _, (slot scM1 v (slotOk_of v hv)).view.loc (c : Thread nD τ) ↦[(slot scM1 v (slotOk_of v hv)).view.set]{fullShare} f)
    ∗ (∃ f : Buf (Elt F) _, (slot' scM2 v (slotOk'_of v hv)).view.loc (c : Thread nD τ) ↦[(slot' scM2 v (slotOk'_of v hv)).view.set]{fullShare} f)
    ∗ semVal ((c : Thread nD τ), .dma (sem0 v (semOk0 v hv))) 0 ∗ semVal ((c : Thread nD τ), .dma (sem1 v (semOk1 v hv))) 0
    ∗ semVal ((c : Thread nD τ), .dma (sem2 v (semOk2 v hv))) 0)

/-- The weights of expert `e` in the three arrays, at share `q`; and the rest of the arrays. -/
def Blocks (c : Dev nD) (q : PosShare TreeShare) (e : BitVec 32) (he : e.toNat < 32)
    (W0 : Buf (Elt F) ((c : Thread nD τ).loc main_arg7)) (W1 : Buf (Elt F) ((c : Thread nD τ).loc main_arg8)) (W2 : Buf (Elt F) ((c : Thread nD τ).loc main_arg9)) : sProp 𝕄 :=
  iprop(((wts hbM0 e (exOk_of e he)).view.loc (c : Thread nD τ) ↦[(wts hbM0 e (exOk_of e he)).view.set]{q} W0)
    ∗ ((wts hbM1 e (exOk_of e he)).view.loc (c : Thread nD τ) ↦[(wts hbM1 e (exOk_of e he)).view.set]{q} W1)
    ∗ ((wts' hbM2 e (exOk'_of e he)).view.loc (c : Thread nD τ) ↦[(wts' hbM2 e (exOk'_of e he)).view.set]{q} W2))

end Cert.KernelExpertsIdeal.Hand

end
-- ==== Proof.XI.Part.lean ====
/-
  One grid point of the experts' kernel at an expert's first tile: the copies under way are collected, the next expert's issued, the weights cast and kept.
-/
module

public import proofs.«01_k».proof.Proof.XI.Set

@[expose] public section

noncomputable section

namespace Cert.KernelExpertsIdeal.Hand

open Cert.KernelExpertsIdeal Cert.KernelExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelExpertsIdeal.Facts]

/-- The proof's user algebra: the pipeline library's beside the transfers' counters. -/
local notation "𝕄" => MT nD τ sig Unit (Elt F) ℕ (Pipeline.UD sig nD τ) ℕ

abbrev 𝒱₀ : Variants := Variants.none

/-- A table's word at the grid point; a table's first word. -/
def word (i : grid0.Coords) (T : S160.Idx → Elt F .i32) : BitVec 32 :=
  ((Memref.whole main_arg0).access (Rect.unit (s := S160) (k0_off1 i) S1.size (k0_off1_inb i))).read (Elt F) (fun x => T x) (Shape.Idx.first (s := S1) (by decide))
def word₀ (T : S160.Idx → Elt F .i32) : BitVec 32 :=
  ((Memref.whole main_arg0).access (Rect.unit (s := S160) ![0] S1.size inb_S160_S1_0)).read (Elt F) (fun x => T x) (Shape.Idx.first (s := S1) (by decide))
def word₁ (T : S1.Idx → Elt F .i32) : BitVec 32 :=
  ((Memref.whole main_arg1).access (Rect.unit (s := S1) ![0] S1.size inb_S1_S1_0)).read (Elt F) (fun x => T x) (Shape.Idx.first (s := S1) (by decide))

/-- The kernel's body at its operands. -/
abbrev body (i : grid0.Coords) (M6 : Memref sig .tc .vmem S256x2048 .f32) (h6 : M6.IsWhole) (M7 : Memref sig .tc .vmem S1x2048 .f32) (h7 : M7.IsWhole)
    (M11 : Memref sig .tc .vmem S256x2048 .f32) (h11 : M11.IsWhole) : Prog (TpuEff nD τ sig (Elt F) Λ₀ .tc) PUnit :=
  cc0_moe_experts i tbM0 (Memref.isWhole_whole _) tbM1 (Memref.isWhole_whole _) tbM2 (Memref.isWhole_whole _) tbM3 (Memref.isWhole_whole _) tbM4 (Memref.isWhole_whole _)
    M6 h6 M7 h7 hbM0 (Memref.isWhole_whole _) hbM1 (Memref.isWhole_whole _) hbM2 (Memref.isWhole_whole _) M11 h11
    scM0 (Memref.isWhole_whole _) scM1 (Memref.isWhole_whole _) scM2 (Memref.isWhole_whole _) scM3 (Memref.isWhole_whole _) scM4 (Memref.isWhole_whole _) scM5 (Memref.isWhole_whole _)
    cc0_scratch6

variable (c : Dev nD) (i : grid0.Coords) (M6 : Memref sig .tc .vmem S256x2048 .f32) (h6 : M6.IsWhole) (M7 : Memref sig .tc .vmem S1x2048 .f32) (h7 : M7.IsWhole)
    (M11 : Memref sig .tc .vmem S256x2048 .f32) (h11 : M11.IsWhole)
    (T0 : Buf (Elt F) (tbM0.view.loc (c : Thread nD τ))) (T1 : Buf (Elt F) (tbM1.view.loc (c : Thread nD τ))) (T2 : Buf (Elt F) (tbM2.view.loc (c : Thread nD τ)))
    (T3 : Buf (Elt F) (tbM3.view.loc (c : Thread nD τ))) (T4 : Buf (Elt F) (tbM4.view.loc (c : Thread nD τ)))
    (W0 : Buf (Elt F) ((c : Thread nD τ).loc main_arg7)) (W1 : Buf (Elt F) ((c : Thread nD τ).loc main_arg8)) (W2 : Buf (Elt F) ((c : Thread nD τ).loc main_arg9))
    (qt : Fin 5 → PosShare TreeShare) (q q' : PosShare TreeShare)
    (X6 : S256x2048.Idx → Elt F .f32) (X7 : S1x2048.Idx → Elt F .f32) (W : Waits sig Unit)

/-- What a point finds of the windows and leaves. -/
def found (X : sProp 𝕄) : sProp 𝕄 :=
  iprop(owns (c : Thread nD τ) M6 fullShare X6 ∗ owns (c : Thread nD τ) M7 fullShare X7 ∗ X)

/-- What collecting expert `e` leaves of the kept weights, and the point's output. -/
abbrev kept (e : Fin 32) : sProp 𝕄 := Kept (F := F) c (k0_pay1 (wcopy W0 e)) (k0_pay2 (wcopy W1 e)) (k0_pay3 (wcopy' W2 e))
abbrev outOf (e : Fin 32) : S256x2048.Idx → Elt F .f32 := k0_pay4 X6 X7 (k0_pay1 (wcopy W0 e)) (k0_pay2 (wcopy W1 e)) (k0_pay3 (wcopy' W2 e))

/-- The part's program at the kernel's operands. -/
abbrev part (v0 v5 v7 : BitVec 32) (k1 : k0_cond1 i v0 = 1#1) (w2 : k0_chk2 i v0 v5 v7)
    (k2 : k0_cond2 v7 = 1#1) : Prog (TpuEff nD τ sig (Elt F) Λ₀ .tc) PUnit :=
  k0_part1 i tbM0 (Memref.isWhole_whole _) tbM1 (Memref.isWhole_whole _) tbM2 (Memref.isWhole_whole _) tbM3 (Memref.isWhole_whole _) tbM4 (Memref.isWhole_whole _)
    M6 h6 M7 h7 hbM0 (Memref.isWhole_whole _) hbM1 (Memref.isWhole_whole _) hbM2 (Memref.isWhole_whole _) M11 h11
    scM0 (Memref.isWhole_whole _) scM1 (Memref.isWhole_whole _) scM2 (Memref.isWhole_whole _) scM3 (Memref.isWhole_whole _) scM4 (Memref.isWhole_whole _) scM5 (Memref.isWhole_whole _)
    cc0_scratch6 (BitVec.ofNat 32 (i 0).val) v0 k1 v5 v7 w2 k2

/-- What collecting leaves: the slot at the expert's weights over something, its semaphores at zero, the weights back. -/
def Landed (v e : BitVec 32) (hv : v.toNat < 2) (he : e.toNat < 32) : sProp 𝕄 :=
  iprop((∃ f, dlv c hbM0 scM0 q v e (slotOk_of v hv) (exOk_of e he) W0 f) ∗ (∃ f, dlv c hbM1 scM1 q v e (slotOk_of v hv) (exOk_of e he) W1 f)
    ∗ (∃ f, dlv' c hbM2 scM2 q v e (slotOk'_of v hv) (exOk'_of e he) W2 f)
    ∗ semVal ((c : Thread nD τ), .dma (sem0 v (semOk0 v hv))) 0 ∗ semVal ((c : Thread nD τ), .dma (sem1 v (semOk1 v hv))) 0
    ∗ semVal ((c : Thread nD τ), .dma (sem2 v (semOk2 v hv))) 0)

open Transfers in
/-- Issuing a copy of one memref into another: until its wait the two are the flight's, the target at the source's contents over what it held. -/
theorem wp_issue {sp sp' : Space} {s : Shape} {e : EltTy} (src : Memref sig .tc sp s e) (dst : Memref sig .tc sp' s e) (sm : SemLoc sig)
    {hsrc : src.view.WordExact} {hdst : dst.view.WordExact} {hsem : DmaTarget.Typed (nD := nD) (τ := τ) (p := Proc.tc) sp sm (.here dst)}
    {k : PUnit → Prog (TpuEff nD τ sig (Elt F) Λ₀ .tc) PUnit} {p : PosShare TreeShare} {fs : Buf (Elt F) (src.view.loc (c : Thread nD τ))}
    {fd : Buf (Elt F) (dst.view.loc (c : Thread nD τ))} {Q : PUnit → sProp 𝕄} (N : ℕ) (hN : dst.view.amount sm = N) (hN0 : 0 < N) :
    iprop((src.view.loc (c : Thread nD τ) ↦[src.view.set]{p} fs) ∗ (dst.view.loc (c : Thread nD τ) ↦[dst.view.set]{fullShare} fd) ∗ semVal ((c : Thread nD τ), sm) 0)
      ⊢ iprop((Flight (countersEmb (U := Pipeline.UD sig nD τ)) (c : Thread nD τ) sm () N
            iprop((dst.view.loc (c : Thread nD τ) ↦[dst.view.set]{fullShare} dst.view.writes (Elt F) fd [⟨Rect.whole s, src.view.read (Elt F) fs⟩])
              ∗ (src.view.loc (c : Thread nD τ) ↦[src.view.set]{p} fs))
          -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs src (.here dst) .same sm hsrc hdst hsem) k) Q) := by
  have h := wp_dmaLocal (countersEmb (U := Pipeline.UD sig nD τ)) (defs := defs₀ (F := F)) 𝒱₀ (c : Thread nD τ) none (src := src) (via := .same) (dst := dst) (sm := sm)
    (hsrc := hsrc) (hdst := hdst) (hsem := hsem) (k := k) (q := p) (fs := fs) (fd := fd) (Q := Q) () N hN hN0 subset_rfl
  rw [show dst.view.write (Elt F) fd (ReadAs.same.apply (src.view.read (Elt F) fs)) Finset.univ
    = dst.view.writes (Elt F) fd [⟨Rect.whole s, src.view.read (Elt F) fs⟩] from View.write_univ_eq_writes_whole dst.view fd [] _] at h
  exact h

set_option maxHeartbeats 8000000 in
set_option maxRecDepth 65536 in
/-- The copies under way are collected, the next expert is issued. -/
theorem part_later_next (v0 v5 v7 : BitVec 32) (k1 : k0_cond1 i v0 = 1#1) (k2 : k0_cond2 v7 = 1#1) (w2 : k0_chk2 i v0 v5 v7)
    (k3 : ¬ k0_cond3 i = 1#1) (k4 : k0_cond4 (word i T3) = 1#1)
    (w3 : k0_chk3 i v0 v7 (word i T0)) (w4 : k0_chk4 i v0 v5 v7 (word i T3))
    (w5 : k0_chk5 i v0 v7 (word i T3) (word i T3))
    (e : BitVec 32)    (hv : (v5).toNat < 2) (hv' : (Scalar.subi 1#32 v5).toNat < 2) (he : e.toNat < 32) (hn : (word i T3).toNat < 32) (Q : PUnit → sProp 𝕄) :
    iprop(pt c tbM0 (qt 0) T0 ∗ pt c tbM3 (qt 3) T3 ∗ owes (c : Thread nD τ) 0 W ∗ InFl c q v5 e hv he W0 W1 W2 ∗ Idle c (Scalar.subi 1#32 v5) hv' ∗ Blocks c q' (word i T3) hn W0 W1 W2
        ∗ (pt c tbM0 (qt 0) T0 ∗ pt c tbM3 (qt 3) T3 ∗ (∃ W', owes (c : Thread nD τ) 0 W') ∗ Landed c W0 W1 W2 q v5 e hv he ∗ InFl c q' (Scalar.subi 1#32 v5) (word i T3) hv' hn W0 W1 W2 -∗ Q ⟨⟩))
      ⊢ wp frame (wpE (defs₀ (F := F)) 𝒱₀ (c : Thread nD τ) none) Set.univ (part i M6 h6 M7 h7 M11 h11 v0 v5 v7 k1 w2 k2) Q := by
  unfold part InFl dlv dlv' Idle Blocks Landed
  iintro ⟨HT0, HT3, HO, ⟨⟨%f0, HF0⟩, ⟨%f1, HF1⟩, ⟨%f2, HF2⟩⟩, ⟨⟨%g0, HG0⟩, ⟨%g1, HG1⟩, ⟨%g2, HG2⟩, HC0, HC1, HC2⟩, ⟨HB0, HB1, HB2⟩, Hk⟩
  rw [k0_part1_eq_skeleton]
  unfold k0_part1_skel
  sl_exec (disch := first | exact k3 | exact k4 | exact w3 | exact w4 | exact w5)
  sl_step
  iapply Hk
  isplitl [HT0]; · iexact HT0
  isplitl [HT3]; · iexact HT3
  isplitl [HO]; · iexists _; iexact HO
  isplitl [HF0 HF1 HF2 HF0_dst HF1_dst HF2_dst HF0_src HF1_src HF2_src]
  · isplitl [HF0_dst HF0_src]
    · iexists _; isplitl [HF0_dst]
      · iexact HF0_dst
      · iexact HF0_src
    isplitl [HF1_dst HF1_src]
    · iexists _; isplitl [HF1_dst]
      · iexact HF1_dst
      · iexact HF1_src
    isplitl [HF2_dst HF2_src]
    · iexists _; isplitl [HF2_dst]
      · iexact HF2_dst
      · iexact HF2_src
    isplitl [HF0]; · iexact HF0
    isplitl [HF1]; · iexact HF1
    iexact HF2
  isplitl [HC0]; · iexists _; iexact HC0
  isplitl [HC1]; · iexists _; iexact HC1
  iexists _; iexact HC2

set_option maxHeartbeats 8000000 in
set_option maxRecDepth 65536 in
/-- The copies under way are collected. -/
theorem part_later_last (v0 v5 v7 : BitVec 32) (k1 : k0_cond1 i v0 = 1#1) (k2 : k0_cond2 v7 = 1#1) (w2 : k0_chk2 i v0 v5 v7)
    (k3 : ¬ k0_cond3 i = 1#1) (k4 : ¬ k0_cond4 (word i T3) = 1#1)
    (w3 : k0_chk3 i v0 v7 (word i T0)) (w4 : k0_chk4 i v0 v5 v7 (word i T3))
    (e : BitVec 32)    (hv : (v5).toNat < 2) (hv' : (Scalar.subi 1#32 v5).toNat < 2) (he : e.toNat < 32) (Q : PUnit → sProp 𝕄) :
    iprop(pt c tbM0 (qt 0) T0 ∗ pt c tbM3 (qt 3) T3 ∗ owes (c : Thread nD τ) 0 W ∗ InFl c q v5 e hv he W0 W1 W2
        ∗ (pt c tbM0 (qt 0) T0 ∗ pt c tbM3 (qt 3) T3 ∗ (∃ W', owes (c : Thread nD τ) 0 W') ∗ Landed c W0 W1 W2 q v5 e hv he -∗ Q ⟨⟩))
      ⊢ wp frame (wpE (defs₀ (F := F)) 𝒱₀ (c : Thread nD τ) none) Set.univ (part i M6 h6 M7 h7 M11 h11 v0 v5 v7 k1 w2 k2) Q := by
  unfold part InFl dlv dlv' Landed
  iintro ⟨HT0, HT3, HO, ⟨⟨%f0, HF0⟩, ⟨%f1, HF1⟩, ⟨%f2, HF2⟩⟩, Hk⟩
  rw [k0_part1_eq_skeleton]
  unfold k0_part1_skel
  sl_exec (disch := first | exact k3 | exact k4 | exact w3 | exact w4)
  sl_step
  iapply Hk
  isplitl [HT0]; · iexact HT0
  isplitl [HT3]; · iexact HT3
  isplitl [HO]; · iexists _; iexact HO
  isplitl [HF0_dst HF0_src]
  · iexists _; isplitl [HF0_dst]
    · iexact HF0_dst
    · iexact HF0_src
  isplitl [HF1_dst HF1_src]
  · iexists _; isplitl [HF1_dst]
    · iexact HF1_dst
    · iexact HF1_src
  isplitl [HF2_dst HF2_src]
  · iexists _; isplitl [HF2_dst]
    · iexact HF2_dst
    · iexact HF2_src
  isplitl [HF0]; · iexact HF0
  isplitl [HF1]; · iexact HF1
  iexact HF2

set_option sl_exec.numerals false in
set_option maxHeartbeats 8000000 in
set_option maxRecDepth 65536 in
/-- At the first point of all the first expert is issued and collected, the next expert is issued. -/
theorem part_first_next (v0 v7 : BitVec 32) (k1 : k0_cond1 i v0 = 1#1) (k2 : k0_cond2 v7 = 1#1) (w2 : k0_chk2 i v0 0#32 v7)
    (k3 : k0_cond3 i = 1#1) (k4 : k0_cond4 (word i T3) = 1#1)
    (w3 : k0_chk3 i v0 v7 (word i T0)) (w4 : k0_chk4 i v0 0#32 v7 (word i T3))
    (w1 : k0_chk1 i v0 v7 (word₀ T0))
    (w5 : k0_chk5 i v0 v7 (word i T3) (word i T3))
    (hv : (0#32).toNat < 2) (hv' : (Scalar.subi 1#32 0#32).toNat < 2) (he : (word₀ T0).toNat < 32) (hn : (word i T3).toNat < 32) (Q : PUnit → sProp 𝕄) :
    iprop(pt c tbM0 (qt 0) T0 ∗ pt c tbM3 (qt 3) T3 ∗ owes (c : Thread nD τ) 0 W ∗ Idle c 0#32 hv ∗ Blocks c q (word₀ T0) he W0 W1 W2 ∗ Idle c (Scalar.subi 1#32 0#32) hv' ∗ Blocks c q' (word i T3) hn W0 W1 W2
        ∗ (pt c tbM0 (qt 0) T0 ∗ pt c tbM3 (qt 3) T3 ∗ (∃ W', owes (c : Thread nD τ) 0 W') ∗ Landed c W0 W1 W2 q 0#32 (word₀ T0) hv he ∗ InFl c q' (Scalar.subi 1#32 0#32) (word i T3) hv' hn W0 W1 W2 -∗ Q ⟨⟩))
      ⊢ wp frame (wpE (defs₀ (F := F)) 𝒱₀ (c : Thread nD τ) none) Set.univ (part i M6 h6 M7 h7 M11 h11 v0 0#32 v7 k1 w2 k2) Q := by
  unfold part InFl Idle Blocks Landed
  iintro ⟨HT0, HT3, HO, ⟨⟨%f0, HS0⟩, ⟨%f1, HS1⟩, ⟨%f2, HS2⟩, HF0, HF1, HF2⟩, ⟨HY0, HY1, HY2⟩, ⟨⟨%g0, HG0⟩, ⟨%g1, HG1⟩, ⟨%g2, HG2⟩, HC0, HC1, HC2⟩, ⟨HB0, HB1, HB2⟩, Hk⟩
  rw [k0_part1_eq_skeleton]
  unfold k0_part1_skel
  sl_exec (disch := first | exact k3 | exact k4 | exact w3 | exact w4 | exact w1 | exact w5)
  iapply (wp_issue c (wts hbM0 (word₀ T0) (exOk_of _ he)) (slot scM0 0#32 (slotOk_of _ hv)) (.dma (sem0 0#32 (semOk0 _ hv))) 131072 rfl (by decide)) $$ [HY0 HS0 HF0]
  · isplitl [HY0]; · iexact HY0
    isplitl [HS0]; · iexact HS0
    iexact HF0
  iintro HF0
  try sl_exec (disch := first | exact k3 | exact k4 | exact w3 | exact w4 | exact w1 | exact w5)
  iapply (wp_issue c (wts hbM1 (word₀ T0) (exOk_of _ he)) (slot scM1 0#32 (slotOk_of _ hv)) (.dma (sem1 0#32 (semOk1 _ hv))) 131072 rfl (by decide)) $$ [HY1 HS1 HF1]
  · isplitl [HY1]; · iexact HY1
    isplitl [HS1]; · iexact HS1
    iexact HF1
  iintro HF1
  try sl_exec (disch := first | exact k3 | exact k4 | exact w3 | exact w4 | exact w1 | exact w5)
  iapply (wp_issue c (wts' hbM2 (word₀ T0) (exOk'_of _ he)) (slot' scM2 0#32 (slotOk'_of _ hv)) (.dma (sem2 0#32 (semOk2 _ hv))) 131072 rfl (by decide)) $$ [HY2 HS2 HF2]
  · isplitl [HY2]; · iexact HY2
    isplitl [HS2]; · iexact HS2
    iexact HF2
  iintro HF2
  try sl_exec (disch := first | exact k3 | exact k4 | exact w3 | exact w4 | exact w1 | exact w5)
  iapply (Transfers.wp_waitLocal (countersEmb (U := Pipeline.UD sig nD τ)) 𝒱₀ (c : Thread nD τ) none () (by rfl)) $$ [HF0 HO]
  · isplitl [HF0]; · iexact HF0
    iexact HO
  iintro ⟨⟨HF0_dst, HF0_src⟩, HF0, HO⟩
  try sl_exec (disch := first | exact k3 | exact k4 | exact w3 | exact w4 | exact w1 | exact w5)
  iapply (Transfers.wp_waitLocal (countersEmb (U := Pipeline.UD sig nD τ)) 𝒱₀ (c : Thread nD τ) none () (by rfl)) $$ [HF1 HO]
  · isplitl [HF1]; · iexact HF1
    iexact HO
  iintro ⟨⟨HF1_dst, HF1_src⟩, HF1, HO⟩
  try sl_exec (disch := first | exact k3 | exact k4 | exact w3 | exact w4 | exact w1 | exact w5)
  iapply (Transfers.wp_waitLocal (countersEmb (U := Pipeline.UD sig nD τ)) 𝒱₀ (c : Thread nD τ) none () (by rfl)) $$ [HF2 HO]
  · isplitl [HF2]; · iexact HF2
    iexact HO
  iintro ⟨⟨HF2_dst, HF2_src⟩, HF2, HO⟩
  try sl_exec (disch := first | exact k3 | exact k4 | exact w3 | exact w4 | exact w1 | exact w5)
  iapply (wp_issue c (wts hbM0 (word i T3) (exOk_of _ hn)) (slot scM0 (Scalar.subi 1#32 0#32) (slotOk_of _ hv')) (.dma (sem0 (Scalar.subi 1#32 0#32) (semOk0 _ hv'))) 131072 rfl (by decide)) $$ [HB0 HG0 HC0]
  · isplitl [HB0]; · iexact HB0
    isplitl [HG0]; · iexact HG0
    iexact HC0
  iintro HC0
  try sl_exec (disch := first | exact k3 | exact k4 | exact w3 | exact w4 | exact w1 | exact w5)
  iapply (wp_issue c (wts hbM1 (word i T3) (exOk_of _ hn)) (slot scM1 (Scalar.subi 1#32 0#32) (slotOk_of _ hv')) (.dma (sem1 (Scalar.subi 1#32 0#32) (semOk1 _ hv'))) 131072 rfl (by decide)) $$ [HB1 HG1 HC1]
  · isplitl [HB1]; · iexact HB1
    isplitl [HG1]; · iexact HG1
    iexact HC1
  iintro HC1
  try sl_exec (disch := first | exact k3 | exact k4 | exact w3 | exact w4 | exact w1 | exact w5)
  iapply (wp_issue c (wts' hbM2 (word i T3) (exOk'_of _ hn)) (slot' scM2 (Scalar.subi 1#32 0#32) (slotOk'_of _ hv')) (.dma (sem2 (Scalar.subi 1#32 0#32) (semOk2 _ hv'))) 131072 rfl (by decide)) $$ [HB2 HG2 HC2]
  · isplitl [HB2]; · iexact HB2
    isplitl [HG2]; · iexact HG2
    iexact HC2
  iintro HC2
  try sl_exec (disch := first | exact k3 | exact k4 | exact w3 | exact w4 | exact w1 | exact w5)
  sl_step
  iapply Hk
  isplitl [HT0]; · iexact HT0
  isplitl [HT3]; · iexact HT3
  isplitl [HO]; · iexists _; iexact HO
  isplitl [HF0 HF1 HF2 HF0_dst HF1_dst HF2_dst HF0_src HF1_src HF2_src]
  · isplitl [HF0_dst HF0_src]
    · iexists _; isplitl [HF0_dst]
      · iexact HF0_dst
      · iexact HF0_src
    isplitl [HF1_dst HF1_src]
    · iexists _; isplitl [HF1_dst]
      · iexact HF1_dst
      · iexact HF1_src
    isplitl [HF2_dst HF2_src]
    · iexists _; isplitl [HF2_dst]
      · iexact HF2_dst
      · iexact HF2_src
    isplitl [HF0]; · iexact HF0
    isplitl [HF1]; · iexact HF1
    iexact HF2
  isplitl [HC0]; · iexists _; iexact HC0
  isplitl [HC1]; · iexists _; iexact HC1
  iexists _; iexact HC2

set_option sl_exec.numerals false in
set_option maxHeartbeats 8000000 in
set_option maxRecDepth 65536 in
/-- At the first point of all the first expert is issued and collected. -/
theorem part_first_last (v0 v7 : BitVec 32) (k1 : k0_cond1 i v0 = 1#1) (k2 : k0_cond2 v7 = 1#1) (w2 : k0_chk2 i v0 0#32 v7)
    (k3 : k0_cond3 i = 1#1) (k4 : ¬ k0_cond4 (word i T3) = 1#1)
    (w3 : k0_chk3 i v0 v7 (word i T0)) (w4 : k0_chk4 i v0 0#32 v7 (word i T3))
    (w1 : k0_chk1 i v0 v7 (word₀ T0))
    (hv : (0#32).toNat < 2) (hv' : (Scalar.subi 1#32 0#32).toNat < 2) (he : (word₀ T0).toNat < 32) (Q : PUnit → sProp 𝕄) :
    iprop(pt c tbM0 (qt 0) T0 ∗ pt c tbM3 (qt 3) T3 ∗ owes (c : Thread nD τ) 0 W ∗ Idle c 0#32 hv ∗ Blocks c q (word₀ T0) he W0 W1 W2
        ∗ (pt c tbM0 (qt 0) T0 ∗ pt c tbM3 (qt 3) T3 ∗ (∃ W', owes (c : Thread nD τ) 0 W') ∗ Landed c W0 W1 W2 q 0#32 (word₀ T0) hv he -∗ Q ⟨⟩))
      ⊢ wp frame (wpE (defs₀ (F := F)) 𝒱₀ (c : Thread nD τ) none) Set.univ (part i M6 h6 M7 h7 M11 h11 v0 0#32 v7 k1 w2 k2) Q := by
  unfold part Idle Blocks Landed
  iintro ⟨HT0, HT3, HO, ⟨⟨%f0, HS0⟩, ⟨%f1, HS1⟩, ⟨%f2, HS2⟩, HF0, HF1, HF2⟩, ⟨HY0, HY1, HY2⟩, Hk⟩
  rw [k0_part1_eq_skeleton]
  unfold k0_part1_skel
  sl_exec (disch := first | exact k3 | exact k4 | exact w3 | exact w4 | exact w1)
  iapply (wp_issue c (wts hbM0 (word₀ T0) (exOk_of _ he)) (slot scM0 0#32 (slotOk_of _ hv)) (.dma (sem0 0#32 (semOk0 _ hv))) 131072 rfl (by decide)) $$ [HY0 HS0 HF0]
  · isplitl [HY0]; · iexact HY0
    isplitl [HS0]; · iexact HS0
    iexact HF0
  iintro HF0
  try sl_exec (disch := first | exact k3 | exact k4 | exact w3 | exact w4 | exact w1)
  iapply (wp_issue c (wts hbM1 (word₀ T0) (exOk_of _ he)) (slot scM1 0#32 (slotOk_of _ hv)) (.dma (sem1 0#32 (semOk1 _ hv))) 131072 rfl (by decide)) $$ [HY1 HS1 HF1]
  · isplitl [HY1]; · iexact HY1
    isplitl [HS1]; · iexact HS1
    iexact HF1
  iintro HF1
  try sl_exec (disch := first | exact k3 | exact k4 | exact w3 | exact w4 | exact w1)
  iapply (wp_issue c (wts' hbM2 (word₀ T0) (exOk'_of _ he)) (slot' scM2 0#32 (slotOk'_of _ hv)) (.dma (sem2 0#32 (semOk2 _ hv))) 131072 rfl (by decide)) $$ [HY2 HS2 HF2]
  · isplitl [HY2]; · iexact HY2
    isplitl [HS2]; · iexact HS2
    iexact HF2
  iintro HF2
  try sl_exec (disch := first | exact k3 | exact k4 | exact w3 | exact w4 | exact w1)
  iapply (Transfers.wp_waitLocal (countersEmb (U := Pipeline.UD sig nD τ)) 𝒱₀ (c : Thread nD τ) none () (by rfl)) $$ [HF0 HO]
  · isplitl [HF0]; · iexact HF0
    iexact HO
  iintro ⟨⟨HF0_dst, HF0_src⟩, HF0, HO⟩
  try sl_exec (disch := first | exact k3 | exact k4 | exact w3 | exact w4 | exact w1)
  iapply (Transfers.wp_waitLocal (countersEmb (U := Pipeline.UD sig nD τ)) 𝒱₀ (c : Thread nD τ) none () (by rfl)) $$ [HF1 HO]
  · isplitl [HF1]; · iexact HF1
    iexact HO
  iintro ⟨⟨HF1_dst, HF1_src⟩, HF1, HO⟩
  try sl_exec (disch := first | exact k3 | exact k4 | exact w3 | exact w4 | exact w1)
  iapply (Transfers.wp_waitLocal (countersEmb (U := Pipeline.UD sig nD τ)) 𝒱₀ (c : Thread nD τ) none () (by rfl)) $$ [HF2 HO]
  · isplitl [HF2]; · iexact HF2
    iexact HO
  iintro ⟨⟨HF2_dst, HF2_src⟩, HF2, HO⟩
  try sl_exec (disch := first | exact k3 | exact k4 | exact w3 | exact w4 | exact w1)
  sl_step
  iapply Hk
  isplitl [HT0]; · iexact HT0
  isplitl [HT3]; · iexact HT3
  isplitl [HO]; · iexists _; iexact HO
  isplitl [HF0_dst HF0_src]
  · iexists _; isplitl [HF0_dst]
    · iexact HF0_dst
    · iexact HF0_src
  isplitl [HF1_dst HF1_src]
  · iexists _; isplitl [HF1_dst]
    · iexact HF1_dst
    · iexact HF1_src
  isplitl [HF2_dst HF2_src]
  · iexists _; isplitl [HF2_dst]
    · iexact HF2_dst
    · iexact HF2_src
  isplitl [HF0]; · iexact HF0
  isplitl [HF1]; · iexact HF1
  iexact HF2

end Cert.KernelExpertsIdeal.Hand

end
-- ==== Proof.XI.Body.lean ====
/-
  The experts' kernel at one grid point: the weights collected are cast and kept, the tile's rows go through the network.
-/
module

public import proofs.«01_k».proof.Proof.XI.Part
public import Idealize.ShloMosaic.Lib.ValueLayout
public import Idealize.ShloMosaic.Lib.VecWindow

@[expose] public section

noncomputable section

namespace Cert.KernelExpertsIdeal.Hand

open Cert.KernelExpertsIdeal Cert.KernelExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelExpertsIdeal.Facts]

/-- The proof's user algebra: the pipeline library's beside the transfers' counters. -/
local notation "𝕄" => MT nD τ sig Unit (Elt F) ℕ (Pipeline.UD sig nD τ) ℕ

/-- A slot that holds an expert's weights, read through the scratch at the slot. -/
theorem slot_read (M : Memref sig .tc .hbm S4x32x2048x512 .f32) (N : Memref sig .tc .vmem S2x2048x512 .f32) (v e : BitVec 32) (hv : SlotOk v) (he : ExOk e) (h : e.toNat < 32)
    (h23 : ∀ a, k0_off23 v a + S1x2048x512.size a ≤ S2x2048x512.size a) (W : M.view.ty.Contents (Elt F)) (f : N.view.ty.Contents (Elt F)) :
    (N.access (Rect.unit (s := S2x2048x512) (k0_off23 v) S1x2048x512.size h23)).read (Elt F)
      ((slot N v hv).view.writes (Elt F) f [⟨Rect.whole S2048x512, (wts M e he).view.read (Elt F) W⟩]) = wcopy (M.view.read (Elt F) W) ⟨e.toNat, h⟩ := by
  funext y
  have hw := View.read_writes_whole (slot N v hv).view f ((wts M e he).view.read (Elt F) W)
  have h2 := congrFun hw (ix2 (y 1) (y 2))
  have e1 : Shape.reshapeEquiv (squeezes_S1x2048x512_S2048x512).numel_eq (ix2 (y 1) (y 2)) = y := by
    refine (reshapeEquiv_ix2_1ab _ (y 1) (y 2)).trans ?_
    funext a
    fin_cases a
    · exact Subsingleton.elim (α := Fin 1) _ _
    · rfl
    · rfl
  have e2 := reshapeEquiv_ix2_11ab (squeezes_S1x1x2048x512_S2048x512).numel_eq (y 1) (y 2)
  have l : (N.access (Rect.unit (s := S2x2048x512) (k0_off23 v) S1x2048x512.size h23)).read (Elt F)
      ((slot N v hv).view.writes (Elt F) f [⟨Rect.whole S2048x512, (wts M e he).view.read (Elt F) W⟩]) (Shape.reshapeEquiv (squeezes_S1x2048x512_S2048x512).numel_eq (ix2 (y 1) (y 2)))
      = (wts M e he).view.read (Elt F) W (ix2 (y 1) (y 2)) := h2
  rw [e1] at l
  rw [l]
  show (M.access (Rect.unit (s := S4x32x2048x512) (k0_off7 e) S1x1x2048x512.size he)).read (Elt F) W (Shape.reshapeEquiv (squeezes_S1x1x2048x512_S2048x512).numel_eq (ix2 (y 1) (y 2))) = _
  rw [e2]
  refine congrArg (M.view.read (Elt F) W) ?_
  funext a
  refine Fin.ext ?_
  fin_cases a <;> simp [Rect.unit, k0_off7, Rect.emb, ix4] <;> rfl

/-- Loading a slot that holds an expert's weights. -/
theorem wp_loadSlot (c : Dev nD) (M : Memref sig .tc .hbm S4x32x2048x512 .f32) (N : Memref sig .tc .vmem S2x2048x512 .f32) (v e : BitVec 32) (hv : SlotOk v) (he : ExOk e) (h : e.toNat < 32)
    (h23 : ∀ a, k0_off23 v a + S1x2048x512.size a ≤ S2x2048x512.size a) (W : Buf (Elt F) (M.view.loc (c : Thread nD τ))) (f : Buf (Elt F) (N.view.loc (c : Thread nD τ)))
    {hl : N.view.LoadsAt (Rect.unit (s := S2x2048x512) (k0_off23 v) S1x2048x512.size h23).toLoadRect} {k : (S1x2048x512.Idx → Elt F .f32) → Prog (TpuEff nD τ sig (Elt F) Λ₀ .tc) PUnit} {Q : PUnit → sProp 𝕄} :
    iprop((slot N v hv).view.loc (c : Thread nD τ) ↦[(slot N v hv).view.set]{fullShare} (slot N v hv).view.writes (Elt F) f [⟨Rect.whole S2048x512, (wts M e he).view.read (Elt F) W⟩])
      ⊢ iprop((((slot N v hv).view.loc (c : Thread nD τ) ↦[(slot N v hv).view.set]{fullShare} (slot N v hv).view.writes (Elt F) f [⟨Rect.whole S2048x512, (wts M e he).view.read (Elt F) W⟩])
          -∗ wp frame (wpE (defs₀ (F := F)) 𝒱₀ (c : Thread nD τ) none) Set.univ (k (wcopy (M.view.read (Elt F) W) ⟨e.toNat, h⟩)) Q)
        -∗ wp frame (wpE (defs₀ (F := F)) 𝒱₀ (c : Thread nD τ) none) Set.univ (.op (.load N (Rect.unit (s := S2x2048x512) (k0_off23 v) S1x2048x512.size h23).toLoadRect hl) fun x => (Prog.ret x).bind k) Q) := by
  rw [← slot_read M N v e hv he h h23 W f]
  exact wp_load_rect 𝒱₀ (c : Thread nD τ) none Set.univ (m := N) (r := Rect.unit (s := S2x2048x512) (k0_off23 v) S1x2048x512.size h23) (hl := hl) (k := fun x => (Prog.ret x).bind k) (q := fullShare)
    (subset_of_eq (View.set_reshape (v := (N.access (Rect.unit (s := S2x2048x512) (k0_off23 v) S1x2048x512.size h23))) (squeezes_S1x2048x512_S2048x512).numel_eq).symm)

/-- A slot that holds an expert's weights, read through the scratch at the slot. -/
theorem slot_read' (M : Memref sig .tc .hbm S4x32x512x2048 .f32) (N : Memref sig .tc .vmem S2x512x2048 .f32) (v e : BitVec 32) (hv : SlotOk' v) (he : ExOk' e) (h : e.toNat < 32)
    (h23 : ∀ a, k0_off24 v a + S1x512x2048.size a ≤ S2x512x2048.size a) (W : M.view.ty.Contents (Elt F)) (f : N.view.ty.Contents (Elt F)) :
    (N.access (Rect.unit (s := S2x512x2048) (k0_off24 v) S1x512x2048.size h23)).read (Elt F)
      ((slot' N v hv).view.writes (Elt F) f [⟨Rect.whole S512x2048, (wts' M e he).view.read (Elt F) W⟩]) = wcopy' (M.view.read (Elt F) W) ⟨e.toNat, h⟩ := by
  funext y
  have hw := View.read_writes_whole (slot' N v hv).view f ((wts' M e he).view.read (Elt F) W)
  have h2 := congrFun hw (ix2 (y 1) (y 2))
  have e1 : Shape.reshapeEquiv (squeezes_S1x512x2048_S512x2048).numel_eq (ix2 (y 1) (y 2)) = y := by
    refine (reshapeEquiv_ix2_1ab _ (y 1) (y 2)).trans ?_
    funext a
    fin_cases a
    · exact Subsingleton.elim (α := Fin 1) _ _
    · rfl
    · rfl
  have e2 := reshapeEquiv_ix2_11ab (squeezes_S1x1x512x2048_S512x2048).numel_eq (y 1) (y 2)
  have l : (N.access (Rect.unit (s := S2x512x2048) (k0_off24 v) S1x512x2048.size h23)).read (Elt F)
      ((slot' N v hv).view.writes (Elt F) f [⟨Rect.whole S512x2048, (wts' M e he).view.read (Elt F) W⟩]) (Shape.reshapeEquiv (squeezes_S1x512x2048_S512x2048).numel_eq (ix2 (y 1) (y 2)))
      = (wts' M e he).view.read (Elt F) W (ix2 (y 1) (y 2)) := h2
  rw [e1] at l
  rw [l]
  show (M.access (Rect.unit (s := S4x32x512x2048) (k0_off12 e) S1x1x512x2048.size he)).read (Elt F) W (Shape.reshapeEquiv (squeezes_S1x1x512x2048_S512x2048).numel_eq (ix2 (y 1) (y 2))) = _
  rw [e2]
  refine congrArg (M.view.read (Elt F) W) ?_
  funext a
  refine Fin.ext ?_
  fin_cases a <;> simp [Rect.unit, k0_off12, Rect.emb, ix4] <;> rfl

/-- Loading a slot that holds an expert's weights. -/
theorem wp_loadSlot' (c : Dev nD) (M : Memref sig .tc .hbm S4x32x512x2048 .f32) (N : Memref sig .tc .vmem S2x512x2048 .f32) (v e : BitVec 32) (hv : SlotOk' v) (he : ExOk' e) (h : e.toNat < 32)
    (h23 : ∀ a, k0_off24 v a + S1x512x2048.size a ≤ S2x512x2048.size a) (W : Buf (Elt F) (M.view.loc (c : Thread nD τ))) (f : Buf (Elt F) (N.view.loc (c : Thread nD τ)))
    {hl : N.view.LoadsAt (Rect.unit (s := S2x512x2048) (k0_off24 v) S1x512x2048.size h23).toLoadRect} {k : (S1x512x2048.Idx → Elt F .f32) → Prog (TpuEff nD τ sig (Elt F) Λ₀ .tc) PUnit} {Q : PUnit → sProp 𝕄} :
    iprop((slot' N v hv).view.loc (c : Thread nD τ) ↦[(slot' N v hv).view.set]{fullShare} (slot' N v hv).view.writes (Elt F) f [⟨Rect.whole S512x2048, (wts' M e he).view.read (Elt F) W⟩])
      ⊢ iprop((((slot' N v hv).view.loc (c : Thread nD τ) ↦[(slot' N v hv).view.set]{fullShare} (slot' N v hv).view.writes (Elt F) f [⟨Rect.whole S512x2048, (wts' M e he).view.read (Elt F) W⟩])
          -∗ wp frame (wpE (defs₀ (F := F)) 𝒱₀ (c : Thread nD τ) none) Set.univ (k (wcopy' (M.view.read (Elt F) W) ⟨e.toNat, h⟩)) Q)
        -∗ wp frame (wpE (defs₀ (F := F)) 𝒱₀ (c : Thread nD τ) none) Set.univ (.op (.load N (Rect.unit (s := S2x512x2048) (k0_off24 v) S1x512x2048.size h23).toLoadRect hl) fun x => (Prog.ret x).bind k) Q) := by
  rw [← slot_read' M N v e hv he h h23 W f]
  exact wp_load_rect 𝒱₀ (c : Thread nD τ) none Set.univ (m := N) (r := Rect.unit (s := S2x512x2048) (k0_off24 v) S1x512x2048.size h23) (hl := hl) (k := fun x => (Prog.ret x).bind k) (q := fullShare)
    (subset_of_eq (View.set_reshape (v := (N.access (Rect.unit (s := S2x512x2048) (k0_off24 v) S1x512x2048.size h23))) (squeezes_S1x512x2048_S512x2048).numel_eq).symm)

/-- Loading and storing all of a memref held whole. -/
theorem wp_getAll (c : Dev nD) {sp : CoreSpace} {s : Shape} {e : EltTy} (M : Memref sig .tc sp s e) {off : Fin s.rank → ℕ} {inb : ∀ a, off a + s.size a ≤ s.size a} (X : s.Idx → Elt F e)
    {hl : M.view.LoadsAt (Rect.unit off s.size inb).toLoadRect} {k : (s.Idx → Elt F e) → Prog (TpuEff nD τ sig (Elt F) Λ₀ .tc) PUnit} {Q : PUnit → sProp 𝕄} :
    iprop(owns (c : Thread nD τ) M fullShare X)
      ⊢ iprop((owns (c : Thread nD τ) M fullShare X -∗ wp frame (wpE (defs₀ (F := F)) 𝒱₀ (c : Thread nD τ) none) Set.univ (k X) Q)
        -∗ wp frame (wpE (defs₀ (F := F)) 𝒱₀ (c : Thread nD τ) none) Set.univ (.op (.load M (Rect.unit off s.size inb).toLoadRect hl) fun x => (Prog.ret x).bind k) Q) := by
  have key : ∀ f : Buf (Elt F) (M.view.loc (c : Thread nD τ)), iprop(M.view.loc (c : Thread nD τ) ↦[M.view.set]{fullShare} f)
      ⊢ iprop(((M.view.loc (c : Thread nD τ) ↦[M.view.set]{fullShare} f) -∗ wp frame (wpE (defs₀ (F := F)) 𝒱₀ (c : Thread nD τ) none) Set.univ (k (M.view.read (Elt F) f)) Q)
        -∗ wp frame (wpE (defs₀ (F := F)) 𝒱₀ (c : Thread nD τ) none) Set.univ (.op (.load M (Rect.unit off s.size inb).toLoadRect hl) fun x => (Prog.ret x).bind k) Q) := by
    intro f
    rw [← View.readAt_full M.view f inb]
    exact wp_load_rect 𝒱₀ (c : Thread nD τ) none Set.univ (m := M) (r := Rect.unit off s.size inb) (hl := hl) (k := fun x => (Prog.ret x).bind k) (q := fullShare) (View.set_slice_subset (v := M.view) _)
  unfold owns
  iintro ⟨%f, %hf, H⟩ Hk
  iapply (key f) $$ [H]
  · iexact H
  iintro H
  rw [hf]
  iapply Hk
  iexists f
  isplitr
  · ipureintro; exact hf
  iexact H

theorem wp_putAll (c : Dev nD) {sp : CoreSpace} {s : Shape} {e : EltTy} (M : Memref sig .tc sp s e) {off : Fin s.rank → ℕ} {inb : ∀ a, off a + s.size a ≤ s.size a} (w : s.Idx → Elt F e)
    {hx : (M.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig (Elt F) Λ₀ .tc) PUnit} {Q : PUnit → sProp 𝕄} :
    iprop(∃ X, owns (c : Thread nD τ) M fullShare X)
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit off s.size inb) w Finset.univ hx hm) fun x => (Prog.ret x).bind k) Q) := by
  have key := fun f : Buf (Elt F) (M.view.loc (c : Thread nD τ)) => wp_store (defs := defs₀ (F := F)) (Q := Q) 𝒱₀ (c : Thread nD τ) none (Γ := []) Set.univ (m := M) (r := Rect.unit off s.size inb) (w := w) (hx := hx) (hm := hm) (k := fun x => (Prog.ret x).bind k)
    (S := M.view.set) (f := f) (View.set_slice_subset (v := M.view) _)
  unfold owns
  iintro ⟨%_X, %f, -, H⟩ Hk
  iapply (key f) $$ [H]
  · iexact H
  iintro H
  iapply Hk
  iexists (M.view.writes (Elt F) f [⟨Rect.unit off s.size inb, w⟩])
  isplitr
  · ipureintro; exact View.read_writes_full M.view f inb w []
  iexact H

variable (c : Dev nD) (i : grid0.Coords) (M6 : Memref sig .tc .vmem S256x2048 .f32) (h6 : M6.IsWhole) (M7 : Memref sig .tc .vmem S1x2048 .f32) (h7 : M7.IsWhole)
    (M11 : Memref sig .tc .vmem S256x2048 .f32) (h11 : M11.IsWhole)
    (T0 : Buf (Elt F) (tbM0.view.loc (c : Thread nD τ))) (T1 : Buf (Elt F) (tbM1.view.loc (c : Thread nD τ))) (T2 : Buf (Elt F) (tbM2.view.loc (c : Thread nD τ)))
    (T3 : Buf (Elt F) (tbM3.view.loc (c : Thread nD τ))) (T4 : Buf (Elt F) (tbM4.view.loc (c : Thread nD τ)))
    (W0 : Buf (Elt F) ((c : Thread nD τ).loc main_arg7)) (W1 : Buf (Elt F) ((c : Thread nD τ).loc main_arg8)) (W2 : Buf (Elt F) ((c : Thread nD τ).loc main_arg9))
    (qt : Fin 5 → PosShare TreeShare) (q q' : PosShare TreeShare)
    (X6 : S256x2048.Idx → Elt F .f32) (X7 : S1x2048.Idx → Elt F .f32) (W : Waits sig Unit)

set_option sl_exec.stopBefore "k0_part1" in
set_option maxHeartbeats 8000000 in
set_option maxRecDepth 65536 in
/-- A point that is an expert's first, whatever its part collects and issues. -/
theorem sound_expert (k1 : k0_cond1 i (word₁ T1) = 1#1) (k2 : k0_cond2 (word i T2) = 1#1) (w2 : k0_chk2 i (word₁ T1) (word i T4) (word i T2))
    (e : BitVec 32) (hv : (word i T4).toNat < 2) (he : e.toNat < 32) (Pre Post : sProp 𝕄)
    (hpart : ∀ Q : PUnit → sProp 𝕄, iprop(pt c tbM0 (qt 0) T0 ∗ pt c tbM3 (qt 3) T3 ∗ owes (c : Thread nD τ) 0 W ∗ Pre
        ∗ (pt c tbM0 (qt 0) T0 ∗ pt c tbM3 (qt 3) T3 ∗ (∃ W', owes (c : Thread nD τ) 0 W') ∗ Landed c W0 W1 W2 q (word i T4) e hv he ∗ Post -∗ Q ⟨⟩))
      ⊢ wp frame (wpE (defs₀ (F := F)) 𝒱₀ (c : Thread nD τ) none) Set.univ (part i M6 h6 M7 h7 M11 h11 (word₁ T1) (word i T4) (word i T2) k1 w2 k2) Q) :
    iprop(Tables c qt T0 T1 T2 T3 T4 ∗ owes (c : Thread nD τ) 0 W ∗ found c M6 M7 X6 X7 iprop(∃ X, owns (c : Thread nD τ) M11 fullShare X)
        ∗ (∃ X Y Z, Kept (F := F) c X Y Z) ∗ Pre)
      ⊢ wp frame (wpE (defs₀ (F := F)) 𝒱₀ (c : Thread nD τ) none) Set.univ (body i M6 h6 M7 h7 M11 h11)
        (fun _ => iprop(Tables c qt T0 T1 T2 T3 T4 ∗ (∃ W', owes (c : Thread nD τ) 0 W')
          ∗ found c M6 M7 X6 X7 iprop(owns (c : Thread nD τ) M11 fullShare (outOf (F := F) c W0 W1 W2 X6 X7 ⟨e.toNat, he⟩))
          ∗ kept c W0 W1 W2 ⟨e.toNat, he⟩ ∗ Idle c (word i T4) hv ∗ Blocks c q e he W0 W1 W2 ∗ Post)) := by
  unfold body Tables found Kept
  iintro ⟨⟨HT0, HT1, HT2, HT3, HT4⟩, HO, ⟨H6, H7, H11⟩, ⟨%_x3, %_x4, %_x5, H3, H4, H5⟩, HP⟩
  rw [cc0_moe_experts_eq_skeleton]
  unfold cc0_moe_experts_skel
  sl_exec (disch := first | exact k1 | exact k2 | exact w2)
  have hb : ∀ (K : PUnit → Prog (TpuEff nD τ sig (Elt F) Λ₀ .tc) PUnit) (Q : PUnit → sProp 𝕄),
      iprop(pt c tbM0 (qt 0) T0 ∗ pt c tbM3 (qt 3) T3 ∗ owes (c : Thread nD τ) 0 W ∗ Pre)
        ⊢ iprop((pt c tbM0 (qt 0) T0 ∗ pt c tbM3 (qt 3) T3 ∗ (∃ W', owes (c : Thread nD τ) 0 W') ∗ Landed c W0 W1 W2 q (word i T4) e hv he ∗ Post
            -∗ wp frame (wpE (defs₀ (F := F)) 𝒱₀ (c : Thread nD τ) none) Set.univ (K ⟨⟩) Q)
          -∗ wp frame (wpE (defs₀ (F := F)) 𝒱₀ (c : Thread nD τ) none) Set.univ (part i M6 h6 M7 h7 M11 h11 (word₁ T1) (word i T4) (word i T2) k1 w2 k2 >>= K) Q) := by
    intro K Q
    rw [wp_bind]
    iintro ⟨HT0, HT3, HO, HP⟩ Hk
    iapply (hpart (fun a => wp frame (wpE (defs₀ (F := F)) 𝒱₀ (c : Thread nD τ) none) Set.univ (K a) Q))
    isplitl [HT0]; · iexact HT0
    isplitl [HT3]; · iexact HT3
    isplitl [HO]; · iexact HO
    isplitl [HP]; · iexact HP
    iexact Hk
  iapply (hb _ _) $$ [HT0 HT3 HO HP]
  · isplitl [HT0]; · iexact HT0
    isplitl [HT3]; · iexact HT3
    isplitl [HO]; · iexact HO
    iexact HP
  unfold Landed
  iintro ⟨HT0, HT3, ⟨%W', HO⟩, ⟨⟨%g0, HD0, HS0⟩, ⟨%g1, HD1, HS1⟩, ⟨%g2, HD2, HS2⟩, HF0, HF1, HF2⟩, HP⟩
  iapply (wp_loadSlot c hbM0 scM0 (word i T4) e (slotOk_of _ hv) (exOk_of _ he) he _ W0 g0) $$ [HD0]
  · iexact HD0
  iintro HD0
  iapply (wp_getAll c scM3 _) $$ [H3]
  · iexact H3
  iintro H3
  iapply (wp_putAll c scM3 _) $$ [H3]
  · iexists _; iexact H3
  iintro H3
  iapply (wp_loadSlot c hbM1 scM1 (word i T4) e (slotOk_of _ hv) (exOk_of _ he) he _ W1 g1) $$ [HD1]
  · iexact HD1
  iintro HD1
  iapply (wp_getAll c scM4 _) $$ [H4]
  · iexact H4
  iintro H4
  iapply (wp_putAll c scM4 _) $$ [H4]
  · iexists _; iexact H4
  iintro H4
  iapply (wp_loadSlot' c hbM2 scM2 (word i T4) e (slotOk'_of _ hv) (exOk'_of _ he) he _ W2 g2) $$ [HD2]
  · iexact HD2
  iintro HD2
  iapply (wp_getAll c scM5 _) $$ [H5]
  · iexact H5
  iintro H5
  iapply (wp_putAll c scM5 _) $$ [H5]
  · iexists _; iexact H5
  iintro H5
  iapply (wp_getAll c M6 X6) $$ [H6]
  · iexact H6
  iintro H6
  iapply (wp_getAll c M7 X7) $$ [H7]
  · iexact H7
  iintro H7
  iapply (wp_getAll c scM3 _) $$ [H3]
  · iexact H3
  iintro H3
  iapply (wp_getAll c scM4 _) $$ [H4]
  · iexact H4
  iintro H4
  iapply (wp_getAll c scM5 _) $$ [H5]
  · iexact H5
  iintro H5
  icases H11 with ⟨%_x11, H11⟩
  iapply (wp_getAll c M11 _) $$ [H11]
  · iexact H11
  iintro H11
  iapply (wp_putAll c M11 _) $$ [H11]
  · iexists _; iexact H11
  iintro H11
  sl_step
  isplitl [HT0 HT1 HT2 HT3 HT4]
  · isplitl [HT0]; · iexact HT0
    isplitl [HT1]; · iexact HT1
    isplitl [HT2]; · iexact HT2
    isplitl [HT3]; · iexact HT3
    iexact HT4
  isplitl [HO]; · iexists _; iexact HO
  isplitl [H6 H7 H11]
  · isplitl [H6]; · iexact H6
    isplitl [H7]; · iexact H7
    iexact H11
  isplitl [H3 H4 H5]
  · unfold kept Kept
    isplitl [H3]; · iexact H3
    isplitl [H4]; · iexact H4
    iexact H5
  isplitl [HD0 HD1 HD2 HF0 HF1 HF2]
  · unfold Idle
    isplitl [HD0]; · iexists _; iexact HD0
    isplitl [HD1]; · iexists _; iexact HD1
    isplitl [HD2]; · iexists _; iexact HD2
    isplitl [HF0]; · iexact HF0
    isplitl [HF1]; · iexact HF1
    iexact HF2
  isplitl [HS0 HS1 HS2]
  · unfold Blocks
    isplitl [HS0]; · iexact HS0
    isplitl [HS1]; · iexact HS1
    iexact HS2
  iexact HP

end Cert.KernelExpertsIdeal.Hand

end
-- ==== Proof.XI.Step.lean ====
/-
  The experts' kernel between two grid points: nothing under way, or the next expert's copies; and what each kind of point makes of it.
-/
module

public import proofs.«01_k».proof.Proof.XI.Body

@[expose] public section

noncomputable section

namespace Cert.KernelExpertsIdeal.Hand

open Cert.KernelExpertsIdeal Cert.KernelExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelExpertsIdeal.Facts]

/-- The proof's user algebra: the pipeline library's beside the transfers' counters. -/
local notation "𝕄" => MT nD τ sig Unit (Elt F) ℕ (Pipeline.UD sig nD τ) ℕ

theorem split_off (ℓ : Loc nD τ sig) (q : PosShare TreeShare) (f : Buf (Elt F) ℓ) (S : Finset (Idx ℓ)) :
    (ℓ ↦{q} f : sProp 𝕄) ⊣⊢ iprop((ℓ ↦[S]{q} f) ∗ ℓ ↦[Finset.univ \ S]{q} f) := pointsTo_split_subset (Finset.subset_univ S)

variable (c : Dev nD) (i : grid0.Coords) (M6 : Memref sig .tc .vmem S256x2048 .f32) (h6 : M6.IsWhole) (M7 : Memref sig .tc .vmem S1x2048 .f32) (h7 : M7.IsWhole)
    (M11 : Memref sig .tc .vmem S256x2048 .f32) (h11 : M11.IsWhole)
    (T0 : Buf (Elt F) (tbM0.view.loc (c : Thread nD τ))) (T1 : Buf (Elt F) (tbM1.view.loc (c : Thread nD τ))) (T2 : Buf (Elt F) (tbM2.view.loc (c : Thread nD τ)))
    (T3 : Buf (Elt F) (tbM3.view.loc (c : Thread nD τ))) (T4 : Buf (Elt F) (tbM4.view.loc (c : Thread nD τ)))
    (W0 : Buf (Elt F) ((c : Thread nD τ).loc main_arg7)) (W1 : Buf (Elt F) ((c : Thread nD τ).loc main_arg8)) (W2 : Buf (Elt F) ((c : Thread nD τ).loc main_arg9))
    (qt : Fin 5 → PosShare TreeShare)
    (X6 : S256x2048.Idx → Elt F .f32) (X7 : S1x2048.Idx → Elt F .f32) (W : Waits sig Unit)

/-- The three weight arrays whole, at share `q`. -/
def HB (q : PosShare TreeShare) : sProp 𝕄 :=
  iprop(((c : Thread nD τ).loc main_arg7 ↦{q} W0) ∗ ((c : Thread nD τ).loc main_arg8 ↦{q} W1) ∗ ((c : Thread nD τ).loc main_arg9 ↦{q} W2))

/-- An expert's blocks taken out of the arrays, and the way back. -/
theorem HB_split (q : PosShare TreeShare) (e : BitVec 32) (he : e.toNat < 32) :
    HB c W0 W1 W2 q ⊢ iprop(Blocks c q e he W0 W1 W2 ∗ (Blocks c q e he W0 W1 W2 -∗ HB c W0 W1 W2 q)) := by
  have s0 := split_off (F := F) ((c : Thread nD τ).loc main_arg7) q W0 (wts hbM0 e (exOk_of e he)).view.set
  have s1 := split_off (F := F) ((c : Thread nD τ).loc main_arg8) q W1 (wts hbM1 e (exOk_of e he)).view.set
  have s2 := split_off (F := F) ((c : Thread nD τ).loc main_arg9) q W2 (wts' hbM2 e (exOk'_of e he)).view.set
  unfold HB Blocks
  iintro ⟨H0, H1, H2⟩
  ihave H0 := s0.1 $$ H0
  ihave H1 := s1.1 $$ H1
  ihave H2 := s2.1 $$ H2
  icases H0 with ⟨A0, B0⟩
  icases H1 with ⟨A1, B1⟩
  icases H2 with ⟨A2, B2⟩
  isplitl [A0 A1 A2]
  · isplitl [A0]; · iexact A0
    isplitl [A1]; · iexact A1
    iexact A2
  iintro ⟨A0, A1, A2⟩
  isplitl [A0 B0]
  · iapply s0.2; isplitl [A0]; · iexact A0
    iexact B0
  isplitl [A1 B1]
  · iapply s1.2; isplitl [A1]; · iexact A1
    iexact B1
  iapply s2.2; isplitl [A2]; · iexact A2
  iexact B2

/-- The two halves of the arrays' share, either way round. -/
def Halves (q q' : PosShare TreeShare) : Prop := (q = fullShare.left ∧ q' = fullShare.right) ∨ (q = fullShare.right ∧ q' = fullShare.left)

/-- Nothing under way. -/
def Quiet : sProp 𝕄 :=
  iprop(Idle c 0#32 (by decide) ∗ Idle c 1#32 (by decide) ∗ HB c W0 W1 W2 fullShare.left ∗ HB c W0 W1 W2 fullShare.right)

/-- Expert `e`'s copies into slot `v` under way. -/
def Flying (v e : BitVec 32) : sProp 𝕄 :=
  iprop(∃ (hv : v.toNat < 2) (hv' : (Scalar.subi 1#32 v).toNat < 2) (he : e.toNat < 32) (q q' : PosShare TreeShare), ⌜Halves q q'⌝ ∗ Idle c (Scalar.subi 1#32 v) hv' ∗ InFl c q v e hv he W0 W1 W2
    ∗ (Blocks c q e he W0 W1 W2 -∗ HB c W0 W1 W2 q) ∗ HB c W0 W1 W2 q')

/-- What a first tile's point leaves under way: the expert of the next run's copies, or nothing. -/
def Next (v n : BitVec 32) : sProp 𝕄 := if k0_cond4 n = 1#1 then Flying c W0 W1 W2 (Scalar.subi 1#32 v) n else Quiet c W0 W1 W2

theorem sub_sub (v : BitVec 32) : Scalar.subi 1#32 (Scalar.subi 1#32 v) = v := by
  show 1#32 - (1#32 - v) = v
  bv_omega

theorem two_words (v : BitVec 32) (hv : v.toNat < 2) : v = 0#32 ∨ v = 1#32 := by
  have : v.toNat = 0 ∨ v.toNat = 1 := by omega
  rcases this with h | h
  · exact .inl (BitVec.eq_of_toNat_eq h)
  · exact .inr (BitVec.eq_of_toNat_eq h)

theorem sub_lt (v : BitVec 32) (hv : v.toNat < 2) : (Scalar.subi 1#32 v).toNat < 2 := by
  rcases two_words v hv with rfl | rfl <;> decide

theorem chk1_of (i : grid0.Coords) (v0 v7 e : BitVec 32) (he : e.toNat < 32) : k0_chk1 i v0 v7 e := ⟨fun _ _ _ => exOk_of e he, fun _ _ _ => exOk'_of e he⟩
theorem chk2_of (i : grid0.Coords) (v0 v v7 : BitVec 32) (hv : v.toNat < 2) : k0_chk2 i v0 v v7 :=
  ⟨fun _ _ => semOk0 v hv, fun _ _ => slotOk_of v hv, fun _ _ => semOk1 v hv, fun _ _ => slotOk_of v hv, fun _ _ => semOk2 v hv, fun _ _ => slotOk'_of v hv, fun _ _ => slotOk_of v hv, fun _ _ => slotOk'_of v hv⟩
theorem chk3_of (i : grid0.Coords) (v0 v7 e : BitVec 32) (he : e.toNat < 32) : k0_chk3 i v0 v7 e := ⟨fun _ _ => exOk_of e he, fun _ _ => exOk'_of e he⟩
theorem chk4_of (i : grid0.Coords) (v0 v v7 n : BitVec 32) (hv : v.toNat < 2) : k0_chk4 i v0 v v7 n :=
  ⟨fun _ _ _ => semOk0 _ (sub_lt v hv), fun _ _ _ => slotOk_of _ (sub_lt v hv), fun _ _ _ => semOk1 _ (sub_lt v hv), fun _ _ _ => slotOk_of _ (sub_lt v hv), fun _ _ _ => semOk2 _ (sub_lt v hv), fun _ _ _ => slotOk'_of _ (sub_lt v hv)⟩
theorem chk5_of (i : grid0.Coords) (v0 v7 n e : BitVec 32) (he : e.toNat < 32) : k0_chk5 i v0 v7 n e := ⟨fun _ _ _ => exOk_of e he, fun _ _ _ => exOk'_of e he⟩

/-- Both slots idle and the arrays' halves whole: nothing under way. -/
theorem quiet_of (v : BitVec 32) (hv : v.toNat < 2) (hv' : (Scalar.subi 1#32 v).toNat < 2) (q q' : PosShare TreeShare) (hq : Halves q q') :
    iprop(Idle (F := F) c v hv ∗ Idle (F := F) c (Scalar.subi 1#32 v) hv' ∗ HB c W0 W1 W2 q ∗ HB c W0 W1 W2 q') ⊢ Quiet c W0 W1 W2 := by
  unfold Quiet
  rcases two_words v hv with rfl | rfl <;> rcases hq with ⟨rfl, rfl⟩ | ⟨rfl, rfl⟩ <;> iintro ⟨A, B, C, D⟩
  · isplitl [A]; · iexact A
    isplitl [B]; · iexact B
    isplitl [C]; · iexact C
    iexact D
  · isplitl [A]; · iexact A
    isplitl [B]; · iexact B
    isplitl [D]; · iexact D
    iexact C
  · isplitl [B]; · iexact B
    isplitl [A]; · iexact A
    isplitl [C]; · iexact C
    iexact D
  · isplitl [B]; · iexact B
    isplitl [A]; · iexact A
    isplitl [D]; · iexact D
    iexact C

/-- What a point that computes finds besides what is under way, and what it leaves. -/
def PointPre (K : sProp 𝕄) : sProp 𝕄 :=
  iprop(Tables c qt T0 T1 T2 T3 T4 ∗ owes (c : Thread nD τ) 0 W ∗ found c M6 M7 X6 X7 iprop(∃ X, owns (c : Thread nD τ) M11 fullShare X) ∗ K)
def PointPost (Y : S256x2048.Idx → Elt F .f32) (K : sProp 𝕄) : sProp 𝕄 :=
  iprop(Tables c qt T0 T1 T2 T3 T4 ∗ (∃ W', owes (c : Thread nD τ) 0 W') ∗ found c M6 M7 X6 X7 iprop(owns (c : Thread nD τ) M11 fullShare Y) ∗ K)

/-- A body's triple with its post weakened by what is kept beside it. -/
theorem post_frame {P : sProp 𝕄} {e : Prog (TpuEff nD τ sig (Elt F) Λ₀ .tc) PUnit} {Q R : PUnit → sProp 𝕄}
    (h : P ⊢ wp frame (wpE (defs₀ (F := F)) 𝒱₀ (c : Thread nD τ) none) Set.univ e Q) :
    P ⊢ iprop((∀ a, Q a -∗ R a) -∗ wp frame (wpE (defs₀ (F := F)) 𝒱₀ (c : Thread nD τ) none) Set.univ e R) :=
  h.trans (wp_wand _ _ _)

theorem Halves.symm {q q' : PosShare TreeShare} (h : Halves q q') : Halves q' q := h.elim (fun h => .inr ⟨h.2, h.1⟩) (fun h => .inl ⟨h.2, h.1⟩)

/-- A slot is the other slot's other. -/
theorem Idle_sub (v : BitVec 32) (hv : v.toNat < 2) (hv' : (Scalar.subi 1#32 (Scalar.subi 1#32 v)).toNat < 2) :
    Idle (F := F) c v hv ⊢ Idle c (Scalar.subi 1#32 (Scalar.subi 1#32 v)) hv' := by
  have key : ∀ (w : BitVec 32) (hw : w.toNat < 2), w = v → (Idle (F := F) c v hv ⊢ Idle c w hw) := by
    rintro w hw rfl; exact Entails.rfl
  exact key _ _ (sub_sub v)

/-- Nothing under way, seen from slot `v`. -/
theorem quiet_open (v : BitVec 32) (hv : v.toNat < 2) (hv' : (Scalar.subi 1#32 v).toNat < 2) :
    Quiet c W0 W1 W2 ⊢ iprop(Idle (F := F) c v hv ∗ Idle (F := F) c (Scalar.subi 1#32 v) hv' ∗ HB c W0 W1 W2 fullShare.left ∗ HB c W0 W1 W2 fullShare.right) := by
  unfold Quiet
  rcases two_words v hv with rfl | rfl <;> iintro ⟨A, B, C, D⟩
  · isplitl [A]; · iexact A
    isplitl [B]; · iexact B
    isplitl [C]; · iexact C
    iexact D
  · isplitl [B]; · iexact B
    isplitl [A]; · iexact A
    isplitl [C]; · iexact C
    iexact D

theorem part_first_next' (q q' : PosShare TreeShare) (v0 v5 v7 : BitVec 32) (k1 : k0_cond1 i v0 = 1#1) (k2 : k0_cond2 v7 = 1#1) (w2 : k0_chk2 i v0 v5 v7)
    (k3 : k0_cond3 i = 1#1) (k4 : k0_cond4 (word i T3) = 1#1)
    (w3 : k0_chk3 i v0 v7 (word i T0)) (w4 : k0_chk4 i v0 v5 v7 (word i T3)) (w1 : k0_chk1 i v0 v7 (word₀ T0)) (w5 : k0_chk5 i v0 v7 (word i T3) (word i T3)) (hz : v5 = 0#32)
    (hv : v5.toNat < 2) (hv' : (Scalar.subi 1#32 v5).toNat < 2) (he : (word₀ T0).toNat < 32) (hn : (word i T3).toNat < 32) (Q : PUnit → sProp 𝕄) :
    iprop(pt c tbM0 (qt 0) T0 ∗ pt c tbM3 (qt 3) T3 ∗ owes (c : Thread nD τ) 0 W ∗ Idle c v5 hv ∗ Blocks c q (word₀ T0) he W0 W1 W2 ∗ Idle c (Scalar.subi 1#32 v5) hv' ∗ Blocks c q' (word i T3) hn W0 W1 W2
        ∗ (pt c tbM0 (qt 0) T0 ∗ pt c tbM3 (qt 3) T3 ∗ (∃ W', owes (c : Thread nD τ) 0 W') ∗ Landed c W0 W1 W2 q v5 (word₀ T0) hv he ∗ InFl c q' (Scalar.subi 1#32 v5) (word i T3) hv' hn W0 W1 W2 -∗ Q ⟨⟩))
      ⊢ wp frame (wpE (defs₀ (F := F)) 𝒱₀ (c : Thread nD τ) none) Set.univ (part i M6 h6 M7 h7 M11 h11 v0 v5 v7 k1 w2 k2) Q := by
  subst hz
  exact part_first_next c i M6 h6 M7 h7 M11 h11 T0 T3 W0 W1 W2 qt q q' W v0 v7 k1 k2 w2 k3 k4 w3 w4 w1 w5 hv hv' he hn Q

theorem part_first_last' (q : PosShare TreeShare) (v0 v5 v7 : BitVec 32) (k1 : k0_cond1 i v0 = 1#1) (k2 : k0_cond2 v7 = 1#1) (w2 : k0_chk2 i v0 v5 v7)
    (k3 : k0_cond3 i = 1#1) (k4 : ¬ k0_cond4 (word i T3) = 1#1)
    (w3 : k0_chk3 i v0 v7 (word i T0)) (w4 : k0_chk4 i v0 v5 v7 (word i T3)) (w1 : k0_chk1 i v0 v7 (word₀ T0)) (hz : v5 = 0#32)
    (hv : v5.toNat < 2) (he : (word₀ T0).toNat < 32) (Q : PUnit → sProp 𝕄) :
    iprop(pt c tbM0 (qt 0) T0 ∗ pt c tbM3 (qt 3) T3 ∗ owes (c : Thread nD τ) 0 W ∗ Idle c v5 hv ∗ Blocks c q (word₀ T0) he W0 W1 W2
        ∗ (pt c tbM0 (qt 0) T0 ∗ pt c tbM3 (qt 3) T3 ∗ (∃ W', owes (c : Thread nD τ) 0 W') ∗ Landed c W0 W1 W2 q v5 (word₀ T0) hv he -∗ Q ⟨⟩))
      ⊢ wp frame (wpE (defs₀ (F := F)) 𝒱₀ (c : Thread nD τ) none) Set.univ (part i M6 h6 M7 h7 M11 h11 v0 v5 v7 k1 w2 k2) Q := by
  subst hz
  exact part_first_last c i M6 h6 M7 h7 M11 h11 T0 T3 W0 W1 W2 qt q W v0 v7 k1 k2 w2 k3 k4 w3 w4 w1 hv (sub_lt _ hv) he Q

set_option maxHeartbeats 4000000 in
set_option maxRecDepth 65536 in
/-- An expert's first tile, its copies under way. -/
theorem sound_later (k1 : k0_cond1 i (word₁ T1) = 1#1) (k2 : k0_cond2 (word i T2) = 1#1) (k3 : ¬ k0_cond3 i = 1#1)
    (he : (word i T0).toNat < 32) (hv : (word i T4).toNat < 2) (hn : k0_cond4 (word i T3) = 1#1 → (word i T3).toNat < 32) :
    PointPre c M6 M7 M11 T0 T1 T2 T3 T4 qt X6 X7 W iprop((∃ X Y Z, Kept (F := F) c X Y Z) ∗ Flying c W0 W1 W2 (word i T4) (word i T0))
      ⊢ wp frame (wpE (defs₀ (F := F)) 𝒱₀ (c : Thread nD τ) none) Set.univ (body i M6 h6 M7 h7 M11 h11)
        (fun _ => PointPost c M6 M7 M11 T0 T1 T2 T3 T4 qt X6 X7 (outOf (F := F) c W0 W1 W2 X6 X7 ⟨(word i T0).toNat, he⟩)
          iprop(kept c W0 W1 W2 ⟨(word i T0).toNat, he⟩ ∗ Next c W0 W1 W2 (word i T4) (word i T3))) := by
  have hv' := sub_lt _ hv
  have w2 : k0_chk2 i (word₁ T1) (word i T4) (word i T2) := chk2_of _ _ _ _ hv
  have w3 : k0_chk3 i (word₁ T1) (word i T2) (word i T0) := chk3_of _ _ _ _ he
  have w4 : k0_chk4 i (word₁ T1) (word i T4) (word i T2) (word i T3) := chk4_of _ _ _ _ _ hv
  unfold PointPre PointPost Next
  by_cases k4 : k0_cond4 (word i T3) = 1#1
  · rw [if_pos k4]
    have w5 : k0_chk5 i (word₁ T1) (word i T2) (word i T3) (word i T3) := chk5_of _ _ _ _ _ (hn k4)
    unfold Flying
    iintro ⟨HT, HO, HX, HK, %_v, %_v', %_e, %q, %q', %hq, HI, HF, HB, HC⟩
    ihave HC := HB_split c W0 W1 W2 q' (word i T3) (hn k4) $$ HC
    icases HC with ⟨HC, HD⟩
    have hs := sound_expert c i M6 h6 M7 h7 M11 h11 T0 T1 T2 T3 T4 W0 W1 W2 qt q X6 X7 W k1 k2 w2 (word i T0) hv he
      iprop(InFl c q (word i T4) (word i T0) hv he W0 W1 W2 ∗ Idle c (Scalar.subi 1#32 (word i T4)) hv' ∗ Blocks c q' (word i T3) (hn k4) W0 W1 W2) iprop(InFl c q' (Scalar.subi 1#32 (word i T4)) (word i T3) hv' (hn k4) W0 W1 W2)
      (fun Q => by
        refine BIBase.Entails.trans ?_ (part_later_next c i M6 h6 M7 h7 M11 h11 T0 T3 W0 W1 W2 qt q q' W (word₁ T1) (word i T4) (word i T2) k1 k2 w2 k3 k4 w3 w4 w5 (word i T0) hv hv' he (hn k4) Q)
        iintro ⟨A, B, C, ⟨D, E, G⟩, H⟩
        isplitl [A]; · iexact A
        isplitl [B]; · iexact B
        isplitl [C]; · iexact C
        isplitl [D]; · iexact D
        isplitl [E]; · iexact E
        isplitl [G]; · iexact G
        iexact H)
    iapply (post_frame c hs) $$ [HT HO HX HK HF HI HC]
    · isplitl [HT]; · iexact HT
      isplitl [HO]; · iexact HO
      isplitl [HX]; · iexact HX
      isplitl [HK]; · iexact HK
      isplitl [HF]; · iexact HF
      isplitl [HI]; · iexact HI
      iexact HC
    iintro %_a ⟨HT, HO, HX, HK, HI, HF, HP⟩
    isplitl [HT]; · iexact HT
    isplitl [HO]; · iexact HO
    isplitl [HX]; · iexact HX
    isplitl [HK]; · iexact HK
    ihave HB := HB $$ HF
    iexists hv', (sub_lt _ hv'), (hn k4), q', q
    isplitr; · ipureintro; exact Halves.symm hq
    isplitl [HI]
    · iapply (Idle_sub c (word i T4) hv (sub_lt _ hv')); iexact HI
    isplitl [HP]; · iexact HP
    isplitl [HD]; · iexact HD
    iexact HB
  · rw [if_neg k4]
    unfold Flying
    iintro ⟨HT, HO, HX, HK, %_v, %_v', %_e, %q, %q', %hq, HI, HF, HB, HC⟩
    have hs := sound_expert c i M6 h6 M7 h7 M11 h11 T0 T1 T2 T3 T4 W0 W1 W2 qt q X6 X7 W k1 k2 w2 (word i T0) hv he
      iprop(InFl c q (word i T4) (word i T0) hv he W0 W1 W2 ∗ Idle c (Scalar.subi 1#32 (word i T4)) hv') iprop(Idle (F := F) c (Scalar.subi 1#32 (word i T4)) hv')
      (fun Q => by
        refine BIBase.Entails.trans ?_ (part_later_last c i M6 h6 M7 h7 M11 h11 T0 T3 W0 W1 W2 qt q W (word₁ T1) (word i T4) (word i T2) k1 k2 w2 k3 k4 w3 w4 (word i T0) hv hv' he Q)
        iintro ⟨A, B, C, ⟨D, R⟩, H⟩
        isplitl [A]; · iexact A
        isplitl [B]; · iexact B
        isplitl [C]; · iexact C
        isplitl [D]; · iexact D
        iintro ⟨A, B, C, D⟩
        iapply H
        isplitl [A]; · iexact A
        isplitl [B]; · iexact B
        isplitl [C]; · iexact C
        isplitl [D]; · iexact D
        iexact R)
    iapply (post_frame c hs) $$ [HT HO HX HK HF HI]
    · isplitl [HT]; · iexact HT
      isplitl [HO]; · iexact HO
      isplitl [HX]; · iexact HX
      isplitl [HK]; · iexact HK
      isplitl [HF]; · iexact HF
      iexact HI
    iintro %_a ⟨HT, HO, HX, HK, HI, HF, HP⟩
    isplitl [HT]; · iexact HT
    isplitl [HO]; · iexact HO
    isplitl [HX]; · iexact HX
    isplitl [HK]; · iexact HK
    ihave HB := HB $$ HF
    iapply (quiet_of c W0 W1 W2 (word i T4) hv hv' q q' hq)
    isplitl [HI]; · iexact HI
    isplitl [HP]; · iexact HP
    isplitl [HB]; · iexact HB
    iexact HC

set_option maxHeartbeats 4000000 in
set_option maxRecDepth 65536 in
/-- The first point of all: its own copies are made here. -/
theorem sound_first (k1 : k0_cond1 i (word₁ T1) = 1#1) (k2 : k0_cond2 (word i T2) = 1#1) (k3 : k0_cond3 i = 1#1) (hz : word i T4 = 0#32)
    (he : (word₀ T0).toNat < 32) (he' : (word i T0).toNat < 32) (hv : (word i T4).toNat < 2) (hn : k0_cond4 (word i T3) = 1#1 → (word i T3).toNat < 32) :
    PointPre c M6 M7 M11 T0 T1 T2 T3 T4 qt X6 X7 W iprop((∃ X Y Z, Kept (F := F) c X Y Z) ∗ Quiet c W0 W1 W2)
      ⊢ wp frame (wpE (defs₀ (F := F)) 𝒱₀ (c : Thread nD τ) none) Set.univ (body i M6 h6 M7 h7 M11 h11)
        (fun _ => PointPost c M6 M7 M11 T0 T1 T2 T3 T4 qt X6 X7 (outOf (F := F) c W0 W1 W2 X6 X7 ⟨(word₀ T0).toNat, he⟩)
          iprop(kept c W0 W1 W2 ⟨(word₀ T0).toNat, he⟩ ∗ Next c W0 W1 W2 (word i T4) (word i T3))) := by
  have hv' := sub_lt _ hv
  have w2 : k0_chk2 i (word₁ T1) (word i T4) (word i T2) := chk2_of _ _ _ _ hv
  have w3 : k0_chk3 i (word₁ T1) (word i T2) (word i T0) := chk3_of _ _ _ _ he'
  have w4 : k0_chk4 i (word₁ T1) (word i T4) (word i T2) (word i T3) := chk4_of _ _ _ _ _ hv
  unfold PointPre PointPost Next
  have w1 : k0_chk1 i (word₁ T1) (word i T2) (word₀ T0) := chk1_of _ _ _ _ he
  by_cases k4 : k0_cond4 (word i T3) = 1#1
  · rw [if_pos k4]
    have w5 : k0_chk5 i (word₁ T1) (word i T2) (word i T3) (word i T3) := chk5_of _ _ _ _ _ (hn k4)
    refine BIBase.Entails.trans (sep_mono_right (sep_mono_right (sep_mono_right (sep_mono_right (quiet_open c W0 W1 W2 (word i T4) hv hv'))))) ?_
    iintro ⟨HT, HO, HX, HK, HI', HI, HB, HC⟩
    ihave HB := HB_split c W0 W1 W2 fullShare.left (word₀ T0) he $$ HB
    icases HB with ⟨HF, HB⟩
    ihave HC := HB_split c W0 W1 W2 fullShare.right (word i T3) (hn k4) $$ HC
    icases HC with ⟨HC, HD⟩
    have hs := sound_expert c i M6 h6 M7 h7 M11 h11 T0 T1 T2 T3 T4 W0 W1 W2 qt fullShare.left X6 X7 W k1 k2 w2 (word₀ T0) hv he
      iprop(Idle c (word i T4) hv ∗ Blocks c fullShare.left (word₀ T0) he W0 W1 W2 ∗ Idle c (Scalar.subi 1#32 (word i T4)) hv' ∗ Blocks c fullShare.right (word i T3) (hn k4) W0 W1 W2) iprop(InFl c fullShare.right (Scalar.subi 1#32 (word i T4)) (word i T3) hv' (hn k4) W0 W1 W2)
      (fun Q => by
        refine BIBase.Entails.trans ?_ (part_first_next' c i M6 h6 M7 h7 M11 h11 T0 T3 W0 W1 W2 qt W fullShare.left fullShare.right (word₁ T1) (word i T4) (word i T2) k1 k2 w2 k3 k4 w3 w4 w1 w5 hz hv hv' he (hn k4) Q)
        iintro ⟨A, B, C, ⟨D0, D, E, G⟩, H⟩
        isplitl [A]; · iexact A
        isplitl [B]; · iexact B
        isplitl [C]; · iexact C
        isplitl [D0]; · iexact D0
        isplitl [D]; · iexact D
        isplitl [E]; · iexact E
        isplitl [G]; · iexact G
        iexact H)
    iapply (post_frame c hs) $$ [HT HO HX HK HI' HF HI HC]
    · isplitl [HT]; · iexact HT
      isplitl [HO]; · iexact HO
      isplitl [HX]; · iexact HX
      isplitl [HK]; · iexact HK
      isplitl [HI']; · iexact HI'
      isplitl [HF]; · iexact HF
      isplitl [HI]; · iexact HI
      iexact HC
    iintro %_a ⟨HT, HO, HX, HK, HI, HF, HP⟩
    isplitl [HT]; · iexact HT
    isplitl [HO]; · iexact HO
    isplitl [HX]; · iexact HX
    isplitl [HK]; · iexact HK
    ihave HB := HB $$ HF
    unfold Flying
    iexists hv', (sub_lt _ hv'), (hn k4), fullShare.right, fullShare.left
    isplitr; · ipureintro; exact Halves.symm (.inl ⟨rfl, rfl⟩)
    isplitl [HI]
    · iapply (Idle_sub c (word i T4) hv (sub_lt _ hv')); iexact HI
    isplitl [HP]; · iexact HP
    isplitl [HD]; · iexact HD
    iexact HB
  · rw [if_neg k4]
    refine BIBase.Entails.trans (sep_mono_right (sep_mono_right (sep_mono_right (sep_mono_right (quiet_open c W0 W1 W2 (word i T4) hv hv'))))) ?_
    iintro ⟨HT, HO, HX, HK, HI', HI, HB, HC⟩
    ihave HB := HB_split c W0 W1 W2 fullShare.left (word₀ T0) he $$ HB
    icases HB with ⟨HF, HB⟩
    have hs := sound_expert c i M6 h6 M7 h7 M11 h11 T0 T1 T2 T3 T4 W0 W1 W2 qt fullShare.left X6 X7 W k1 k2 w2 (word₀ T0) hv he
      iprop(Idle c (word i T4) hv ∗ Blocks c fullShare.left (word₀ T0) he W0 W1 W2 ∗ Idle c (Scalar.subi 1#32 (word i T4)) hv') iprop(Idle (F := F) c (Scalar.subi 1#32 (word i T4)) hv')
      (fun Q => by
        refine BIBase.Entails.trans ?_ (part_first_last' c i M6 h6 M7 h7 M11 h11 T0 T3 W0 W1 W2 qt W fullShare.left (word₁ T1) (word i T4) (word i T2) k1 k2 w2 k3 k4 w3 w4 w1 hz hv he Q)
        iintro ⟨A, B, C, ⟨D0, D, R⟩, H⟩
        isplitl [A]; · iexact A
        isplitl [B]; · iexact B
        isplitl [C]; · iexact C
        isplitl [D0]; · iexact D0
        isplitl [D]; · iexact D
        iintro ⟨A, B, C, D⟩
        iapply H
        isplitl [A]; · iexact A
        isplitl [B]; · iexact B
        isplitl [C]; · iexact C
        isplitl [D]; · iexact D
        iexact R)
    iapply (post_frame c hs) $$ [HT HO HX HK HI' HF HI]
    · isplitl [HT]; · iexact HT
      isplitl [HO]; · iexact HO
      isplitl [HX]; · iexact HX
      isplitl [HK]; · iexact HK
      isplitl [HI']; · iexact HI'
      isplitl [HF]; · iexact HF
      iexact HI
    iintro %_a ⟨HT, HO, HX, HK, HI, HF, HP⟩
    isplitl [HT]; · iexact HT
    isplitl [HO]; · iexact HO
    isplitl [HX]; · iexact HX
    isplitl [HK]; · iexact HK
    ihave HB := HB $$ HF
    iapply (quiet_of c W0 W1 W2 (word i T4) hv hv' fullShare.left fullShare.right (.inl ⟨rfl, rfl⟩))
    isplitl [HI]; · iexact HI
    isplitl [HP]; · iexact HP
    isplitl [HB]; · iexact HB
    iexact HC

set_option maxHeartbeats 4000000 in
set_option maxRecDepth 65536 in
/-- A later tile of the same expert: the kept weights are used again. -/
theorem sound_keep (k1 : k0_cond1 i (word₁ T1) = 1#1) (hv : (word i T4).toNat < 2) (k2 : ¬ k0_cond2 (word i T2) = 1#1) (X Y : S2048x512.Idx → Elt F .bf16) (Z : S512x2048.Idx → Elt F .bf16) :
    PointPre c M6 M7 M11 T0 T1 T2 T3 T4 qt X6 X7 W (Kept (F := F) c X Y Z)
      ⊢ wp frame (wpE (defs₀ (F := F)) 𝒱₀ (c : Thread nD τ) none) Set.univ (body i M6 h6 M7 h7 M11 h11)
        (fun _ => PointPost c M6 M7 M11 T0 T1 T2 T3 T4 qt X6 X7 (k0_pay4 X6 X7 X Y Z) (Kept (F := F) c X Y Z)) := by
  have w2 : k0_chk2 i (word₁ T1) (word i T4) (word i T2) := chk2_of _ _ _ _ hv
  unfold PointPre PointPost body Tables found Kept
  iintro ⟨⟨HT0, HT1, HT2, HT3, HT4⟩, HO, ⟨H6, H7, H11⟩, H3, H4, H5⟩
  rw [cc0_moe_experts_eq_skeleton]
  unfold cc0_moe_experts_skel
  sl_exec (disch := first | exact k1 | exact k2 | exact w2)
  iapply (wp_getAll c M6 X6) $$ [H6]
  · iexact H6
  iintro H6
  iapply (wp_getAll c M7 X7) $$ [H7]
  · iexact H7
  iintro H7
  iapply (wp_getAll c scM3 _) $$ [H3]
  · iexact H3
  iintro H3
  iapply (wp_getAll c scM4 _) $$ [H4]
  · iexact H4
  iintro H4
  iapply (wp_getAll c scM5 _) $$ [H5]
  · iexact H5
  iintro H5
  icases H11 with ⟨%_x11, H11⟩
  iapply (wp_getAll c M11 _) $$ [H11]
  · iexact H11
  iintro H11
  iapply (wp_putAll c M11 _) $$ [H11]
  · iexists _; iexact H11
  iintro H11
  sl_step
  isplitl [HT0 HT1 HT2 HT3 HT4]
  · isplitl [HT0]; · iexact HT0
    isplitl [HT1]; · iexact HT1
    isplitl [HT2]; · iexact HT2
    isplitl [HT3]; · iexact HT3
    iexact HT4
  isplitl [HO]; · iexists _; iexact HO
  isplitl [H6 H7 H11]
  · isplitl [H6]; · iexact H6
    isplitl [H7]; · iexact H7
    iexact H11
  isplitl [H3]; · iexact H3
  isplitl [H4]; · iexact H4
  iexact H5

set_option maxHeartbeats 4000000 in
set_option maxRecDepth 65536 in
/-- A point past the used tiles: nothing happens. -/
theorem sound_off (k1 : ¬ k0_cond1 i (word₁ T1) = 1#1) (R : sProp 𝕄) :
    iprop(Tables c qt T0 T1 T2 T3 T4 ∗ owes (c : Thread nD τ) 0 W ∗ R)
      ⊢ wp frame (wpE (defs₀ (F := F)) 𝒱₀ (c : Thread nD τ) none) Set.univ (body i M6 h6 M7 h7 M11 h11)
        (fun _ => iprop(Tables c qt T0 T1 T2 T3 T4 ∗ (∃ W', owes (c : Thread nD τ) 0 W') ∗ R)) := by
  unfold body Tables
  iintro ⟨⟨HT0, HT1, HT2, HT3, HT4⟩, HO, HR⟩
  rw [cc0_moe_experts_eq_skeleton]
  unfold cc0_moe_experts_skel
  sl_exec (disch := first | exact k1)
  sl_step
  isplitl [HT0 HT1 HT2 HT3 HT4]
  · isplitl [HT0]; · iexact HT0
    isplitl [HT1]; · iexact HT1
    isplitl [HT2]; · iexact HT2
    isplitl [HT3]; · iexact HT3
    iexact HT4
  isplitl [HO]; · iexists _; iexact HO
  iexact HR

end Cert.KernelExpertsIdeal.Hand
-- ==== Proof.XI.Quiet.lean ====
/-
  The experts' kernel between its launch and its first point: the buffers and semaphores as the launch hands them over,
  and as nothing under way.
-/
module

public import proofs.«01_k».proof.Proof.XI.Step
public import Idealize.ShloMosaic.Lib.Exec.Geometry

@[expose] public section

noncomputable section

namespace Cert.KernelExpertsIdeal.Hand

open Cert.KernelExpertsIdeal Cert.KernelExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## A scratch buffer as its two slots -/

/-- The elements of a slot: those of its first coordinate. -/

theorem mem_slot0 (v : BitVec 32) (h : v.toNat < 2) (x : S2x2048x512.Idx) : x ∈ (slot scM0 v (slotOk_of v h)).view.set ↔ (x 0).val = v.toNat := by
  rw [show (slot scM0 v (slotOk_of v h)).view.set = (Rect.unit (s := S2x2048x512) (k0_off6 v) S1x2048x512.size (slotOk_of v h)).set from
    (Memref.set_view_squeeze _ _).trans (View.set_slice_whole _ _), Rect.mem_set_unit]
  constructor
  · intro hx
    have := hx 0
    simp [k0_off6, S1x2048x512] at this
    omega
  · intro hx a
    have h1 : (x 1).val < 2048 := (x 1).isLt
    have h2 : (x 2).val < 512 := (x 2).isLt
    fin_cases a <;> simp [k0_off6, S1x2048x512] <;> omega
theorem mem_slot1 (v : BitVec 32) (h : v.toNat < 2) (x : S2x2048x512.Idx) : x ∈ (slot scM1 v (slotOk_of v h)).view.set ↔ (x 0).val = v.toNat := by
  rw [show (slot scM1 v (slotOk_of v h)).view.set = (Rect.unit (s := S2x2048x512) (k0_off6 v) S1x2048x512.size (slotOk_of v h)).set from
    (Memref.set_view_squeeze _ _).trans (View.set_slice_whole _ _), Rect.mem_set_unit]
  constructor
  · intro hx
    have := hx 0
    simp [k0_off6, S1x2048x512] at this
    omega
  · intro hx a
    have h1 : (x 1).val < 2048 := (x 1).isLt
    have h2 : (x 2).val < 512 := (x 2).isLt
    fin_cases a <;> simp [k0_off6, S1x2048x512] <;> omega
theorem mem_slot2 (v : BitVec 32) (h : v.toNat < 2) (x : S2x512x2048.Idx) : x ∈ (slot' scM2 v (slotOk'_of v h)).view.set ↔ (x 0).val = v.toNat := by
  rw [show (slot' scM2 v (slotOk'_of v h)).view.set = (Rect.unit (s := S2x512x2048) (k0_off11 v) S1x512x2048.size (slotOk'_of v h)).set from
    (Memref.set_view_squeeze _ _).trans (View.set_slice_whole _ _), Rect.mem_set_unit]
  constructor
  · intro hx
    have := hx 0
    simp [k0_off11, S1x512x2048] at this
    omega
  · intro hx a
    have h1 : (x 1).val < 512 := (x 1).isLt
    have h2 : (x 2).val < 2048 := (x 2).isLt
    fin_cases a <;> simp [k0_off11, S1x512x2048] <;> omega

/-- A slot's elements. -/
def set0 (v : BitVec 32) (h : v.toNat < 2) : Finset S2x2048x512.Idx := (slot scM0 v (slotOk_of v h)).view.set
theorem mem_set0 (v : BitVec 32) (h : v.toNat < 2) (x : S2x2048x512.Idx) : x ∈ set0 v h ↔ (x 0).val = v.toNat := mem_slot0 v h x
theorem disj0 : Disjoint (set0 0#32 (by decide)) (set0 1#32 (by decide)) := by
  refine Finset.disjoint_left.mpr fun x h0 h1 => ?_
  rw [mem_set0] at h0 h1
  have h2 : (0#32).toNat = (1#32).toNat := h0.symm.trans h1
  exact absurd h2 (by decide)
theorem uni0 : set0 0#32 (by decide) ∪ set0 1#32 (by decide) = Finset.univ := by
  refine Finset.eq_univ_of_forall fun x => ?_
  rw [Finset.mem_union, mem_set0, mem_set0]
  have hx : (x 0).val < 2 := (x 0).isLt
  show (x 0).val = 0 ∨ (x 0).val = 1
  omega

/-- A slot's elements. -/
def set1 (v : BitVec 32) (h : v.toNat < 2) : Finset S2x2048x512.Idx := (slot scM1 v (slotOk_of v h)).view.set
theorem mem_set1 (v : BitVec 32) (h : v.toNat < 2) (x : S2x2048x512.Idx) : x ∈ set1 v h ↔ (x 0).val = v.toNat := mem_slot1 v h x
theorem disj1 : Disjoint (set1 0#32 (by decide)) (set1 1#32 (by decide)) := by
  refine Finset.disjoint_left.mpr fun x h0 h1 => ?_
  rw [mem_set1] at h0 h1
  have h2 : (0#32).toNat = (1#32).toNat := h0.symm.trans h1
  exact absurd h2 (by decide)
theorem uni1 : set1 0#32 (by decide) ∪ set1 1#32 (by decide) = Finset.univ := by
  refine Finset.eq_univ_of_forall fun x => ?_
  rw [Finset.mem_union, mem_set1, mem_set1]
  have hx : (x 0).val < 2 := (x 0).isLt
  show (x 0).val = 0 ∨ (x 0).val = 1
  omega

/-- A slot's elements. -/
def set2 (v : BitVec 32) (h : v.toNat < 2) : Finset S2x512x2048.Idx := (slot' scM2 v (slotOk'_of v h)).view.set
theorem mem_set2 (v : BitVec 32) (h : v.toNat < 2) (x : S2x512x2048.Idx) : x ∈ set2 v h ↔ (x 0).val = v.toNat := mem_slot2 v h x
theorem disj2 : Disjoint (set2 0#32 (by decide)) (set2 1#32 (by decide)) := by
  refine Finset.disjoint_left.mpr fun x h0 h1 => ?_
  rw [mem_set2] at h0 h1
  have h2 : (0#32).toNat = (1#32).toNat := h0.symm.trans h1
  exact absurd h2 (by decide)
theorem uni2 : set2 0#32 (by decide) ∪ set2 1#32 (by decide) = Finset.univ := by
  refine Finset.eq_univ_of_forall fun x => ?_
  rw [Finset.mem_union, mem_set2, mem_set2]
  have hx : (x 0).val < 2 := (x 0).isLt
  show (x 0).val = 0 ∨ (x 0).val = 1
  omega

/-- A buffer whole at anything is two parts of it at anything, wherever the parts make it up. -/
theorem two_parts (ℓ : Loc nD τ sig) (I J : Finset (Idx ℓ)) (hd : Disjoint I J) (hu : I ∪ J = Finset.univ) :
    (iprop(∃ f : Buf (Elt F) ℓ, ℓ ↦{fullShare} f) : sProp 𝕄) ⊣⊢ iprop((∃ f : Buf (Elt F) ℓ, ℓ ↦[I]{fullShare} f) ∗ (∃ f : Buf (Elt F) ℓ, ℓ ↦[J]{fullShare} f)) := by
  constructor
  · iintro ⟨%f, H⟩
    rw [← hu]
    ihave H := (pointsTo_union hd).1 $$ H
    icases H with ⟨A, B⟩
    isplitl [A]; · iexists f; iexact A
    iexists f; iexact B
  · iintro ⟨⟨%f, A⟩, ⟨%g, B⟩⟩
    iexists J.piecewise g f
    rw [← hu]
    iapply (pointsTo_join hd)
    isplitl [A]; · iexact A
    iexact B

variable (c : Dev nD) (W0 : Buf (Elt F) ((c : Thread nD τ).loc main_arg7)) (W1 : Buf (Elt F) ((c : Thread nD τ).loc main_arg8)) (W2 : Buf (Elt F) ((c : Thread nD τ).loc main_arg9))

theorem slots0 : (iprop(∃ f : Buf (Elt F) ((c : Thread nD τ).loc cc0_scratch0), ((c : Thread nD τ).loc cc0_scratch0) ↦{fullShare} f) : sProp 𝕄)
    ⊣⊢ iprop((∃ f : Buf (Elt F) _, (slot scM0 0#32 (slotOk_of 0#32 (by decide))).view.loc (c : Thread nD τ) ↦[(slot scM0 0#32 (slotOk_of 0#32 (by decide))).view.set]{fullShare} f)
      ∗ (∃ f : Buf (Elt F) _, (slot scM0 1#32 (slotOk_of 1#32 (by decide))).view.loc (c : Thread nD τ) ↦[(slot scM0 1#32 (slotOk_of 1#32 (by decide))).view.set]{fullShare} f)) :=
  two_parts ((c : Thread nD τ).loc cc0_scratch0) (set0 0#32 (by decide)) (set0 1#32 (by decide)) disj0 uni0

theorem slots1 : (iprop(∃ f : Buf (Elt F) ((c : Thread nD τ).loc cc0_scratch1), ((c : Thread nD τ).loc cc0_scratch1) ↦{fullShare} f) : sProp 𝕄)
    ⊣⊢ iprop((∃ f : Buf (Elt F) _, (slot scM1 0#32 (slotOk_of 0#32 (by decide))).view.loc (c : Thread nD τ) ↦[(slot scM1 0#32 (slotOk_of 0#32 (by decide))).view.set]{fullShare} f)
      ∗ (∃ f : Buf (Elt F) _, (slot scM1 1#32 (slotOk_of 1#32 (by decide))).view.loc (c : Thread nD τ) ↦[(slot scM1 1#32 (slotOk_of 1#32 (by decide))).view.set]{fullShare} f)) :=
  two_parts ((c : Thread nD τ).loc cc0_scratch1) (set1 0#32 (by decide)) (set1 1#32 (by decide)) disj1 uni1

theorem slots2 : (iprop(∃ f : Buf (Elt F) ((c : Thread nD τ).loc cc0_scratch2), ((c : Thread nD τ).loc cc0_scratch2) ↦{fullShare} f) : sProp 𝕄)
    ⊣⊢ iprop((∃ f : Buf (Elt F) _, (slot' scM2 0#32 (slotOk'_of 0#32 (by decide))).view.loc (c : Thread nD τ) ↦[(slot' scM2 0#32 (slotOk'_of 0#32 (by decide))).view.set]{fullShare} f)
      ∗ (∃ f : Buf (Elt F) _, (slot' scM2 1#32 (slotOk'_of 1#32 (by decide))).view.loc (c : Thread nD τ) ↦[(slot' scM2 1#32 (slotOk'_of 1#32 (by decide))).view.set]{fullShare} f)) :=
  two_parts ((c : Thread nD τ).loc cc0_scratch2) (set2 0#32 (by decide)) (set2 1#32 (by decide)) disj2 uni2

/-! ## The semaphores and the arrays read -/

/-- The body's six cells: a slot's three in turn. -/
abbrev osem0 : Fin 6 → SemLoc sig := fun j =>
  (![.dma (sem0 0#32 (semOk0 0#32 (by decide))), .dma (sem1 0#32 (semOk1 0#32 (by decide))), .dma (sem2 0#32 (semOk2 0#32 (by decide))),
     .dma (sem0 1#32 (semOk0 1#32 (by decide))), .dma (sem1 1#32 (semOk1 1#32 (by decide))), .dma (sem2 1#32 (semOk2 1#32 (by decide)))] : Fin 6 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), .dma (sem0 0#32 (semOk0 0#32 (by decide)))) 0 ∗ semVal ((c : Thread nD τ), .dma (sem1 0#32 (semOk1 0#32 (by decide)))) 0
          ∗ semVal ((c : Thread nD τ), .dma (sem2 0#32 (semOk2 0#32 (by decide)))) 0
          ∗ semVal ((c : Thread nD τ), .dma (sem0 1#32 (semOk0 1#32 (by decide)))) 0 ∗ semVal ((c : Thread nD τ), .dma (sem1 1#32 (semOk1 1#32 (by decide)))) 0
          ∗ semVal ((c : Thread nD τ), .dma (sem2 1#32 (semOk2 1#32 (by decide)))) 0) := by
  rw [Pipeline.ownSems0_eq_of_list c osem0 [0, 1, 2, 3, 4, 5] (by decide) (by decide)]; rfl

/-- The arrays the body's copies read. -/
def H0 : Finset (Ref sig .tc) := {main_arg7, main_arg8, main_arg9}
theorem H0_sub : H0 ⊆ Pipeline.restRefsP sig pre0 spec0 := by decide
theorem hbmPts0_eq (V : (b : Ref sig .tc) → Buf (Elt F) ((c : Thread nD τ).loc b)) :
    (bigSep H0 fun b => ((c : Thread nD τ).loc b) ↦{fullShare} V b : sProp 𝕄)
      = iprop((((c : Thread nD τ).loc main_arg7) ↦{fullShare} V main_arg7) ∗ (((c : Thread nD τ).loc main_arg8) ↦{fullShare} V main_arg8) ∗ (((c : Thread nD τ).loc main_arg9) ↦{fullShare} V main_arg9)) := by
  rw [BI.bigSep_eq_bigSepL_of_eq [main_arg7, main_arg8, main_arg9] (by decide) (by decide)]; rfl

theorem halves (ℓ : Loc nD τ sig) (f : Buf (Elt F) ℓ) : (ℓ ↦{fullShare} f : sProp 𝕄) ⊣⊢ iprop((ℓ ↦{fullShare.left} f) ∗ ℓ ↦{fullShare.right} f) :=
  pointsTo_share (PosShare.mem_left_op_right fullShare)

/-- What the launch hands the kernel beside the kept weights. -/
def Given : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (semVal ((c : Thread nD τ), .dma (sem0 0#32 (semOk0 0#32 (by decide)))) 0 ∗ semVal ((c : Thread nD τ), .dma (sem1 0#32 (semOk1 0#32 (by decide)))) 0
          ∗ semVal ((c : Thread nD τ), .dma (sem2 0#32 (semOk2 0#32 (by decide)))) 0
          ∗ semVal ((c : Thread nD τ), .dma (sem0 1#32 (semOk0 1#32 (by decide)))) 0 ∗ semVal ((c : Thread nD τ), .dma (sem1 1#32 (semOk1 1#32 (by decide)))) 0
          ∗ semVal ((c : Thread nD τ), .dma (sem2 1#32 (semOk2 1#32 (by decide)))) 0)
    ∗ (((c : Thread nD τ).loc main_arg7) ↦{fullShare} W0) ∗ (((c : Thread nD τ).loc main_arg8) ↦{fullShare} W1) ∗ (((c : Thread nD τ).loc main_arg9) ↦{fullShare} W2))

theorem quiet_in : Given c W0 W1 W2 ⊢ Quiet c W0 W1 W2 := by
  unfold Given Quiet Idle HB
  iintro ⟨S0, S1, S2, ⟨A0, A1, A2, B0, B1, B2⟩, H0, H1, H2⟩
  ihave S0 := (slots0 c).1 $$ S0
  ihave S1 := (slots1 c).1 $$ S1
  ihave S2 := (slots2 c).1 $$ S2
  ihave H0 := (halves _ _).1 $$ H0
  ihave H1 := (halves _ _).1 $$ H1
  ihave H2 := (halves _ _).1 $$ H2
  icases S0 with ⟨P0, Q0⟩
  icases S1 with ⟨P1, Q1⟩
  icases S2 with ⟨P2, Q2⟩
  icases H0 with ⟨L0, R0⟩
  icases H1 with ⟨L1, R1⟩
  icases H2 with ⟨L2, R2⟩
  isplitl [P0 P1 P2 A0 A1 A2]
  · isplitl [P0]; · iexact P0
    isplitl [P1]; · iexact P1
    isplitl [P2]; · iexact P2
    isplitl [A0]; · iexact A0
    isplitl [A1]; · iexact A1
    iexact A2
  isplitl [Q0 Q1 Q2 B0 B1 B2]
  · isplitl [Q0]; · iexact Q0
    isplitl [Q1]; · iexact Q1
    isplitl [Q2]; · iexact Q2
    isplitl [B0]; · iexact B0
    isplitl [B1]; · iexact B1
    iexact B2
  isplitl [L0 L1 L2]
  · isplitl [L0]; · iexact L0
    isplitl [L1]; · iexact L1
    iexact L2
  isplitl [R0]; · iexact R0
  isplitl [R1]; · iexact R1
  iexact R2

theorem quiet_out : Quiet c W0 W1 W2 ⊢ Given c W0 W1 W2 := by
  unfold Given Quiet Idle HB
  iintro ⟨⟨P0, P1, P2, A0, A1, A2⟩, ⟨Q0, Q1, Q2, B0, B1, B2⟩, ⟨L0, L1, L2⟩, R0, R1, R2⟩
  isplitl [P0 Q0]
  · iapply (slots0 c).2
    isplitl [P0]; · iexact P0
    iexact Q0
  isplitl [P1 Q1]
  · iapply (slots1 c).2
    isplitl [P1]; · iexact P1
    iexact Q1
  isplitl [P2 Q2]
  · iapply (slots2 c).2
    isplitl [P2]; · iexact P2
    iexact Q2
  isplitl [A0 A1 A2 B0 B1 B2]
  · isplitl [A0]; · iexact A0
    isplitl [A1]; · iexact A1
    isplitl [A2]; · iexact A2
    isplitl [B0]; · iexact B0
    isplitl [B1]; · iexact B1
    iexact B2
  isplitl [L0 R0]
  · iapply (halves _ _).2
    isplitl [L0]; · iexact L0
    iexact R0
  isplitl [L1 R1]
  · iapply (halves _ _).2
    isplitl [L1]; · iexact L1
    iexact R1
  iapply (halves _ _).2
  isplitl [L2]; · iexact L2
  iexact R2

end Cert.KernelExpertsIdeal.Hand

end
-- ==== Proof.Sched.lean ====
/-
  The schedule of the experts' tiles: what the precondition says of it tile by tile, and the mask of the used rows.
-/
module

public import proofs.«01_k».proof.Pre_schedule
public import proofs.«01_k».proof.On_used_rows
public import Idealize.ShloMosaic.PureOps.Ideal
public import Idealize.ShloMosaic.Lib.Pipeline.Value
public import Idealize.ShloMosaic.Lib.ValueIdxCore

@[expose] public section

noncomputable section

namespace Cert.Proof.Sched

open Idealize Idealize.ShloMosaic Cert.Pre_schedule
open Idealize.ShloMosaic.ValueIdx

/-- The relations the predicate's and the mask's operations state. -/
theorem facts : Cert.Pre_schedule.Facts where
  shapeCasts_S1_S_ := by decide
  slices_S160_S159_1 := by decide
  slices_S160_S1_0 := by decide
  concatenates_S159_S1_S160_d0 := by decide
  bcast_S_S160 := ⟨by decide, fun a => a.elim0⟩

theorem facts_on : Cert.On_used_rows.Facts where
  shapeCasts_S1_S_ := by decide
  bcast_S_S40960x2048 := ⟨by decide, fun a => a.elim0⟩

/-- A schedule of tiles: `n` of them used, each with its expert, whether it is its expert's first, the next run's expert
    (or all ones) and the slot its expert's weights are in. -/
structure Good (n : ℕ) (te fi nx sl : ℕ → BitVec 32) : Prop where
  pos : 1 ≤ n
  le : n ≤ 160
  expert : ∀ j < n, (te j).toNat < 32
  first : fi 0 = 1#32
  slot : sl 0 = 0#32
  last : ∀ j, j + 1 = n → nx j = 4294967295#32
  same : ∀ j, j + 1 < n → te (j + 1) = te j → fi (j + 1) = 0#32 ∧ sl (j + 1) = sl j ∧ nx j = nx (j + 1)
  next : ∀ j, j + 1 < n → te (j + 1) ≠ te j → fi (j + 1) = 1#32 ∧ sl (j + 1) = 1#32 - sl j ∧ nx j = te (j + 1)

namespace Good

variable {n : ℕ} {te fi nx sl : ℕ → BitVec 32} (h : Good n te fi nx sl)
include h

/-- A slot is one of two. -/
theorem slot_lt (j : ℕ) (hj : j < n) : (sl j).toNat < 2 := by
  induction j with
  | zero => rw [h.slot]; decide
  | succ j ih =>
    have hs := ih (by omega)
    by_cases e : te (j + 1) = te j
    · rw [(h.same j hj e).2.1]; exact hs
    · rw [(h.next j hj e).2.1]; bv_omega

/-- The next expert is one of the 32, or there is none. -/
theorem next_cases (j : ℕ) (hj : j < n) : nx j = 4294967295#32 ∨ (nx j).toNat < 32 := by
  obtain ⟨k, hk⟩ : ∃ k, n = j + 1 + k := ⟨n - (j + 1), by omega⟩
  induction k generalizing j with
  | zero => exact .inl (h.last j (by omega))
  | succ k ih =>
    by_cases e : te (j + 1) = te j
    · rw [(h.same j (by omega) e).2.2]; exact ih (j + 1) (by omega) (by omega)
    · rw [(h.next j (by omega) e).2.2]; exact .inr (h.expert _ (by omega))

end Good

theorem and_ones {a b : BitVec 1} (h : IntOp.andi a b = 1#1) : a = 1#1 ∧ b = 1#1 := by revert a b; decide
theorem or_ones {a b : BitVec 1} (h : IntOp.ori a b = 1#1) : a = 1#1 ∨ b = 1#1 := by revert a b; decide
theorem ofBool_one (b : Bool) : BitVec.ofBool b = 1#1 ↔ b = true := by cases b <;> decide
theorem eq_ones {x y : BitVec 32} (h : IntOp.cmpi .eq x y = 1#1) : x = y := by
  simpa [IntOp.cmpi, ofBool_one] using h
theorem ne_ones {x y : BitVec 32} (h : IntOp.cmpi .ne x y = 1#1) : x ≠ y := by
  simpa [IntOp.cmpi, ofBool_one] using h
theorem sge_ones {x y : BitVec 32} (h : IntOp.cmpi .sge x y = 1#1) : y.toInt ≤ x.toInt := by
  simpa [IntOp.cmpi, ofBool_one, BitVec.sle] using h
theorem sle_ones {x y : BitVec 32} (h : IntOp.cmpi .sle x y = 1#1) : x.toInt ≤ y.toInt := by
  simpa [IntOp.cmpi, ofBool_one, BitVec.sle] using h
theorem sgt_ones {x y : BitVec 32} (h : IntOp.cmpi .sgt x y = 1#1) : y.toInt < x.toInt := by
  simpa [IntOp.cmpi, ofBool_one, BitVec.slt] using h
theorem slt_ones {x y : BitVec 32} : IntOp.cmpi .slt x y = 1#1 ↔ x.toInt < y.toInt := by
  simp [IntOp.cmpi, ofBool_one, BitVec.slt]

theorem toInt_small (x : BitVec 32) (h : x.toNat < 2 ^ 31) : x.toInt = x.toNat := by
  rw [BitVec.toInt_eq_toNat_cond]; split <;> omega

theorem toInt_ofNat (k : ℕ) (h : k < 2 ^ 31) : (BitVec.ofNat 32 k).toInt = k := by
  rw [toInt_small _ (by rw [BitVec.toNat_ofNat]; omega), BitVec.toNat_ofNat]; omega

/-- A table of the schedule as a function of the tile. -/
def tab (a : IVec S160 32) (j : ℕ) : BitVec 32 := if h : j < 160 then a (ix1 ⟨j, h⟩) else 0#32
theorem tab_lt (a : IVec S160 32) (j : ℕ) (h : j < 160) : tab a j = a (ix1 ⟨j, h⟩) := dif_pos h

variable [Cert.Pre_schedule.Facts]

/-- A table moved on by one tile. -/
theorem after_at (a : IVec S160 32) (j : ℕ) (h : j + 1 < 160) :
    concatenate S160 0 [⟨S159, extractStridedSlice S159 ![1] a Facts.slices_S160_S159_1⟩, ⟨S1, extractStridedSlice S1 ![0] a Facts.slices_S160_S1_0⟩]
      Facts.concatenates_S159_S1_S160_d0 (ix1 ⟨j, by omega⟩) = tab a (j + 1) := by
  refine (concatenate_pair_apply_left (t := S160) (0 : Fin S160.rank) (extractStridedSlice S159 ![1] a Facts.slices_S160_S159_1) (extractStridedSlice S1 ![0] a Facts.slices_S160_S1_0)
    Facts.concatenates_S159_S1_S160_d0 (ix1 ⟨j, by omega⟩) rfl (ix1 ⟨j, by omega⟩ : S159.Idx) (fun b => by fin_cases b; rfl)).trans ?_
  rw [tab_lt a _ h]
  refine congrArg a (funext fun b => ?_)
  fin_cases b
  exact Fin.ext (Nat.add_comm 1 j)

/-- What the predicate says: a good schedule. -/
theorem good (te : IVec S160 32) (nu : IVec S1 32) (fi nx sl : IVec S160 32)
    (x5 : S40960x2048.Idx → EReal) (x6 : S1x2048.Idx → EReal) (x7 x8 : S4x32x2048x512.Idx → EReal) (x9 : S4x32x512x2048.Idx → EReal)
    (hp : fn (F := Ideal) te nu fi nx sl x5 x6 x7 x8 x9 = fun _ => 1#1) :
    Good (nu (ix1 0)).toNat (tab te) (tab fi) (tab nx) (tab sl) := by
  have hn : shapeCast S_ nu Facts.shapeCasts_S1_S_ (fun a => a.elim0) = nu (ix1 0) :=
    congrArg nu (funext fun a => by fin_cases a; exact Subsingleton.elim (α := Fin 1) _ _)
  have key : ∀ (j : ℕ) (hj : j < 160),
      ∀ A : IVec S160 32 → BitVec 32, (∀ a, A a = concatenate S160 0 [⟨S159, extractStridedSlice S159 ![1] a Facts.slices_S160_S159_1⟩, ⟨S1, extractStridedSlice S1 ![0] a Facts.slices_S160_S1_0⟩]
      Facts.concatenates_S159_S1_S160_d0 (ix1 ⟨j, by omega⟩)) →
      IntOp.andi (IntOp.andi (IntOp.andi (IntOp.andi (IntOp.andi
        (IntOp.andi (IntOp.cmpi .sge (nu (ix1 0)) 1#32) (IntOp.cmpi .sle (nu (ix1 0)) 160#32))
        (IntOp.ori (IntOp.cmpi .sge (BitVec.ofNat 32 j) (nu (ix1 0))) (IntOp.andi (IntOp.cmpi .sge (tab te j) 0#32) (IntOp.cmpi .slt (tab te j) 32#32))))
        (IntOp.ori (IntOp.cmpi .sgt (BitVec.ofNat 32 j) 0#32) (IntOp.andi (IntOp.cmpi .eq (tab fi j) 1#32) (IntOp.cmpi .eq (tab sl j) 0#32))))
        (IntOp.ori (IntOp.cmpi .ne (BitVec.ofNat 32 j + 1#32) (nu (ix1 0))) (IntOp.cmpi .eq (tab nx j) 4294967295#32)))
        (IntOp.ori (IntOp.ori (IntOp.cmpi .sge (BitVec.ofNat 32 j + 1#32) (nu (ix1 0))) (IntOp.cmpi .ne (A te) (tab te j)))
          (IntOp.andi (IntOp.andi (IntOp.cmpi .eq (A fi) 0#32) (IntOp.cmpi .eq (A sl) (tab sl j))) (IntOp.cmpi .eq (tab nx j) (A nx)))))
        (IntOp.ori (IntOp.ori (IntOp.cmpi .sge (BitVec.ofNat 32 j + 1#32) (nu (ix1 0))) (IntOp.cmpi .eq (A te) (tab te j)))
          (IntOp.andi (IntOp.andi (IntOp.cmpi .eq (A fi) 1#32) (IntOp.cmpi .eq (A sl) (1#32 - tab sl j))) (IntOp.cmpi .eq (tab nx j) (A te)))) = 1#1 := by
    intro j hj A hA
    rw [hA, hA, hA, hA, tab_lt te j hj, tab_lt fi j hj, tab_lt sl j hj, tab_lt nx j hj, ← hn]
    exact congrFun hp (ix1 ⟨j, hj⟩)
  have range : (nu (ix1 0)).toInt = (nu (ix1 0)).toNat ∧ 1 ≤ (nu (ix1 0)).toNat ∧ (nu (ix1 0)).toNat ≤ 160 := by
    have h := key 0 (by omega) _ (fun _ => rfl)
    obtain ⟨h, -⟩ := and_ones h
    obtain ⟨h, -⟩ := and_ones h
    obtain ⟨h, -⟩ := and_ones h
    obtain ⟨h, -⟩ := and_ones h
    obtain ⟨h, -⟩ := and_ones h
    obtain ⟨h1, h2⟩ := and_ones h
    have h1 := sge_ones h1
    have h2 := sle_ones h2
    have e1 : (1#32 : BitVec 32).toInt = 1 := by decide
    have e2 : (160#32 : BitVec 32).toInt = 160 := by decide
    have := BitVec.toInt_eq_toNat_cond (nu (ix1 0))
    have := (nu (ix1 0)).isLt
    split at * <;> omega
  obtain ⟨hnu, hpos, hle⟩ := range
  have succ : ∀ j, j < 160 → (BitVec.ofNat 32 j + 1#32).toInt = j + 1 := fun j hj => by
    have e : (BitVec.ofNat 32 j + 1#32).toNat = j + 1 := by
      rw [BitVec.toNat_add, BitVec.toNat_ofNat]
      show (j % 2 ^ 32 + 1) % 2 ^ 32 = j + 1
      omega
    rw [toInt_small _ (by omega), e]
    push_cast
    rfl
  refine ⟨hpos, hle, fun j hj => ?_, ?_, ?_, fun j hj => ?_, fun j hj e => ?_, fun j hj e => ?_⟩
  · have h := key j (by omega) _ (fun _ => rfl)
    obtain ⟨h, -⟩ := and_ones h
    obtain ⟨h, -⟩ := and_ones h
    obtain ⟨h, -⟩ := and_ones h
    obtain ⟨h, -⟩ := and_ones h
    obtain ⟨-, h⟩ := and_ones h
    rcases or_ones h with h | h
    · have := sge_ones h; rw [toInt_ofNat j (by omega), hnu] at this; omega
    · obtain ⟨h1, h2⟩ := and_ones h
      have h1 := sge_ones h1
      have h2 := slt_ones.1 h2
      have e1 : (0#32 : BitVec 32).toInt = 0 := by decide
      have e2 : (32#32 : BitVec 32).toInt = 32 := by decide
      have := BitVec.toInt_eq_toNat_cond (tab te j)
      have := (tab te j).isLt
      split at * <;> omega
  · have h := key 0 (by omega) _ (fun _ => rfl)
    obtain ⟨h, -⟩ := and_ones h
    obtain ⟨h, -⟩ := and_ones h
    obtain ⟨h, -⟩ := and_ones h
    obtain ⟨-, h⟩ := and_ones h
    rcases or_ones h with h | h
    · exact absurd h (by decide)
    · exact eq_ones (and_ones h).1
  · have h := key 0 (by omega) _ (fun _ => rfl)
    obtain ⟨h, -⟩ := and_ones h
    obtain ⟨h, -⟩ := and_ones h
    obtain ⟨h, -⟩ := and_ones h
    obtain ⟨-, h⟩ := and_ones h
    rcases or_ones h with h | h
    · exact absurd h (by decide)
    · exact eq_ones (and_ones h).2
  · have h := key j (by omega) _ (fun _ => rfl)
    obtain ⟨h, -⟩ := and_ones h
    obtain ⟨h, -⟩ := and_ones h
    obtain ⟨-, h⟩ := and_ones h
    rcases or_ones h with h | h
    · exact absurd (BitVec.eq_of_toInt_eq (by rw [succ j (by omega), hnu]; omega)) (ne_ones h)
    · exact eq_ones h
  · have h := key j (by omega) (fun a => tab a (j + 1)) (fun a => (after_at a j (by omega)).symm)
    obtain ⟨h, -⟩ := and_ones h
    obtain ⟨-, h⟩ := and_ones h
    rcases or_ones h with h | h
    · rcases or_ones h with h | h
      · have := sge_ones h; rw [succ j (by omega), hnu] at this; omega
      · exact absurd e (ne_ones h)
    · obtain ⟨h, h3⟩ := and_ones h
      obtain ⟨h1, h2⟩ := and_ones h
      exact ⟨eq_ones h1, eq_ones h2, eq_ones h3⟩
  · have h := key j (by omega) (fun a => tab a (j + 1)) (fun a => (after_at a j (by omega)).symm)
    obtain ⟨-, h⟩ := and_ones h
    rcases or_ones h with h | h
    · rcases or_ones h with h | h
      · have := sge_ones h; rw [succ j (by omega), hnu] at this; omega
      · exact absurd (eq_ones h) e
    · obtain ⟨h, h3⟩ := and_ones h
      obtain ⟨h1, h2⟩ := and_ones h
      exact ⟨eq_ones h1, eq_ones h2, eq_ones h3⟩

end Cert.Proof.Sched

end
-- ==== Proof.XI.Point.lean ====
/-
  The experts' kernel's grid: what the schedule's words say at a point, and where its windows lie.
-/
module

public import proofs.«01_k».proof.Proof.XI.Quiet
public import proofs.«01_k».proof.Proof.Sched

@[expose] public section

noncomputable section

namespace Cert.KernelExpertsIdeal.Hand

open Cert.KernelExpertsIdeal Cert.KernelExpertsIdeal.Gen
open Cert.Proof.Sched (tab tab_lt Good)
open Idealize Idealize.ShloMosaic Idealize.ShloMosaic.ValueIdx

variable {F : FTy → Type} [FloatOps F]

theorem coords_val : ∀ t : Fin grid0.N, (grid0.coords t 0).val = t.val := by decide

/-- A point's word of a table is the table at the point's number. -/
theorem word_eq (t : Fin grid0.N) (T : S160.Idx → Elt F .i32) : word (grid0.coords t) T = tab T t.val := by
  have ht : t.val < 160 := t.isLt
  rw [tab_lt _ _ ht]
  refine congrArg T (funext fun a => Fin.ext ?_)
  have ha : a = 0 := Subsingleton.elim (α := Fin 1) _ _
  subst ha
  show k0_off1 (grid0.coords t) 0 + 1 * 0 = t.val
  simp only [k0_off1, Scalar.indexCast, coords_val]
  simp
  omega
theorem word₀_eq (T : S160.Idx → Elt F .i32) : word₀ T = tab T 0 := by
  rw [tab_lt _ _ (by decide)]
  refine congrArg T (funext fun a => Fin.ext ?_)
  have ha : a = 0 := Subsingleton.elim (α := Fin 1) _ _
  subst ha
  rfl
theorem word₁_eq (T : S1.Idx → Elt F .i32) (x : S1.Idx) : word₁ T = T x := by
  refine congrArg T (funext fun a => ?_)
  have ha : a = 0 := Subsingleton.elim (α := Fin 1) _ _
  subst ha
  exact Subsingleton.elim (α := Fin 1) _ _

theorem ne_ext : ∀ b : BitVec 1, Scalar.cmpi .ne (Scalar.extui b : BitVec 32) 0#32 = 1#1 ↔ b = 1#1 := by decide

/-- A point is a used one when its number is below the number of used tiles. -/
theorem cond1_iff (t : Fin grid0.N) (x : BitVec 32) (hx : x.toNat ≤ 160) : k0_cond1 (grid0.coords t) x = 1#1 ↔ t.val < x.toNat := by
  have ht : t.val < 160 := t.isLt
  unfold k0_cond1
  refine (ne_ext _).trans (Cert.Proof.Sched.slt_ones.trans ?_)
  rw [coords_val, BitVec.toInt_eq_toNat_of_lt (x := x) (by omega), BitVec.toInt_eq_toNat_of_lt (x := BitVec.ofNat 32 t.val) (by simp; omega)]
  simp
  try omega
theorem cond2_iff (x : BitVec 32) : k0_cond2 x = 1#1 ↔ x = 1#32 := by
  unfold k0_cond2
  refine (ne_ext _).trans ?_
  unfold Scalar.cmpi IntOp.cmpi
  rw [Cert.Proof.Sched.ofBool_one]
  simp
theorem cond3_iff : ∀ t : Fin grid0.N, k0_cond3 (grid0.coords t) = 1#1 ↔ t.val = 0 := by decide
theorem cond4_none : ¬ k0_cond4 4294967295#32 = 1#1 := by decide
theorem cond4_some (x : BitVec 32) (hx : x.toNat < 32) : k0_cond4 x = 1#1 := by
  unfold k0_cond4
  refine (ne_ext _).2 ?_
  unfold Scalar.cmpi IntOp.cmpi
  rw [Cert.Proof.Sched.ofBool_one]
  simp only [BitVec.sle, decide_eq_true_eq]
  rw [BitVec.toInt_eq_toNat_of_lt (x := x) (by omega)]
  simp

/-- The tile a point's windows lie at: its own, or the last used one. -/
theorem tile_eq (t : ℕ) (ht : t < 160) (x : BitVec 32) (h1 : 1 ≤ x.toNat) (h2 : x.toNat ≤ 160) :
    (Scalar.minsi (BitVec.ofNat 32 t) (Scalar.subi x 1#32)).toNat = min t (x.toNat - 1) := by
  have e : (Scalar.subi x 1#32).toNat = x.toNat - 1 := by
    unfold Scalar.subi IntOp.subi
    rw [BitVec.toNat_sub]; simp; omega
  have e' : (BitVec.ofNat 32 t).toNat = t := by simp; omega
  have hs : (BitVec.ofNat 32 t).slt (Scalar.subi x 1#32) = decide (t < x.toNat - 1) := by
    rw [BitVec.slt, BitVec.toInt_eq_toNat_of_lt (x := BitVec.ofNat 32 t) (by omega), BitVec.toInt_eq_toNat_of_lt (x := Scalar.subi x 1#32) (by omega), e, e']
    simp
  unfold Scalar.minsi IntOp.minsi
  rw [hs]
  by_cases h : t < x.toNat - 1
  · simp only [h, decide_true, if_true, e']; omega
  · simp only [h, decide_false, e]
    simp [e]
    omega

/-- The number of used tiles. -/
def nu (pf : pre0.Contents (Elt F)) : ℕ := (word₁ (F := F) (pf 1)).toNat

/-- The tables hold a schedule. -/
abbrev Sch (pf : pre0.Contents (Elt F)) : Prop :=
  Good (nu pf) (tab (pf 0 : S160.Idx → BitVec 32)) (tab (pf 2 : S160.Idx → BitVec 32)) (tab (pf 3 : S160.Idx → BitVec 32)) (tab (pf 4 : S160.Idx → BitVec 32))

variable (pf : pre0.Contents (Elt F)) (hg : Sch pf)

theorem ix_in (t : Fin grid0.N) (h1 : 1 ≤ nu pf) (h2 : nu pf ≤ 160) : cc0_transform_0 inb_S1_S1_0 numel1_S1 pf (grid0.coords t) = ![min t.val (nu pf - 1), 0] := by
  unfold cc0_transform_0
  funext a
  fin_cases a
  · show (Scalar.minsi (BitVec.ofNat 32 (grid0.coords t 0).val) (Scalar.subi (word₁ (F := F) (pf 1)) 1#32)).toNat = _
    rw [coords_val]
    exact tile_eq _ t.isLt _ h1 h2
  · rfl
theorem ix_out (t : Fin grid0.N) (h1 : 1 ≤ nu pf) (h2 : nu pf ≤ 160) : cc0_transform_5 inb_S1_S1_0 numel1_S1 pf (grid0.coords t) = ![min t.val (nu pf - 1), 0] :=
  ix_in pf t h1 h2

/-- With a schedule every window lies in its array. -/
theorem ok_of (h1 : 1 ≤ nu pf) (h2 : nu pf ≤ 160) : ok0 pf := by
  have hc : ∀ i : grid0.Coords, ∃ t : Fin grid0.N, grid0.coords t = i := by
    intro i
    refine ⟨⟨(i 0).val, (i 0).isLt⟩, funext fun a => ?_⟩
    have ha : a = 0 := Subsingleton.elim (α := Fin 1) _ _
    subst ha
    exact Fin.ext (coords_val _)
  have key : ∀ i : grid0.Coords, ∀ a, (cc0_transform_0 inb_S1_S1_0 numel1_S1 pf i a + 1) * S256x2048.size a ≤ S40960x2048.size a := by
    intro i a
    obtain ⟨t, rfl⟩ := hc i
    have ht : t.val < 160 := t.isLt
    rw [ix_in pf t h1 h2]
    fin_cases a
    · show (min t.val (nu pf - 1) + 1) * 256 ≤ 40960
      omega
    · show (0 + 1) * 2048 ≤ 2048
      omega
  exact ⟨fun i => ⟨key i, Or.inl rfl⟩, fun i => ⟨key i, Or.inl rfl⟩⟩

end Cert.KernelExpertsIdeal.Hand

end
-- ==== Proof.XI.Inv.lean ====
/-
  The experts' kernel from point to point: what it keeps between two of them, and that every point keeps it.
-/
module

public import proofs.«01_k».proof.Proof.XI.Point

@[expose] public section

-- a table's contents are its words by unfolding its buffer's type
set_option backward.isDefEq.respectTransparency.types false

noncomputable section

namespace Cert.KernelExpertsIdeal.Hand

open Cert.KernelExpertsIdeal Cert.KernelExpertsIdeal.Gen
open Cert.Proof.Sched (tab tab_lt Good)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (c : Dev nD) (pf : pre0.Contents (Elt F)) (W0 : Buf (Elt F) ((c : Thread nD τ).loc main_arg7)) (W1 : Buf (Elt F) ((c : Thread nD τ).loc main_arg8)) (W2 : Buf (Elt F) ((c : Thread nD τ).loc main_arg9))

/-- The last used tile up to `t`. -/
def tile (t : ℕ) : Fin grid0.N := ⟨min (min t (nu pf - 1)) 159, by have : grid0.N = 160 := N_0; omega⟩

theorem tile_val (h2 : nu pf ≤ 160) (t : ℕ) : (tile pf t).val = min t (nu pf - 1) := by
  show min (min t (nu pf - 1)) 159 = _
  omega
theorem tile_used (h2 : nu pf ≤ 160) (t : Fin grid0.N) (h : t.val < nu pf) : tile pf t.val = t := by
  refine Fin.ext ?_
  rw [tile_val pf h2]; omega

/-- The expert of a tile. -/
def ex (t : Fin grid0.N) : Fin 32 := ⟨(tab (pf 0 : S160.Idx → BitVec 32) t.val).toNat % 32, Nat.mod_lt _ (by decide)⟩

theorem ex_eq (t : Fin grid0.N) (he : (word (F := F) (grid0.coords t) (pf 0)).toNat < 32) : ex pf t = ⟨(word (F := F) (grid0.coords t) (pf 0)).toNat, he⟩ := by
  refine Fin.ext ?_
  show (tab (pf 0 : S160.Idx → BitVec 32) t.val).toNat % 32 = _
  have := word_eq (F := F) t (pf 0)
  exact (congrArg (fun x : BitVec 32 => x.toNat % 32) this.symm).trans (Nat.mod_eq_of_lt he)

/-- What the kernel keeps after a tile: its expert's weights, and the next expert's copies under way. -/
def After (t : Fin grid0.N) : sProp 𝕄 :=
  iprop(kept c W0 W1 W2 (ex pf t) ∗ Next c W0 W1 W2 (tab (pf 4 : S160.Idx → BitVec 32) t.val) (tab (pf 3 : S160.Idx → BitVec 32) t.val))

/-- What the kernel keeps before point `k`. -/
def St (k : ℕ) : sProp 𝕄 :=
  if k = 0 then iprop((∃ X Y Z, Kept (F := F) c X Y Z) ∗ Quiet c W0 W1 W2) else After c pf W0 W1 W2 (tile pf (k - 1))

theorem St_zero : St c pf W0 W1 W2 0 = iprop((∃ X Y Z, Kept (F := F) c X Y Z) ∗ Quiet c W0 W1 W2) := if_pos rfl
theorem St_succ (k : ℕ) : St c pf W0 W1 W2 (k + 1) = After c pf W0 W1 W2 (tile pf k) := if_neg (Nat.succ_ne_zero k)

variable (hg : Sch pf)
include hg

theorem used_le : nu pf ≤ 160 := hg.le

theorem After_eq (t : Fin grid0.N) (he : (word (F := F) (grid0.coords t) (pf 0)).toNat < 32) :
    After c pf W0 W1 W2 t = iprop(kept c W0 W1 W2 ⟨(word (F := F) (grid0.coords t) (pf 0)).toNat, he⟩
      ∗ Next c W0 W1 W2 (word (F := F) (grid0.coords t) (pf 4)) (word (F := F) (grid0.coords t) (pf 3))) := by
  unfold After
  rw [ex_eq pf t he, word_eq (F := F) t (pf 4), word_eq (F := F) t (pf 3)]

/-- Past the used tiles nothing changes. -/
theorem St_off (t : ℕ) (h : nu pf ≤ t) : St c pf W0 W1 W2 (t + 1) = St c pf W0 W1 W2 t := by
  have h1 : 1 ≤ nu pf := hg.pos
  obtain ⟨k, rfl⟩ : ∃ k, t = k + 1 := ⟨t - 1, by omega⟩
  rw [St_succ, St_succ]
  congr 1
  refine Fin.ext ?_
  rw [tile_val pf hg.le, tile_val pf hg.le]
  omega

/-- At the end nothing is under way. -/
theorem St_end : St c pf W0 W1 W2 160 ⊢ iprop((∃ X Y Z, Kept (F := F) c X Y Z) ∗ Quiet c W0 W1 W2) := by
  have h1 : 1 ≤ nu pf := hg.pos
  have h2 : nu pf ≤ 160 := hg.le
  rw [show (160 : ℕ) = 159 + 1 from rfl, St_succ]
  unfold After Next
  have ht : (tile pf 159).val + 1 = nu pf := by rw [tile_val pf h2]; omega
  rw [hg.last _ ht, if_neg cond4_none]
  iintro ⟨K, Q⟩
  isplitl [K]
  · iexists _, _, _; iexact K
  iexact Q

variable (t : Fin grid0.N) (M6 : Memref sig .tc .vmem S256x2048 .f32) (h6 : M6.IsWhole) (M7 : Memref sig .tc .vmem S1x2048 .f32) (h7 : M7.IsWhole)
    (M11 : Memref sig .tc .vmem S256x2048 .f32) (h11 : M11.IsWhole) (qt : Fin 5 → PosShare TreeShare)
    (X6 : S256x2048.Idx → Elt F .f32) (X7 : S1x2048.Idx → Elt F .f32) (W : Waits sig Unit)

set_option maxHeartbeats 1000000 in
/-- A used tile's point leaves the tile's output, and what the next point needs. -/
theorem point_used (hu : t.val < nu pf) :
    PointPre c M6 M7 M11 (pf 0) (pf 1) (pf 2) (pf 3) (pf 4) qt X6 X7 W (St c pf W0 W1 W2 t.val)
      ⊢ wp frame (wpE (defs₀ (F := F)) 𝒱₀ (c : Thread nD τ) none) Set.univ (body (grid0.coords t) M6 h6 M7 h7 M11 h11)
        (fun _ => PointPost c M6 M7 M11 (pf 0) (pf 1) (pf 2) (pf 3) (pf 4) qt X6 X7 (outOf (F := F) c W0 W1 W2 X6 X7 (ex pf t)) (St c pf W0 W1 W2 (t.val + 1))) := by
  have h1 : 1 ≤ nu pf := hg.pos
  have h2 : nu pf ≤ 160 := hg.le
  have e0 := word_eq (F := F) t (pf 0)
  have e2 := word_eq (F := F) t (pf 2)
  have e3 := word_eq (F := F) t (pf 3)
  have e4 := word_eq (F := F) t (pf 4)
  have k1 : k0_cond1 (grid0.coords t) (word₁ (F := F) (pf 1)) = 1#1 := (cond1_iff t _ h2).2 hu
  have he : (word (F := F) (grid0.coords t) (pf 0)).toNat < 32 := by rw [e0]; exact hg.expert _ hu
  have hv : (word (F := F) (grid0.coords t) (pf 4)).toNat < 2 := by rw [e4]; exact hg.slot_lt _ hu
  have hn : k0_cond4 (word (F := F) (grid0.coords t) (pf 3)) = 1#1 → (word (F := F) (grid0.coords t) (pf 3)).toNat < 32 := by
    rw [e3]
    intro h
    rcases hg.next_cases _ hu with h' | h'
    · rw [h'] at h; exact absurd h cond4_none
    · exact h'
  rw [St_succ, tile_used pf h2 t hu, After_eq c pf W0 W1 W2 hg t he, ex_eq pf t he]
  by_cases hz : t.val = 0
  · have k2 : k0_cond2 (word (F := F) (grid0.coords t) (pf 2)) = 1#1 := by rw [e2, hz]; exact (cond2_iff _).2 hg.first
    have hz' : word (F := F) (grid0.coords t) (pf 4) = 0#32 := by rw [e4, hz]; exact hg.slot
    have e00 : word₀ (F := F) (pf 0) = word (F := F) (grid0.coords t) (pf 0) := by rw [e0, hz]; exact word₀_eq (F := F) (pf 0)
    have he₀ : (word₀ (F := F) (pf 0)).toNat < 32 := by rw [e00]; exact he
    have key := sound_first (F := F) c (grid0.coords t) M6 h6 M7 h7 M11 h11 (pf 0) (pf 1) (pf 2) (pf 3) (pf 4) W0 W1 W2 qt X6 X7 W k1 k2 ((cond3_iff t).2 hz) hz' he₀ he hv hn
    have ee : (⟨(word₀ (F := F) (pf 0)).toNat, he₀⟩ : Fin 32) = ⟨(word (F := F) (grid0.coords t) (pf 0)).toNat, he⟩ := Fin.ext (congrArg BitVec.toNat e00)
    rw [ee] at key
    rw [hz, St_zero]
    exact key
  · obtain ⟨j, hj⟩ : ∃ j, t.val = j + 1 := ⟨t.val - 1, by omega⟩
    have k3 : ¬ k0_cond3 (grid0.coords t) = 1#1 := fun h => hz ((cond3_iff t).1 h)
    have hjn : j + 1 < nu pf := by omega
    have htj : (tile pf j).val = j := by rw [tile_val pf h2]; omega
    have he' : (word (F := F) (grid0.coords (tile pf j)) (pf 0)).toNat < 32 := by rw [word_eq (F := F) (tile pf j) (pf 0), htj]; exact hg.expert _ (by omega)
    have f0 := word_eq (F := F) (tile pf j) (pf 0)
    have f3 := word_eq (F := F) (tile pf j) (pf 3)
    have f4 := word_eq (F := F) (tile pf j) (pf 4)
    rw [htj] at f0 f3 f4
    rw [show St c pf W0 W1 W2 t.val = After c pf W0 W1 W2 (tile pf j) by rw [hj, St_succ]]
    rw [After_eq c pf W0 W1 W2 hg (tile pf j) he']
    by_cases hs : tab (pf 0 : S160.Idx → BitVec 32) (j + 1) = tab (pf 0 : S160.Idx → BitVec 32) j
    · obtain ⟨a1, a2, a3⟩ := hg.same j hjn hs
      have k2 : ¬ k0_cond2 (word (F := F) (grid0.coords t) (pf 2)) = 1#1 := by
        rw [e2, hj, cond2_iff, a1]; decide
      have g0 : word (F := F) (grid0.coords (tile pf j)) (pf 0) = word (F := F) (grid0.coords t) (pf 0) := by rw [f0, e0, hj]; exact hs.symm
      have g3 : word (F := F) (grid0.coords (tile pf j)) (pf 3) = word (F := F) (grid0.coords t) (pf 3) := by rw [f3, e3, hj]; exact a3
      have g4 : word (F := F) (grid0.coords (tile pf j)) (pf 4) = word (F := F) (grid0.coords t) (pf 4) := by rw [f4, e4, hj]; exact a2.symm
      have ee : (⟨(word (F := F) (grid0.coords (tile pf j)) (pf 0)).toNat, he'⟩ : Fin 32) = ⟨(word (F := F) (grid0.coords t) (pf 0)).toNat, he⟩ := Fin.ext (congrArg BitVec.toNat g0)
      rw [ee, g3, g4]
      have key := sound_keep (F := F) c (grid0.coords t) M6 h6 M7 h7 M11 h11 (pf 0) (pf 1) (pf 2) (pf 3) (pf 4) qt X6 X7 W k1 hv k2
        (k0_pay1 (wcopy W0 ⟨(word (F := F) (grid0.coords t) (pf 0)).toNat, he⟩)) (k0_pay2 (wcopy W1 ⟨(word (F := F) (grid0.coords t) (pf 0)).toNat, he⟩)) (k0_pay3 (wcopy' W2 ⟨(word (F := F) (grid0.coords t) (pf 0)).toNat, he⟩))
      generalize Next c W0 W1 W2 (word (F := F) (grid0.coords t) (pf 4)) (word (F := F) (grid0.coords t) (pf 3)) = N
      unfold PointPre PointPost at key ⊢
      iintro ⟨T, O, B, K, HN⟩
      ihave K := (post_frame c key) $$ [T O B K]
      · isplitl [T]; · iexact T
        isplitl [O]; · iexact O
        isplitl [B]; · iexact B
        iexact K
      iapply K
      iintro %_ ⟨T, O, B, K⟩
      isplitl [T]; · iexact T
      isplitl [O]; · iexact O
      isplitl [B]; · iexact B
      isplitl [K]; · iexact K
      iexact HN
    · obtain ⟨a1, a2, a3⟩ := hg.next j hjn hs
      have k2 : k0_cond2 (word (F := F) (grid0.coords t) (pf 2)) = 1#1 := by
        rw [e2, hj, cond2_iff, a1]
      have key := sound_later (F := F) c (grid0.coords t) M6 h6 M7 h7 M11 h11 (pf 0) (pf 1) (pf 2) (pf 3) (pf 4) W0 W1 W2 qt X6 X7 W k1 k2 k3 he hv hn
      refine BIBase.Entails.trans ?_ key
      have hc4 : k0_cond4 (word (F := F) (grid0.coords (tile pf j)) (pf 3)) = 1#1 := by
        rw [f3, a3]; exact cond4_some _ (hg.expert _ hjn)
      have hN : Next c W0 W1 W2 (word (F := F) (grid0.coords (tile pf j)) (pf 4)) (word (F := F) (grid0.coords (tile pf j)) (pf 3))
          = Flying c W0 W1 W2 (word (F := F) (grid0.coords t) (pf 4)) (word (F := F) (grid0.coords t) (pf 0)) := by
        unfold Next
        rw [if_pos hc4, f3, f4, a3, e0, e4, hj, a2]
        rfl
      rw [hN]
      unfold PointPre
      iintro ⟨T, O, B, K, HN⟩
      isplitl [T]; · iexact T
      isplitl [O]; · iexact O
      isplitl [B]; · iexact B
      isplitl [K]
      · iexists _, _, _; iexact K
      iexact HN

end Cert.KernelExpertsIdeal.Hand

end
-- ==== Proof.XI.Run.lean ====
/-
  The experts' kernel's run: from the points to the whole launch.
-/
module

public import proofs.«01_k».proof.Proof.XI.Inv
public import Idealize.ShloMosaic.Lib.Pipeline.FrameBody
public import Idealize.ShloMosaic.Lib.Pipeline.TableIdle

@[expose] public section

-- a table's contents are its words by unfolding its buffer's type
set_option backward.isDefEq.respectTransparency.types false

noncomputable section

namespace Cert.KernelExpertsIdeal.Hand

open Cert.KernelExpertsIdeal Cert.KernelExpertsIdeal.Gen
open Cert.Proof.Sched (tab tab_lt Good)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg) (a : (pcfg0 (F := F)).Adm)

/-- Core `c`'s buffers when the call is entered: as launched. -/
abbrev V (c : Dev nD) (b : Ref sig .tc) : Buf (Elt F) ((c : Thread nD τ).loc b) := m ((c : Thread nD τ).loc b)

/-- Window `w`'s block at point `t`, of the launch contents. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The output's block after point `t`: the tile's, of its rows and its expert's weights. -/
def outAt (c : Dev nD) (t : Fin grid0.N) : S256x2048.Idx → Elt F .f32 :=
  outOf (F := F) c (V m c main_arg7) (V m c main_arg8) (V m c main_arg9) (iblk m a c 0 t) (iblk m a c 1 t) (ex a.1 t)

/-- What the kernel keeps before point `k`, beside the windows. -/
def Inv (c : Dev nD) (k : ℕ) : sProp 𝕄 :=
  iprop((∃ r, prngReg c r) ∗ Tables c (fun _ => fullShare.right) (a.1 0) (a.1 1) (a.1 2) (a.1 3) (a.1 4)
    ∗ St c a.1 (V m c main_arg7) (V m c main_arg8) (V m c main_arg9) k)

/-- The pipeline's proof data. -/
def dats (_ : Fin 1) (c : Dev nD) : Dat τ (Elt F) Unit ℕ (Pipeline.UD sig nD τ) ℕ (cfg0 a) c where
  A w := V m c (Pipeline.arrRef spec0 w)
  after w t := match w with
    | ⟨0, _⟩ => iblk m a c 0 t
    | ⟨1, _⟩ => iblk m a c 1 t
    | ⟨2, _⟩ => outAt m a c (tile a.1 t.val)
    | ⟨_ + 3, h⟩ => absurd h (Nat.not_lt.2 (Nat.le_add_left _ _))
  Φ k := Inv m a c k.val
  q _ := fullShare
  owed _ := 0

theorem A_eq (c : Dev nD) (w : Fin (cfg0 a).W) : (dats m a 0 c).A w = V m c (Pipeline.arrRef spec0 w) := by
  dsimp only [dats]
theorem after0 (c : Dev nD) (t : Fin (cfg0 a).N) : (dats m a 0 c).after 0 t = iblk m a c 0 t := rfl
theorem after1 (c : Dev nD) (t : Fin (cfg0 a).N) : (dats m a 0 c).after 1 t = iblk m a c 1 t := rfl
theorem after2 (c : Dev nD) (t : Fin (cfg0 a).N) : (dats m a 0 c).after 2 t = outAt m a c (tile a.1 t.val) := rfl

theorem before0 (c : Dev nD) (t : Fin (cfg0 a).N) (d) : (dats m a 0 c).before 0 t d = iblk m a c 0 t :=
  ((dats m a 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfg0 a).N) (d) : (dats m a 0 c).before 1 t d = iblk m a c 1 t :=
  ((dats m a 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The output's window -/

theorem idle_eq (t : Fin (cfg0 a).N) : (cfg0 a).idle 2 ((cfg0 a).grid.coords t) = !(k0_cond1 (grid0.coords t) (word₁ (F := F) (a.1 1)) == 1#1) := by
  have e : a.1.atD 1 ![0] = word₁ (F := F) (a.1 1) := by
    unfold Pipeline.Prefetch.Contents.atD
    split
    · exact (word₁_eq (F := F) (a.1 1) _).symm
    · rename_i h
      exact absurd (fun x => match x with
        | ⟨0, _⟩ => (show 0 + 1 ≤ 1 from Nat.le_refl _)
        | ⟨k + 1, hk⟩ => absurd hk (Nat.not_lt.2 (Nat.le_add_left 1 k))) h
  rw [← e]
  rfl

variable (hg : Sch a.1)
include hg

theorem idle_used (t : Fin (cfg0 a).N) (h : t.val < nu a.1) : (cfg0 a).idle 2 ((cfg0 a).grid.coords t) = false := by
  rw [idle_eq, (cond1_iff t _ hg.le).2 h]; rfl
theorem idle_off (t : Fin (cfg0 a).N) (h : ¬ t.val < nu a.1) : (cfg0 a).idle 2 ((cfg0 a).grid.coords t) = true := by
  rw [idle_eq]
  have : ¬ k0_cond1 (grid0.coords t) (word₁ (F := F) (a.1 1)) = 1#1 := fun h' => h ((cond1_iff t _ hg.le).1 h')
  simp [this]

/-- The window is written back where the tile changes, and at the last point. -/
theorem flush_off (t : Fin (cfg0 a).N) (h : nu a.1 ≤ t.val + 1) (h' : t.val + 1 < 160) : ((cfg0 a).win 2).flush t = false := by
  rw [Window.flush_eq_flushOf]
  unfold Window.flushOf
  have hne : ¬ (t.val + 1 = (cfg0 a).grid.N) := by
    have : (cfg0 a).grid.N = 160 := N_0
    omega
  have hN : t.val + 1 < grid0.N := by have := N_0; omega
  have hix : cc0_transform_5 inb_S1_S1_0 numel1_S1 a.1 (grid0.coords ⟨t.val + 1, hN⟩) = cc0_transform_5 inb_S1_S1_0 numel1_S1 a.1 (grid0.coords t) := by
    rw [ix_out a.1 _ hg.pos hg.le, ix_out a.1 _ hg.pos hg.le]
    have : min (t.val + 1) (nu a.1 - 1) = min t.val (nu a.1 - 1) := by omega
    show ![min (t.val + 1) (nu a.1 - 1), 0] = _
    rw [this]
  refine Bool.eq_false_iff.mpr fun e => ?_
  rcases Bool.or_eq_true_iff.mp (Bool.and_eq_true_iff.mp e).2 with e | e
  · exact hne (of_decide_eq_true e)
  · obtain ⟨_, e⟩ := of_decide_eq_true e
    exact e hix

/-- Past the used tiles the output's buffer holds the last one's block still. -/
theorem before2 (c : Dev nD) : ∀ (k : ℕ) (t : Fin (cfg0 a).N) (_ : t.val = nu a.1 + k) (d), (dats m a 0 c).before 2 t d = (dats m a 0 c).after 2 t := by
  have h1 : 1 ≤ nu a.1 := hg.pos
  have h2 : nu a.1 ≤ 160 := hg.le
  intro k
  induction k with
  | zero =>
    intro t ht d
    have hN : t.val < 160 := t.isLt
    have hlt : t.val - 1 < (cfg0 a).N := Nat.lt_of_le_of_lt (Nat.sub_le _ _) t.isLt
    rw [(dats m a 0 c).before_of_pos 2 t (by omega) (Window.fetch_out _ rfl t) d]
    rw [flush_off a hg ⟨t.val - 1, hlt⟩ (by show nu a.1 ≤ t.val - 1 + 1; omega) (by show t.val - 1 + 1 < 160; omega)]
    rw [if_neg Bool.false_ne_true]
    unfold Dat.left
    rw [idle_used a hg ⟨t.val - 1, hlt⟩ (by show t.val - 1 < _; omega)]
    show (dats m a 0 c).after 2 ⟨t.val - 1, hlt⟩ = _
    rw [after2, after2]
    congr 1
    refine Fin.ext ?_
    rw [tile_val a.1 h2, tile_val a.1 h2]
    show min (t.val - 1) _ = _
    omega
  | succ k ih =>
    intro t ht d
    have hN : t.val < 160 := t.isLt
    have hlt : t.val - 1 < (cfg0 a).N := Nat.lt_of_le_of_lt (Nat.sub_le _ _) t.isLt
    rw [(dats m a 0 c).before_of_pos 2 t (by omega) (Window.fetch_out _ rfl t) d]
    rw [flush_off a hg ⟨t.val - 1, hlt⟩ (by show nu a.1 ≤ t.val - 1 + 1; omega) (by show t.val - 1 + 1 < 160; omega)]
    rw [if_neg Bool.false_ne_true]
    unfold Dat.left
    rw [idle_off a hg ⟨t.val - 1, hlt⟩ (by show ¬ t.val - 1 < _; omega)]
    show (dats m a 0 c).before 2 ⟨t.val - 1, hlt⟩ d = _
    rw [ih ⟨t.val - 1, hlt⟩ (by show t.val - 1 = _; omega) d, after2, after2]
    congr 1
    refine Fin.ext ?_
    rw [tile_val a.1 h2, tile_val a.1 h2]
    show min (t.val - 1) _ = _
    omega

end Cert.KernelExpertsIdeal.Hand

end
-- ==== Proof.XI.Frame.lean ====
/-
  The experts' kernel's launch: every point's obligation, what the launch hands over and takes back, and the run.
-/
module

public import proofs.«01_k».proof.Proof.XI.Run

@[expose] public section

-- a table's contents are its words by unfolding its buffer's type
set_option backward.isDefEq.respectTransparency.types false

noncomputable section

namespace Cert.KernelExpertsIdeal.Hand

open Cert.KernelExpertsIdeal Cert.KernelExpertsIdeal.Gen
open Cert.Proof.Sched (tab tab_lt Good)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg) (a : (pcfg0 (F := F)).Adm)

/-- The windows' current buffers. -/
abbrev ms0 (t : Fin (cfg0 a).N) : Memref sig .tc .vmem S256x2048 .f32 := ((cfg0 a).win 0).stage ((cfg0 a).slots t 0)
abbrev ms1 (t : Fin (cfg0 a).N) : Memref sig .tc .vmem S1x2048 .f32 := ((cfg0 a).win 1).stage ((cfg0 a).slots t 1)
abbrev ms2 (t : Fin (cfg0 a).N) : Memref sig .tc .vmem S256x2048 .f32 := ((cfg0 a).win 2).stage ((cfg0 a).slots t 2)
abbrev bodyAt (t : Fin (cfg0 a).N) : Prog (TpuEff nD τ sig (Elt F) Λ₀ .tc) PUnit :=
  body (grid0.coords t) (ms0 a t) (stage_whole0 0 _) (ms1 a t) (stage_whole0 1 _) (ms2 a t) (stage_whole0 2 _)

theorem defs₀_row (t : Fin (cfg0 a).N) : defs₀ (F := F) .tc (cfg0 a).body ((cfg0 a).bodyArgs t ((cfg0 a).slots t)) = bodyAt a t := by
  unfold defs₀; rw [Defs.onTc_tc]; rfl

def bodyPre (c : Dev nD) (t : Fin (cfg0 a).N) : sProp 𝕄 :=
  iprop((dats m a 0 c).Φ t.castSucc ∗ (dats m a 0 c).owesAt () t.castSucc
    ∗ (∃ d, owns (c : Thread nD τ) (ms0 a t) fullShare ((dats m a 0 c).before 0 t d))
    ∗ (∃ d, owns (c : Thread nD τ) (ms1 a t) fullShare ((dats m a 0 c).before 1 t d))
    ∗ (∃ d, owns (c : Thread nD τ) (ms2 a t) fullShare ((dats m a 0 c).before 2 t d)))
def bodyPost (c : Dev nD) (t : Fin (cfg0 a).N) (P : sProp 𝕄) : sProp 𝕄 :=
  iprop((dats m a 0 c).Φ t.succ ∗ (dats m a 0 c).owesAt () t.succ
    ∗ owns (c : Thread nD τ) (ms0 a t) fullShare ((dats m a 0 c).after 0 t)
    ∗ owns (c : Thread nD τ) (ms1 a t) fullShare ((dats m a 0 c).after 1 t) ∗ P)

/-- What the output's buffer is left at, by whether the point stores in it and whether it is written back. -/
def leave (c : Dev nD) (t : Fin (cfg0 a).N) (i f : Bool) : sProp 𝕄 :=
  match i with
  | true => match f with
    | false => iprop(∃ d, owns (c : Thread nD τ) (ms2 a t) fullShare ((dats m a 0 c).before 2 t d))
    | true => owns (c : Thread nD τ) (ms2 a t) fullShare ((dats m a 0 c).after 2 t)
  | false => owns (c : Thread nD τ) (ms2 a t) fullShare ((dats m a 0 c).after 2 t)

variable (hg : Sch a.1)
include hg

theorem body_used (c : Dev nD) (t : Fin (cfg0 a).N) (hu : t.val < nu a.1) :
    bodyPre m a c t ⊢ wp frame (wpE (defs₀ (F := F)) 𝒱₀ (c : Thread nD τ) none) Set.univ (bodyAt a t)
      (fun _ => bodyPost m a c t (owns (c : Thread nD τ) (ms2 a t) fullShare ((dats m a 0 c).after 2 t))) := by
  unfold bodyPre bodyPost
  rw [show (dats m a 0 c).Φ t.castSucc = Inv m a c t.val from rfl, show (dats m a 0 c).Φ t.succ = Inv m a c (t.val + 1) from rfl]
  rw [after0, after1, after2, tile_used a.1 hg.le t hu]
  unfold Inv Dat.owesAt Pipeline.owesWithin
  rw [show (dats m a 0 c).owed t.castSucc = 0 from rfl, show (dats m a 0 c).owed t.succ = 0 from rfl]
  iintro ⟨⟨Hr, HT, HS⟩, ⟨%W, -, HW⟩, ⟨%d0, B0⟩, ⟨%d1, B1⟩, ⟨%d2, B2⟩⟩
  rw [before0, before1]
  have key := point_used (F := F) c a.1 (V m c main_arg7) (V m c main_arg8) (V m c main_arg9) hg t (ms0 a t) (stage_whole0 0 _) (ms1 a t) (stage_whole0 1 _) (ms2 a t) (stage_whole0 2 _)
    (fun _ => fullShare.right) (iblk m a c 0 t) (iblk m a c 1 t) W hu
  unfold PointPre PointPost found at key
  ihave K := (post_frame c key) $$ [HT HW B0 B1 B2 HS]
  · isplitl [HT]; · iexact HT
    isplitl [HW]; · iexact HW
    isplitl [B0 B1 B2]
    · isplitl [B0]; · iexact B0
      isplitl [B1]; · iexact B1
      iexists _; iexact B2
    iexact HS
  iapply K
  iintro %_ ⟨HT, ⟨%W', HW⟩, ⟨B0, B1, B2⟩, HS⟩
  isplitl [Hr HT HS]
  · isplitl [Hr]; · iexact Hr
    isplitl [HT]; · iexact HT
    iexact HS
  isplitl [HW]
  · iexists W'; isplitr; · ipureintro; exact fun _ _ => Or.inl trivial
    iexact HW
  isplitl [B0]; · iexact B0
  isplitl [B1]; · iexact B1
  iexact B2

theorem body_off (c : Dev nD) (t : Fin (cfg0 a).N) (hu : ¬ t.val < nu a.1) :
    bodyPre m a c t ⊢ wp frame (wpE (defs₀ (F := F)) 𝒱₀ (c : Thread nD τ) none) Set.univ (bodyAt a t)
      (fun _ => bodyPost m a c t iprop(∃ d, owns (c : Thread nD τ) (ms2 a t) fullShare ((dats m a 0 c).before 2 t d))) := by
  unfold bodyPre bodyPost
  rw [show (dats m a 0 c).Φ t.castSucc = Inv m a c t.val from rfl, show (dats m a 0 c).Φ t.succ = Inv m a c (t.val + 1) from rfl]
  rw [after0, after1]
  unfold Inv Dat.owesAt Pipeline.owesWithin
  rw [show (dats m a 0 c).owed t.castSucc = 0 from rfl, show (dats m a 0 c).owed t.succ = 0 from rfl]
  rw [St_off c a.1 _ _ _ hg t.val (by omega)]
  iintro ⟨⟨Hr, HT, HS⟩, ⟨%W, -, HW⟩, ⟨%d0, B0⟩, ⟨%d1, B1⟩, ⟨%d2, B2⟩⟩
  rw [before0, before1]
  have k1 : ¬ k0_cond1 (grid0.coords t) (word₁ (F := F) (a.1 1)) = 1#1 := fun h' => hu ((cond1_iff t _ hg.le).1 h')
  have key := sound_off (F := F) c (grid0.coords t) (ms0 a t) (stage_whole0 0 _) (ms1 a t) (stage_whole0 1 _) (ms2 a t) (stage_whole0 2 _)
    (a.1 0) (a.1 1) (a.1 2) (a.1 3) (a.1 4) (fun _ => fullShare.right) W k1 iprop(emp)
  ihave K := (post_frame c key) $$ [HT HW]
  · isplitl [HT]; · iexact HT
    isplitl [HW]; · iexact HW
    iempintro
  iapply K
  iintro %_ ⟨HT, ⟨%W', HW⟩, -⟩
  isplitl [Hr HT HS]
  · isplitl [Hr]; · iexact Hr
    isplitl [HT]; · iexact HT
    iexact HS
  isplitl [HW]
  · iexists W'; isplitr; · ipureintro; exact fun _ _ => Or.inl trivial
    iexact HW
  isplitl [B0]; · iexact B0
  isplitl [B1]; · iexact B1
  iexists d2; iexact B2

theorem body_any (c : Dev nD) (t : Fin (cfg0 a).N) :
    bodyPre m a c t ⊢ wp frame (wpE (defs₀ (F := F)) 𝒱₀ (c : Thread nD τ) none) Set.univ (bodyAt a t)
      (fun _ => bodyPost m a c t (leave m a c t ((cfg0 a).idle 2 ((cfg0 a).grid.coords t)) (((cfg0 a).win 2).flush t))) := by
  by_cases hu : t.val < nu a.1
  · have e := idle_used a hg t hu
    generalize (cfg0 a).idle 2 ((cfg0 a).grid.coords t) = i at e ⊢
    subst e
    exact body_used m a hg c t hu
  · have e := idle_off a hg t hu
    generalize (cfg0 a).idle 2 ((cfg0 a).grid.coords t) = i at e ⊢
    subst e
    generalize ((cfg0 a).win 2).flush t = f
    cases f
    · exact body_off m a hg c t hu
    · have key := body_off m a hg c t hu
      have weaken : bodyPost m a c t iprop(∃ d, owns (c : Thread nD τ) (ms2 a t) fullShare ((dats m a 0 c).before 2 t d))
          ⊢ bodyPost m a c t (leave m a c t true true) := by
        unfold bodyPost leave
        iintro ⟨A, B, C, D, ⟨%d, E⟩⟩
        rw [before2 m a hg c (t.val - nu a.1) t (by omega) d]
        isplitl [A]; · iexact A
        isplitl [B]; · iexact B
        isplitl [C]; · iexact C
        isplitl [D]; · iexact D
        iexact E
      iintro H
      ihave K := (post_frame c key) $$ [H]
      · iexact H
      iapply K
      iintro %_ H
      iapply weaken
      iexact H

theorem body_obligation (c : Dev nD) : BodyObligation (dats m a 0 c) (defs₀ (F := F)) 𝒱₀ () Set.univ := fun t => by
  rw [bigSep_W0, bigSep_W0, defs₀_row]
  exact triple_restated (body_any m a hg c t) rfl .rfl fun _ => .rfl

omit hg in
/-- The tables' halves, one by one. -/
theorem tables_eq (c : Dev nD) : (Pipeline.ΦT pre0 a.1 c : sProp 𝕄) = Tables c (fun _ => fullShare.right) (a.1 0) (a.1 1) (a.1 2) (a.1 3) (a.1 4) := by
  unfold Pipeline.ΦT Pipeline.prefHeld
  rw [bigSep_univ_eq_bigSepL [(0 : Fin 5), (1 : Fin 5), (2 : Fin 5), (3 : Fin 5), (4 : Fin 5)] (by decide) (by decide)]
  rfl

/-- What the launch hands over is what the first point starts from. -/
theorem enter (c : Dev nD) : iprop(Pipeline.ΦD osem0 spec0 H0 (V m) c ∗ Pipeline.ΦT pre0 a.1 c) ⊢ Inv m a c 0 := by
  rw [Pipeline.ΦD_eq, ownSems00_eq, hbmPts0_eq, scopedRest0_eq]
  unfold Inv
  rw [tables_eq a c, St_zero]
  iintro ⟨⟨⟨S0, S1, S2, ⟨%f3, S3⟩, ⟨%f4, S4⟩, ⟨%f5, S5⟩⟩, Hr, Hq, Hh⟩, HT⟩
  isplitl [Hr]; · iexact Hr
  isplitl [HT]
  · iexact HT
  isplitl [S3 S4 S5]
  · iexists f3, f4, f5
    unfold Kept
    isplitl [S3]; · rw [owns_whole]; iexact S3
    isplitl [S4]; · rw [owns_whole]; iexact S4
    rw [owns_whole]; iexact S5
  iapply (quiet_in (F := F) c (V m c main_arg7) (V m c main_arg8) (V m c main_arg9))
  unfold Given
  isplitl [S0]; · iexact S0
  isplitl [S1]; · iexact S1
  isplitl [S2]; · iexact S2
  isplitl [Hq]; · iexact Hq
  iexact Hh

/-- What the last point leaves is what the launch takes back. -/
theorem leaveAll (c : Dev nD) : Inv m a c 160 ⊢ Pipeline.ΦD osem0 spec0 H0 (V m) c := by
  have h := St_end (F := F) c a.1 (V m c main_arg7) (V m c main_arg8) (V m c main_arg9) hg
  have h' := quiet_out (F := F) c (V m c main_arg7) (V m c main_arg8) (V m c main_arg9)
  rw [Pipeline.ΦD_eq, ownSems00_eq, hbmPts0_eq, scopedRest0_eq]
  unfold Inv
  iintro ⟨Hr, -, HS⟩
  ihave HS := h $$ HS
  icases HS with ⟨⟨%X, %Y, %Z, HK⟩, HQ⟩
  ihave HQ := h' $$ HQ
  unfold Kept Given
  rw [owns_whole, owns_whole, owns_whole]
  icases HK with ⟨S3, S4, S5⟩
  icases HQ with ⟨S0, S1, S2, Hq, Hh⟩
  isplitl [S0 S1 S2 S3 S4 S5]
  · isplitl [S0]; · iexact S0
    isplitl [S1]; · iexact S1
    isplitl [S2]; · iexact S2
    isplitl [S3]; · iexists X; iexact S3
    isplitl [S4]; · iexists Y; iexact S4
    iexists Z; iexact S5
  isplitl [Hr]; · iexact Hr
  isplitl [Hq]; · iexact Hq
  iexact Hh

/-- The tables the region reads are the launch's. -/
def Read : Prop := ∀ (c : Dev nD) k, V m c (pre0.ref k) = a.1 k

theorem run_main (hpf : Read m a) : θ_run defs (onTc (τ := τ) (main (F := F))) ⟨m, fun _ => 0, ρ⟩
    (fun r => Pipeline.FramePost (Pipeline.pin pcfgs fun _ => a) (dats m a) 0 (V m) r ∧ r.2.sem = fun _ => 0) :=
  Pipeline.θ_run_frameP_dma (Q' := _) pcfgs (fun _ => a) (dats m a) (0 : Fin 1) launch0 osem0 defs₀ 𝒱₀ ownSemFacts0 H0 H0_sub m ρ main
    (hbody := fun c => (body_obligation m a hg c).loose) (hshare := fun c => (dats m a 0 c).share_full fun _ => rfl)
    (howed := fun _ _ => rfl) (V := V m) (hmain := Pipeline.hmainP_region pcfgs 0 defs₀ 𝒱₀ m main fun c => (main_chain c).trans rfl)
    (hA := A_eq m a) (hpf := hpf) (hin := fun c => enter m a hg c) (hout := fun c => leaveAll m a hg c)

end Cert.KernelExpertsIdeal.Hand

end
-- ==== Proof.XI.Quiescent.lean ====
/-
  The experts' kernel, launched with a good schedule: it runs to the end, its arguments end unchanged, every counter ends at
  zero, and the result is what the windows' flushes leave.
-/
module

public import proofs.«01_k».proof.Proof.XI.Frame

@[expose] public section

-- a table's contents are its words by unfolding its buffer's type
set_option backward.isDefEq.respectTransparency.types false

noncomputable section

namespace Cert.KernelExpertsIdeal.Hand

open Cert.KernelExpertsIdeal Cert.KernelExpertsIdeal.Gen
open Cert.Proof.Sched (tab tab_lt Good)
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The tables as launched. -/
abbrev tables (k) : (pre0.ref k).ty.Contents (Elt F) := m (((0 : Dev nD) : Thread nD τ).loc (pre0.ref k))

/-- The precondition on an array per argument, read as a schedule of the launched tables. -/
theorem sch_of (hp : @Cert.Pre_schedule.fn Cert.Proof.Sched.facts F _ (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) (m (((0 : Dev nD) : Thread nD τ).loc main_arg7))
      (m (((0 : Dev nD) : Thread nD τ).loc main_arg8)) (m (((0 : Dev nD) : Thread nD τ).loc main_arg9)) = fun _ => 1#1) : Sch (F := F) (tables m) := by
  have h := @Cert.Proof.Sched.good Cert.Proof.Sched.facts (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (fun _ => 0) (fun _ => 0) (fun _ => 0) (fun _ => 0) (fun _ => 0) hp
  have hn : (word₁ (tables m 1)).toNat = (m (((0 : Dev nD) : Thread nD τ).loc main_arg1) (ix1 0) : BitVec 32).toNat := congrArg BitVec.toNat (word₁_eq (tables m 1) (ix1 0))
  unfold Sch nu
  rw [hn]
  exact h

/-- The schedule's contents, admissible. -/
def adm (hs : Sch (F := F) (tables m)) : (pcfg0 (F := F)).Adm := ⟨tables m, ok_of _ hs.pos hs.le⟩

theorem run_post (hs : Sch (F := F) (tables m)) : θ_run (defs (F := F)) (onTc (τ := τ) (main (F := F))) ⟨m, fun _ => 0, ρ⟩ (fun r => (∀ c : Dev nD,
      r.2.mem ((c.tc : Thread nD τ).loc main_v0) = (dats m (adm m hs) 0 c).arrAt 2 (cfg0 (adm m hs)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  have hpf : Read m (adm m hs) := fun c k => by
    obtain rfl : c = 0 := Subsingleton.elim (α := Fin 1) _ _
    rfl
  refine (θ_run defs _ _).mono (fun r h => ⟨fun c => ⟨(h.1 c).1 2, ?_, ?_, ?_, ?_, ?_, ?_, ?_, ?_, ?_, ?_⟩, h.2⟩) (run_main m ρ (adm m hs) hs hpf)
  · exact (h.1 c).2 main_arg0 (Pipeline.mem_restRefs_of main_arg0 (by decide) (by decide : ∀ w : Fin 3, (spec0 w).arr.view.ref ≠ main_arg0))
  · exact (h.1 c).2 main_arg1 (Pipeline.mem_restRefs_of main_arg1 (by decide) (by decide : ∀ w : Fin 3, (spec0 w).arr.view.ref ≠ main_arg1))
  · exact (h.1 c).2 main_arg2 (Pipeline.mem_restRefs_of main_arg2 (by decide) (by decide : ∀ w : Fin 3, (spec0 w).arr.view.ref ≠ main_arg2))
  · exact (h.1 c).2 main_arg3 (Pipeline.mem_restRefs_of main_arg3 (by decide) (by decide : ∀ w : Fin 3, (spec0 w).arr.view.ref ≠ main_arg3))
  · exact (h.1 c).2 main_arg4 (Pipeline.mem_restRefs_of main_arg4 (by decide) (by decide : ∀ w : Fin 3, (spec0 w).arr.view.ref ≠ main_arg4))
  · exact ((h.1 c).1 0).trans (((dats m (adm m hs) 0 c).arrAt_in 0 rfl _).trans (A_eq m (adm m hs) c 0))
  · exact ((h.1 c).1 1).trans (((dats m (adm m hs) 0 c).arrAt_in 1 rfl _).trans (A_eq m (adm m hs) c 1))
  · exact (h.1 c).2 main_arg7 (Pipeline.mem_restRefs_of main_arg7 (by decide) (by decide : ∀ w : Fin 3, (spec0 w).arr.view.ref ≠ main_arg7))
  · exact (h.1 c).2 main_arg8 (Pipeline.mem_restRefs_of main_arg8 (by decide) (by decide : ∀ w : Fin 3, (spec0 w).arr.view.ref ≠ main_arg8))
  · exact (h.1 c).2 main_arg9 (Pipeline.mem_restRefs_of main_arg9 (by decide) (by decide : ∀ w : Fin 3, (spec0 w).arr.view.ref ≠ main_arg9))

end Cert.KernelExpertsIdeal.Hand

end
-- ==== Proof.Experts.lean ====
/-
  The experts' mathematics, on one row: the row scaled by its root mean square, its expert's two products, the gated hidden
  row, and its product with the third matrix.
-/
module

public import Idealize.ShloMosaic.PureOps.Ideal
public import Idealize.ShloMosaic.PureOps.Ideal.Laws

@[expose] public section

noncomputable section

namespace Cert.Proof.Experts

open Idealize.ShloMosaic
open scoped BigOperators

/-- A row over its root mean square, times the gain. -/
def scaled (x g : Fin 2048 → EReal) (k : Fin 2048) : EReal :=
  x k * Ideal.rsqrt (Ideal.div (∑ j, x j * x j) (Ideal.ofBits .f32 0x45000000#32) + Ideal.ofBits .f32 0x358637BD#32) * g k

/-- A row's product with a column. -/
def dot (t : Fin 2048 → EReal) (w : Fin 2048 → Fin 512 → EReal) (f : Fin 512) : EReal := ∑ k, t k * w k f

/-- The hidden row: the first product, gated by itself, times the second. -/
def gated (t : Fin 2048 → EReal) (wg wu : Fin 2048 → Fin 512 → EReal) (f : Fin 512) : EReal :=
  dot t wg f * Ideal.logistic (dot t wg f) * dot t wu f

/-- One expert's row. -/
def row (x g : Fin 2048 → EReal) (wg wu : Fin 2048 → Fin 512 → EReal) (wd : Fin 512 → Fin 2048 → EReal) (d : Fin 2048) : EReal :=
  ∑ f, gated (scaled x g) wg wu f * wd f d

end Cert.Proof.Experts

end
-- ==== Proof.XI.Tile.lean ====
/-
  A tile of the experts' kernel at the ideal level: each of its rows is its expert's row.
-/
module

public import proofs.«01_k».proof.Proof.XI.Quiescent
public import proofs.«01_k».proof.Proof.Experts
public import Idealize.ShloMosaic.Lib.MatmulPlain
public import Idealize.ShloMosaic.Lib.ValueIdx
public import Idealize.ShloMosaic.Lib.Pipeline.Value

@[expose] public section

noncomputable section

namespace Cert.KernelExpertsIdeal.Hand

open Cert.KernelExpertsIdeal Cert.KernelExpertsIdeal.Gen
open Cert.Proof.Experts
open Idealize.ShloMosaic Idealize.ShloMosaic.ValueIdx
open scoped BigOperators

theorem pay1_apply (U : S1x2048x512.Idx → EReal) (k : Fin 2048) (f : Fin 512) : k0_pay1 (F := Ideal) U (ix2 k f) = U (ix3 (n0 := 1) 0 k f) := by
  unfold k0_pay1
  refine (shapeCast_apply _ _ (ix2 k f) (ix2 k f) rfl).trans ?_
  refine shapeCast_apply U _ (ix2 k f) (ix3 (n0 := 1) 0 k f) ?_
  rw [Shape.rowMajor_val_two, Shape.rowMajor_val_three]
  show (0 * 2048 + k.val) * 512 + f.val = k.val * 512 + f.val
  omega

theorem pay2_apply (U : S1x2048x512.Idx → EReal) (k : Fin 2048) (f : Fin 512) : k0_pay2 (F := Ideal) U (ix2 k f) = U (ix3 (n0 := 1) 0 k f) :=
  pay1_apply U k f

theorem pay3_apply (U : S1x512x2048.Idx → EReal) (k : Fin 512) (f : Fin 2048) : k0_pay3 (F := Ideal) U (ix2 k f) = U (ix3 (n0 := 1) 0 k f) := by
  unfold k0_pay3
  refine (shapeCast_apply _ _ (ix2 k f) (ix2 k f) rfl).trans ?_
  refine shapeCast_apply U _ (ix2 k f) (ix3 (n0 := 1) 0 k f) ?_
  rw [Shape.rowMajor_val_two, Shape.rowMajor_val_three]
  show (0 * 512 + k.val) * 2048 + f.val = k.val * 2048 + f.val
  omega

/-- The reduced index with the dropped coordinate put back. -/
theorem lift_row (r : Fin 256) (k : Fin 2048) : reduces_S256x2048_S256.lift (ix1 r) k = ix2 r k := by
  funext a; apply Fin.ext
  match a with
  | ⟨0, _⟩ => rfl
  | ⟨1, _⟩ => rfl

/-- The mean square of a row. -/
theorem square_apply (X : S256x2048.Idx → EReal) (r : Fin 256) :
    shapeCast S256x1 (multiReduction (F := Ideal) (φ := .f32) .add [1] S256 (mulf (F := Ideal) (φ := .f32) X X) 0x00000000#32 reduces_S256x2048_S256 (.inl rfl) rfl)
      shapeCasts_S256_S256x1 (ix2 (n1 := 1) r 0) = (∑ j : Fin 2048, X (ix2 r j) * X (ix2 r j) : EReal) := by
  refine (shapeCast_apply _ _ (ix2 (n1 := 1) r 0) (ix1 r) ?_).trans ?_
  · rw [Shape.rowMajor_val_one, Shape.rowMajor_val_two]; show r.val = r.val * 1 + 0; omega
  · refine (Ideal.multiReduction_add_single (a := 1) _ _ reduces_S256x2048_S256 _ _ _).trans ?_
    exact Finset.sum_congr rfl fun j _ => congrArg (fun i => X i * X i) (lift_row r j)

/-- A scaled row. -/
theorem scaled_apply (X : S256x2048.Idx → EReal) (G : S1x2048.Idx → EReal) (Y : S256x1.Idx → EReal) (r : Fin 256) (k : Fin 2048)
    (hY : Y (ix2 (n1 := 1) r 0) = (∑ j : Fin 2048, X (ix2 r j) * X (ix2 r j) : EReal)) :
    mulf (F := Ideal) (φ := .f32) (mulf (F := Ideal) (φ := .f32) X (broadcastTo S256x2048 (rsqrt (F := Ideal) (φ := .f32) (addf (F := Ideal) (φ := .f32) (divf (F := Ideal) (φ := .f32) Y
      (broadcast S256x1 (Scalar.ofBits (F := Ideal) .f32 0x45000000#32))) (broadcast S256x1 (Scalar.ofBits (F := Ideal) .f32 0x358637BD#32)))) broadcasts_S256x1_S256x2048))
      (broadcastTo S256x2048 G broadcasts_S1x2048_S256x2048) (ix2 r k) = scaled (fun j => X (ix2 r j)) (fun j => G (ix2 (n0 := 1) 0 j)) k := by
  have e1 := broadcastTo_apply (rsqrt (F := Ideal) (φ := .f32) (addf (F := Ideal) (φ := .f32) (divf (F := Ideal) (φ := .f32) Y
      (broadcast S256x1 (Scalar.ofBits (F := Ideal) .f32 0x45000000#32))) (broadcast S256x1 (Scalar.ofBits (F := Ideal) .f32 0x358637BD#32)))) broadcasts_S256x1_S256x2048
      (ix2 r k) (ix2 (n1 := 1) r 0) (fun a => match a with | ⟨0, _⟩ => rfl | ⟨1, _⟩ => rfl)
  have e2 := broadcastTo_apply G broadcasts_S1x2048_S256x2048 (ix2 r k) (ix2 (n0 := 1) 0 k) (fun a => match a with | ⟨0, _⟩ => rfl | ⟨1, _⟩ => rfl)
  refine congrArg₂ (fun a b : EReal => X (ix2 r k) * a * b) (e1.trans ?_) e2
  show Ideal.rsqrt (Ideal.div (Y (ix2 (n1 := 1) r 0)) (Ideal.ofBits .f32 0x45000000#32) + Ideal.ofBits .f32 0x358637BD#32) = _
  rw [hY]

/-- A product with one of the first two matrices. -/
theorem dot_apply (T : FVec Ideal S256x2048 .bf16) (W : FVec Ideal S2048x512 .bf16) (r : Fin 256) (f : Fin 512) :
    matmul dot_S256x2048_S2048x512_S256x512_1_0_0_1_n_n none T W (constant S256x512 .f32 0x00000000#32) (ix2 r f)
      = dot (fun k => T (ix2 r k)) (fun k f => W (ix2 k f)) f := by
  refine (Ideal.matmul_plain_apply (M := 256) (K := 2048) (N := 512) none T W _ r f).trans ?_
  show Ideal.ofBits .f32 0x00000000#32 + _ = _
  rw [Ideal.ofBits_zero_f32, zero_add]
  rfl

/-- A row of the tile. -/
theorem pay4_apply (X : S256x2048.Idx → EReal) (G : S1x2048.Idx → EReal) (U V : S1x2048x512.Idx → EReal) (Z : S1x512x2048.Idx → EReal) (r : Fin 256) (d : Fin 2048) :
    k0_pay4 (F := Ideal) X G (k0_pay1 (F := Ideal) U) (k0_pay2 (F := Ideal) V) (k0_pay3 (F := Ideal) Z) (ix2 r d)
      = row (fun k => X (ix2 r k)) (fun k => G (ix2 (n0 := 1) 0 k)) (fun k f => U (ix3 (n0 := 1) 0 k f)) (fun k f => V (ix3 (n0 := 1) 0 k f))
          (fun f d => Z (ix3 (n0 := 1) 0 f d)) d := by
  unfold k0_pay4
  refine (Ideal.matmul_plain_apply (M := 256) (K := 512) (N := 2048) none _ (k0_pay3 (F := Ideal) Z) _ r d).trans ?_
  show Ideal.ofBits .f32 0x00000000#32 + _ = _
  rw [Ideal.ofBits_zero_f32, zero_add]
  unfold row
  refine Finset.sum_congr rfl fun f _ => congrArg₂ (· * ·) ?_ (pay3_apply Z f d)
  have hs := fun k => scaled_apply X G _ r k (square_apply X r)
  have ha := fun W : FVec Ideal S2048x512 .bf16 => (dot_apply (truncf (F := Ideal) .bf16 (mulf (F := Ideal) (φ := .f32) (mulf (F := Ideal) (φ := .f32) X
      (broadcastTo S256x2048 (rsqrt (F := Ideal) (φ := .f32) (addf (F := Ideal) (φ := .f32) (divf (F := Ideal) (φ := .f32) (shapeCast S256x1 (multiReduction (F := Ideal) (φ := .f32) .add [1] S256 (mulf (F := Ideal) (φ := .f32) X X) 0x00000000#32 reduces_S256x2048_S256 (.inl rfl) rfl)
      shapeCasts_S256_S256x1)
      (broadcast S256x1 (Scalar.ofBits (F := Ideal) .f32 0x45000000#32))) (broadcast S256x1 (Scalar.ofBits (F := Ideal) .f32 0x358637BD#32)))) broadcasts_S256x1_S256x2048))
      (broadcastTo S256x2048 G broadcasts_S1x2048_S256x2048)) bitsLt_bf16_f32) W r f).trans
    (congrArg (fun t => dot t (fun k f => W (ix2 k f)) f) (funext hs))
  have hU := (ha (k0_pay1 (F := Ideal) U)).trans (congrArg (fun w => dot (scaled (fun k => X (ix2 r k)) (fun k => G (ix2 (n0 := 1) 0 k))) w f) (funext fun k => funext fun f => pay1_apply U k f))
  have hV := (ha (k0_pay2 (F := Ideal) V)).trans (congrArg (fun w => dot (scaled (fun k => X (ix2 r k)) (fun k => G (ix2 (n0 := 1) 0 k))) w f) (funext fun k => funext fun f => pay2_apply V k f))
  unfold gated
  rw [← hU, ← hV]
  rfl

end Cert.KernelExpertsIdeal.Hand

end
-- ==== Proof.XI.Value.lean ====
/-
  The experts' kernel at the ideal level: the output array. A used tile's block is flushed with what the tile's point left in
  it, so every row of a used tile is the row's expert's.
-/
module

public import proofs.«01_k».proof.Proof.XI.Tile

@[expose] public section

-- a table's contents are its words by unfolding its buffer's type
set_option backward.isDefEq.respectTransparency.types false

noncomputable section

namespace Cert.KernelExpertsIdeal.Hand

open Cert.KernelExpertsIdeal Cert.KernelExpertsIdeal.Gen
open Cert.Proof.Sched (tab tab_lt Good)
open Cert.Proof.Experts
open Idealize.ShloMosaic Idealize.ShloMosaic.TcCoe Idealize.ShloMosaic.ValueIdx
open Idealize.ShloMosaic.Pipeline (Dat Window)

section Geometry
variable {F : FTy → Type} [FloatOps F]
variable (m : (ℓ : Loc nD τ sig) → Buf (Elt F) ℓ) (a : (pcfg0 (F := F)).Adm)

variable (hg : Sch a.1)
include hg

theorem index0 (t : Fin (cfg0 a).N) : ((cfg0 a).win 0).index t = ![min t.val (nu a.1 - 1), 0] := ix_in a.1 t hg.pos hg.le
theorem index2 (t : Fin (cfg0 a).N) : ((cfg0 a).win 2).index t = ![min t.val (nu a.1 - 1), 0] := ix_out a.1 t hg.pos hg.le

/-- Where an entry of a point's output block lies. -/
theorem place2 (t : Fin (cfg0 a).N) (r : Fin 256) (d : Fin 2048) (h : min t.val (nu a.1 - 1) * 256 + r.val < 40960) :
    (((cfg0 a).win 2).blk t).view.emb (ix2 r d) = (ix2 ⟨min t.val (nu a.1 - 1) * 256 + r.val, h⟩ d : S40960x2048.Idx) := by
  refine funext fun b => Fin.ext ?_
  refine (Window.rect_emb_val ((cfg0 a).win 2) t (ix2 r d) b rfl).trans ?_
  rw [index2 a hg t]
  match b with
  | ⟨0, _⟩ => rfl
  | ⟨1, _⟩ => show 0 * 2048 + d.val = d.val; omega
theorem place0 (t : Fin (cfg0 a).N) (r : Fin 256) (d : Fin 2048) (h : min t.val (nu a.1 - 1) * 256 + r.val < 40960) :
    (((cfg0 a).win 0).blk t).view.emb (ix2 r d) = (ix2 ⟨min t.val (nu a.1 - 1) * 256 + r.val, h⟩ d : S40960x2048.Idx) := by
  refine funext fun b => Fin.ext ?_
  refine (Window.rect_emb_val ((cfg0 a).win 0) t (ix2 r d) b rfl).trans ?_
  rw [index0 a hg t]
  match b with
  | ⟨0, _⟩ => rfl
  | ⟨1, _⟩ => show 0 * 2048 + d.val = d.val; omega
omit hg in
theorem place1 (t : Fin (cfg0 a).N) (d : Fin 2048) :
    (((cfg0 a).win 1).blk t).view.emb (ix2 (n0 := 1) 0 d) = (ix2 (n0 := 1) 0 d : S1x2048.Idx) := by
  refine funext fun b => Fin.ext ?_
  refine (Window.rect_emb_val ((cfg0 a).win 1) t (ix2 (n0 := 1) 0 d) b rfl).trans ?_
  match b with
  | ⟨0, _⟩ => rfl
  | ⟨1, _⟩ => show 0 * 2048 + d.val = d.val; omega

/-- The output's window is written back where the tile changes. -/
theorem flush_next (t : Fin (cfg0 a).N) (h : t.val + 1 < nu a.1) : ((cfg0 a).win 2).flush t = true := by
  rw [Window.flush_eq_flushOf]
  unfold Window.flushOf
  have h2 : nu a.1 ≤ 160 := hg.le
  have hN : t.val + 1 < grid0.N := by have := N_0; omega
  refine Bool.and_eq_true_iff.mpr ⟨rfl, Bool.or_eq_true_iff.mpr (Or.inr (decide_eq_true ⟨hN, fun e => ?_⟩))⟩
  have e : cc0_transform_5 inb_S1_S1_0 numel1_S1 a.1 (grid0.coords ⟨t.val + 1, hN⟩) = cc0_transform_5 inb_S1_S1_0 numel1_S1 a.1 (grid0.coords t) := e
  rw [ix_out a.1 _ hg.pos hg.le, ix_out a.1 _ hg.pos hg.le] at e
  have e0 : min (t.val + 1) (nu a.1 - 1) = min t.val (nu a.1 - 1) := congrFun e 0
  omega
omit hg in
theorem flush_last (t : Fin (cfg0 a).N) (h : t.val + 1 = 160) : ((cfg0 a).win 2).flush t = true := by
  rw [Window.flush_eq_flushOf]
  unfold Window.flushOf
  have hN : (cfg0 a).grid.N = 160 := N_0
  exact Bool.and_eq_true_iff.mpr ⟨rfl, Bool.or_eq_true_iff.mpr (Or.inl (decide_eq_true (h.trans hN.symm)))⟩

/-- Every used tile has a point that writes its block back. -/
theorem flushed_tile (j : ℕ) (hj : j < nu a.1) : ∃ t : Fin (cfg0 a).N, ((cfg0 a).win 2).flush t = true ∧ min t.val (nu a.1 - 1) = j := by
  have h2 : nu a.1 ≤ 160 := hg.le
  have hN : (cfg0 a).N = 160 := N_0
  by_cases h : j + 1 < nu a.1
  · exact ⟨⟨j, by omega⟩, flush_next a hg _ h, by show min j _ = j; omega⟩
  · exact ⟨⟨159, by omega⟩, flush_last a _ rfl, by show min 159 _ = j; omega⟩

/-- The array as what the tiles leave. -/
def tiles (c : Dev nD) : S40960x2048.Idx → Elt F .f32 := fun i =>
  outAt m a c (tile a.1 ((i 0).val / 256)) (ix2 ⟨(i 0).val % 256, Nat.mod_lt _ (by decide)⟩ (i 1))

theorem tile_min (t : ℕ) : tile a.1 (min t (nu a.1 - 1)) = tile a.1 t := by
  refine Fin.ext ?_
  rw [tile_val a.1 hg.le, tile_val a.1 hg.le]
  omega

/-- A point's block is the tiles' array under it. -/
theorem block_tiles (c : Dev nD) (t : Fin (cfg0 a).N) (y : S256x2048.Idx) :
    outAt m a c (tile a.1 t.val) y = tiles m a c ((((cfg0 a).win 2).blk t).view.emb y) := by
  have h2 : nu a.1 ≤ 160 := hg.le
  have hy : y = ix2 (y 0) (y 1) := eq_ix2 y
  have hb : min t.val (nu a.1 - 1) * 256 + (y 0).val < 40960 := by
    have h0 : (y 0).val < 256 := (y 0).isLt
    have := hg.pos; omega
  have hp : (((cfg0 a).win 2).blk t).view.emb y = (ix2 ⟨min t.val (nu a.1 - 1) * 256 + (y 0).val, hb⟩ (y 1) : S40960x2048.Idx) :=
    (congrArg _ hy).trans (place2 a hg t (y 0) (y 1) hb)
  rw [hp]
  have h0 : (y 0).val < 256 := (y 0).isLt
  have e1 : (min t.val (nu a.1 - 1) * 256 + (y 0).val) / 256 = min t.val (nu a.1 - 1) := by omega
  have e2 : (⟨(min t.val (nu a.1 - 1) * 256 + (y 0).val) % 256, Nat.mod_lt _ (by decide)⟩ : Fin 256) = y 0 := Fin.ext (by
    show (min t.val (nu a.1 - 1) * 256 + (y 0).val) % 256 = (y 0).val; omega)
  show _ = outAt m a c (tile a.1 ((min t.val (nu a.1 - 1) * 256 + (y 0).val) / 256)) (ix2 (⟨(min t.val (nu a.1 - 1) * 256 + (y 0).val) % 256, _⟩ : Fin 256) (y 1))
  rw [e1, e2, tile_min a hg]
  exact congrArg _ hy

/-- A used tile's rows of the output array. -/
theorem final_used (c : Dev nD) (j : ℕ) (hj : j < nu a.1) (r : Fin 256) (d : Fin 2048) (h : j * 256 + r.val < 40960) :
    (dats m a 0 c).arrAt 2 (cfg0 a).N (ix2 ⟨j * 256 + r.val, h⟩ d : S40960x2048.Idx) = outAt m a c (tile a.1 j) (ix2 r d) := by
  obtain ⟨t, hf, ht⟩ := flushed_tile a hg j hj
  have h2 : nu a.1 ≤ 160 := hg.le
  have key := (dats m a 0 c).arrAt_apply_of_mem 2 (tiles m a c) (fun t _ => ?_) (cfg0 a).N t (ix2 ⟨j * 256 + r.val, h⟩ d : S40960x2048.Idx) t.isLt hf ?_
  · refine key.trans ?_
    have e1 : (j * 256 + r.val) / 256 = j := by have := r.isLt; omega
    have e2 : (⟨(j * 256 + r.val) % 256, Nat.mod_lt _ (by decide)⟩ : Fin 256) = r := Fin.ext (by show (j * 256 + r.val) % 256 = r.val; have := r.isLt; omega)
    show outAt m a c (tile a.1 ((j * 256 + r.val) / 256)) (ix2 (⟨(j * 256 + r.val) % 256, _⟩ : Fin 256) d) = _
    rw [e1, e2]
  · exact funext fun y => block_tiles m a hg c t y
  · have hp := place2 a hg t r d (by rw [ht]; exact h)
    have : (ix2 ⟨j * 256 + r.val, h⟩ d : S40960x2048.Idx) = (((cfg0 a).win 2).blk t).view.emb (ix2 r d) := by
      rw [hp]
      exact congrArg (fun z : Fin 40960 => (ix2 z d : S40960x2048.Idx)) (Fin.ext (by show j * 256 + r.val = min t.val (nu a.1 - 1) * 256 + r.val; rw [ht]))
    rw [this]
    exact (((cfg0 a).win 2).blk t).view.emb_mem_set _

end Geometry

variable (m : (ℓ : Loc nD τ sig) → Buf (Elt Ideal) ℓ) (a : (pcfg0 (F := Ideal)).Adm)

/-- A used tile's rows at the ideal level: their expert's. -/
theorem final_row (hg : Sch a.1) (c : Dev nD) (j : ℕ) (hj : j < nu a.1) (r : Fin 256) (d : Fin 2048) (h : j * 256 + r.val < 40960) (e : Fin 32)
    (he : (tab (a.1 0 : S160.Idx → BitVec 32) j).toNat = e.val) :
    (dats m a 0 c).arrAt 2 (cfg0 a).N (ix2 ⟨j * 256 + r.val, h⟩ d : S40960x2048.Idx)
      = row (fun k => (V m c main_arg5 : S40960x2048.Idx → EReal) (ix2 ⟨j * 256 + r.val, h⟩ k)) (fun k => (V m c main_arg6 : S1x2048.Idx → EReal) (ix2 (n0 := 1) 0 k))
          (fun k f => (V m c main_arg7 : S4x32x2048x512.Idx → EReal) (ix4 (n0 := 4) 0 e k f))
          (fun k f => (V m c main_arg8 : S4x32x2048x512.Idx → EReal) (ix4 (n0 := 4) 0 e k f))
          (fun f d => (V m c main_arg9 : S4x32x512x2048.Idx → EReal) (ix4 (n0 := 4) 0 e f d)) d := by
  rw [final_used m a hg c j hj r d h]
  have htv : (tile a.1 j).val = j := by rw [tile_val a.1 hg.le]; omega
  have hex : ex a.1 (tile a.1 j) = e := Fin.ext (by
    show (tab (a.1 0 : S160.Idx → BitVec 32) (tile a.1 j).val).toNat % 32 = e.val
    rw [htv, he]; exact Nat.mod_eq_of_lt e.isLt)
  unfold outAt
  rw [hex]
  refine (pay4_apply (iblk m a c 0 (tile a.1 j)) (iblk m a c 1 (tile a.1 j)) _ _ _ r d).trans ?_
  have hx : (fun k => (iblk m a c 0 (tile a.1 j) : S256x2048.Idx → EReal) (ix2 r k)) = fun k => (V m c main_arg5 : S40960x2048.Idx → EReal) (ix2 ⟨j * 256 + r.val, h⟩ k) := funext fun k => by
    have hb : min (tile a.1 j).val (nu a.1 - 1) * 256 + r.val = j * 256 + r.val := by rw [htv]; congr 2; omega
    have hp := place0 a hg (tile a.1 j) r k (by rw [hb]; exact h)
    refine (congrArg (V m c main_arg5 : S40960x2048.Idx → EReal) hp).trans ?_
    exact congrArg (fun z : Fin 40960 => (V m c main_arg5 : S40960x2048.Idx → EReal) (ix2 z k)) (Fin.ext hb)
  have hgn : (fun k => (iblk m a c 1 (tile a.1 j) : S1x2048.Idx → EReal) (ix2 (n0 := 1) 0 k)) = fun k => (V m c main_arg6 : S1x2048.Idx → EReal) (ix2 (n0 := 1) 0 k) := funext fun k =>
    congrArg (V m c main_arg6 : S1x2048.Idx → EReal) (place1 a (tile a.1 j) k)
  rw [hx, hgn]
  rfl

end Cert.KernelExpertsIdeal.Hand

end
-- ==== Proof.XR.Value.lean ====
/-
  The experts' reference: what it computes of a row whose tile's expert is one of the 32, and its run.
-/
module

public import proofs.«01_k».proof.Proof.Gen.ReferenceExpertsIdeal.Run
public import proofs.«01_k».proof.Proof.Gen.ReferenceExpertsIdeal.Read
public import proofs.«01_k».proof.Proof.Experts
public import Idealize.ShloMosaic.Lib.ValueIdx
public import Idealize.ShloMosaic.Lib.Quiescent

@[expose] public section

noncomputable section

namespace Cert.Proof.XR

open Cert.ReferenceExpertsIdeal Cert.ReferenceExpertsIdeal.Gen Cert.ReferenceExpertsIdeal.Read Cert.Proof.Experts
open Idealize.ShloMosaic Idealize.ShloMosaic.TcCoe Idealize.ShloMosaic.ValueIdx Idealize.SL.Sem
open scoped BigOperators

theorem one_f32 : (Ideal.ofBits .f32 0x3F800000#32 : EReal) = 1 := by simp [Ideal.ofBits, Ideal.ieee, -EReal.coe_mul]; norm_num

variable (te : S160.Idx → BitVec 32) (X : S40960x2048.Idx → EReal) (G : S1x2048.Idx → EReal) (U V : S4x32x2048x512.Idx → EReal) (Z : S4x32x512x2048.Idx → EReal)

theorem square_read (r : Fin 40960) : val_main_v2 (F := Ideal) X (ix1 r) = (∑ j : Fin 2048, X (ix2 r j) * X (ix2 r j) : EReal) := by
  rw [val_main_v2_apply, val_main_cst_apply]
  show Ideal.ofBits .f32 0x00000000#32 + _ = _
  rw [Ideal.ofBits_zero_f32, zero_add]
  refine Finset.sum_congr rfl fun k _ => ?_
  rw [val_main_v1_apply]
  exact congrArg (fun i => X i * X i) (funext fun a => match a with | ⟨0, _⟩ => rfl | ⟨1, _⟩ => rfl)

theorem scaled_read (r : Fin 40960) (k : Fin 2048) :
    val_main_v13 (F := Ideal) X G (ix2 r k) = scaled (fun j => X (ix2 r j)) (fun j => G (ix2 (n0 := 1) 0 j)) k := by
  rw [val_main_v13_apply, val_main_v10_apply, val_main_v9_apply, val_main_v8_apply, val_main_v7_apply, val_main_v5_apply, val_main_v3_apply,
    val_main_v4_apply, val_main_v6_apply, val_main_v12_apply, val_main_v11_apply, val_main_v0_apply]
  have h1 : idx_main_v3 (idx_main_v9 (ix2 r k)) = ix1 r := funext fun a => match a with | ⟨0, _⟩ => rfl
  rw [h1, square_read]
  have h2 : idx_main_v0 (idx_main_v11 (idx_main_v12 (ix2 r k))) = ix2 (n0 := 1) 0 k := funext fun a => Fin.ext (match a with
    | ⟨0, _⟩ => rfl | ⟨1, _⟩ => Nat.mod_eq_of_lt k.isLt)
  rw [h2]
  rfl

theorem gate_read (e : Fin 32) (k : Fin 2048) (f : Fin 512) : val_main_v17 (F := Ideal) U (ix3 e k f) = U (ix4 (n0 := 4) 0 e k f) := by
  rw [val_main_v17_apply, val_main_v16_apply]
  refine congrArg U (funext fun a => Fin.ext ?_)
  have h0 := e.isLt; have h1 := k.isLt; have h2 := f.isLt
  match a with
  | ⟨0, _⟩ => rfl
  | ⟨1, _⟩ => show ((e.val * 2048 + k.val) * 512 + f.val) / 1048576 % 32 = e.val; omega
  | ⟨2, _⟩ => show ((e.val * 2048 + k.val) * 512 + f.val) / 512 % 2048 = k.val; omega
  | ⟨3, _⟩ => show ((e.val * 2048 + k.val) * 512 + f.val) % 512 = f.val; omega

theorem up_read (e : Fin 32) (k : Fin 2048) (f : Fin 512) : val_main_v21 (F := Ideal) V (ix3 e k f) = V (ix4 (n0 := 4) 0 e k f) :=
  gate_read V e k f

theorem down_read (e : Fin 32) (f : Fin 512) (d : Fin 2048) : val_main_v25 (F := Ideal) Z (ix3 e f d) = Z (ix4 (n0 := 4) 0 e f d) := by
  rw [val_main_v25_apply, val_main_v24_apply]
  refine congrArg Z (funext fun a => Fin.ext ?_)
  have h0 := e.isLt; have h1 := f.isLt; have h2 := d.isLt
  match a with
  | ⟨0, _⟩ => rfl
  | ⟨1, _⟩ => show ((e.val * 512 + f.val) * 2048 + d.val) / 1048576 % 32 = e.val; omega
  | ⟨2, _⟩ => show ((e.val * 512 + f.val) * 2048 + d.val) / 2048 % 512 = f.val; omega
  | ⟨3, _⟩ => show ((e.val * 512 + f.val) * 2048 + d.val) % 2048 = d.val; omega

/-- The scaled row, and an expert's matrices. -/
abbrev xrow (r : Fin 40960) : Fin 2048 → EReal := fun k => X (ix2 r k)
abbrev grow : Fin 2048 → EReal := fun k => G (ix2 (n0 := 1) 0 k)
abbrev wmat (e : Fin 32) : Fin 2048 → Fin 512 → EReal := fun k f => U (ix4 (n0 := 4) 0 e k f)
abbrev wmat' (e : Fin 32) : Fin 512 → Fin 2048 → EReal := fun f d => Z (ix4 (n0 := 4) 0 e f d)

theorem dot_read (r : Fin 40960) (e : Fin 32) (f : Fin 512) :
    val_main_v18 (F := Ideal) X G U (ix3 r e f) = dot (scaled (xrow X r) (grow G)) (wmat U e) f := by
  rw [val_main_v18_apply]
  refine Finset.sum_congr rfl fun k _ => ?_
  have h1 : lidx_main_v18 (ix3 r e f) k = ix2 r k := funext fun a => match a with | ⟨0, _⟩ => rfl | ⟨1, _⟩ => rfl
  have h2 : ridx_main_v18 (ix3 r e f) k = ix3 e k f := funext fun a => match a with | ⟨0, _⟩ => rfl | ⟨1, _⟩ => rfl | ⟨2, _⟩ => rfl
  rw [h1, h2, scaled_read, gate_read]

theorem dot_read' (r : Fin 40960) (e : Fin 32) (f : Fin 512) :
    val_main_v22 (F := Ideal) X G V (ix3 r e f) = dot (scaled (xrow X r) (grow G)) (wmat V e) f :=
  dot_read X G V r e f

theorem gated_read (r : Fin 40960) (e : Fin 32) (f : Fin 512) :
    val_main_v23 (F := Ideal) X G U V (ix3 r e f) = gated (scaled (xrow X r) (grow G)) (wmat U e) (wmat V e) f := by
  rw [val_main_v23_apply, val_main_v19_apply, val_main_call0_v5_apply, val_main_call0_v4_apply, val_main_call0_v3_apply, val_main_call0_v2_apply,
    val_main_call0_v1_apply, val_main_call0_v0_apply, val_main_call0_cst_apply, val_main_call0_cst_0_apply, dot_read, dot_read']
  show dot (scaled (xrow X r) (grow G)) (wmat U e) f * Ideal.div (Ideal.ofBits .f32 0x3F800000#32) (Ideal.ofBits .f32 0x3F800000#32
    + Ideal.exp (-(dot (scaled (xrow X r) (grow G)) (wmat U e) f))) * dot (scaled (xrow X r) (grow G)) (wmat V e) f = _
  rw [one_f32]
  rfl

theorem out_read (r : Fin 40960) (e : Fin 32) (d : Fin 2048) :
    val_main_v27 (F := Ideal) X G U V Z (ix3 r e d) = row (xrow X r) (grow G) (wmat U e) (wmat V e) (wmat' Z e) d := by
  rw [val_main_v27_apply, val_main_v26_apply]
  refine Finset.sum_congr rfl fun f _ => ?_
  have h1 : lidx_main_v26 (idx_main_v27 (ix3 r e d)) f = ix3 e f d := funext fun a => match a with | ⟨0, _⟩ => rfl | ⟨1, _⟩ => rfl | ⟨2, _⟩ => rfl
  have h2 : ridx_main_v26 (idx_main_v27 (ix3 r e d)) f = ix3 r e f := funext fun a => match a with | ⟨0, _⟩ => rfl | ⟨1, _⟩ => rfl | ⟨2, _⟩ => rfl
  rw [h1, h2, down_read, gated_read, mul_comm]

/-- The weight of expert `e` for a row: one if it is the row's tile's, zero otherwise. -/
theorem hot_read (r : Fin 40960) (e : Fin 32) (d : Fin 2048) (q : Fin 160) (hq : q.val = r.val / 256) (he : (te (ix1 q)).toNat < 32) :
    val_main_v30 (F := Ideal) te (ix3 r e d) = if e.val = (te (ix1 q)).toNat then (1 : EReal) else 0 := by
  rw [val_main_v30_apply, val_main_v29_apply, val_main_v28_apply, val_main_call1_v4_apply, val_main_call1_v2_apply, val_main_call1_v3_apply,
    val_main_call1_v1_apply, val_main_call1_v0_apply, val_main_v15_apply, val_main_v14_apply]
  have h1 : idx_main_v14 (idx_main_v15 (idx_main_call1_v0 (idx_main_call1_v2 (idx_main_v29 (idx_main_v30 (ix3 r e d)))))) = ix1 q :=
    funext fun a => Fin.ext (match a with | ⟨0, _⟩ => hq.symm)
  rw [h1]
  show (((IntOp.cmpi .eq (te (ix1 q)) (BitVec.ofNat 32 e.val)).toNat : ℝ) : EReal) = _
  have hb : (te (ix1 q) = BitVec.ofNat 32 e.val) ↔ e.val = (te (ix1 q)).toNat := by
    have := e.isLt
    constructor
    · intro h; rw [h, BitVec.toNat_ofNat]; omega
    · intro h; apply BitVec.eq_of_toNat_eq; rw [BitVec.toNat_ofNat]; omega
  by_cases h : e.val = (te (ix1 q)).toNat
  · rw [if_pos h, hb.mpr h]; simp [IntOp.cmpi]
  · rw [if_neg h]
    have hne : ¬ te (ix1 q) = BitVec.ofNat 32 e.val := fun x => h (hb.mp x)
    simp [IntOp.cmpi, hne]

/-- A row of the reference's result: its tile's expert's. -/
theorem result (r : Fin 40960) (d : Fin 2048) (q : Fin 160) (hq : q.val = r.val / 256) (he : (te (ix1 q)).toNat < 32) :
    val_main_v32 (F := Ideal) te X G U V Z (ix2 r d)
      = row (xrow X r) (grow G) (wmat U ⟨(te (ix1 q)).toNat, he⟩) (wmat V ⟨(te (ix1 q)).toNat, he⟩) (wmat' Z ⟨(te (ix1 q)).toNat, he⟩) d := by
  rw [val_main_v32_apply, val_main_cst_2_apply]
  show Ideal.ofBits .f32 0x00000000#32 + _ = _
  rw [Ideal.ofBits_zero_f32, zero_add]
  refine (Finset.sum_eq_single (⟨(te (ix1 q)).toNat, he⟩ : Fin 32) (fun e _ hne => ?_) (fun h => absurd (Finset.mem_univ _) h)).trans ?_
  all_goals
    rw [val_main_v31_apply]
  · have hi : idx_main_v32 (ix2 r d) e = ix3 r e d := funext fun a => match a with | ⟨0, _⟩ => rfl | ⟨1, _⟩ => rfl | ⟨2, _⟩ => rfl
    rw [hi, hot_read te r e d q hq he, if_neg (fun h => hne (Fin.ext h))]
    exact zero_mul _
  · have hi : idx_main_v32 (ix2 r d) ⟨(te (ix1 q)).toNat, he⟩ = ix3 r ⟨(te (ix1 q)).toNat, he⟩ d := funext fun a => match a with | ⟨0, _⟩ => rfl | ⟨1, _⟩ => rfl | ⟨2, _⟩ => rfl
    rw [hi, hot_read te r _ d q hq he, if_pos rfl, out_read]
    exact one_mul _

/-- The reference terminates with its arguments unchanged and its counters at zero. -/
theorem frame_main {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2, sem_eq_zero_of_no_sems (by decide) r.2⟩)
    (Cert.ReferenceExpertsIdeal.Value.run m ρ)

end Cert.Proof.XR

end
-- ==== Proof.Mixed.lean ====
/-
  The experts' claims: with a good schedule both programs run to the end with their arguments unchanged and every counter at
  zero, and at the ideal level the kernel's result is the reference's on the rows of the used tiles.
-/
module

public import proofs.«01_k».proof.Defs
public import proofs.«01_k».proof.Proof.XI.Value
public import proofs.«01_k».proof.Proof.XP.Quiescent
public import proofs.«01_k».proof.Proof.XR.Value

@[expose] public section

-- a table's contents are its words by unfolding its buffer's type
set_option backward.isDefEq.respectTransparency.types false

noncomputable section

namespace Cert.Proof.Mixed

open Idealize.ShloMosaic Idealize.ShloMosaic.ValueIdx Idealize.SL.Sem Idealize.ShloMosaic.StableHlo
open Cert.Proof.Sched Cert.Proof.Experts

/-- A row of the mask is set only where the row's tile is a used one. -/
theorem mask_lt (te : IVec Cert.On_used_rows.S160 32) (nu : IVec Cert.On_used_rows.S1 32) (fi nx sl : IVec Cert.On_used_rows.S160 32)
    (x5 : Cert.On_used_rows.S40960x2048.Idx → EReal) (x6 : Cert.On_used_rows.S1x2048.Idx → EReal) (x7 x8 : Cert.On_used_rows.S4x32x2048x512.Idx → EReal)
    (x9 : Cert.On_used_rows.S4x32x512x2048.Idx → EReal) (i : Cert.On_used_rows.S40960x2048.Idx) (hn : (nu (ix1 0)).toNat ≤ 160)
    (h : @Cert.On_used_rows.fn facts_on Ideal _ te nu fi nx sl x5 x6 x7 x8 x9 i = 1#1) : (i 0).val < (nu (ix1 0)).toNat * 256 := by
  have e : shapeCast Cert.On_used_rows.S_ nu facts_on.shapeCasts_S1_S_ (fun a => a.elim0) = nu (ix1 0) :=
    congrArg nu (funext fun a => by fin_cases a; exact Subsingleton.elim (α := Fin 1) _ _)
  have h1 : IntOp.cmpi .slt (BitVec.ofNat 32 (i 0).val) (IntOp.muli (shapeCast Cert.On_used_rows.S_ nu facts_on.shapeCasts_S1_S_ (fun a => a.elim0)) 256#32) = 1#1 := by
    refine Eq.trans ?_ h
    unfold Cert.On_used_rows.fn
    refine congrArg (IntOp.cmpi .slt (BitVec.ofNat 32 (i 0).val)) (congrArg (fun z => IntOp.muli z 256#32) ?_)
    exact congrArg (shapeCast Cert.On_used_rows.S_ nu facts_on.shapeCasts_S1_S_) (funext fun a => a.elim0)
  rw [e] at h1
  have h2 := slt_ones.1 h1
  have hi : (i 0).val < 40960 := (i 0).isLt
  have hm : (IntOp.muli (nu (ix1 0)) 256#32).toNat = (nu (ix1 0)).toNat * 256 := by
    unfold IntOp.muli
    rw [BitVec.toNat_mul]
    show (nu (ix1 0)).toNat * 256 % 2 ^ 32 = _
    omega
  rw [toInt_ofNat _ (by omega), toInt_small _ (by rw [hm]; omega), hm] at h2
  omega

theorem algebraic : Cert.algebraic_KernelExpertsIdeal_ReferenceExpertsIdeal_on_used_rows (hKernelExpertsIdeal := Cert.KernelExpertsIdeal.Gen.facts)
    (hReferenceExpertsIdeal := Cert.ReferenceExpertsIdeal.Gen.facts) (hPre_schedule := facts) (hOn_used_rows := facts_on) := by
  intro m g m' g' hp ha
  have hs := Cert.KernelExpertsIdeal.Hand.sch_of m (hp 0)
  refine ⟨fun c => (Cert.KernelExpertsIdeal.Hand.dats m (Cert.KernelExpertsIdeal.Hand.adm m hs) 0 c).arrAt 2
    (Cert.KernelExpertsIdeal.cfg0 (Cert.KernelExpertsIdeal.Hand.adm m hs)).N, ?_, ?_⟩
  · exact (θ_run _ _ _).mono (fun r h c => ⟨fun i _ => congrFun ((h.1 c).1) i, (h.1 c).2⟩) (Cert.KernelExpertsIdeal.Hand.run_post m g hs)
  · refine (θ_run _ _ _).mono (fun r h c => ⟨fun i hi => ?_, (h c).2⟩) (Cert.ReferenceExpertsIdeal.Value.run m' g')
    obtain rfl : c = 0 := Subsingleton.elim (α := Fin 1) _ _
    refine (congrFun (((h 0).1).trans (Cert.ReferenceExpertsIdeal.Read.val_main_v32_eq m' 0)) i).trans ?_
    obtain ⟨a0, -, -, -, -, a5, a6, a7, a8, a9⟩ := ha 0
    rw [a0, a5, a6, a7, a8, a9]
    have hn : (Cert.KernelExpertsIdeal.Hand.word₁ (Cert.KernelExpertsIdeal.Hand.tables m 1)).toNat
        = ((m (((0 : Dev Cert.KernelExpertsIdeal.nD).tc : Thread Cert.KernelExpertsIdeal.nD Cert.KernelExpertsIdeal.τ).loc Cert.KernelExpertsIdeal.main_arg1) : Cert.KernelExpertsIdeal.S1.Idx → BitVec 32) (ix1 0)).toNat :=
      congrArg BitVec.toNat (Cert.KernelExpertsIdeal.Hand.word₁_eq (Cert.KernelExpertsIdeal.Hand.tables m 1) (ix1 0))
    have hlt := mask_lt _ _ _ _ _ _ _ _ _ _ i (hn ▸ hs.le) hi
    obtain ⟨y, d, rfl⟩ : ∃ (y : Fin 40960) (d : Fin 2048), i = ix2 y d := ⟨i 0, i 1, eq_ix2 i⟩
    have hlt : y.val < ((m (((0 : Dev Cert.KernelExpertsIdeal.nD).tc : Thread Cert.KernelExpertsIdeal.nD Cert.KernelExpertsIdeal.τ).loc Cert.KernelExpertsIdeal.main_arg1) : Cert.KernelExpertsIdeal.S1.Idx → BitVec 32) (ix1 0)).toNat * 256 := hlt
    have hj : y.val / 256 < Cert.KernelExpertsIdeal.Hand.nu (Cert.KernelExpertsIdeal.Hand.tables m) := by
      show _ < (Cert.KernelExpertsIdeal.Hand.word₁ (Cert.KernelExpertsIdeal.Hand.tables m 1)).toNat
      rw [hn]; omega
    have hy : y.val < 40960 := y.isLt
    have hq : y.val / 256 < 160 := by omega
    have he := hs.expert _ hj
    rw [tab_lt _ _ hq] at he
    refine (XR.result _ _ _ _ _ _ y d ⟨y.val / 256, hq⟩ rfl he).trans (Eq.symm ?_)
    have hr : y = ⟨y.val / 256 * 256 + y.val % 256, by omega⟩ := Fin.ext (by show y.val = y.val / 256 * 256 + y.val % 256; omega)
    refine (congrArg (fun z : Fin 40960 => (Cert.KernelExpertsIdeal.Hand.dats m (Cert.KernelExpertsIdeal.Hand.adm m hs) 0 0).arrAt 2
      (Cert.KernelExpertsIdeal.cfg0 (Cert.KernelExpertsIdeal.Hand.adm m hs)).N (ix2 z d : Cert.KernelExpertsIdeal.S40960x2048.Idx)) hr).trans ?_
    refine (Cert.KernelExpertsIdeal.Hand.final_row m (Cert.KernelExpertsIdeal.Hand.adm m hs) hs 0 (y.val / 256) hj ⟨y.val % 256, Nat.mod_lt _ (by decide)⟩ d
      (by show y.val / 256 * 256 + y.val % 256 < 40960; omega) ⟨_, he⟩ (congrArg BitVec.toNat (tab_lt _ _ hq))).trans ?_
    refine congrArg (fun x => row x _ _ _ _ d) (funext fun k => ?_)
    exact congrArg (fun z : Fin 40960 => (m (((0 : Dev Cert.KernelExpertsIdeal.nD).tc : Thread Cert.KernelExpertsIdeal.nD Cert.KernelExpertsIdeal.τ).loc Cert.KernelExpertsIdeal.main_arg5)
      : Cert.KernelExpertsIdeal.S40960x2048.Idx → EReal) (ix2 z k)) hr.symm

end Cert.Proof.Mixed

end
-- ==== Proof.Inproj.lean ====
/-
  The input projection's mathematics, on one row: the scaled row's product with a column of the weights; a head's lanes scaled
  by their root mean square; and the rotation of a head's two halves by the row's position.
-/
module

public import proofs.«01_k».proof.Proof.Experts
public import Idealize.ShloMosaic.PureOps.Ideal
public import Idealize.ShloMosaic.PureOps.Ideal.Laws
public import Idealize.ShloMosaic.Lib.IdealHost

@[expose] public section

noncomputable section

namespace Cert.Proof.Inproj

open Idealize.ShloMosaic Cert.Proof.Experts
open scoped BigOperators

/-- A row's product with a column of the weights. -/
def proj (t : Fin 2048 → EReal) (w : Fin 2048 → Fin 5120 → EReal) (f : Fin 5120) : EReal := ∑ k, t k * w k f

/-- Column `f` of the section `s` of the weights, and lane `e` of the head `h` in a section. -/
def col (s : Fin 5) (f : Fin 1024) : Fin 5120 := ⟨1024 * s.val + f.val, by omega⟩
def lane (h : Fin 8) (e : Fin 128) : Fin 1024 := ⟨128 * h.val + e.val, by omega⟩

/-- A head of a section, of the scaled row. -/
def head (x g : Fin 2048 → EReal) (w : Fin 2048 → Fin 5120 → EReal) (s : Fin 5) (h : Fin 8) (e : Fin 128) : EReal :=
  proj (scaled x g) w (col s (lane h e))

/-- A head over its root mean square, times the gain. -/
def headNorm (y g : Fin 128 → EReal) (e : Fin 128) : EReal :=
  y e * Ideal.rsqrt (Ideal.div (∑ j, y j * y j) (Ideal.ofBits .f32 0x43000000#32) + Ideal.ofBits .f32 0x358637BD#32) * g e

/-- The frequency of a pair of lanes. -/
def freq (e : Fin 64) : EReal :=
  Ideal.pow (Ideal.ofBits .f32 0x461C4000#32) (Ideal.div (-((((BitVec.ofNat 32 e.val).toInt : ℝ) : EReal))) (Ideal.ofBits .f32 0x42800000#32))

/-- A position, as a number. -/
def place (p : BitVec 32) : EReal := ((p.toInt : ℝ) : EReal)

/-- A head rotated by the row's position, its two halves a pair of coordinates. -/
def turned (y : Fin 128 → EReal) (p : EReal) (e : Fin 128) : EReal :=
  if h : e.val < 64 then y e * Ideal.cos (p * freq ⟨e.val, h⟩) - y ⟨e.val + 64, by omega⟩ * Ideal.sin (p * freq ⟨e.val, h⟩)
  else y ⟨e.val - 64, by omega⟩ * Ideal.sin (p * freq ⟨e.val - 64, by omega⟩) + y e * Ideal.cos (p * freq ⟨e.val - 64, by omega⟩)

/-- The lane half a turn away, and the sign the rotation takes it with. -/
def opp (e : Fin 128) : Fin 128 := ⟨(e.val + 64) % 128, Nat.mod_lt _ (by omega)⟩
def sign (e : Fin 128) : EReal := if e.val < 64 then Ideal.ofBits .f32 0xBF800000#32 else Ideal.ofBits .f32 0x3F800000#32

/-- The same rotation, each lane with the signed one half a turn away. -/
def swung (y : Fin 128 → EReal) (p : EReal) (v : Fin 128 → EReal) (e : Fin 128) : EReal :=
  y e * Ideal.cos (p * v e) + y (opp e) * (sign e * Ideal.sin (p * v e))

theorem minus_one : (Ideal.ofBits .f32 0xBF800000#32 : EReal) = -1 := by
  have h : (Ideal.ofBits .f32 0xBF800000#32 : EReal) = ((-1 : ℝ) : EReal) := by
    simp [Ideal.ofBits, Ideal.ieee, -EReal.coe_mul]; norm_num
  rw [h]; rfl

theorem swung_eq (y : Fin 128 → EReal) (p : EReal) (v : Fin 128 → EReal)
    (hv : ∀ e : Fin 128, v e = freq ⟨e.val % 64, Nat.mod_lt _ (by omega)⟩) (e : Fin 128) : swung y p v e = turned y p e := by
  unfold swung turned sign
  rw [hv e]
  by_cases h : e.val < 64
  · have ho : opp e = ⟨e.val + 64, by omega⟩ := Fin.ext (by show (e.val + 64) % 128 = e.val + 64; omega)
    have hf : (⟨e.val % 64, Nat.mod_lt _ (by omega)⟩ : Fin 64) = ⟨e.val, h⟩ := Fin.ext (by show e.val % 64 = e.val; omega)
    rw [if_pos h, dif_pos h, ho, hf, minus_one, neg_one_mul, mul_neg, sub_eq_add_neg]
  · have ho : opp e = ⟨e.val - 64, by omega⟩ := Fin.ext (by show (e.val + 64) % 128 = e.val - 64; omega)
    have hf : (⟨e.val % 64, Nat.mod_lt _ (by omega)⟩ : Fin 64) = ⟨e.val - 64, by omega⟩ := Fin.ext (by show e.val % 64 = e.val - 64; omega)
    rw [if_neg h, dif_neg h, ho, hf, Ideal.ofBits_one_f32, one_mul, add_comm]

/-- The queries of a row, the keys, and a column of the others. -/
def query (x g : Fin 2048 → EReal) (w : Fin 2048 → Fin 5120 → EReal) (q : Fin 128 → EReal) (p : BitVec 32) (h : Fin 8) (e : Fin 128) : EReal :=
  Ideal.div (turned (headNorm (head x g w 0 h) q) (place p) e) (Ideal.sqrt (Ideal.ofBits .f32 0x43000000#32))
def key (x g : Fin 2048 → EReal) (w : Fin 2048 → Fin 5120 → EReal) (q : Fin 128 → EReal) (p : BitVec 32) (h : Fin 8) (e : Fin 128) : EReal :=
  turned (headNorm (head x g w 1 h) q) (place p) e

/-- The row of a token of a sequence. -/
def rowAt (b : Fin 2) (t : Fin 8192) : Fin 16384 := ⟨8192 * b.val + t.val, by omega⟩

/-- A column of the last two sections. -/
def late (f : Fin 2048) : Fin 5120 := ⟨3072 + f.val, by omega⟩

theorem ofBits_128 : (Ideal.ofBits .f32 0x43000000#32 : EReal) = ((128 : ℝ) : EReal) := by
  simp [Ideal.ofBits, Ideal.ieee, -EReal.coe_mul]; norm_num

/-- Dividing by the root of 128 is multiplying by its inverse. -/
theorem over_root (x : EReal) : x * (((Real.sqrt 128)⁻¹ : ℝ) : EReal) = Ideal.div x (Ideal.sqrt (Ideal.ofBits .f32 0x43000000#32)) := by
  rw [ofBits_128, Ideal.sqrt_coe, if_neg (by norm_num : ¬(128 : ℝ) < 0),
    Ideal.div_coe (show Real.sqrt 128 ≠ 0 from (Real.sqrt_pos.mpr (by norm_num)).ne'), one_div]

end Cert.Proof.Inproj

end
-- ==== Proof.NI.Tile.lean ====
/-
  A tile of the input projection's kernel at the ideal level: what its pure steps leave, entry by entry.
-/
module

public import proofs.«01_k».proof.Proof.Gen.KernelInprojIdeal.Value
public import proofs.«01_k».proof.Proof.Inproj
public import Idealize.ShloMosaic.Lib.MatmulPlain
public import Idealize.ShloMosaic.Lib.ValueIdx
public import Idealize.ShloMosaic.Lib.KernelVsHost
public import Idealize.ShloMosaic.Lib.Pipeline.Value

@[expose] public section

noncomputable section

namespace Cert.Proof.NI

open Cert.KernelInprojIdeal Cert.KernelInprojIdeal.Gen
open Cert.Proof.Inproj Cert.Proof.Experts
open Idealize.ShloMosaic Idealize.ShloMosaic.ValueIdx
open scoped BigOperators

/-- The reduced index with the dropped coordinate put back, for a row and for a head. -/
theorem lift_row (r : Fin 256) (k : Fin 2048) : reduces_S256x2048_S256.lift (ix1 r) k = ix2 r k := by
  funext a; apply Fin.ext
  match a with
  | ⟨0, _⟩ => rfl
  | ⟨1, _⟩ => rfl
theorem lift_lane (r : Fin 256) (k : Fin 128) : reduces_S256x128_S256.lift (ix1 r) k = ix2 r k := by
  funext a; apply Fin.ext
  match a with
  | ⟨0, _⟩ => rfl
  | ⟨1, _⟩ => rfl

/-- A column of sums, as a matrix of one column. -/
theorem column_apply (Y : S256.Idx → EReal) (r : Fin 256) : shapeCast S256x1 Y shapeCasts_S256_S256x1 (ix2 (n1 := 1) r 0) = Y (ix1 r) := by
  refine shapeCast_apply _ _ (ix2 (n1 := 1) r 0) (ix1 r) ?_
  rw [Shape.rowMajor_val_one, Shape.rowMajor_val_two]; show r.val = r.val * 1 + 0; omega

/-- The sum of squares of a row, and of a head. -/
theorem square_row (X : S256x2048.Idx → EReal) (r : Fin 256) :
    shapeCast S256x1 (multiReduction (F := Ideal) (φ := .f32) .add [1] S256 (mulf (F := Ideal) (φ := .f32) X X) 0x00000000#32 reduces_S256x2048_S256 (.inl rfl) rfl)
      shapeCasts_S256_S256x1 (ix2 (n1 := 1) r 0) = (∑ j : Fin 2048, X (ix2 r j) * X (ix2 r j) : EReal) :=
  (column_apply _ r).trans ((Ideal.multiReduction_add_single (a := 1) _ _ reduces_S256x2048_S256 _ _ _).trans
    (Finset.sum_congr rfl fun j _ => congrArg (fun i => X i * X i) (lift_row r j)))
theorem square_lane (X : S256x128.Idx → EReal) (r : Fin 256) :
    shapeCast S256x1 (multiReduction (F := Ideal) (φ := .f32) .add [1] S256 (mulf (F := Ideal) (φ := .f32) X X) 0x00000000#32 reduces_S256x128_S256 (.inl rfl) rfl)
      shapeCasts_S256_S256x1 (ix2 (n1 := 1) r 0) = (∑ j : Fin 128, X (ix2 r j) * X (ix2 r j) : EReal) :=
  (column_apply _ r).trans ((Ideal.multiReduction_add_single (a := 1) _ _ reduces_S256x128_S256 _ _ _).trans
    (Finset.sum_congr rfl fun j _ => congrArg (fun i => X i * X i) (lift_lane r j)))

/-- The scaled rows the kernel keeps. -/
theorem kept_apply (X : S256x2048.Idx → EReal) (G : S1x2048.Idx → EReal) (r : Fin 256) (k : Fin 2048) :
    k0_pay5 (F := Ideal) X G (ix2 r k) = scaled (fun j => X (ix2 r j)) (fun j => G (ix2 (n0 := 1) 0 j)) k := by
  unfold k0_pay5
  refine (shapeCast_apply _ _ (ix2 r k) (ix2 r k) rfl).trans ?_
  have e1 := fun Y : S256x1.Idx → EReal => broadcastTo_apply Y broadcasts_S256x1_S256x2048
      (ix2 r k) (ix2 (n1 := 1) r 0) (fun a => match a with | ⟨0, _⟩ => rfl | ⟨1, _⟩ => rfl)
  have e2 := broadcastTo_apply G broadcasts_S1x2048_S256x2048 (ix2 r k) (ix2 (n0 := 1) 0 k) (fun a => match a with | ⟨0, _⟩ => rfl | ⟨1, _⟩ => rfl)
  refine congrArg₂ (fun a b : EReal => X (ix2 r k) * a * b) ((e1 _).trans ?_) e2
  exact congrArg (fun s : EReal => Ideal.rsqrt (Ideal.div s (Ideal.ofBits .f32 0x45000000#32) + Ideal.ofBits .f32 0x358637BD#32)) (square_row X r)

/-- A product with a section of the weights. -/
theorem dot_apply (T : FVec Ideal S256x2048 .bf16) (W : FVec Ideal S2048x1024 .bf16) (r : Fin 256) (f : Fin 1024) :
    k0_pay9 (F := Ideal) T W (ix2 r f) = (∑ k : Fin 2048, T (ix2 r k) * W (ix2 k f) : EReal) := by
  unfold k0_pay9
  refine (Ideal.matmul_plain_apply (M := 256) (K := 2048) (N := 1024) none T W _ r f).trans ?_
  show Ideal.ofBits .f32 0x00000000#32 + _ = _
  rw [Ideal.ofBits_zero_f32, zero_add]

/-- A head's lanes over their root mean square, times the gain. -/
def normed (T : FVec Ideal S256x128 .f32) (g : FVec Ideal S1x128 .f32) : FVec Ideal S256x128 .f32 :=
  mulf (mulf T (broadcastTo S256x128 (rsqrt (addf (divf (shapeCast S256x1 (multiReduction .add [1] S256 (mulf T T) 0x00000000#32 reduces_S256x128_S256 (.inl rfl) rfl)
    shapeCasts_S256_S256x1) (broadcast S256x1 (Scalar.ofBits .f32 0x43000000#32))) (broadcast S256x1 (Scalar.ofBits .f32 0x358637BD#32)))) broadcasts_S256x1_S256x128))
    (broadcastTo S256x128 g broadcasts_S1x128_S256x128)

/-- Those turned by the position and scaled. -/
def spun (T : FVec Ideal S256x128 .f32) (g : FVec Ideal S1x128 .f32) (cs sn : FVec Ideal S256x128 .f32) (z : Ideal .f32) : FVec Ideal S256x128 .f32 :=
  mulf (addf (mulf (normed T g) cs) (mulf (dynamicRotate 1 64#32 none (normed T g) rotates_S256x128_d1) sn)) (broadcast S256x128 z)

/-- A head as the block it is stored in. -/
def stored (T : FVec Ideal S256x128 .f32) : FVec Ideal S1x1x256x128 .bf16 :=
  shapeCast S1x1x256x128 (truncf .bf16 T bitsLt_bf16_f32) shapeCasts_S256x128_S1x1x256x128

theorem stored_apply (T : S256x128.Idx → EReal) (x : S1x1x256x128.Idx) : stored T x = T (ix2 (x 2) (x 3)) := by
  unfold stored
  refine shapeCast_apply (truncf (F := Ideal) .bf16 T bitsLt_bf16_f32) _ x (ix2 (x 2) (x 3)) ?_
  rw [Shape.rowMajor_val_two, Shape.rowMajor_val_four]
  have h0 : (x 0).val < 1 := (x 0).isLt
  have h1 : (x 1).val < 1 := (x 1).isLt
  show (x 2).val * 128 + (x 3).val = (((x 0).val * 1 + (x 1).val) * 256 + (x 2).val) * 128 + (x 3).val
  omega

theorem normed_apply (T : S256x128.Idx → EReal) (g : S1x128.Idx → EReal) (r : Fin 256) (e : Fin 128) :
    normed T g (ix2 r e) = headNorm (fun j => T (ix2 r j)) (fun j => g (ix2 (n0 := 1) 0 j)) e := by
  have e1 := fun Y : S256x1.Idx → EReal => broadcastTo_apply Y broadcasts_S256x1_S256x128
      (ix2 r e) (ix2 (n1 := 1) r 0) (fun a => match a with | ⟨0, _⟩ => rfl | ⟨1, _⟩ => rfl)
  have e2 := broadcastTo_apply g broadcasts_S1x128_S256x128 (ix2 r e) (ix2 (n0 := 1) 0 e) (fun a => match a with | ⟨0, _⟩ => rfl | ⟨1, _⟩ => rfl)
  unfold normed
  refine congrArg₂ (fun a b : EReal => T (ix2 r e) * a * b) ((e1 _).trans ?_) e2
  exact congrArg (fun s : EReal => Ideal.rsqrt (Ideal.div s (Ideal.ofBits .f32 0x43000000#32) + Ideal.ofBits .f32 0x358637BD#32)) (square_lane T r)

theorem spun_apply (T : S256x128.Idx → EReal) (g : S1x128.Idx → EReal) (cs sn : S256x128.Idx → EReal) (z : EReal) (r : Fin 256) (e : Fin 128) :
    spun T g cs sn z (ix2 r e) = (headNorm (fun j => T (ix2 r j)) (fun j => g (ix2 (n0 := 1) 0 j)) e * cs (ix2 r e)
      + headNorm (fun j => T (ix2 r j)) (fun j => g (ix2 (n0 := 1) 0 j)) (opp e) * sn (ix2 r e)) * z := by
  have h := dynamicRotate_apply 1 64#32 (normed T g) rotates_S256x128_d1 (ix2 r e) (ix2 r (opp e)) (fun b => match b with
    | ⟨0, _⟩ => rfl
    | ⟨1, _⟩ => rfl)
  rw [← normed_apply T g r e, ← normed_apply T g r (opp e), ← h]
  rfl

/-- The angle's cosine and its signed sine. -/
theorem angle_apply (P : S256x1.Idx → BitVec 32) (v : S1x128.Idx → EReal) (r : Fin 256) (e : Fin 128) :
    k0_pay6 (F := Ideal) P v (ix2 r e) = place (P (ix2 (n1 := 1) r 0)) * v (ix2 (n0 := 1) 0 e) := by
  unfold k0_pay6
  have e1 := broadcastTo_apply (sitofp (F := Ideal) .f32 P) broadcasts_S256x1_S256x128
      (ix2 r e) (ix2 (n1 := 1) r 0) (fun a => match a with | ⟨0, _⟩ => rfl | ⟨1, _⟩ => rfl)
  have e2 := broadcastTo_apply (shapeCast S1x128 v shapeCasts_S1x128_S1x128) broadcasts_S1x128_S256x128 (ix2 r e) (ix2 (n0 := 1) 0 e)
    (fun a => match a with | ⟨0, _⟩ => rfl | ⟨1, _⟩ => rfl)
  exact congrArg₂ (fun a b : EReal => a * b) e1 (e2.trans (shapeCast_apply v _ _ _ rfl))

theorem lane_lt : ∀ e : Fin 128, IntOp.cmpi .slt (BitVec.ofNat 32 (0 * 128 + e.val)) 64#32 = if e.val < 64 then 1#1 else 0#1 := by decide +kernel

theorem sine_apply (P : S256x1.Idx → BitVec 32) (v : S1x128.Idx → EReal) (r : Fin 256) (e : Fin 128) :
    k0_pay8 (F := Ideal) P v (ix2 r e) = sign e * Ideal.sin (place (P (ix2 (n1 := 1) r 0)) * v (ix2 (n0 := 1) 0 e)) := by
  rw [← angle_apply]
  unfold k0_pay8
  refine congrArg₂ (fun a b : EReal => a * b) ?_ rfl
  show (if IntOp.cmpi .slt (BitVec.ofNat 32 (0 * 128 + e.val)) 64#32 = 1 then Ideal.ofBits .f32 0xBF800000#32 else Ideal.ofBits .f32 0x3F800000#32 : EReal) = _
  rw [lane_lt]
  unfold sign
  by_cases h : e.val < 64
  · rw [if_pos h, if_pos h]; rfl
  · rw [if_neg h, if_neg h]; rfl

/-- An entry of a stored head: the normed head turned by the position, scaled. -/
theorem turned_piece (T : S256x128.Idx → EReal) (g : S1x128.Idx → EReal) (P : S256x1.Idx → BitVec 32) (v : S1x128.Idx → EReal) (z : EReal) (x : S1x1x256x128.Idx) :
    stored (spun T g (k0_pay7 (F := Ideal) P v) (k0_pay8 (F := Ideal) P v) z) x
      = swung (headNorm (fun j => T (ix2 (x 2) j)) (fun j => g (ix2 (n0 := 1) 0 j))) (place (P (ix2 (n1 := 1) (x 2) 0))) (fun j => v (ix2 (n0 := 1) 0 j)) (x 3) * z := by
  rw [stored_apply]
  refine (spun_apply T g _ _ z (x 2) (x 3)).trans ?_
  rw [sine_apply P v (x 2) (x 3)]
  unfold swung
  rw [← angle_apply P v (x 2) (x 3)]
  rfl

end Cert.Proof.NI

end
-- ==== Proof.NI.Block.lean ====
/-
  A tile of the input projection's kernel: what its stores leave in each of its four output blocks.
-/
module

public import proofs.«01_k».proof.Proof.NI.Tile
public import Idealize.ShloMosaic.Lib.Writes

@[expose] public section

noncomputable section

namespace Cert.Proof.NI

open Cert.KernelInprojIdeal Cert.KernelInprojIdeal.Gen
open Cert.Proof.Inproj Cert.Proof.Experts
open Idealize.ShloMosaic Idealize.ShloMosaic.ValueIdx Idealize.SL.Sem
open scoped BigOperators

/-- A block read as a whole is the block. -/
theorem whole_load {S : Shape} {e : EltTy} (a : Memref sig .tc .vmem S e) (ha : a.IsWhole) (x : Vec Ideal S e) (off : Fin S.rank → ℕ)
    (hz : off = fun _ => 0) (inb : ∀ i, off i + S.size i ≤ S.size i) :
    View.readAt (Elt Ideal) a.view (Rect.unit off S.size inb).toLoadRect (ha.unread x) = x := by
  rw [View.readAt_eq_ld, ha.read_unread, View.ld_unit_zero hz]

theorem zeros : (![0, 0] : Fin 2 → ℕ) = fun _ => 0 := funext fun a => match a with | ⟨0, _⟩ => rfl | ⟨1, _⟩ => rfl

/-- A section of the weights, read off the block of them all. -/
theorem section_load (a : Memref sig .tc .vmem S2048x5120 .bf16) (ha : a.IsWhole) (x : S2048x5120.Idx → EReal) (s : Fin 5) (o : ℕ) (ho : o = 1024 * s.val)
    (inb : ∀ i, (![0, o] : Fin 2 → ℕ) i + S2048x1024.size i ≤ S2048x5120.size i) (k : Fin 2048) (f : Fin 1024) :
    View.readAt (Elt Ideal) a.view (Rect.unit (s := S2048x5120) ![0, o] S2048x1024.size inb).toLoadRect (ha.unread (Val := Elt Ideal) x) (ix2 k f) = x (ix2 k (col s f)) := by
  rw [View.readAt_eq_ld, ha.read_unread]
  refine congrArg x (funext fun i => Fin.ext ?_)
  match i with
  | ⟨0, _⟩ => show 0 + 1 * k.val = k.val; omega
  | ⟨1, _⟩ => show o + 1 * f.val = 1024 * s.val + f.val; omega

/-- A head's place in the block. -/
theorem head_at (h : Fin 8) (o : ℕ) (ho : o = h.val) (inb : ∀ i, (![0, o, 0, 0] : Fin 4 → ℕ) i + S1x1x256x128.size i ≤ S1x8x256x128.size i) (x : S1x1x256x128.Idx) :
    (Rect.unit (s := S1x8x256x128) ![0, o, 0, 0] S1x1x256x128.size inb).emb x = ix4 (n0 := 1) 0 h (x 2) (x 3) := by
  have h0 : (x 0).val < 1 := (x 0).isLt
  have h1 : (x 1).val < 1 := (x 1).isLt
  funext i; apply Fin.ext
  match i with
  | ⟨0, _⟩ => show 0 + 1 * (x 0).val = 0; omega
  | ⟨1, _⟩ => show o + 1 * (x 1).val = h.val; omega
  | ⟨2, _⟩ => show 0 + 1 * (x 2).val = (x 2).val; omega
  | ⟨3, _⟩ => show 0 + 1 * (x 3).val = (x 3).val; omega

section

variable (x0 : S256x2048.Idx → EReal) (x1 : S256x1.Idx → BitVec 32) (x2 : S1x2048.Idx → EReal) (x3 : S2048x5120.Idx → EReal)

/-- A head of a section, of a row of the tile. -/
def headAt (s : Fin 5) (r : Fin 256) (h : Fin 8) : Fin 128 → EReal :=
  head (fun k => x0 (ix2 r k)) (fun k => x2 (ix2 (n0 := 1) 0 k)) (fun k f => x3 (ix2 k f)) s h

/-- The block of turned heads, of values, and of the others' columns. -/
def turnedBlock (q v : S1x128.Idx → EReal) (s : Fin 5) (z : EReal) (y : S1x8x256x128.Idx) : EReal :=
  swung (headNorm (headAt x0 x2 x3 s (y 2) (y 1)) (fun j => q (ix2 (n0 := 1) 0 j))) (place (x1 (ix2 (n1 := 1) (y 2) 0))) (fun j => v (ix2 (n0 := 1) 0 j)) (y 3) * z
def valueBlock (s : Fin 5) (y : S1x8x256x128.Idx) : EReal := headAt x0 x2 x3 s (y 2) (y 1) (y 3)
def restBlock (y : S256x2048.Idx) : EReal :=
  proj (scaled (fun k => x0 (ix2 (y 0) k)) (fun k => x2 (ix2 (n0 := 1) 0 k))) (fun k f => x3 (ix2 k f)) ⟨3072 + (y 1).val, by have h : (y 1).val < 2048 := (y 1).isLt; omega⟩

variable {x0 x1 x2 x3} {T : S256x2048.Idx → EReal} {W : S2048x1024.Idx → EReal} {s : Fin 5}

theorem section_apply (hT : T = k0_pay5 (F := Ideal) x0 x2) (hW : ∀ (k : Fin 2048) (f : Fin 1024), W (ix2 k f) = x3 (ix2 k (col s f))) (r : Fin 256) (f : Fin 1024) :
    k0_pay9 (F := Ideal) T W (ix2 r f) = proj (scaled (fun k => x0 (ix2 r k)) (fun k => x2 (ix2 (n0 := 1) 0 k))) (fun k f => x3 (ix2 k f)) (col s f) := by
  rw [dot_apply]
  unfold proj
  exact Finset.sum_congr rfl fun k _ => by rw [hT, hW, kept_apply]

theorem slice_apply (hT : T = k0_pay5 (F := Ideal) x0 x2) (hW : ∀ (k : Fin 2048) (f : Fin 1024), W (ix2 k f) = x3 (ix2 k (col s f)))
    (h : Fin 8) (o : ℕ) (ho : o = 128 * h.val) (hs : S256x1024.Slices ![0, o] S256x128) (r : Fin 256) (e : Fin 128) :
    extractStridedSlice S256x128 ![0, o] (k0_pay9 (F := Ideal) T W) hs (ix2 r e) = headAt x0 x2 x3 s r h e := by
  refine (extractStridedSlice_apply ![0, o] (k0_pay9 (F := Ideal) T W) hs (ix2 r e) (ix2 r (lane h e)) (fun a => match a with
    | ⟨0, _⟩ => by show r.val = 0 + r.val; omega
    | ⟨1, _⟩ => by show 128 * h.val + e.val = o + e.val; omega)).trans ?_
  exact section_apply hT hW r (lane h e)

/-- A turned head's piece of its block. -/
theorem turned_in {g q v' v : S1x128.Idx → EReal} {P : S256x1.Idx → BitVec 32}
    (hT : T = k0_pay5 (F := Ideal) x0 x2) (hW : ∀ (k : Fin 2048) (f : Fin 1024), W (ix2 k f) = x3 (ix2 k (col s f))) (hg : g = q) (hP : P = x1) (hv : v' = v)
    (z : EReal) (h : Fin 8) (o : ℕ) (ho : o = 128 * h.val) (hs : S256x1024.Slices ![0, o] S256x128)
    (o' : ℕ) (ho' : o' = h.val) (inb : ∀ i, (![0, o', 0, 0] : Fin 4 → ℕ) i + S1x1x256x128.size i ≤ S1x8x256x128.size i) (x : S1x1x256x128.Idx) :
    stored (spun (extractStridedSlice S256x128 ![0, o] (k0_pay9 (F := Ideal) T W) hs) g (k0_pay7 (F := Ideal) P v') (k0_pay8 (F := Ideal) P v') z) x
      = turnedBlock x0 x1 x2 x3 q v s z ((Rect.unit (s := S1x8x256x128) ![0, o', 0, 0] S1x1x256x128.size inb).emb x) := by
  rw [head_at h o' ho' inb x]
  subst hg hP hv
  refine (turned_piece _ g P v' z x).trans ?_
  have e : (fun j => extractStridedSlice S256x128 ![0, o] (k0_pay9 (F := Ideal) T W) hs (ix2 (x 2) j)) = headAt x0 x2 x3 s (x 2) h :=
    funext fun j => slice_apply hT hW h o ho hs (x 2) j
  rw [e]
  rfl

/-- A value head's piece of its block. -/
theorem value_in (hT : T = k0_pay5 (F := Ideal) x0 x2) (hW : ∀ (k : Fin 2048) (f : Fin 1024), W (ix2 k f) = x3 (ix2 k (col s f)))
    (h : Fin 8) (o : ℕ) (ho : o = 128 * h.val) (hs : S256x1024.Slices ![0, o] S256x128)
    (o' : ℕ) (ho' : o' = h.val) (inb : ∀ i, (![0, o', 0, 0] : Fin 4 → ℕ) i + S1x1x256x128.size i ≤ S1x8x256x128.size i) (x : S1x1x256x128.Idx) :
    stored (extractStridedSlice S256x128 ![0, o] (k0_pay9 (F := Ideal) T W) hs) x
      = valueBlock x0 x2 x3 s ((Rect.unit (s := S1x8x256x128) ![0, o', 0, 0] S1x1x256x128.size inb).emb x) := by
  rw [head_at h o' ho' inb x, stored_apply]
  exact slice_apply hT hW h o ho hs (x 2) (x 3)

/-- A piece of the others' block. -/
theorem rest_in (hT : T = k0_pay5 (F := Ideal) x0 x2) (hW : ∀ (k : Fin 2048) (f : Fin 1024), W (ix2 k f) = x3 (ix2 k (col s f)))
    (o : ℕ) (ho : 3072 + o = 1024 * s.val) (inb : ∀ i, (![0, o] : Fin 2 → ℕ) i + S256x1024.size i ≤ S256x2048.size i) (x : S256x1024.Idx) :
    k0_pay9 (F := Ideal) T W x = restBlock x0 x2 x3 ((Rect.unit (s := S256x2048) ![0, o] S256x1024.size inb).emb x) := by
  have hx : x = ix2 (x 0) (x 1) := eq_ix2 x
  have h1 : (x 1).val < 1024 := (x 1).isLt
  have e : (Rect.unit (s := S256x2048) ![0, o] S256x1024.size inb).emb x = ix2 (x 0) (⟨o + (x 1).val, by have := s.isLt; omega⟩ : Fin 2048) := by
    funext i; apply Fin.ext
    match i with
    | ⟨0, _⟩ => show 0 + 1 * (x 0).val = (x 0).val; omega
    | ⟨1, _⟩ => show o + 1 * (x 1).val = o + (x 1).val; omega
  rw [e]
  refine (congrArg _ hx).trans ((section_apply hT hW (x 0) (x 1)).trans ?_)
  unfold restBlock
  refine congrArg _ (Fin.ext ?_)
  show 1024 * s.val + (x 1).val = 3072 + (o + (x 1).val)
  omega

end

section

variable (c : Dev nD) (i : grid0.Coords) (arg1 : Memref sig .tc .vmem S256x2048 .f32) (harg1 : arg1.IsWhole)
  (arg2 : Memref sig .tc .vmem S256x1 .i32) (harg2 : arg2.IsWhole)
  (arg3 : Memref sig .tc .vmem S1x2048 .f32) (harg3 : arg3.IsWhole)
  (arg4 : Memref sig .tc .vmem S2048x5120 .bf16) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1x8x256x128 .bf16) (harg8 : arg8.IsWhole)
  (arg9 : Memref sig .tc .vmem S1x8x256x128 .bf16) (harg9 : arg9.IsWhole)
  (arg10 : Memref sig .tc .vmem S1x8x256x128 .bf16) (harg10 : arg10.IsWhole)
  (arg11 : Memref sig .tc .vmem S256x2048 .f32) (harg11 : arg11.IsWhole)
  (arg12 : Memref sig .tc .vmem S256x2048 .bf16) (harg12 : arg12.IsWhole)
  (x0 : S256x2048.Idx → EReal) (x1 : S256x1.Idx → BitVec 32) (x2 : S1x2048.Idx → EReal) (x3 : S2048x5120.Idx → EReal) (x4 x5 x6 : S1x128.Idx → EReal)

/-- The kept rows read back are the rows kept. -/
theorem kept_load (inb inb' inb0 inb2) :
    arg12.view.readCov [(⟨Rect.unit ![0, 0] S256x2048.size inb, k0_pay5 (F := Ideal)
      (View.readAt (Elt Ideal) arg1.view (Rect.unit ![0, 0] S256x2048.size inb0).toLoadRect (harg1.unread (Val := Elt Ideal) x0))
      (View.readAt (Elt Ideal) arg3.view (Rect.unit ![0, 0] S1x2048.size inb2).toLoadRect (harg3.unread (Val := Elt Ideal) x2))⟩ : View.Piece (Elt Ideal) S256x2048 .bf16)]
      (Rect.unit ![0, 0] S256x2048.size inb').toLoadRect = k0_pay5 (F := Ideal) x0 x2 := by
  rw [whole_load arg1 harg1 x0 ![0, 0] zeros, whole_load arg3 harg3 x2 ![0, 0] zeros]
  exact View.readCov_unit_zero arg12.view zeros inb _

set_option maxHeartbeats 2000000 in
/-- The queries' block, piece by piece -/
theorem queries_block_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).1, ∀ x : p.1.shape.Idx, p.2 x = (turnedBlock x0 x1 x2 x3 x4 x6 0 (Named.named (F := Ideal) κ "scale" (φ := .f32) 0x3DB504F3#32)) (p.1.emb x) := by
  have hT := kept_load arg1 harg1 arg3 harg3 arg12 x0 x2 inb_S256x2048_S256x2048_0_0 inb_S256x2048_S256x2048_0_0 inb_S256x2048_S256x2048_0_0 inb_S1x2048_S1x2048_0_0
  have hP := whole_load arg2 harg2 x1 ![0, 0] zeros inb_S256x1_S256x1_0_0
  have hv := whole_load arg7 harg7 x6 ![0, 0] zeros inb_S1x128_S1x128_0_0
  have hg := whole_load arg5 harg5 x4 ![0, 0] zeros inb_S1x128_S1x128_0_0
  have hW := section_load arg4 harg4 x3 0 0 rfl inb_S2048x5120_S2048x1024_0_0
  unfold kernelRun0_A
  dsimp only
  sl_unfold_run_names
  refine List.forall_mem_cons.mpr ⟨fun x => turned_in hT hW hg hP hv _ 7 896 rfl slices_S256x1024_o0_896_S256x128 7 rfl inb_S1x8x256x128_S1x1x256x128_0_7_0_0 x, ?_⟩
  refine List.forall_mem_cons.mpr ⟨fun x => turned_in hT hW hg hP hv _ 6 768 rfl slices_S256x1024_o0_768_S256x128 6 rfl inb_S1x8x256x128_S1x1x256x128_0_6_0_0 x, ?_⟩
  refine List.forall_mem_cons.mpr ⟨fun x => turned_in hT hW hg hP hv _ 5 640 rfl slices_S256x1024_o0_640_S256x128 5 rfl inb_S1x8x256x128_S1x1x256x128_0_5_0_0 x, ?_⟩
  refine List.forall_mem_cons.mpr ⟨fun x => turned_in hT hW hg hP hv _ 4 512 rfl slices_S256x1024_o0_512_S256x128 4 rfl inb_S1x8x256x128_S1x1x256x128_0_4_0_0 x, ?_⟩
  refine List.forall_mem_cons.mpr ⟨fun x => turned_in hT hW hg hP hv _ 3 384 rfl slices_S256x1024_o0_384_S256x128 3 rfl inb_S1x8x256x128_S1x1x256x128_0_3_0_0 x, ?_⟩
  refine List.forall_mem_cons.mpr ⟨fun x => turned_in hT hW hg hP hv _ 2 256 rfl slices_S256x1024_o0_256_S256x128 2 rfl inb_S1x8x256x128_S1x1x256x128_0_2_0_0 x, ?_⟩
  refine List.forall_mem_cons.mpr ⟨fun x => turned_in hT hW hg hP hv _ 1 128 rfl slices_S256x1024_o0_128_S256x128 1 rfl inb_S1x8x256x128_S1x1x256x128_0_1_0_0 x, ?_⟩
  refine List.forall_mem_cons.mpr ⟨fun x => turned_in hT hW hg hP hv _ 0 0 rfl slices_S256x1024_o0_0_S256x128 0 rfl inb_S1x8x256x128_S1x1x256x128_0_0_0_0 x, ?_⟩
  exact fun p hp => absurd hp List.not_mem_nil

/-- The queries' block. -/
theorem queries_block (y : S1x8x256x128.Idx) : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y = turnedBlock x0 x1 x2 x3 x4 x6 0 (Named.named (F := Ideal) κ "scale" (φ := .f32) 0x3DB504F3#32) y := by
  have hc := cover0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y
  have hp := queries_block_pieces c i arg1 harg1 arg2 harg2 arg3 harg3 arg4 harg4 arg5 harg5 arg6 harg6 arg7 harg7 arg8 harg8 arg9 harg9 arg10 harg10 arg11 harg11 arg12 harg12 x0 x1 x2 x3 x4 x5 x6
  unfold out0_A_7
  rw [View.read_writes_junk_eq_canon]
  revert hc hp
  generalize (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).1 = L
  intro hc hp
  exact View.canon_apply_of_pieces _ L hp y hc

set_option maxHeartbeats 2000000 in
/-- The keys' block, piece by piece -/
theorem keys_block_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.1, ∀ x : p.1.shape.Idx, p.2 x = (turnedBlock x0 x1 x2 x3 x5 x6 1 (Ideal.ofBits .f32 0x3F800000#32)) (p.1.emb x) := by
  have hT := kept_load arg1 harg1 arg3 harg3 arg12 x0 x2 inb_S256x2048_S256x2048_0_0 inb_S256x2048_S256x2048_0_0 inb_S256x2048_S256x2048_0_0 inb_S1x2048_S1x2048_0_0
  have hP := whole_load arg2 harg2 x1 ![0, 0] zeros inb_S256x1_S256x1_0_0
  have hv := whole_load arg7 harg7 x6 ![0, 0] zeros inb_S1x128_S1x128_0_0
  have hg := whole_load arg6 harg6 x5 ![0, 0] zeros inb_S1x128_S1x128_0_0
  have hW := section_load arg4 harg4 x3 1 1024 rfl inb_S2048x5120_S2048x1024_0_1024
  unfold kernelRun0_A
  dsimp only
  sl_unfold_run_names
  refine List.forall_mem_cons.mpr ⟨fun x => turned_in hT hW hg hP hv _ 7 896 rfl slices_S256x1024_o0_896_S256x128 7 rfl inb_S1x8x256x128_S1x1x256x128_0_7_0_0 x, ?_⟩
  refine List.forall_mem_cons.mpr ⟨fun x => turned_in hT hW hg hP hv _ 6 768 rfl slices_S256x1024_o0_768_S256x128 6 rfl inb_S1x8x256x128_S1x1x256x128_0_6_0_0 x, ?_⟩
  refine List.forall_mem_cons.mpr ⟨fun x => turned_in hT hW hg hP hv _ 5 640 rfl slices_S256x1024_o0_640_S256x128 5 rfl inb_S1x8x256x128_S1x1x256x128_0_5_0_0 x, ?_⟩
  refine List.forall_mem_cons.mpr ⟨fun x => turned_in hT hW hg hP hv _ 4 512 rfl slices_S256x1024_o0_512_S256x128 4 rfl inb_S1x8x256x128_S1x1x256x128_0_4_0_0 x, ?_⟩
  refine List.forall_mem_cons.mpr ⟨fun x => turned_in hT hW hg hP hv _ 3 384 rfl slices_S256x1024_o0_384_S256x128 3 rfl inb_S1x8x256x128_S1x1x256x128_0_3_0_0 x, ?_⟩
  refine List.forall_mem_cons.mpr ⟨fun x => turned_in hT hW hg hP hv _ 2 256 rfl slices_S256x1024_o0_256_S256x128 2 rfl inb_S1x8x256x128_S1x1x256x128_0_2_0_0 x, ?_⟩
  refine List.forall_mem_cons.mpr ⟨fun x => turned_in hT hW hg hP hv _ 1 128 rfl slices_S256x1024_o0_128_S256x128 1 rfl inb_S1x8x256x128_S1x1x256x128_0_1_0_0 x, ?_⟩
  refine List.forall_mem_cons.mpr ⟨fun x => turned_in hT hW hg hP hv _ 0 0 rfl slices_S256x1024_o0_0_S256x128 0 rfl inb_S1x8x256x128_S1x1x256x128_0_0_0_0 x, ?_⟩
  exact fun p hp => absurd hp List.not_mem_nil

/-- The keys' block. -/
theorem keys_block (y : S1x8x256x128.Idx) : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y = turnedBlock x0 x1 x2 x3 x5 x6 1 (Ideal.ofBits .f32 0x3F800000#32) y := by
  have hc := cover0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y
  have hp := keys_block_pieces c i arg1 harg1 arg2 harg2 arg3 harg3 arg4 harg4 arg5 harg5 arg6 harg6 arg7 harg7 arg8 harg8 arg9 harg9 arg10 harg10 arg11 harg11 arg12 harg12 x0 x1 x2 x3 x4 x5 x6
  unfold out0_A_8
  rw [View.read_writes_junk_eq_canon]
  revert hc hp
  generalize (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.1 = L
  intro hc hp
  exact View.canon_apply_of_pieces _ L hp y hc

set_option maxHeartbeats 2000000 in
/-- The values' block, piece by piece -/
theorem values_block_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.1, ∀ x : p.1.shape.Idx, p.2 x = (valueBlock x0 x2 x3 2) (p.1.emb x) := by
  have hT := kept_load arg1 harg1 arg3 harg3 arg12 x0 x2 inb_S256x2048_S256x2048_0_0 inb_S256x2048_S256x2048_0_0 inb_S256x2048_S256x2048_0_0 inb_S1x2048_S1x2048_0_0
  have hP := whole_load arg2 harg2 x1 ![0, 0] zeros inb_S256x1_S256x1_0_0
  have hv := whole_load arg7 harg7 x6 ![0, 0] zeros inb_S1x128_S1x128_0_0
  have hW := section_load arg4 harg4 x3 2 2048 rfl inb_S2048x5120_S2048x1024_0_2048
  unfold kernelRun0_A
  dsimp only
  sl_unfold_run_names
  refine List.forall_mem_cons.mpr ⟨fun x => value_in hT hW 7 896 rfl slices_S256x1024_o0_896_S256x128 7 rfl inb_S1x8x256x128_S1x1x256x128_0_7_0_0 x, ?_⟩
  refine List.forall_mem_cons.mpr ⟨fun x => value_in hT hW 6 768 rfl slices_S256x1024_o0_768_S256x128 6 rfl inb_S1x8x256x128_S1x1x256x128_0_6_0_0 x, ?_⟩
  refine List.forall_mem_cons.mpr ⟨fun x => value_in hT hW 5 640 rfl slices_S256x1024_o0_640_S256x128 5 rfl inb_S1x8x256x128_S1x1x256x128_0_5_0_0 x, ?_⟩
  refine List.forall_mem_cons.mpr ⟨fun x => value_in hT hW 4 512 rfl slices_S256x1024_o0_512_S256x128 4 rfl inb_S1x8x256x128_S1x1x256x128_0_4_0_0 x, ?_⟩
  refine List.forall_mem_cons.mpr ⟨fun x => value_in hT hW 3 384 rfl slices_S256x1024_o0_384_S256x128 3 rfl inb_S1x8x256x128_S1x1x256x128_0_3_0_0 x, ?_⟩
  refine List.forall_mem_cons.mpr ⟨fun x => value_in hT hW 2 256 rfl slices_S256x1024_o0_256_S256x128 2 rfl inb_S1x8x256x128_S1x1x256x128_0_2_0_0 x, ?_⟩
  refine List.forall_mem_cons.mpr ⟨fun x => value_in hT hW 1 128 rfl slices_S256x1024_o0_128_S256x128 1 rfl inb_S1x8x256x128_S1x1x256x128_0_1_0_0 x, ?_⟩
  refine List.forall_mem_cons.mpr ⟨fun x => value_in hT hW 0 0 rfl slices_S256x1024_o0_0_S256x128 0 rfl inb_S1x8x256x128_S1x1x256x128_0_0_0_0 x, ?_⟩
  exact fun p hp => absurd hp List.not_mem_nil

/-- The values' block. -/
theorem values_block (y : S1x8x256x128.Idx) : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y = valueBlock x0 x2 x3 2 y := by
  have hc := cover0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y
  have hp := values_block_pieces c i arg1 harg1 arg2 harg2 arg3 harg3 arg4 harg4 arg5 harg5 arg6 harg6 arg7 harg7 arg8 harg8 arg9 harg9 arg10 harg10 arg11 harg11 arg12 harg12 x0 x1 x2 x3 x4 x5 x6
  unfold out0_A_9
  rw [View.read_writes_junk_eq_canon]
  revert hc hp
  generalize (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 = L
  intro hc hp
  exact View.canon_apply_of_pieces _ L hp y hc

set_option maxHeartbeats 2000000 in
/-- The others' block, piece by piece -/
theorem rest_block_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1, ∀ x : p.1.shape.Idx, p.2 x = (restBlock x0 x2 x3) (p.1.emb x) := by
  have hT := kept_load arg1 harg1 arg3 harg3 arg12 x0 x2 inb_S256x2048_S256x2048_0_0 inb_S256x2048_S256x2048_0_0 inb_S256x2048_S256x2048_0_0 inb_S1x2048_S1x2048_0_0
  have hP := whole_load arg2 harg2 x1 ![0, 0] zeros inb_S256x1_S256x1_0_0
  have hv := whole_load arg7 harg7 x6 ![0, 0] zeros inb_S1x128_S1x128_0_0
  have hW := section_load arg4 harg4 x3 3 3072 rfl inb_S2048x5120_S2048x1024_0_3072
  have hW' := section_load arg4 harg4 x3 4 4096 rfl inb_S2048x5120_S2048x1024_0_4096
  unfold kernelRun0_A
  dsimp only
  sl_unfold_run_names
  refine List.forall_mem_cons.mpr ⟨fun x => rest_in hT hW' 1024 rfl inb_S256x2048_S256x1024_0_1024 x, ?_⟩
  refine List.forall_mem_cons.mpr ⟨fun x => rest_in hT hW 0 rfl inb_S256x2048_S256x1024_0_0 x, ?_⟩
  exact fun p hp => absurd hp List.not_mem_nil

/-- The others' block. -/
theorem rest_block (y : S256x2048.Idx) : out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y = restBlock x0 x2 x3 y := by
  have hc := cover0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y
  have hp := rest_block_pieces c i arg1 harg1 arg2 harg2 arg3 harg3 arg4 harg4 arg5 harg5 arg6 harg6 arg7 harg7 arg8 harg8 arg9 harg9 arg10 harg10 arg11 harg11 arg12 harg12 x0 x1 x2 x3 x4 x5 x6
  unfold out0_A_10
  rw [View.read_writes_junk_eq_canon]
  revert hc hp
  generalize (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1 = L
  intro hc hp
  exact View.canon_apply_of_pieces _ L hp y hc

end

end Cert.Proof.NI

end
-- ==== Proof.NI.Value.lean ====
/-
  The input projection's kernel at the ideal level: its four output arrays. Each grid point writes the blocks of its 256 rows.
-/
module

public import proofs.«01_k».proof.Proof.NI.Block
public import Idealize.ShloMosaic.Lib.Claim
public import Idealize.ShloMosaic.Lib.Pipeline.ValueKit

@[expose] public section

noncomputable section

namespace Cert.Proof.NI

open Cert.KernelInprojIdeal Cert.KernelInprojIdeal.Gen
open Cert.Proof.Inproj Cert.Proof.Experts
open Idealize.ShloMosaic hiding ix1 ix2
open Idealize.ShloMosaic.TcCoe Idealize.ShloMosaic.ValueIdx
open Idealize.ShloMosaic.Pipeline (Dat)

section

variable (X : S16384x2048.Idx → EReal) (P : S16384x1.Idx → BitVec 32) (G : S1x2048.Idx → EReal) (W : S2048x5120.Idx → EReal) (Q : S1x128.Idx → EReal)

/-- The outputs as functions of the arrays. -/
def queries : S2x8x8192x128.Idx → EReal := fun y => query (fun k => X (ix2 (rowAt (y 0) (y 2)) k)) (fun k => G (ix2 (n0 := 1) 0 k)) (fun k f => W (ix2 k f))
  (fun j => Q (ix2 (n0 := 1) 0 j)) (P (ix2 (n1 := 1) (rowAt (y 0) (y 2)) 0)) (y 1) (y 3)
def keys : S2x8x8192x128.Idx → EReal := fun y => key (fun k => X (ix2 (rowAt (y 0) (y 2)) k)) (fun k => G (ix2 (n0 := 1) 0 k)) (fun k f => W (ix2 k f))
  (fun j => Q (ix2 (n0 := 1) 0 j)) (P (ix2 (n1 := 1) (rowAt (y 0) (y 2)) 0)) (y 1) (y 3)
def values : S2x8x8192x128.Idx → EReal := fun y => head (fun k => X (ix2 (rowAt (y 0) (y 2)) k)) (fun k => G (ix2 (n0 := 1) 0 k)) (fun k f => W (ix2 k f)) 2 (y 1) (y 3)
def rest : S16384x2048.Idx → EReal := fun y => proj (scaled (fun k => X (ix2 (y 0) k)) (fun k => G (ix2 (n0 := 1) 0 k))) (fun k f => W (ix2 k f)) (late (y 1))

end

/-- The blocks of a grid point. -/
theorem index_in : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)
theorem index_out : ∀ t : Fin cfg0.N, win0_7.index t = ![t.val / 32, 0, t.val % 32, 0] ∧ win0_8.index t = ![t.val / 32, 0, t.val % 32, 0]
    ∧ win0_9.index t = ![t.val / 32, 0, t.val % 32, 0] ∧ win0_10.index t = ![t.val, 0] :=
  (by decide +kernel : ∀ t : Fin grid0.N, _)

variable (m : (ℓ : Loc nD τ sig) → Buf (Elt Ideal) ℓ) (c : Dev nD) (t : Fin cfg0.N)

/-- The row of a tile, in the array. -/
def rowOf (t : Fin cfg0.N) (r : Fin 256) : Fin 16384 := ⟨256 * t.val + r.val, by have : t.val < 64 := t.isLt; omega⟩

theorem x_at (r : Fin 256) (k : Fin 2048) : (iblk m c 0 t : S256x2048.Idx → EReal) (ix2 r k) = (V m c main_arg0 : S16384x2048.Idx → EReal) (ix2 (rowOf t r) k) := by
  have e := (index_in t).1
  refine congrArg (V m c main_arg0 : S16384x2048.Idx → EReal) (?_ : (win0_0.blk t).view.emb (ix2 r k) = ix2 (rowOf t r) k)
  funext a; apply Fin.ext
  match a with
  | ⟨0, _⟩ => blk_simp [e]; show t.val * 256 + r.val = 256 * t.val + r.val; omega
  | ⟨1, _⟩ => blk_simp [e]
theorem p_at (r : Fin 256) : (iblk m c 1 t : S256x1.Idx → BitVec 32) (ix2 (n1 := 1) r 0) = (V m c main_arg1 : S16384x1.Idx → BitVec 32) (ix2 (n1 := 1) (rowOf t r) 0) := by
  have e := (index_in t).2.1
  refine congrArg (V m c main_arg1 : S16384x1.Idx → BitVec 32) (?_ : (win0_1.blk t).view.emb (ix2 (n1 := 1) r 0) = ix2 (n1 := 1) (rowOf t r) 0)
  funext a; apply Fin.ext
  match a with
  | ⟨0, _⟩ => blk_simp [e]; show t.val * 256 + r.val = 256 * t.val + r.val; omega
  | ⟨1, _⟩ => blk_simp [e]
theorem g_at (k : Fin 2048) : (iblk m c 2 t : S1x2048.Idx → EReal) (ix2 (n0 := 1) 0 k) = (V m c main_arg2 : S1x2048.Idx → EReal) (ix2 (n0 := 1) 0 k) := by
  have e := (index_in t).2.2.1
  refine congrArg (V m c main_arg2 : S1x2048.Idx → EReal) (?_ : (win0_2.blk t).view.emb (ix2 (n0 := 1) 0 k) = ix2 (n0 := 1) 0 k)
  funext a; apply Fin.ext
  match a with
  | ⟨0, _⟩ => blk_simp [e]
  | ⟨1, _⟩ => blk_simp [e]
theorem w_at (k : Fin 2048) (f : Fin 5120) : (iblk m c 3 t : S2048x5120.Idx → EReal) (ix2 k f) = (V m c main_arg3 : S2048x5120.Idx → EReal) (ix2 k f) := by
  have e := (index_in t).2.2.2.1
  refine congrArg (V m c main_arg3 : S2048x5120.Idx → EReal) (?_ : (win0_3.blk t).view.emb (ix2 k f) = ix2 k f)
  funext a; apply Fin.ext
  match a with
  | ⟨0, _⟩ => blk_simp [e]
  | ⟨1, _⟩ => blk_simp [e]
theorem q_at (j : Fin 128) : (iblk m c 4 t : S1x128.Idx → EReal) (ix2 (n0 := 1) 0 j) = (V m c main_arg4 : S1x128.Idx → EReal) (ix2 (n0 := 1) 0 j) := by
  have e := (index_in t).2.2.2.2.1
  refine congrArg (V m c main_arg4 : S1x128.Idx → EReal) (?_ : (win0_4.blk t).view.emb (ix2 (n0 := 1) 0 j) = ix2 (n0 := 1) 0 j)
  funext a; apply Fin.ext
  match a with
  | ⟨0, _⟩ => blk_simp [e]
  | ⟨1, _⟩ => blk_simp [e]
theorem k_at (j : Fin 128) : (iblk m c 5 t : S1x128.Idx → EReal) (ix2 (n0 := 1) 0 j) = (V m c main_arg5 : S1x128.Idx → EReal) (ix2 (n0 := 1) 0 j) := by
  have e := (index_in t).2.2.2.2.2.1
  refine congrArg (V m c main_arg5 : S1x128.Idx → EReal) (?_ : (win0_5.blk t).view.emb (ix2 (n0 := 1) 0 j) = ix2 (n0 := 1) 0 j)
  funext a; apply Fin.ext
  match a with
  | ⟨0, _⟩ => blk_simp [e]
  | ⟨1, _⟩ => blk_simp [e]
theorem v_at (j : Fin 128) : (iblk m c 6 t : S1x128.Idx → EReal) (ix2 (n0 := 1) 0 j) = (V m c main_v7 : S1x128.Idx → EReal) (ix2 (n0 := 1) 0 j) := by
  have e := (index_in t).2.2.2.2.2.2
  refine congrArg (V m c main_v7 : S1x128.Idx → EReal) (?_ : (win0_6.blk t).view.emb (ix2 (n0 := 1) 0 j) = ix2 (n0 := 1) 0 j)
  funext a; apply Fin.ext
  match a with
  | ⟨0, _⟩ => blk_simp [e]
  | ⟨1, _⟩ => blk_simp [e]

/-- A row laid twice, then read as a matrix of one row. -/
theorem doubled_apply (f : S64.Idx → EReal) (h : Shape.Concatenates [S64, S64] S128 0) (h' : S128.ShapeCasts S1x128) (e : Fin 128) :
    shapeCast S1x128 (concatenate S128 0 [⟨S64, f⟩, ⟨S64, f⟩] h) h' (ix2 (n0 := 1) 0 e) = f (ix1 (⟨e.val % 64, Nat.mod_lt _ (by omega)⟩ : Fin 64)) := by
  have hc : shapeCast S1x128 (concatenate S128 0 [⟨S64, f⟩, ⟨S64, f⟩] h) h' (ix2 (n0 := 1) 0 e) = concatenate S128 0 [⟨S64, f⟩, ⟨S64, f⟩] h (ix1 e) :=
    shapeCast_apply _ _ _ _ (by simp [Shape.rowMajor_val_one, Shape.rowMajor_val_two])
  rw [hc]
  by_cases he : e.val < 64
  · refine concatenate_pair_apply_left (0 : Fin S128.rank) f f h _ rfl _ fun b => ?_
    match b with
    | ⟨0, _⟩ => show e.val % 64 = e.val; omega
  · refine concatenate_pair_apply_right (0 : Fin S128.rank) f f h _ rfl rfl _ (fun b hb => ?_) ?_
    · match b with
      | ⟨0, _⟩ => exact absurd rfl hb
    · show e.val % 64 + 64 = e.val; omega

/-- The frequencies the host lays out, each half of the lanes the same. -/
theorem frequencies (e : Fin 128) : (V m c main_v7 : S1x128.Idx → EReal) (ix2 (n0 := 1) 0 e) = freq ⟨e.val % 64, Nat.mod_lt _ (by omega)⟩ := by
  entry_read
  exact (doubled_apply _ _ _ e).trans rfl

/-- The tile's rows' heads are the array's. -/
theorem head_eq (s : Fin 5) (r : Fin 256) (h : Fin 8) : headAt (iblk m c 0 t) (iblk m c 2 t) (iblk m c 3 t) s r h
    = head (fun k => (V m c main_arg0 : S16384x2048.Idx → EReal) (ix2 (rowOf t r) k)) (fun k => (V m c main_arg2 : S1x2048.Idx → EReal) (ix2 (n0 := 1) 0 k))
        (fun k f => (V m c main_arg3 : S2048x5120.Idx → EReal) (ix2 k f)) s h := by
  unfold headAt
  rw [funext (x_at m c t r), funext (g_at m c t), funext fun k => funext (w_at m c t k)]

theorem scale_eq : Named.named (F := Ideal) κ "scale" (φ := .f32) 0x3DB504F3#32 = (((Real.sqrt 128)⁻¹ : ℝ) : EReal) :=
  IdealRules.named_const.ideal_named_scalar _ _ _ _ rfl

/-- A query of the tile, as one of the arrays. -/
theorem query_at (r : Fin 256) (h : Fin 8) (e : Fin 128) :
    swung (headNorm (headAt (iblk m c 0 t) (iblk m c 2 t) (iblk m c 3 t) 0 r h) (fun j => (iblk m c 4 t : S1x128.Idx → EReal) (ix2 (n0 := 1) 0 j)))
      (place ((iblk m c 1 t : S256x1.Idx → BitVec 32) (ix2 (n1 := 1) r 0))) (fun j => (iblk m c 6 t : S1x128.Idx → EReal) (ix2 (n0 := 1) 0 j)) e * Named.named (F := Ideal) κ "scale" (φ := .f32) 0x3DB504F3#32
    = query (fun k => (V m c main_arg0 : S16384x2048.Idx → EReal) (ix2 (rowOf t r) k)) (fun k => (V m c main_arg2 : S1x2048.Idx → EReal) (ix2 (n0 := 1) 0 k)) (fun k f => (V m c main_arg3 : S2048x5120.Idx → EReal) (ix2 k f))
        (fun j => (V m c main_arg4 : S1x128.Idx → EReal) (ix2 (n0 := 1) 0 j)) ((V m c main_arg1 : S16384x1.Idx → BitVec 32) (ix2 (n1 := 1) (rowOf t r) 0)) h e := by
  unfold query
  rw [head_eq, swung_eq _ _ _ (fun j => (v_at m c t j).trans (frequencies m c j)), p_at, funext (q_at m c t), scale_eq, over_root]

/-- A key of the tile, as one of the arrays. -/
theorem key_at (r : Fin 256) (h : Fin 8) (e : Fin 128) :
    swung (headNorm (headAt (iblk m c 0 t) (iblk m c 2 t) (iblk m c 3 t) 1 r h) (fun j => (iblk m c 5 t : S1x128.Idx → EReal) (ix2 (n0 := 1) 0 j)))
      (place ((iblk m c 1 t : S256x1.Idx → BitVec 32) (ix2 (n1 := 1) r 0))) (fun j => (iblk m c 6 t : S1x128.Idx → EReal) (ix2 (n0 := 1) 0 j)) e * Ideal.ofBits .f32 0x3F800000#32
    = key (fun k => (V m c main_arg0 : S16384x2048.Idx → EReal) (ix2 (rowOf t r) k)) (fun k => (V m c main_arg2 : S1x2048.Idx → EReal) (ix2 (n0 := 1) 0 k)) (fun k f => (V m c main_arg3 : S2048x5120.Idx → EReal) (ix2 k f))
        (fun j => (V m c main_arg5 : S1x128.Idx → EReal) (ix2 (n0 := 1) 0 j)) ((V m c main_arg1 : S16384x1.Idx → BitVec 32) (ix2 (n1 := 1) (rowOf t r) 0)) h e := by
  unfold key
  rw [head_eq, swung_eq _ _ _ (fun j => (v_at m c t j).trans (frequencies m c j)), p_at, funext (k_at m c t), Ideal.ofBits_one_f32, mul_one]

/-- A grid point's queries, of its blocks. -/
theorem queries_tile (y : S1x8x256x128.Idx) : (outsAt0 m c t).1 y = turnedBlock (iblk m c 0 t) (iblk m c 1 t) (iblk m c 2 t) (iblk m c 3 t) (iblk m c 4 t) (iblk m c 6 t) 0 (Named.named (F := Ideal) κ "scale" (φ := .f32) 0x3DB504F3#32) y := by
  have h := queries_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) y
  unfold outsAt0
  dsimp only
  exact h
/-- What a grid point leaves in the block of the queries. -/
theorem after_queries (y : S1x8x256x128.Idx) : (dats m 0 c).after 7 t y = queries (V m c main_arg0) (V m c main_arg1) (V m c main_arg2) (V m c main_arg3) (V m c main_arg4) ((win0_7.blk t).view.emb y) := by
  refine ((congrFun (after0_7 m c t) y).trans (queries_tile m c t y)).trans ?_
  have e := (index_out t).1
  have ht : t.val < 64 := t.isLt
  have l0 : (y 0).val < 1 := (y 0).isLt
  have l2 : (y 2).val < 256 := (y 2).isLt
  have h1 : ((win0_7.blk t).view.emb y 1 : Fin _) = y 1 := by apply Fin.ext; blk_simp [e]
  have h3 : ((win0_7.blk t).view.emb y 3 : Fin _) = y 3 := by apply Fin.ext; blk_simp [e]
  have h0 : ((win0_7.blk t).view.emb y 0 : Fin _).val = t.val / 32 := by blk_simp [e]
  have h2 : ((win0_7.blk t).view.emb y 2 : Fin _).val = t.val % 32 * 256 + (y 2).val := by blk_simp [e]
  have hr : rowAt ((win0_7.blk t).view.emb y 0) ((win0_7.blk t).view.emb y 2) = rowOf t (y 2) := Fin.ext (by
    show 8192 * ((win0_7.blk t).view.emb y 0 : Fin _).val + ((win0_7.blk t).view.emb y 2 : Fin _).val = 256 * t.val + (y 2).val
    rw [h0, h2]; omega)
  unfold turnedBlock queries
  rw [hr, h1, h3]
  exact query_at m c t (y 2) (y 1) (y 3)
/-- That array after the run. -/
theorem final_queries : (dats m 0 c).arrAt 7 cfg0.N = queries (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((dats m 0 c).arrAt_eq_of_covers 7 (queries (V m c main_arg0) (V m c main_arg1) (V m c main_arg2) (V m c main_arg3) (V m c main_arg4)) (by decide +kernel) fun t hf y => ?_).trans ?_
  · blk_simp
    exact after_queries m c t y
  · rw [V_main_arg0, V_main_arg1, V_main_arg2, V_main_arg3, V_main_arg4]

/-- A grid point's keys, of its blocks. -/
theorem keys_tile (y : S1x8x256x128.Idx) : (outsAt0 m c t).2.1 y = turnedBlock (iblk m c 0 t) (iblk m c 1 t) (iblk m c 2 t) (iblk m c 3 t) (iblk m c 5 t) (iblk m c 6 t) 1 (Ideal.ofBits .f32 0x3F800000#32) y := by
  have h := keys_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) y
  unfold outsAt0
  dsimp only
  exact h
/-- What a grid point leaves in the block of the keys. -/
theorem after_keys (y : S1x8x256x128.Idx) : (dats m 0 c).after 8 t y = keys (V m c main_arg0) (V m c main_arg1) (V m c main_arg2) (V m c main_arg3) (V m c main_arg5) ((win0_8.blk t).view.emb y) := by
  refine ((congrFun (after0_8 m c t) y).trans (keys_tile m c t y)).trans ?_
  have e := (index_out t).2.1
  have ht : t.val < 64 := t.isLt
  have l0 : (y 0).val < 1 := (y 0).isLt
  have l2 : (y 2).val < 256 := (y 2).isLt
  have h1 : ((win0_8.blk t).view.emb y 1 : Fin _) = y 1 := by apply Fin.ext; blk_simp [e]
  have h3 : ((win0_8.blk t).view.emb y 3 : Fin _) = y 3 := by apply Fin.ext; blk_simp [e]
  have h0 : ((win0_8.blk t).view.emb y 0 : Fin _).val = t.val / 32 := by blk_simp [e]
  have h2 : ((win0_8.blk t).view.emb y 2 : Fin _).val = t.val % 32 * 256 + (y 2).val := by blk_simp [e]
  have hr : rowAt ((win0_8.blk t).view.emb y 0) ((win0_8.blk t).view.emb y 2) = rowOf t (y 2) := Fin.ext (by
    show 8192 * ((win0_8.blk t).view.emb y 0 : Fin _).val + ((win0_8.blk t).view.emb y 2 : Fin _).val = 256 * t.val + (y 2).val
    rw [h0, h2]; omega)
  unfold turnedBlock keys
  rw [hr, h1, h3]
  exact key_at m c t (y 2) (y 1) (y 3)
/-- That array after the run. -/
theorem final_keys : (dats m 0 c).arrAt 8 cfg0.N = keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine ((dats m 0 c).arrAt_eq_of_covers 8 (keys (V m c main_arg0) (V m c main_arg1) (V m c main_arg2) (V m c main_arg3) (V m c main_arg5)) (by decide +kernel) fun t hf y => ?_).trans ?_
  · blk_simp
    exact after_keys m c t y
  · rw [V_main_arg0, V_main_arg1, V_main_arg2, V_main_arg3, V_main_arg5]

/-- A grid point's values, of its blocks. -/
theorem values_tile (y : S1x8x256x128.Idx) : (outsAt0 m c t).2.2.1 y = valueBlock (iblk m c 0 t) (iblk m c 2 t) (iblk m c 3 t) 2 y := by
  have h := values_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) y
  unfold outsAt0
  dsimp only
  exact h
/-- What a grid point leaves in the block of the values. -/
theorem after_values (y : S1x8x256x128.Idx) : (dats m 0 c).after 9 t y = values (V m c main_arg0) (V m c main_arg2) (V m c main_arg3) ((win0_9.blk t).view.emb y) := by
  refine ((congrFun (after0_9 m c t) y).trans (values_tile m c t y)).trans ?_
  have e := (index_out t).2.2.1
  have ht : t.val < 64 := t.isLt
  have l0 : (y 0).val < 1 := (y 0).isLt
  have l2 : (y 2).val < 256 := (y 2).isLt
  have h1 : ((win0_9.blk t).view.emb y 1 : Fin _) = y 1 := by apply Fin.ext; blk_simp [e]
  have h3 : ((win0_9.blk t).view.emb y 3 : Fin _) = y 3 := by apply Fin.ext; blk_simp [e]
  have h0 : ((win0_9.blk t).view.emb y 0 : Fin _).val = t.val / 32 := by blk_simp [e]
  have h2 : ((win0_9.blk t).view.emb y 2 : Fin _).val = t.val % 32 * 256 + (y 2).val := by blk_simp [e]
  have hr : rowAt ((win0_9.blk t).view.emb y 0) ((win0_9.blk t).view.emb y 2) = rowOf t (y 2) := Fin.ext (by
    show 8192 * ((win0_9.blk t).view.emb y 0 : Fin _).val + ((win0_9.blk t).view.emb y 2 : Fin _).val = 256 * t.val + (y 2).val
    rw [h0, h2]; omega)
  unfold valueBlock values
  rw [hr, h1, h3]
  exact congrFun (head_eq m c t 2 (y 2) (y 1)) (y 3)
/-- That array after the run. -/
theorem final_values : (dats m 0 c).arrAt 9 cfg0.N = values (m ((c.tc : Thread nD τ).loc main_arg0)) (m ((c.tc : Thread nD τ).loc main_arg2)) (m ((c.tc : Thread nD τ).loc main_arg3)) := by
  refine ((dats m 0 c).arrAt_eq_of_covers 9 (values (V m c main_arg0) (V m c main_arg2) (V m c main_arg3)) (by decide +kernel) fun t hf y => ?_).trans ?_
  · blk_simp
    exact after_values m c t y
  · rw [V_main_arg0, V_main_arg2, V_main_arg3]

/-- A grid point's others, of its blocks. -/
theorem others_tile (y : S256x2048.Idx) : (outsAt0 m c t).2.2.2 y = restBlock (iblk m c 0 t) (iblk m c 2 t) (iblk m c 3 t) y := by
  have h := rest_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) y
  unfold outsAt0
  dsimp only
  exact h
/-- What a grid point leaves in the block of the others. -/
theorem after_rest (y : S256x2048.Idx) : (dats m 0 c).after 10 t y = rest (V m c main_arg0) (V m c main_arg2) (V m c main_arg3) ((win0_10.blk t).view.emb y) := by
  refine ((congrFun (after0_10 m c t) y).trans (others_tile m c t y)).trans ?_
  have e := (index_out t).2.2.2
  have h0 : ((win0_10.blk t).view.emb y 0 : Fin _) = rowOf t (y 0) := by apply Fin.ext; blk_simp [e]; show t.val * 256 + (y 0).val = 256 * t.val + (y 0).val; omega
  have h1 : ((win0_10.blk t).view.emb y 1 : Fin _) = y 1 := by apply Fin.ext; blk_simp [e]
  unfold restBlock rest
  rw [h0, h1, funext (x_at m c t (y 0)), funext (g_at m c t), funext fun k => funext (w_at m c t k)]
  rfl
/-- That array after the run. -/
theorem final_rest : (dats m 0 c).arrAt 10 cfg0.N = rest (m ((c.tc : Thread nD τ).loc main_arg0)) (m ((c.tc : Thread nD τ).loc main_arg2)) (m ((c.tc : Thread nD τ).loc main_arg3)) := by
  refine ((dats m 0 c).arrAt_eq_of_covers 10 (rest (V m c main_arg0) (V m c main_arg2) (V m c main_arg3)) (by decide +kernel) fun t hf y => ?_).trans ?_
  · blk_simp
    exact after_rest m c t y
  · rw [V_main_arg0, V_main_arg2, V_main_arg3]

end Cert.Proof.NI

end
-- ==== Proof.NR.Value.lean ====
/-
  The input projection's reference: its four results, read element by element, and its run.
-/
module

public import proofs.«01_k».proof.Proof.Gen.ReferenceInprojIdeal.Run
public import proofs.«01_k».proof.Proof.Gen.ReferenceInprojIdeal.Read
public import proofs.«01_k».proof.Proof.Inproj
public import Idealize.ShloMosaic.Lib.ValueIdx
public import Idealize.ShloMosaic.Lib.Pipeline.Value
public import Idealize.ShloMosaic.Lib.Quiescent

@[expose] public section

noncomputable section

namespace Cert.Proof.NR

open Cert.ReferenceInprojIdeal Cert.ReferenceInprojIdeal.Gen Cert.ReferenceInprojIdeal.Read Cert.Proof.Inproj Cert.Proof.Experts
open Idealize.ShloMosaic Idealize.ShloMosaic.TcCoe Idealize.ShloMosaic.ValueIdx Idealize.SL.Sem
open scoped BigOperators

variable (X : S16384x2048.Idx → EReal) (P : S16384x1.Idx → BitVec 32) (G : S1x2048.Idx → EReal) (W : S2048x5120.Idx → EReal) (Q : S1x128.Idx → EReal)

/-- A row, its gain and the weights, as functions of the lanes. -/
abbrev xrow (r : Fin 16384) : Fin 2048 → EReal := fun k => X (ix2 r k)
abbrev grow : Fin 2048 → EReal := fun k => G (ix2 (n0 := 1) 0 k)
abbrev wmat : Fin 2048 → Fin 5120 → EReal := fun k f => W (ix2 k f)
abbrev qrow : Fin 128 → EReal := fun j => Q (ix2 (n0 := 1) 0 j)

theorem square_read (r : Fin 16384) : val_main_v2 (F := Ideal) X (ix1 r) = (∑ j : Fin 2048, X (ix2 r j) * X (ix2 r j) : EReal) := by
  rw [val_main_v2_apply, val_main_cst_apply]
  show Ideal.ofBits .f32 0x00000000#32 + _ = _
  rw [Ideal.ofBits_zero_f32, zero_add]
  refine Finset.sum_congr rfl fun k _ => ?_
  rw [val_main_v1_apply]
  exact congrArg (fun i => X i * X i) (funext fun a => match a with | ⟨0, _⟩ => rfl | ⟨1, _⟩ => rfl)

theorem scaled_read (r : Fin 16384) (k : Fin 2048) :
    val_main_v13 (F := Ideal) X G (ix2 r k) = scaled (xrow X r) (grow G) k := by
  rw [val_main_v13_apply, val_main_v10_apply, val_main_v9_apply, val_main_v8_apply, val_main_v7_apply, val_main_v5_apply, val_main_v3_apply,
    val_main_v4_apply, val_main_v6_apply, val_main_v12_apply, val_main_v11_apply, val_main_v0_apply]
  have h1 : idx_main_v3 (idx_main_v9 (ix2 r k)) = ix1 r := funext fun a => match a with | ⟨0, _⟩ => rfl
  rw [h1, square_read]
  have h2 : idx_main_v0 (idx_main_v11 (idx_main_v12 (ix2 r k))) = ix2 (n0 := 1) 0 k := funext fun a => Fin.ext (match a with
    | ⟨0, _⟩ => rfl | ⟨1, _⟩ => Nat.mod_eq_of_lt k.isLt)
  rw [h2]
  rfl

theorem proj_read (r : Fin 16384) (f : Fin 5120) :
    val_main_v15 (F := Ideal) X G W (ix2 r f) = proj (scaled (xrow X r) (grow G)) (wmat W) f := by
  rw [val_main_v15_apply]
  refine Finset.sum_congr rfl fun k _ => ?_
  have h1 : lidx_main_v15 (ix2 r f) k = ix2 r k := funext fun a => match a with | ⟨0, _⟩ => rfl | ⟨1, _⟩ => rfl
  have h2 : ridx_main_v15 (ix2 r f) k = ix2 k f := funext fun a => match a with | ⟨0, _⟩ => rfl | ⟨1, _⟩ => rfl
  rw [h1, h2, scaled_read]
  rfl

theorem rest_read (r : Fin 16384) (f : Fin 2048) :
    val_main_v19 (F := Ideal) X G W (ix2 r f) = proj (scaled (xrow X r) (grow G)) (wmat W) (late f) := by
  rw [val_main_v19_apply]
  have h : idx_main_v19 (ix2 r f) = ix2 r (late f) := funext fun a => Fin.ext (match a with | ⟨0, _⟩ => rfl | ⟨1, _⟩ => rfl)
  rw [h, proj_read]

/-- A head of the section 0. -/
theorem head_read_q (r : Fin 16384) (h : Fin 8) (e : Fin 128) : val_main_v21 (F := Ideal) X G W (ix3 r h e) = head (xrow X r) (grow G) (wmat W) 0 h e := by
  rw [val_main_v21_apply, val_main_v16_apply]
  have hi : idx_main_v16 (idx_main_v21 (ix3 r h e)) = ix2 r (col 0 (lane h e)) := by
    have h1 := h.isLt; have h2 := e.isLt
    refine funext fun a => Fin.ext ?_
    match a with
    | ⟨0, _⟩ => show ((r.val * 8 + h.val) * 128 + e.val) / 1024 = r.val; omega
    | ⟨1, _⟩ => show ((r.val * 8 + h.val) * 128 + e.val) % 1024 = 1024 * 0 + (128 * h.val + e.val); omega
  rw [hi, proj_read]
  rfl

theorem squares_read_q (r : Fin 16384) (h : Fin 8) : val_main_v24 (F := Ideal) X G W (ix2 r h)
    = (∑ j : Fin 128, head (xrow X r) (grow G) (wmat W) 0 h j * head (xrow X r) (grow G) (wmat W) 0 h j : EReal) := by
  rw [val_main_v24_apply, val_main_cst_2_apply]
  show Ideal.ofBits .f32 0x00000000#32 + _ = _
  rw [Ideal.ofBits_zero_f32, zero_add]
  refine Finset.sum_congr rfl fun k _ => ?_
  have hi : idx_main_v24 (ix2 r h) k = ix3 r h k := funext fun a => match a with | ⟨0, _⟩ => rfl | ⟨1, _⟩ => rfl | ⟨2, _⟩ => rfl
  rw [val_main_v23_apply, hi, head_read_q]
  rfl

theorem normed_read_q (r : Fin 16384) (h : Fin 8) (e : Fin 128) :
    val_main_v35 (F := Ideal) X G W Q (ix3 r h e) = headNorm (head (xrow X r) (grow G) (wmat W) 0 h) (qrow Q) e := by
  rw [val_main_v35_apply, val_main_v32_apply, val_main_v31_apply, val_main_v30_apply, val_main_v29_apply, val_main_v27_apply, val_main_v25_apply, val_main_v26_apply, val_main_v28_apply, val_main_v34_apply, val_main_v33_apply, val_main_v22_apply, head_read_q]
  have h1 : idx_main_v25 (idx_main_v31 (ix3 r h e)) = ix2 r h := funext fun a => match a with | ⟨0, _⟩ => rfl | ⟨1, _⟩ => rfl
  have h2 : idx_main_v22 (idx_main_v33 (idx_main_v34 (ix3 r h e))) = ix2 (n0 := 1) 0 e := funext fun a => Fin.ext (match a with
    | ⟨0, _⟩ => rfl | ⟨1, _⟩ => Nat.mod_eq_of_lt e.isLt)
  rw [h1, h2, squares_read_q]
  rfl

theorem freq_read_q (e : Fin 64) : val_main_v41 (F := Ideal) (ix1 e) = freq e := rfl

theorem angle_read_q (r : Fin 16384) (e : Fin 64) : val_main_v47 (F := Ideal) P (ix2 r e) = place (P (ix2 (n1 := 1) r 0)) * freq e := by
  rw [val_main_v47_apply, val_main_v45_apply, val_main_v43_apply, val_main_v42_apply, val_main_v20_apply, val_main_v46_apply, val_main_v44_apply]
  have h1 : idx_main_v20 (idx_main_v43 (idx_main_v45 (ix2 r e))) = ix2 (n1 := 1) r 0 := funext fun a => Fin.ext (match a with
    | ⟨0, _⟩ => Nat.div_one _ | ⟨1, _⟩ => rfl)
  have h2 : idx_main_v44 (idx_main_v46 (ix2 r e)) = ix1 e := funext fun a => match a with | ⟨0, _⟩ => rfl
  rw [h1, h2, freq_read_q]
  rfl

theorem cos54_read_q (r : Fin 16384) (h : Fin 8) (e : Fin 64) :
    val_main_v54 (F := Ideal) P (ix3 r h e) = Ideal.cos (place (P (ix2 (n1 := 1) r 0)) * freq e) := by
  rw [val_main_v54_apply, val_main_v49_apply, val_main_v48_apply]
  have hi : idx_main_v49 (idx_main_v54 (ix3 r h e)) = ix2 r e := funext fun a => match a with | ⟨0, _⟩ => rfl | ⟨1, _⟩ => rfl
  rw [hi, angle_read_q]
  rfl

theorem cos61_read_q (r : Fin 16384) (h : Fin 8) (e : Fin 64) :
    val_main_v61 (F := Ideal) P (ix3 r h e) = Ideal.cos (place (P (ix2 (n1 := 1) r 0)) * freq e) := by
  rw [val_main_v61_apply, val_main_v49_apply, val_main_v48_apply]
  have hi : idx_main_v49 (idx_main_v61 (ix3 r h e)) = ix2 r e := funext fun a => match a with | ⟨0, _⟩ => rfl | ⟨1, _⟩ => rfl
  rw [hi, angle_read_q]
  rfl

theorem sin56_read_q (r : Fin 16384) (h : Fin 8) (e : Fin 64) :
    val_main_v56 (F := Ideal) P (ix3 r h e) = Ideal.sin (place (P (ix2 (n1 := 1) r 0)) * freq e) := by
  rw [val_main_v56_apply, val_main_v51_apply, val_main_v50_apply]
  have hi : idx_main_v51 (idx_main_v56 (ix3 r h e)) = ix2 r e := funext fun a => match a with | ⟨0, _⟩ => rfl | ⟨1, _⟩ => rfl
  rw [hi, angle_read_q]
  rfl

theorem sin59_read_q (r : Fin 16384) (h : Fin 8) (e : Fin 64) :
    val_main_v59 (F := Ideal) P (ix3 r h e) = Ideal.sin (place (P (ix2 (n1 := 1) r 0)) * freq e) := by
  rw [val_main_v59_apply, val_main_v51_apply, val_main_v50_apply]
  have hi : idx_main_v51 (idx_main_v59 (ix3 r h e)) = ix2 r e := funext fun a => match a with | ⟨0, _⟩ => rfl | ⟨1, _⟩ => rfl
  rw [hi, angle_read_q]
  rfl

theorem lower_read_q (r : Fin 16384) (h : Fin 8) (e : Fin 64) :
    val_main_v52 (F := Ideal) X G W Q (ix3 r h e) = headNorm (head (xrow X r) (grow G) (wmat W) 0 h) (qrow Q) ⟨e.val, by omega⟩ := by
  rw [val_main_v52_apply]
  have hi : idx_main_v52 (ix3 r h e) = ix3 r h (n2 := 128) ⟨e.val, by omega⟩ := funext fun a => match a with | ⟨0, _⟩ => rfl | ⟨1, _⟩ => rfl | ⟨2, _⟩ => rfl
  rw [hi, normed_read_q]

theorem upper_read_q (r : Fin 16384) (h : Fin 8) (e : Fin 64) :
    val_main_v53 (F := Ideal) X G W Q (ix3 r h e) = headNorm (head (xrow X r) (grow G) (wmat W) 0 h) (qrow Q) ⟨64 + e.val, by omega⟩ := by
  rw [val_main_v53_apply]
  have hi : idx_main_v53 (ix3 r h e) = ix3 r h (n2 := 128) ⟨64 + e.val, by omega⟩ := funext fun a => match a with | ⟨0, _⟩ => rfl | ⟨1, _⟩ => rfl | ⟨2, _⟩ => rfl
  rw [hi, normed_read_q]

theorem turned_read_q (r : Fin 16384) (h : Fin 8) (e : Fin 128) :
    val_main_v64 (F := Ideal) X P G W Q (ix3 r h e) = turned (headNorm (head (xrow X r) (grow G) (wmat W) 0 h) (qrow Q)) (place (P (ix2 (n1 := 1) r 0))) e := by
  unfold val_main_v64 turned
  by_cases he : e.val < 64
  · rw [dif_pos he]
    refine (concatenate_pair_apply_left (s₁ := S16384x8x64) (s₂ := S16384x8x64) (2 : Fin S16384x8x128.rank) _ _ _ (ix3 r h e) rfl (ix3 r h (⟨e.val, he⟩ : Fin 64)) fun b => ?_).trans ?_
    · match b with
      | ⟨0, _⟩ => rfl
      | ⟨1, _⟩ => rfl
      | ⟨2, _⟩ => rfl
    · rw [val_main_v58_apply, val_main_v55_apply, val_main_v57_apply, lower_read_q, upper_read_q, cos54_read_q, sin56_read_q]
      have hu : (⟨64 + e.val, by omega⟩ : Fin 128) = ⟨e.val + 64, by omega⟩ := Fin.ext (Nat.add_comm _ _)
      rw [hu]
      rfl
  · rw [dif_neg he]
    refine (concatenate_pair_apply_right (s₁ := S16384x8x64) (s₂ := S16384x8x64) (2 : Fin S16384x8x128.rank) _ _ _ (ix3 r h e) rfl rfl (ix3 r h (⟨e.val - 64, by omega⟩ : Fin 64)) (fun b hb => ?_) ?_).trans ?_
    · match b with
      | ⟨0, _⟩ => rfl
      | ⟨1, _⟩ => rfl
      | ⟨2, _⟩ => exact absurd rfl hb
    · show e.val - 64 + 64 = e.val
      omega
    · rw [val_main_v63_apply, val_main_v60_apply, val_main_v62_apply, lower_read_q, upper_read_q, sin59_read_q, cos61_read_q]
      have hu : (⟨64 + (e.val - 64), by omega⟩ : Fin 128) = e := Fin.ext (by show 64 + (e.val - 64) = e.val; omega)
      rw [hu]
      rfl

/-- A head of the section 1. -/
theorem head_read_k (r : Fin 16384) (h : Fin 8) (e : Fin 128) : val_main_v68 (F := Ideal) X G W (ix3 r h e) = head (xrow X r) (grow G) (wmat W) 1 h e := by
  rw [val_main_v68_apply, val_main_v17_apply]
  have hi : idx_main_v17 (idx_main_v68 (ix3 r h e)) = ix2 r (col 1 (lane h e)) := by
    have h1 := h.isLt; have h2 := e.isLt
    refine funext fun a => Fin.ext ?_
    match a with
    | ⟨0, _⟩ => show ((r.val * 8 + h.val) * 128 + e.val) / 1024 = r.val; omega
    | ⟨1, _⟩ => show 1024 + ((r.val * 8 + h.val) * 128 + e.val) % 1024 = 1024 * 1 + (128 * h.val + e.val); omega
  rw [hi, proj_read]
  rfl

theorem squares_read_k (r : Fin 16384) (h : Fin 8) : val_main_v71 (F := Ideal) X G W (ix2 r h)
    = (∑ j : Fin 128, head (xrow X r) (grow G) (wmat W) 1 h j * head (xrow X r) (grow G) (wmat W) 1 h j : EReal) := by
  rw [val_main_v71_apply, val_main_cst_8_apply]
  show Ideal.ofBits .f32 0x00000000#32 + _ = _
  rw [Ideal.ofBits_zero_f32, zero_add]
  refine Finset.sum_congr rfl fun k _ => ?_
  have hi : idx_main_v71 (ix2 r h) k = ix3 r h k := funext fun a => match a with | ⟨0, _⟩ => rfl | ⟨1, _⟩ => rfl | ⟨2, _⟩ => rfl
  rw [val_main_v70_apply, hi, head_read_k]
  rfl

theorem normed_read_k (r : Fin 16384) (h : Fin 8) (e : Fin 128) :
    val_main_v82 (F := Ideal) X G W Q (ix3 r h e) = headNorm (head (xrow X r) (grow G) (wmat W) 1 h) (qrow Q) e := by
  rw [val_main_v82_apply, val_main_v79_apply, val_main_v78_apply, val_main_v77_apply, val_main_v76_apply, val_main_v74_apply, val_main_v72_apply, val_main_v73_apply, val_main_v75_apply, val_main_v81_apply, val_main_v80_apply, val_main_v69_apply, head_read_k]
  have h1 : idx_main_v72 (idx_main_v78 (ix3 r h e)) = ix2 r h := funext fun a => match a with | ⟨0, _⟩ => rfl | ⟨1, _⟩ => rfl
  have h2 : idx_main_v69 (idx_main_v80 (idx_main_v81 (ix3 r h e))) = ix2 (n0 := 1) 0 e := funext fun a => Fin.ext (match a with
    | ⟨0, _⟩ => rfl | ⟨1, _⟩ => Nat.mod_eq_of_lt e.isLt)
  rw [h1, h2, squares_read_k]
  rfl

theorem freq_read_k (e : Fin 64) : val_main_v88 (F := Ideal) (ix1 e) = freq e := rfl

theorem angle_read_k (r : Fin 16384) (e : Fin 64) : val_main_v94 (F := Ideal) P (ix2 r e) = place (P (ix2 (n1 := 1) r 0)) * freq e := by
  rw [val_main_v94_apply, val_main_v92_apply, val_main_v90_apply, val_main_v89_apply, val_main_v20_apply, val_main_v93_apply, val_main_v91_apply]
  have h1 : idx_main_v20 (idx_main_v90 (idx_main_v92 (ix2 r e))) = ix2 (n1 := 1) r 0 := funext fun a => Fin.ext (match a with
    | ⟨0, _⟩ => Nat.div_one _ | ⟨1, _⟩ => rfl)
  have h2 : idx_main_v91 (idx_main_v93 (ix2 r e)) = ix1 e := funext fun a => match a with | ⟨0, _⟩ => rfl
  rw [h1, h2, freq_read_k]
  rfl

theorem cos54_read_k (r : Fin 16384) (h : Fin 8) (e : Fin 64) :
    val_main_v101 (F := Ideal) P (ix3 r h e) = Ideal.cos (place (P (ix2 (n1 := 1) r 0)) * freq e) := by
  rw [val_main_v101_apply, val_main_v96_apply, val_main_v95_apply]
  have hi : idx_main_v96 (idx_main_v101 (ix3 r h e)) = ix2 r e := funext fun a => match a with | ⟨0, _⟩ => rfl | ⟨1, _⟩ => rfl
  rw [hi, angle_read_k]
  rfl

theorem cos61_read_k (r : Fin 16384) (h : Fin 8) (e : Fin 64) :
    val_main_v108 (F := Ideal) P (ix3 r h e) = Ideal.cos (place (P (ix2 (n1 := 1) r 0)) * freq e) := by
  rw [val_main_v108_apply, val_main_v96_apply, val_main_v95_apply]
  have hi : idx_main_v96 (idx_main_v108 (ix3 r h e)) = ix2 r e := funext fun a => match a with | ⟨0, _⟩ => rfl | ⟨1, _⟩ => rfl
  rw [hi, angle_read_k]
  rfl

theorem sin56_read_k (r : Fin 16384) (h : Fin 8) (e : Fin 64) :
    val_main_v103 (F := Ideal) P (ix3 r h e) = Ideal.sin (place (P (ix2 (n1 := 1) r 0)) * freq e) := by
  rw [val_main_v103_apply, val_main_v98_apply, val_main_v97_apply]
  have hi : idx_main_v98 (idx_main_v103 (ix3 r h e)) = ix2 r e := funext fun a => match a with | ⟨0, _⟩ => rfl | ⟨1, _⟩ => rfl
  rw [hi, angle_read_k]
  rfl

theorem sin59_read_k (r : Fin 16384) (h : Fin 8) (e : Fin 64) :
    val_main_v106 (F := Ideal) P (ix3 r h e) = Ideal.sin (place (P (ix2 (n1 := 1) r 0)) * freq e) := by
  rw [val_main_v106_apply, val_main_v98_apply, val_main_v97_apply]
  have hi : idx_main_v98 (idx_main_v106 (ix3 r h e)) = ix2 r e := funext fun a => match a with | ⟨0, _⟩ => rfl | ⟨1, _⟩ => rfl
  rw [hi, angle_read_k]
  rfl

theorem lower_read_k (r : Fin 16384) (h : Fin 8) (e : Fin 64) :
    val_main_v99 (F := Ideal) X G W Q (ix3 r h e) = headNorm (head (xrow X r) (grow G) (wmat W) 1 h) (qrow Q) ⟨e.val, by omega⟩ := by
  rw [val_main_v99_apply]
  have hi : idx_main_v99 (ix3 r h e) = ix3 r h (n2 := 128) ⟨e.val, by omega⟩ := funext fun a => match a with | ⟨0, _⟩ => rfl | ⟨1, _⟩ => rfl | ⟨2, _⟩ => rfl
  rw [hi, normed_read_k]

theorem upper_read_k (r : Fin 16384) (h : Fin 8) (e : Fin 64) :
    val_main_v100 (F := Ideal) X G W Q (ix3 r h e) = headNorm (head (xrow X r) (grow G) (wmat W) 1 h) (qrow Q) ⟨64 + e.val, by omega⟩ := by
  rw [val_main_v100_apply]
  have hi : idx_main_v100 (ix3 r h e) = ix3 r h (n2 := 128) ⟨64 + e.val, by omega⟩ := funext fun a => match a with | ⟨0, _⟩ => rfl | ⟨1, _⟩ => rfl | ⟨2, _⟩ => rfl
  rw [hi, normed_read_k]

theorem turned_read_k (r : Fin 16384) (h : Fin 8) (e : Fin 128) :
    val_main_v111 (F := Ideal) X P G W Q (ix3 r h e) = turned (headNorm (head (xrow X r) (grow G) (wmat W) 1 h) (qrow Q)) (place (P (ix2 (n1 := 1) r 0))) e := by
  unfold val_main_v111 turned
  by_cases he : e.val < 64
  · rw [dif_pos he]
    refine (concatenate_pair_apply_left (s₁ := S16384x8x64) (s₂ := S16384x8x64) (2 : Fin S16384x8x128.rank) _ _ _ (ix3 r h e) rfl (ix3 r h (⟨e.val, he⟩ : Fin 64)) fun b => ?_).trans ?_
    · match b with
      | ⟨0, _⟩ => rfl
      | ⟨1, _⟩ => rfl
      | ⟨2, _⟩ => rfl
    · rw [val_main_v105_apply, val_main_v102_apply, val_main_v104_apply, lower_read_k, upper_read_k, cos54_read_k, sin56_read_k]
      have hu : (⟨64 + e.val, by omega⟩ : Fin 128) = ⟨e.val + 64, by omega⟩ := Fin.ext (Nat.add_comm _ _)
      rw [hu]
      rfl
  · rw [dif_neg he]
    refine (concatenate_pair_apply_right (s₁ := S16384x8x64) (s₂ := S16384x8x64) (2 : Fin S16384x8x128.rank) _ _ _ (ix3 r h e) rfl rfl (ix3 r h (⟨e.val - 64, by omega⟩ : Fin 64)) (fun b hb => ?_) ?_).trans ?_
    · match b with
      | ⟨0, _⟩ => rfl
      | ⟨1, _⟩ => rfl
      | ⟨2, _⟩ => exact absurd rfl hb
    · show e.val - 64 + 64 = e.val
      omega
    · rw [val_main_v110_apply, val_main_v107_apply, val_main_v109_apply, lower_read_k, upper_read_k, sin59_read_k, cos61_read_k]
      have hu : (⟨64 + (e.val - 64), by omega⟩ : Fin 128) = e := Fin.ext (by show 64 + (e.val - 64) = e.val; omega)
      rw [hu]
      rfl

/-- A head of the section 2. -/
theorem head_read_v (r : Fin 16384) (h : Fin 8) (e : Fin 128) : val_main_v118 (F := Ideal) X G W (ix3 r h e) = head (xrow X r) (grow G) (wmat W) 2 h e := by
  rw [val_main_v118_apply, val_main_v18_apply]
  have hi : idx_main_v18 (idx_main_v118 (ix3 r h e)) = ix2 r (col 2 (lane h e)) := by
    have h1 := h.isLt; have h2 := e.isLt
    refine funext fun a => Fin.ext ?_
    match a with
    | ⟨0, _⟩ => show ((r.val * 8 + h.val) * 128 + e.val) / 1024 = r.val; omega
    | ⟨1, _⟩ => show 2048 + ((r.val * 8 + h.val) * 128 + e.val) % 1024 = 1024 * 2 + (128 * h.val + e.val); omega
  rw [hi, proj_read]
  rfl

theorem queries_read (b : Fin 2) (h : Fin 8) (t : Fin 8192) (e : Fin 128) : val_main_v114 (F := Ideal) X P G W Q (ix4 b h t e)
    = query (xrow X (rowAt b t)) (grow G) (wmat W) (qrow Q) (P (ix2 (n1 := 1) (rowAt b t) 0)) h e := by
  rw [val_main_v114_apply, val_main_v113_apply, val_main_v112_apply]
  have hi : idx_main_v112 (idx_main_v113 (ix4 b h t e)) = ix3 (rowAt b t) h e := by
    have h1 := h.isLt; have h2 := e.isLt; have h3 := t.isLt
    refine funext fun a => Fin.ext ?_
    match a with
    | ⟨0, _⟩ => show (((b.val * 8192 + t.val) * 8 + h.val) * 128 + e.val) / 1024 = 8192 * b.val + t.val; omega
    | ⟨1, _⟩ => show (((b.val * 8192 + t.val) * 8 + h.val) * 128 + e.val) / 128 % 8 = h.val; omega
    | ⟨2, _⟩ => show (((b.val * 8192 + t.val) * 8 + h.val) * 128 + e.val) % 128 = e.val; omega
  rw [hi, val_main_v67_apply, turned_read_q, val_main_v66_apply, val_main_v65_apply, val_main_cst_7_apply]
  rfl

theorem keys_read (b : Fin 2) (h : Fin 8) (t : Fin 8192) (e : Fin 128) : val_main_v117 (F := Ideal) X P G W Q (ix4 b h t e)
    = key (xrow X (rowAt b t)) (grow G) (wmat W) (qrow Q) (P (ix2 (n1 := 1) (rowAt b t) 0)) h e := by
  rw [val_main_v117_apply, val_main_v116_apply, val_main_v115_apply]
  have hi : idx_main_v115 (idx_main_v116 (ix4 b h t e)) = ix3 (rowAt b t) h e := by
    have h1 := h.isLt; have h2 := e.isLt; have h3 := t.isLt
    refine funext fun a => Fin.ext ?_
    match a with
    | ⟨0, _⟩ => show (((b.val * 8192 + t.val) * 8 + h.val) * 128 + e.val) / 1024 = 8192 * b.val + t.val; omega
    | ⟨1, _⟩ => show (((b.val * 8192 + t.val) * 8 + h.val) * 128 + e.val) / 128 % 8 = h.val; omega
    | ⟨2, _⟩ => show (((b.val * 8192 + t.val) * 8 + h.val) * 128 + e.val) % 128 = e.val; omega
  rw [hi, turned_read_k]
  rfl

theorem values_read (b : Fin 2) (h : Fin 8) (t : Fin 8192) (e : Fin 128) : val_main_v121 (F := Ideal) X G W (ix4 b h t e)
    = head (xrow X (rowAt b t)) (grow G) (wmat W) 2 h e := by
  rw [val_main_v121_apply, val_main_v120_apply, val_main_v119_apply]
  have hi : idx_main_v119 (idx_main_v120 (ix4 b h t e)) = ix3 (rowAt b t) h e := by
    have h1 := h.isLt; have h2 := e.isLt; have h3 := t.isLt
    refine funext fun a => Fin.ext ?_
    match a with
    | ⟨0, _⟩ => show (((b.val * 8192 + t.val) * 8 + h.val) * 128 + e.val) / 1024 = 8192 * b.val + t.val; omega
    | ⟨1, _⟩ => show (((b.val * 8192 + t.val) * 8 + h.val) * 128 + e.val) / 128 % 8 = h.val; omega
    | ⟨2, _⟩ => show (((b.val * 8192 + t.val) * 8 + h.val) * 128 + e.val) % 128 = e.val; omega
  rw [hi, head_read_v]
  rfl

/-- The reference terminates with its arguments unchanged and its counters at zero. -/
theorem frame_main {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2, sem_eq_zero_of_no_sems (by decide) r.2⟩)
    (Cert.ReferenceInprojIdeal.Value.run m ρ)

end Cert.Proof.NR

end
-- ==== Proof.InprojMixed.lean ====
/-
  The input projection's value claim: at the ideal level the kernel's four results are the reference's.
-/
module

public import proofs.«01_k».proof.Defs
public import proofs.«01_k».proof.Proof.NI.Value
public import proofs.«01_k».proof.Proof.NR.Value
public import proofs.«01_k».proof.Proof.Gen.KernelInprojIdeal.Value
public import Idealize.ShloMosaic.Adequacy
public import Idealize.ShloMosaic.Init

@[expose] public section

noncomputable section

namespace Cert.Proof.Inproj

open Idealize.ShloMosaic hiding ix2 ix4 eq_ix2 eq_ix4
open Idealize.ShloMosaic.ValueIdx Idealize.SL.Sem Idealize.ShloMosaic.StableHlo

section

variable (X : Cert.ReferenceInprojIdeal.S16384x2048.Idx → EReal) (P : Cert.ReferenceInprojIdeal.S16384x1.Idx → BitVec 32)
  (G : Cert.ReferenceInprojIdeal.S1x2048.Idx → EReal) (W : Cert.ReferenceInprojIdeal.S2048x5120.Idx → EReal) (Q : Cert.ReferenceInprojIdeal.S1x128.Idx → EReal)

theorem queries_eq : Cert.ReferenceInprojIdeal.Read.val_main_v114 (F := Ideal) X P G W Q = NI.queries X P G W Q := funext fun y => by
  obtain ⟨b, h, t, e, rfl⟩ : ∃ (b : Fin 2) (h : Fin 8) (t : Fin 8192) (e : Fin 128), y = ix4 b h t e := ⟨y 0, y 1, y 2, y 3, eq_ix4 y⟩
  exact NR.queries_read X P G W Q b h t e
theorem keys_eq : Cert.ReferenceInprojIdeal.Read.val_main_v117 (F := Ideal) X P G W Q = NI.keys X P G W Q := funext fun y => by
  obtain ⟨b, h, t, e, rfl⟩ : ∃ (b : Fin 2) (h : Fin 8) (t : Fin 8192) (e : Fin 128), y = ix4 b h t e := ⟨y 0, y 1, y 2, y 3, eq_ix4 y⟩
  exact NR.keys_read X P G W Q b h t e
theorem values_eq : Cert.ReferenceInprojIdeal.Read.val_main_v121 (F := Ideal) X G W = NI.values X G W := funext fun y => by
  obtain ⟨b, h, t, e, rfl⟩ : ∃ (b : Fin 2) (h : Fin 8) (t : Fin 8192) (e : Fin 128), y = ix4 b h t e := ⟨y 0, y 1, y 2, y 3, eq_ix4 y⟩
  exact NR.values_read X G W b h t e
theorem rest_eq : Cert.ReferenceInprojIdeal.Read.val_main_v19 (F := Ideal) X G W = NI.rest X G W := funext fun y => by
  obtain ⟨r, f, rfl⟩ : ∃ (r : Fin 16384) (f : Fin 2048), y = ix2 r f := ⟨y 0, y 1, eq_ix2 y⟩
  exact NR.rest_read X G W r f

end

/-- The value claim. -/
theorem algebraic : Cert.algebraic_KernelInprojIdeal_ReferenceInprojIdeal (hKernelInprojIdeal := Cert.KernelInprojIdeal.Gen.facts)
    (hReferenceInprojIdeal := Cert.ReferenceInprojIdeal.Gen.facts) := by
  intro m g m' g' hp ha
  refine ⟨fun c => NI.queries (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)) (m ((c.tc : Thread Cert.KernelInprojIdeal.nD Cert.KernelInprojIdeal.τ).loc Cert.KernelInprojIdeal.main_arg4)), fun c => NI.keys (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)) (m ((c.tc : Thread Cert.KernelInprojIdeal.nD Cert.KernelInprojIdeal.τ).loc Cert.KernelInprojIdeal.main_arg5)),
    fun c => NI.values (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)), fun c => NI.rest (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)), ?_, ?_⟩
  · exact (θ_run _ _ _).mono (fun r h c => ⟨((h c).1).trans (NI.final_queries m c), ((h c).2.1).trans (NI.final_keys m c),
      ((h c).2.2.1).trans (NI.final_values m c), ((h c).2.2.2.1).trans (NI.final_rest m c), (h c).2.2.2.2⟩) (Cert.KernelInprojIdeal.Value.run_blocks m g)
  · refine (θ_run _ _ _).mono (fun r h c => ?_) (Cert.ReferenceInprojIdeal.Value.run m' g')
    obtain ⟨a0, a1, a2, a3, a4, a5⟩ := ha c
    refine ⟨((h c).1).trans ?_, ((h c).2.1).trans ?_, ((h c).2.2.1).trans ?_, ((h c).2.2.2.1).trans ?_, (h c).2.2.2.2⟩
    · refine (Cert.ReferenceInprojIdeal.Read.val_main_v114_eq m' c).trans ?_
      rw [a0, a1, a2, a3, a4]
      exact queries_eq _ _ _ _ _
    · refine (Cert.ReferenceInprojIdeal.Read.val_main_v117_eq m' c).trans ?_
      rw [a0, a1, a2, a3, a5]
      exact keys_eq _ _ _ _ _
    · rw [a0, a2, a3]
      exact (Cert.ReferenceInprojIdeal.Read.val_main_v121_eq _ _ _).trans (values_eq _ _ _)
    · rw [a0, a2, a3]
      exact (Cert.ReferenceInprojIdeal.Read.val_main_v19_eq _ _ _).trans (rest_eq _ _ _)

end Cert.Proof.Inproj

end
-- ==== Proof.Outproj.lean ====
/-
  The output projection's residual stream, in plain terms: what both its kernel and its reference compute.
-/
module

public import Idealize.ShloMosaic.Lib.ValueIdx
public import proofs.«01_k».proof.Proof.Inproj

@[expose] public section

noncomputable section

namespace Cert.Proof.Outproj

open Idealize.ShloMosaic
open scoped BigOperators

/-- A row's heads laid side by side, then the convolution's lanes. -/
def joined (A : Fin 8 → Fin 128 → EReal) (C : Fin 1024 → EReal) (k : Fin 2048) : EReal :=
  if h : k.val < 1024 then A ⟨k.val / 128, by omega⟩ ⟨k.val % 128, Nat.mod_lt _ (by omega)⟩ else C ⟨k.val - 1024, by omega⟩

theorem joined_head (A : Fin 8 → Fin 128 → EReal) (C : Fin 1024 → EReal) (k : Fin 2048) (h : Fin 8) (e : Fin 128) (hk : k.val = 128 * h.val + e.val) :
    joined A C k = A h e := by
  have h1 := h.isLt
  have h2 := e.isLt
  unfold joined
  rw [dif_pos (by omega : k.val < 1024)]
  exact congrArg₂ A (Fin.ext (by show k.val / 128 = h.val; omega)) (Fin.ext (by show k.val % 128 = e.val; omega))

theorem joined_tail (A : Fin 8 → Fin 128 → EReal) (C : Fin 1024 → EReal) (k : Fin 2048) (e : Fin 1024) (hk : k.val = 1024 + e.val) :
    joined A C k = C e := by
  unfold joined
  rw [dif_neg (by omega : ¬k.val < 1024)]
  exact congrArg C (Fin.ext (by show k.val - 1024 = e.val; omega))

/-- The residual stream: the row's entry and the projection of its joined lanes. -/
def stream (x : EReal) (A : Fin 8 → Fin 128 → EReal) (C : Fin 1024 → EReal) (w : Fin 2048 → EReal) : EReal :=
  x + ∑ k : Fin 2048, joined A C k * w k

end Cert.Proof.Outproj

end
-- ==== Proof.OI.Tile.lean ====
/-
  A half tile of the output projection's kernel at the ideal level: the residual stream of 256 rows.
-/
module

public import proofs.«01_k».proof.Proof.Gen.KernelOutprojIdeal.Frame
public import proofs.«01_k».proof.Proof.Outproj
public import Idealize.ShloMosaic.Lib.KernelVsHost
public import Idealize.ShloMosaic.Lib.MatmulPlain
public import Idealize.ShloMosaic.Lib.Writes
public import Idealize.ShloMosaic.Lib.ValueIdx
public import Idealize.ShloMosaic.Lib.Pipeline.Value
public import Idealize.ShloMosaic.Lib.Pointwise.SelectCore

@[expose] public section

noncomputable section

namespace Cert.Proof.OI

open Cert.KernelOutprojIdeal Cert.KernelOutprojIdeal.Gen Cert.Proof.Outproj
open Idealize.ShloMosaic hiding ix1 ix2 ix4 eq_ix2 eq_ix4
open Idealize.ShloMosaic.ValueIdx Idealize.SL.Sem
open scoped BigOperators

/-- One head's piece of the row of pieces: either the lane lies in it or the pieces after it are read. -/
theorem head_step (A : Fin 8 → Fin 128 → EReal) (C : Fin 1024 → EReal) (r : Fin 256) (k : Fin 2048) (x : S256x128.Idx → EReal)
    (q : (s : Shape) × (s.Idx → EReal)) (xs : List ((s : Shape) × (s.Idx → EReal)))
    (hs : ∀ s' ∈ (⟨S256x128, x⟩ :: q :: xs : List ((s : Shape) × (s.Idx → EReal))).map (·.1), s'.FitsOff S256x2048 (1 : Fin 2)) (c : ℕ)
    (hc : c < (axisSizes S256x2048 (1 : Fin 2) (⟨S256x128, x⟩ :: q :: xs)).sum) (h : Fin 8) (hk : c + 128 * h.val = k.val)
    (hx : ∀ e : Fin 128, x (ix2 r e) = A h e)
    (next : ∀ (hs' : ∀ s' ∈ (q :: xs : List ((s : Shape) × (s.Idx → EReal))).map (·.1), s'.FitsOff S256x2048 (1 : Fin 2)) (c' : ℕ)
      (hc' : c' < (axisSizes S256x2048 (1 : Fin 2) (q :: xs)).sum), c' + 128 * (h.val + 1) = k.val →
      concatenateAt S256x2048 (1 : Fin 2) (ix2 r k) (q :: xs) hs' c' hc' = joined A C k) :
    concatenateAt S256x2048 (1 : Fin 2) (ix2 r k) (⟨S256x128, x⟩ :: q :: xs) hs c hc = joined A C k := by
  rw [concatenateAt_cons]
  by_cases hl : c < 128
  · refine (dif_pos hl).trans ?_
    rw [joined_head A C k h ⟨c, hl⟩ (by show k.val = 128 * h.val + c; omega), ← hx ⟨c, hl⟩]
    rw [Shape.Idx.norm_def]
    refine congrArg x (funext fun b => Fin.ext ?_)
    match b with
    | ⟨0, _⟩ => rfl
    | ⟨1, _⟩ => rfl
  · refine (dif_neg hl).trans ?_
    exact next _ _ _ (by show c - 128 + 128 * (h.val + 1) = k.val; omega)

/-- The last piece, the convolution's. -/
theorem tail_step (A : Fin 8 → Fin 128 → EReal) (C : Fin 1024 → EReal) (r : Fin 256) (k : Fin 2048) (x : S256x1024.Idx → EReal)
    (hs : ∀ s' ∈ ([⟨S256x1024, x⟩] : List ((s : Shape) × (s.Idx → EReal))).map (·.1), s'.FitsOff S256x2048 (1 : Fin 2)) (c : ℕ)
    (hc : c < (axisSizes S256x2048 (1 : Fin 2) [⟨S256x1024, x⟩]).sum) (hk : c + 1024 = k.val) (hx : ∀ e : Fin 1024, x (ix2 r e) = C e) :
    concatenateAt S256x2048 (1 : Fin 2) (ix2 r k) [⟨S256x1024, x⟩] hs c hc = joined A C k := by
  have hl : c < 1024 := by have := k.isLt; omega
  rw [concatenateAt_singleton, joined_tail A C k ⟨c, hl⟩ (by show k.val = 1024 + c; omega), ← hx ⟨c, hl⟩]
  rw [Shape.Idx.norm_def]
  refine congrArg x (funext fun b => Fin.ext ?_)
  match b with
  | ⟨0, _⟩ => rfl
  | ⟨1, _⟩ => rfl

/-- A head's rows as a matrix. -/
theorem flat_apply (f : S1x1x256x128.Idx → EReal) (r : Fin 256) (e : Fin 128) :
    shapeCast S256x128 f shapeCasts_S1x1x256x128_S256x128 (ix2 r e) = f (ix4 (n0 := 1) (n1 := 1) 0 0 r e) := by
  refine shapeCast_apply _ _ (ix2 r e) (ix4 (n0 := 1) (n1 := 1) 0 0 r e) ?_
  rw [Shape.rowMajor_val_four, Shape.rowMajor_val_two]
  show ((0 * 1 + 0) * 256 + r.val) * 128 + e.val = r.val * 128 + e.val
  omega

variable (f0 f1 f2 f3 f4 f5 f6 f7 : S1x1x256x128.Idx → EReal) (C : S256x1024.Idx → EReal)

/-- The row the kernel joins. -/
theorem joined_apply (A : Fin 8 → Fin 128 → EReal) (r : Fin 256) (k : Fin 2048)
    (h0 : ∀ e, f0 (ix4 (n0 := 1) (n1 := 1) 0 0 r e) = A 0 e) (h1 : ∀ e, f1 (ix4 (n0 := 1) (n1 := 1) 0 0 r e) = A 1 e)
    (h2 : ∀ e, f2 (ix4 (n0 := 1) (n1 := 1) 0 0 r e) = A 2 e) (h3 : ∀ e, f3 (ix4 (n0 := 1) (n1 := 1) 0 0 r e) = A 3 e)
    (h4 : ∀ e, f4 (ix4 (n0 := 1) (n1 := 1) 0 0 r e) = A 4 e) (h5 : ∀ e, f5 (ix4 (n0 := 1) (n1 := 1) 0 0 r e) = A 5 e)
    (h6 : ∀ e, f6 (ix4 (n0 := 1) (n1 := 1) 0 0 r e) = A 6 e) (h7 : ∀ e, f7 (ix4 (n0 := 1) (n1 := 1) 0 0 r e) = A 7 e) :
    k0_pay4 (F := Ideal) f0 f1 f2 f3 f4 f5 f6 f7 C (ix2 r k) = joined A (fun e => C (ix2 r e)) k := by
  unfold k0_pay4
  refine (concatenate_cons_apply S256x2048 (1 : Fin 2) _ _ _ _ (ix2 r k)).trans ?_
  refine head_step _ _ r k _ _ _ _ _ _ 0 (by show k.val + 128 * 0 = k.val; omega) (fun e => (flat_apply _ r e).trans (h0 e)) fun hs1 c1 l1 k1 => ?_
  refine head_step _ _ r k _ _ _ _ _ _ 1 k1 (fun e => (flat_apply _ r e).trans (h1 e)) fun hs2 c2 l2 k2 => ?_
  refine head_step _ _ r k _ _ _ _ _ _ 2 k2 (fun e => (flat_apply _ r e).trans (h2 e)) fun hs3 c3 l3 k3 => ?_
  refine head_step _ _ r k _ _ _ _ _ _ 3 k3 (fun e => (flat_apply _ r e).trans (h3 e)) fun hs4 c4 l4 k4 => ?_
  refine head_step _ _ r k _ _ _ _ _ _ 4 k4 (fun e => (flat_apply _ r e).trans (h4 e)) fun hs5 c5 l5 k5 => ?_
  refine head_step _ _ r k _ _ _ _ _ _ 5 k5 (fun e => (flat_apply _ r e).trans (h5 e)) fun hs6 c6 l6 k6 => ?_
  refine head_step _ _ r k _ _ _ _ _ _ 6 k6 (fun e => (flat_apply _ r e).trans (h6 e)) fun hs7 c7 l7 k7 => ?_
  refine head_step _ _ r k _ _ _ _ _ _ 7 k7 (fun e => (flat_apply _ r e).trans (h7 e)) fun hs8 c8 l8 k8 => ?_
  exact tail_step _ _ r k _ _ _ _ k8 fun e => rfl

/-- The projection added to the row's entries. -/
theorem added_apply (T : FVec Ideal S256x2048 .bf16) (X : FVec Ideal S256x2048 .f32) (W : FVec Ideal S2048x2048 .bf16) (r : Fin 256) (d : Fin 2048) :
    k0_pay5 (F := Ideal) T X W (ix2 r d) = (X (ix2 r d) + ∑ k : Fin 2048, T (ix2 r k) * W (ix2 k d) : EReal) := by
  unfold k0_pay5
  refine congrArg (fun s : EReal => X (ix2 r d) + s) ((Ideal.matmul_plain_apply (M := 256) (K := 2048) (N := 2048) none T W _ r d).trans ?_)
  show Ideal.ofBits .f32 0x00000000#32 + _ = _
  rw [Ideal.ofBits_zero_f32, zero_add]

end Cert.Proof.OI

end
-- ==== Proof.OI.Block.lean ====
/-
  A tile of the output projection's kernel: what its stores leave in the block of the residual stream.
-/
module

public import proofs.«01_k».proof.Proof.OI.Tile

@[expose] public section

noncomputable section

namespace Cert.Proof.OI

open Cert.KernelOutprojIdeal Cert.KernelOutprojIdeal.Gen Cert.Proof.Outproj
open Idealize.ShloMosaic hiding ix1 ix2 ix4 eq_ix2 eq_ix4
open Idealize.ShloMosaic.ValueIdx Idealize.SL.Sem
open scoped BigOperators

/-- A row of the block: the half it lies in starts at `o`. -/
def at_ (o : ℕ) (ho : o ≤ 256) (r : Fin 256) : Fin 512 := ⟨o + r.val, by omega⟩

/-- The heads' rows, the convolution's, the entries' and the weights, read off their blocks. -/
theorem head_load (a : Memref sig .tc .vmem S1x8x512x128 .bf16) (ha : a.IsWhole) (x : S1x8x512x128.Idx → EReal) (h : Fin 8) (p o : ℕ) (hp : p = h.val) (ho : o ≤ 256)
    (inb : ∀ i, (![0, p, o, 0] : Fin 4 → ℕ) i + S1x1x256x128.size i ≤ S1x8x512x128.size i) (r : Fin 256) (e : Fin 128) :
    View.readAt (Elt Ideal) a.view (Rect.unit (s := S1x8x512x128) ![0, p, o, 0] S1x1x256x128.size inb).toLoadRect (ha.unread (Val := Elt Ideal) x) (ix4 (n0 := 1) (n1 := 1) 0 0 r e)
      = x (ix4 (n0 := 1) 0 h (at_ o ho r) e) := by
  rw [View.readAt_eq_ld, ha.read_unread]
  refine congrArg x (funext fun i => Fin.ext ?_)
  match i with
  | ⟨0, _⟩ => rfl
  | ⟨1, _⟩ => show p + 1 * 0 = h.val; omega
  | ⟨2, _⟩ => show o + 1 * r.val = o + r.val; omega
  | ⟨3, _⟩ => show 0 + 1 * e.val = e.val; omega
theorem conv_load (a : Memref sig .tc .vmem S512x1024 .bf16) (ha : a.IsWhole) (x : S512x1024.Idx → EReal) (o : ℕ) (ho : o ≤ 256)
    (inb : ∀ i, (![o, 0] : Fin 2 → ℕ) i + S256x1024.size i ≤ S512x1024.size i) (r : Fin 256) (e : Fin 1024) :
    View.readAt (Elt Ideal) a.view (Rect.unit (s := S512x1024) ![o, 0] S256x1024.size inb).toLoadRect (ha.unread (Val := Elt Ideal) x) (ix2 r e) = x (ix2 (at_ o ho r) e) := by
  rw [View.readAt_eq_ld, ha.read_unread]
  refine congrArg x (funext fun i => Fin.ext ?_)
  match i with
  | ⟨0, _⟩ => show o + 1 * r.val = o + r.val; omega
  | ⟨1, _⟩ => show 0 + 1 * e.val = e.val; omega
theorem entry_load (a : Memref sig .tc .vmem S512x2048 .f32) (ha : a.IsWhole) (x : S512x2048.Idx → EReal) (o : ℕ) (ho : o ≤ 256)
    (inb : ∀ i, (![o, 0] : Fin 2 → ℕ) i + S256x2048.size i ≤ S512x2048.size i) (r : Fin 256) (d : Fin 2048) :
    View.readAt (Elt Ideal) a.view (Rect.unit (s := S512x2048) ![o, 0] S256x2048.size inb).toLoadRect (ha.unread (Val := Elt Ideal) x) (ix2 r d) = x (ix2 (at_ o ho r) d) := by
  rw [View.readAt_eq_ld, ha.read_unread]
  refine congrArg x (funext fun i => Fin.ext ?_)
  match i with
  | ⟨0, _⟩ => show o + 1 * r.val = o + r.val; omega
  | ⟨1, _⟩ => show 0 + 1 * d.val = d.val; omega
theorem weight_load (a : Memref sig .tc .vmem S2048x2048 .bf16) (ha : a.IsWhole) (x : S2048x2048.Idx → EReal)
    (inb : ∀ i, (![0, 0] : Fin 2 → ℕ) i + S2048x2048.size i ≤ S2048x2048.size i) (k d : Fin 2048) :
    View.readAt (Elt Ideal) a.view (Rect.unit (s := S2048x2048) ![0, 0] S2048x2048.size inb).toLoadRect (ha.unread (Val := Elt Ideal) x) (ix2 k d) = x (ix2 k d) := by
  rw [View.readAt_eq_ld, ha.read_unread]
  refine congrArg x (funext fun i => Fin.ext ?_)
  match i with
  | ⟨0, _⟩ => show 0 + 1 * k.val = k.val; omega
  | ⟨1, _⟩ => show 0 + 1 * d.val = d.val; omega

section

variable (x0 : S1x8x512x128.Idx → EReal) (x1 : S512x1024.Idx → EReal) (x2 : S512x2048.Idx → EReal) (x3 : S2048x2048.Idx → EReal)

/-- The block of the residual stream. -/
def streamBlock (y : S512x2048.Idx) : EReal :=
  stream (x2 (ix2 (y 0) (y 1))) (fun h e => x0 (ix4 (n0 := 1) 0 h (y 0) e)) (fun e => x1 (ix2 (y 0) e)) (fun k => x3 (ix2 k (y 1)))

variable {x0 x1 x2 x3} {f0 f1 f2 f3 f4 f5 f6 f7 : S1x1x256x128.Idx → EReal} {C : S256x1024.Idx → EReal} {X : S256x2048.Idx → EReal} {W : S2048x2048.Idx → EReal}

/-- An entry of a half, -/
theorem half_apply (o : ℕ) (ho : o ≤ 256)
    (h0 : ∀ r e, f0 (ix4 (n0 := 1) (n1 := 1) 0 0 r e) = x0 (ix4 (n0 := 1) 0 0 (at_ o ho r) e))
    (h1 : ∀ r e, f1 (ix4 (n0 := 1) (n1 := 1) 0 0 r e) = x0 (ix4 (n0 := 1) 0 1 (at_ o ho r) e))
    (h2 : ∀ r e, f2 (ix4 (n0 := 1) (n1 := 1) 0 0 r e) = x0 (ix4 (n0 := 1) 0 2 (at_ o ho r) e))
    (h3 : ∀ r e, f3 (ix4 (n0 := 1) (n1 := 1) 0 0 r e) = x0 (ix4 (n0 := 1) 0 3 (at_ o ho r) e))
    (h4 : ∀ r e, f4 (ix4 (n0 := 1) (n1 := 1) 0 0 r e) = x0 (ix4 (n0 := 1) 0 4 (at_ o ho r) e))
    (h5 : ∀ r e, f5 (ix4 (n0 := 1) (n1 := 1) 0 0 r e) = x0 (ix4 (n0 := 1) 0 5 (at_ o ho r) e))
    (h6 : ∀ r e, f6 (ix4 (n0 := 1) (n1 := 1) 0 0 r e) = x0 (ix4 (n0 := 1) 0 6 (at_ o ho r) e))
    (h7 : ∀ r e, f7 (ix4 (n0 := 1) (n1 := 1) 0 0 r e) = x0 (ix4 (n0 := 1) 0 7 (at_ o ho r) e))
    (hC : ∀ r e, C (ix2 r e) = x1 (ix2 (at_ o ho r) e)) (hX : ∀ r d, X (ix2 r d) = x2 (ix2 (at_ o ho r) d)) (hW : ∀ k d, W (ix2 k d) = x3 (ix2 k d))
    (r : Fin 256) (d : Fin 2048) :
    k0_pay5 (F := Ideal) (k0_pay4 (F := Ideal) f0 f1 f2 f3 f4 f5 f6 f7 C) X W (ix2 r d)
      = stream (x2 (ix2 (at_ o ho r) d)) (fun h e => x0 (ix4 (n0 := 1) 0 h (at_ o ho r) e)) (fun e => x1 (ix2 (at_ o ho r) e)) (fun k => x3 (ix2 k d)) := by
  rw [added_apply, hX]
  unfold stream
  refine congrArg _ (Finset.sum_congr rfl fun k _ => ?_)
  rw [joined_apply f0 f1 f2 f3 f4 f5 f6 f7 C (fun h e => x0 (ix4 (n0 := 1) 0 h (at_ o ho r) e)) r k
    (h0 r) (h1 r) (h2 r) (h3 r) (h4 r) (h5 r) (h6 r) (h7 r), hW, funext (hC r)]

/-- and a half's piece of the block. -/
theorem piece_in (o : ℕ) (ho : o ≤ 256)
    (h0 : ∀ r e, f0 (ix4 (n0 := 1) (n1 := 1) 0 0 r e) = x0 (ix4 (n0 := 1) 0 0 (at_ o ho r) e))
    (h1 : ∀ r e, f1 (ix4 (n0 := 1) (n1 := 1) 0 0 r e) = x0 (ix4 (n0 := 1) 0 1 (at_ o ho r) e))
    (h2 : ∀ r e, f2 (ix4 (n0 := 1) (n1 := 1) 0 0 r e) = x0 (ix4 (n0 := 1) 0 2 (at_ o ho r) e))
    (h3 : ∀ r e, f3 (ix4 (n0 := 1) (n1 := 1) 0 0 r e) = x0 (ix4 (n0 := 1) 0 3 (at_ o ho r) e))
    (h4 : ∀ r e, f4 (ix4 (n0 := 1) (n1 := 1) 0 0 r e) = x0 (ix4 (n0 := 1) 0 4 (at_ o ho r) e))
    (h5 : ∀ r e, f5 (ix4 (n0 := 1) (n1 := 1) 0 0 r e) = x0 (ix4 (n0 := 1) 0 5 (at_ o ho r) e))
    (h6 : ∀ r e, f6 (ix4 (n0 := 1) (n1 := 1) 0 0 r e) = x0 (ix4 (n0 := 1) 0 6 (at_ o ho r) e))
    (h7 : ∀ r e, f7 (ix4 (n0 := 1) (n1 := 1) 0 0 r e) = x0 (ix4 (n0 := 1) 0 7 (at_ o ho r) e))
    (hC : ∀ r e, C (ix2 r e) = x1 (ix2 (at_ o ho r) e)) (hX : ∀ r d, X (ix2 r d) = x2 (ix2 (at_ o ho r) d)) (hW : ∀ k d, W (ix2 k d) = x3 (ix2 k d))
    (inb : ∀ i, (![o, 0] : Fin 2 → ℕ) i + S256x2048.size i ≤ S512x2048.size i) (x : S256x2048.Idx) :
    k0_pay5 (F := Ideal) (k0_pay4 (F := Ideal) f0 f1 f2 f3 f4 f5 f6 f7 C) X W x
      = streamBlock x0 x1 x2 x3 ((Rect.unit (s := S512x2048) ![o, 0] S256x2048.size inb).emb x) := by
  have e : (Rect.unit (s := S512x2048) ![o, 0] S256x2048.size inb).emb x = ix2 (at_ o ho (x 0)) (x 1) := by
    funext i; apply Fin.ext
    match i with
    | ⟨0, _⟩ => show o + 1 * (x 0).val = o + (x 0).val; omega
    | ⟨1, _⟩ => show 0 + 1 * (x 1).val = (x 1).val; omega
  rw [e]
  exact (congrArg _ (eq_ix2 x)).trans (half_apply o ho h0 h1 h2 h3 h4 h5 h6 h7 hC hX hW (x 0) (x 1))

end

section

variable (c : Dev nD) (i : grid0.Coords)
  (arg1 : Memref sig .tc .vmem S1x8x512x128 .bf16) (harg1 : arg1.IsWhole)
  (arg2 : Memref sig .tc .vmem S512x1024 .bf16) (harg2 : arg2.IsWhole)
  (arg3 : Memref sig .tc .vmem S512x2048 .f32) (harg3 : arg3.IsWhole)
  (arg4 : Memref sig .tc .vmem S2048x2048 .bf16) (harg4 : arg4.IsWhole)
  (arg5 : Memref sig .tc .vmem S1x2048 .f32) (harg5 : arg5.IsWhole)
  (arg6 : Memref sig .tc .vmem S2048x128 .bf16) (harg6 : arg6.IsWhole)
  (arg7 : Memref sig .tc .vmem S1x128 .f32) (harg7 : arg7.IsWhole)
  (arg8 : Memref sig .tc .vmem S512x2048 .f32) (harg8 : arg8.IsWhole)
  (arg9 : Memref sig .tc .vmem S512x128 .i32) (harg9 : arg9.IsWhole)
  (arg10 : Memref sig .tc .vmem S512x128 .f32) (harg10 : arg10.IsWhole)
  (arg11 : Memref sig .tc .vmem S1x128 .f32) (harg11 : arg11.IsWhole)
  (arg12 : Memref sig .tc .vmem S1x128 .f32) (harg12 : arg12.IsWhole)
  (x0 : S1x8x512x128.Idx → EReal) (x1 : S512x1024.Idx → EReal) (x2 : S512x2048.Idx → EReal) (x3 : S2048x2048.Idx → EReal) (x4 : S1x2048.Idx → EReal) (x5 : S2048x128.Idx → EReal) (x6 xs0 : S1x128.Idx → EReal)

set_option maxHeartbeats 2000000 in
/-- The block's two pieces, at the first grid point -/
theorem pieces_A (hc0 : cond0_0 i) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, ∀ x : p.1.shape.Idx, p.2 x = streamBlock x0 x1 x2 x3 (p.1.emb x) := by
  have e0 := piece_in 0 (by omega) (head_load arg1 harg1 x0 0 0 0 rfl (by omega) inb_S1x8x512x128_S1x1x256x128_0_0_0_0) (head_load arg1 harg1 x0 1 1 0 rfl (by omega) inb_S1x8x512x128_S1x1x256x128_0_1_0_0) (head_load arg1 harg1 x0 2 2 0 rfl (by omega) inb_S1x8x512x128_S1x1x256x128_0_2_0_0) (head_load arg1 harg1 x0 3 3 0 rfl (by omega) inb_S1x8x512x128_S1x1x256x128_0_3_0_0) (head_load arg1 harg1 x0 4 4 0 rfl (by omega) inb_S1x8x512x128_S1x1x256x128_0_4_0_0) (head_load arg1 harg1 x0 5 5 0 rfl (by omega) inb_S1x8x512x128_S1x1x256x128_0_5_0_0) (head_load arg1 harg1 x0 6 6 0 rfl (by omega) inb_S1x8x512x128_S1x1x256x128_0_6_0_0) (head_load arg1 harg1 x0 7 7 0 rfl (by omega) inb_S1x8x512x128_S1x1x256x128_0_7_0_0) (conv_load arg2 harg2 x1 0 (by omega) inb_S512x1024_S256x1024_0_0) (entry_load arg3 harg3 x2 0 (by omega) inb_S512x2048_S256x2048_0_0)
    (weight_load arg4 harg4 x3 inb_S2048x2048_S2048x2048_0_0) inb_S512x2048_S256x2048_0_0
  have e1 := piece_in 256 (by omega) (head_load arg1 harg1 x0 0 0 256 rfl (by omega) inb_S1x8x512x128_S1x1x256x128_0_0_256_0) (head_load arg1 harg1 x0 1 1 256 rfl (by omega) inb_S1x8x512x128_S1x1x256x128_0_1_256_0) (head_load arg1 harg1 x0 2 2 256 rfl (by omega) inb_S1x8x512x128_S1x1x256x128_0_2_256_0) (head_load arg1 harg1 x0 3 3 256 rfl (by omega) inb_S1x8x512x128_S1x1x256x128_0_3_256_0) (head_load arg1 harg1 x0 4 4 256 rfl (by omega) inb_S1x8x512x128_S1x1x256x128_0_4_256_0) (head_load arg1 harg1 x0 5 5 256 rfl (by omega) inb_S1x8x512x128_S1x1x256x128_0_5_256_0) (head_load arg1 harg1 x0 6 6 256 rfl (by omega) inb_S1x8x512x128_S1x1x256x128_0_6_256_0) (head_load arg1 harg1 x0 7 7 256 rfl (by omega) inb_S1x8x512x128_S1x1x256x128_0_7_256_0) (conv_load arg2 harg2 x1 256 (by omega) inb_S512x1024_S256x1024_256_0) (entry_load arg3 harg3 x2 256 (by omega) inb_S512x2048_S256x2048_256_0)
    (weight_load arg4 harg4 x3 inb_S2048x2048_S2048x2048_0_0) inb_S512x2048_S256x2048_256_0
  unfold kernelRun0_A
  dsimp only
  sl_unfold_run_names
  refine List.forall_mem_cons.mpr ⟨fun x => e1 x, ?_⟩
  refine List.forall_mem_cons.mpr ⟨fun x => e0 x, ?_⟩
  exact fun p hp => absurd hp List.not_mem_nil

/-- and the block they leave. -/
theorem block_A (hc0 : cond0_0 i) (y : S512x2048.Idx) : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 y = streamBlock x0 x1 x2 x3 y := by
  have hc := cover0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 y
  have hp := pieces_A c i arg1 harg1 arg2 harg2 arg3 harg3 arg4 harg4 arg5 harg5 arg6 harg6 arg7 harg7 arg8 harg8 arg9 harg9 arg10 harg10 arg11 harg11 arg12 harg12 x0 x1 x2 x3 x4 x5 x6 hc0
  unfold out0_A_7
  rw [View.read_writes_junk_eq_canon]
  revert hc hp
  generalize (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 = L
  intro hc hp
  exact View.canon_apply_of_pieces _ L hp y hc

set_option maxHeartbeats 2000000 in
/-- The block's two pieces, at a later one -/
theorem pieces_B (hc0 : ¬cond0_0 i) : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1, ∀ x : p.1.shape.Idx, p.2 x = streamBlock x0 x1 x2 x3 (p.1.emb x) := by
  have e0 := piece_in 0 (by omega) (head_load arg1 harg1 x0 0 0 0 rfl (by omega) inb_S1x8x512x128_S1x1x256x128_0_0_0_0) (head_load arg1 harg1 x0 1 1 0 rfl (by omega) inb_S1x8x512x128_S1x1x256x128_0_1_0_0) (head_load arg1 harg1 x0 2 2 0 rfl (by omega) inb_S1x8x512x128_S1x1x256x128_0_2_0_0) (head_load arg1 harg1 x0 3 3 0 rfl (by omega) inb_S1x8x512x128_S1x1x256x128_0_3_0_0) (head_load arg1 harg1 x0 4 4 0 rfl (by omega) inb_S1x8x512x128_S1x1x256x128_0_4_0_0) (head_load arg1 harg1 x0 5 5 0 rfl (by omega) inb_S1x8x512x128_S1x1x256x128_0_5_0_0) (head_load arg1 harg1 x0 6 6 0 rfl (by omega) inb_S1x8x512x128_S1x1x256x128_0_6_0_0) (head_load arg1 harg1 x0 7 7 0 rfl (by omega) inb_S1x8x512x128_S1x1x256x128_0_7_0_0) (conv_load arg2 harg2 x1 0 (by omega) inb_S512x1024_S256x1024_0_0) (entry_load arg3 harg3 x2 0 (by omega) inb_S512x2048_S256x2048_0_0)
    (weight_load arg4 harg4 x3 inb_S2048x2048_S2048x2048_0_0) inb_S512x2048_S256x2048_0_0
  have e1 := piece_in 256 (by omega) (head_load arg1 harg1 x0 0 0 256 rfl (by omega) inb_S1x8x512x128_S1x1x256x128_0_0_256_0) (head_load arg1 harg1 x0 1 1 256 rfl (by omega) inb_S1x8x512x128_S1x1x256x128_0_1_256_0) (head_load arg1 harg1 x0 2 2 256 rfl (by omega) inb_S1x8x512x128_S1x1x256x128_0_2_256_0) (head_load arg1 harg1 x0 3 3 256 rfl (by omega) inb_S1x8x512x128_S1x1x256x128_0_3_256_0) (head_load arg1 harg1 x0 4 4 256 rfl (by omega) inb_S1x8x512x128_S1x1x256x128_0_4_256_0) (head_load arg1 harg1 x0 5 5 256 rfl (by omega) inb_S1x8x512x128_S1x1x256x128_0_5_256_0) (head_load arg1 harg1 x0 6 6 256 rfl (by omega) inb_S1x8x512x128_S1x1x256x128_0_6_256_0) (head_load arg1 harg1 x0 7 7 256 rfl (by omega) inb_S1x8x512x128_S1x1x256x128_0_7_256_0) (conv_load arg2 harg2 x1 256 (by omega) inb_S512x1024_S256x1024_256_0) (entry_load arg3 harg3 x2 256 (by omega) inb_S512x2048_S256x2048_256_0)
    (weight_load arg4 harg4 x3 inb_S2048x2048_S2048x2048_0_0) inb_S512x2048_S256x2048_256_0
  unfold kernelRun0_B
  dsimp only
  sl_unfold_run_names
  refine List.forall_mem_cons.mpr ⟨fun x => e1 x, ?_⟩
  refine List.forall_mem_cons.mpr ⟨fun x => e0 x, ?_⟩
  exact fun p hp => absurd hp List.not_mem_nil

/-- and the block they leave. -/
theorem block_B (hc0 : ¬cond0_0 i) (y : S512x2048.Idx) : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 y = streamBlock x0 x1 x2 x3 y := by
  have hc := cover0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 y
  have hp := pieces_B c i arg1 harg1 arg2 harg2 arg3 harg3 arg4 harg4 arg5 harg5 arg6 harg6 arg7 harg7 arg8 harg8 arg9 harg9 arg10 harg10 arg11 harg11 arg12 harg12 x0 x1 x2 x3 x4 x5 x6 xs0 hc0
  unfold out0_B_7
  rw [View.read_writes_junk_eq_canon]
  revert hc hp
  generalize (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1 = L
  intro hc hp
  exact View.canon_apply_of_pieces _ L hp y hc

end

end Cert.Proof.OI

end
-- ==== Proof.OI.Value.lean ====
/-
  The output projection's kernel at the ideal level: the array of the residual stream. Each grid point writes the block of its 512 rows.
-/
module

public import proofs.«01_k».proof.Proof.OI.Block
public import proofs.«01_k».proof.Proof.Gen.KernelOutprojIdeal.Value
public import Idealize.ShloMosaic.Lib.Claim
public import Idealize.ShloMosaic.Lib.Pipeline.ValueKit

@[expose] public section

noncomputable section

namespace Cert.Proof.OI

open Cert.KernelOutprojIdeal Cert.KernelOutprojIdeal.Gen Cert.Proof.Outproj
open Idealize.ShloMosaic hiding ix1 ix2 ix4 eq_ix2 eq_ix4
open Idealize.ShloMosaic.TcCoe Idealize.ShloMosaic.ValueIdx
open Idealize.ShloMosaic.Pipeline (Dat)

section

variable (A : S2x8x8192x128.Idx → EReal) (C : S16384x1024.Idx → EReal) (X : S16384x2048.Idx → EReal) (W : S2048x2048.Idx → EReal)

/-- An entry of the output as a function of the arrays, and the output. -/
def entry (r : Fin 16384) (d : Fin 2048) : EReal :=
  stream (X (ix2 r d)) (fun h e => A (ix4 (⟨r.val / 8192, by omega⟩ : Fin 2) h (⟨r.val % 8192, Nat.mod_lt _ (by omega)⟩ : Fin 8192) e)) (fun e => C (ix2 r e)) (fun k => W (ix2 k d))
def residual : S16384x2048.Idx → EReal := fun y => entry A C X W (y 0) (y 1)

end

/-- The blocks of a grid point. -/
theorem index_at : ∀ t : Fin cfg0.N, win0_0.index t = ![t.val / 16, 0, t.val % 16, 0] ∧ win0_1.index t = ![t.val, 0] ∧ win0_2.index t = ![t.val, 0]
    ∧ win0_3.index t = ![0, 0] ∧ win0_7.index t = ![t.val, 0] :=
  (by decide +kernel : ∀ t : Fin grid0.N, _)

variable (m : (ℓ : Loc nD τ sig) → Buf (Elt Ideal) ℓ) (c : Dev nD) (t : Fin cfg0.N)

/-- The row of a tile, in the array. -/
def rowOf (t : Fin cfg0.N) (r : Fin 512) : Fin 16384 := ⟨512 * t.val + r.val, by have : t.val < 32 := t.isLt; omega⟩

theorem a_at (h : Fin 8) (r : Fin 512) (e : Fin 128) : (iblk m c 0 t : S1x8x512x128.Idx → EReal) (ix4 (n0 := 1) 0 h r e)
    = (V m c main_arg0 : S2x8x8192x128.Idx → EReal) (ix4 (⟨(rowOf t r).val / 8192, by omega⟩ : Fin 2) h (⟨(rowOf t r).val % 8192, Nat.mod_lt _ (by omega)⟩ : Fin 8192) e) := by
  have i := (index_at t).1
  have ht : t.val < 32 := t.isLt
  have hr := r.isLt
  refine congrArg (V m c main_arg0 : S2x8x8192x128.Idx → EReal) (?_ : (win0_0.blk t).view.emb (ix4 (n0 := 1) 0 h r e) = ix4 (⟨(rowOf t r).val / 8192, by omega⟩ : Fin 2) h (⟨(rowOf t r).val % 8192, Nat.mod_lt _ (by omega)⟩ : Fin 8192) e)
  funext a; apply Fin.ext
  match a with
  | ⟨0, _⟩ => blk_simp [i]; show t.val / 16 = (512 * t.val + r.val) / 8192; omega
  | ⟨1, _⟩ => blk_simp [i]
  | ⟨2, _⟩ => blk_simp [i]; show t.val % 16 * 512 + r.val = (512 * t.val + r.val) % 8192; omega
  | ⟨3, _⟩ => blk_simp [i]
theorem c_at (r : Fin 512) (k : Fin 1024) : (iblk m c 1 t : S512x1024.Idx → EReal) (ix2 r k) = (V m c main_arg1 : S16384x1024.Idx → EReal) (ix2 (rowOf t r) k) := by
  have i := (index_at t).2.1
  refine congrArg (V m c main_arg1 : S16384x1024.Idx → EReal) (?_ : (win0_1.blk t).view.emb (ix2 r k) = ix2 (rowOf t r) k)
  funext a; apply Fin.ext
  match a with
  | ⟨0, _⟩ => blk_simp [i]; show t.val * 512 + r.val = 512 * t.val + r.val; omega
  | ⟨1, _⟩ => blk_simp [i]
theorem x_at (r : Fin 512) (k : Fin 2048) : (iblk m c 2 t : S512x2048.Idx → EReal) (ix2 r k) = (V m c main_arg2 : S16384x2048.Idx → EReal) (ix2 (rowOf t r) k) := by
  have i := (index_at t).2.2.1
  refine congrArg (V m c main_arg2 : S16384x2048.Idx → EReal) (?_ : (win0_2.blk t).view.emb (ix2 r k) = ix2 (rowOf t r) k)
  funext a; apply Fin.ext
  match a with
  | ⟨0, _⟩ => blk_simp [i]; show t.val * 512 + r.val = 512 * t.val + r.val; omega
  | ⟨1, _⟩ => blk_simp [i]
theorem w_at (k d : Fin 2048) : (iblk m c 3 t : S2048x2048.Idx → EReal) (ix2 k d) = (V m c main_arg3 : S2048x2048.Idx → EReal) (ix2 k d) := by
  have i := (index_at t).2.2.2.1
  refine congrArg (V m c main_arg3 : S2048x2048.Idx → EReal) (?_ : (win0_3.blk t).view.emb (ix2 k d) = ix2 k d)
  funext a; apply Fin.ext
  match a with
  | ⟨0, _⟩ => blk_simp [i]
  | ⟨1, _⟩ => blk_simp [i]

/-- An entry of the tile, as one of the arrays. -/
theorem entry_at (r : Fin 512) (d : Fin 2048) :
    stream ((iblk m c 2 t : S512x2048.Idx → EReal) (ix2 r d)) (fun h e => (iblk m c 0 t : S1x8x512x128.Idx → EReal) (ix4 (n0 := 1) 0 h r e))
      (fun e => (iblk m c 1 t : S512x1024.Idx → EReal) (ix2 r e)) (fun k => (iblk m c 3 t : S2048x2048.Idx → EReal) (ix2 k d))
    = entry (V m c main_arg0) (V m c main_arg1) (V m c main_arg2) (V m c main_arg3) (rowOf t r) d := by
  unfold entry
  rw [x_at, funext fun h => funext fun e => a_at m c t h r e, funext (c_at m c t r), funext fun k => w_at m c t k d]

/-- A grid point's block of the residual stream, of its other blocks: at the first point and at the later ones. -/
theorem stream_tile (y : S512x2048.Idx) : (outsAt0 m c t.val t.isLt).1 y = streamBlock (iblk m c 0 t) (iblk m c 1 t) (iblk m c 2 t) (iblk m c 3 t) y := by
  by_cases h0 : t.val % 32 = 0
  · have h := block_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) ((hcond0_0 t).mpr h0) y
    rw [outsAt0_A m c t h0]
    dsimp only
    exact h
  · have h := block_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2.2.2.2 (fun h => h0 ((hcond0_0 t).mp h)) y
    rw [outsAt0_B m c t h0]
    dsimp only
    exact h

/-- What a grid point leaves in that block. -/
theorem after_stream (y : S512x2048.Idx) : (dats m 0 c).after 7 t y = residual (V m c main_arg0) (V m c main_arg1) (V m c main_arg2) (V m c main_arg3) ((win0_7.blk t).view.emb y) := by
  refine ((congrFun (after0_7 m c t) y).trans (stream_tile m c t y)).trans ?_
  have e := (index_at t).2.2.2.2
  have h0 : ((win0_7.blk t).view.emb y 0 : Fin _) = rowOf t (y 0) := by
    apply Fin.ext; blk_simp [e]; show t.val * 512 + (y 0).val = 512 * t.val + (y 0).val; omega
  have h1 : ((win0_7.blk t).view.emb y 1 : Fin _) = y 1 := by apply Fin.ext; blk_simp [e]
  unfold streamBlock residual
  rw [h0, h1]
  exact entry_at m c t (y 0) (y 1)
/-- The array after the run. -/
theorem final_stream : (dats m 0 c).arrAt 7 cfg0.N = residual (m ((c.tc : Thread nD τ).loc main_arg0)) (m ((c.tc : Thread nD τ).loc main_arg1)) (m ((c.tc : Thread nD τ).loc main_arg2)) (m ((c.tc : Thread nD τ).loc main_arg3)) := by
  refine ((dats m 0 c).arrAt_eq_of_covers 7 (residual (V m c main_arg0) (V m c main_arg1) (V m c main_arg2) (V m c main_arg3)) (by decide +kernel) fun t hf y => ?_).trans ?_
  · blk_simp
    exact after_stream m c t y
  · rw [V_main_arg0, V_main_arg1, V_main_arg2, V_main_arg3]

end Cert.Proof.OI

end
-- ==== Proof.OR.Value.lean ====
/-
  The output projection's reference: its result, read element by element, and its run.
-/
module

public import proofs.«01_k».proof.Proof.Gen.ReferenceOutprojIdeal.Run
public import proofs.«01_k».proof.Proof.Gen.ReferenceOutprojIdeal.Read
public import proofs.«01_k».proof.Proof.Outproj
public import Idealize.ShloMosaic.Lib.ValueIdx
public import Idealize.ShloMosaic.Lib.Pipeline.Value
public import Idealize.ShloMosaic.Lib.Quiescent

@[expose] public section

noncomputable section

namespace Cert.Proof.OR

open Cert.ReferenceOutprojIdeal Cert.ReferenceOutprojIdeal.Gen Cert.ReferenceOutprojIdeal.Read Cert.Proof.Outproj
open Idealize.ShloMosaic Idealize.ShloMosaic.TcCoe Idealize.ShloMosaic.ValueIdx Idealize.SL.Sem
open scoped BigOperators

variable (A : S2x8x8192x128.Idx → EReal) (C : S16384x1024.Idx → EReal) (X : S16384x2048.Idx → EReal) (W : S2048x2048.Idx → EReal)

/-- A row's heads: those of its sequence at its place. -/
def headsAt (r : Fin 16384) (h : Fin 8) (e : Fin 128) : EReal :=
  A (ix4 (⟨r.val / 8192, by omega⟩ : Fin 2) h (⟨r.val % 8192, Nat.mod_lt _ (by omega)⟩ : Fin 8192) e)

theorem heads_read (r : Fin 16384) (f : Fin 1024) :
    val_main_v1 (F := Ideal) A (ix2 r f) = headsAt A r ⟨f.val / 128, by omega⟩ ⟨f.val % 128, Nat.mod_lt _ (by omega)⟩ := by
  rw [val_main_v1_apply, val_main_v0_apply]
  have h1 := r.isLt
  have h2 := f.isLt
  refine congrArg A (funext fun a => Fin.ext ?_)
  match a with
  | ⟨0, _⟩ => show (r.val * 1024 + f.val) / 8388608 = r.val / 8192; omega
  | ⟨1, _⟩ => show (r.val * 1024 + f.val) / 128 % 8 = f.val / 128; omega
  | ⟨2, _⟩ => show (r.val * 1024 + f.val) / 1024 % 8192 = r.val % 8192; omega
  | ⟨3, _⟩ => show (r.val * 1024 + f.val) % 128 = f.val % 128; omega

theorem joined_read (r : Fin 16384) (k : Fin 2048) :
    val_main_v3 (F := Ideal) A C (ix2 r k) = joined (headsAt A r) (fun e => C (ix2 r e)) k := by
  show val_main_v2 (F := Ideal) A C (ix2 r k) = _
  unfold val_main_v2
  by_cases h : k.val < 1024
  · refine (concatenate_pair_apply_left (s₁ := S16384x1024) (s₂ := S16384x1024) (1 : Fin S16384x2048.rank) _ _ _ (ix2 r k) rfl (ix2 r (⟨k.val, h⟩ : Fin 1024)) fun b => ?_).trans ?_
    · match b with
      | ⟨0, _⟩ => rfl
      | ⟨1, _⟩ => rfl
    · unfold joined
      rw [heads_read, dif_pos h]
  · have hk := k.isLt
    refine (concatenate_pair_apply_right (s₁ := S16384x1024) (s₂ := S16384x1024) (1 : Fin S16384x2048.rank) _ _ _ (ix2 r k) rfl rfl (ix2 r (⟨k.val - 1024, by omega⟩ : Fin 1024)) (fun b hb => ?_) ?_).trans ?_
    · match b with
      | ⟨0, _⟩ => rfl
      | ⟨1, _⟩ => exact absurd rfl hb
    · show k.val - 1024 + 1024 = k.val; omega
    · unfold joined
      rw [dif_neg h]

theorem stream_read (r : Fin 16384) (d : Fin 2048) :
    val_main_v6 (F := Ideal) A C X W (ix2 r d) = stream (X (ix2 r d)) (headsAt A r) (fun e => C (ix2 r e)) (fun k => W (ix2 k d)) := by
  rw [val_main_v6_apply, val_main_v5_apply]
  unfold stream
  refine congrArg (fun s : EReal => X (ix2 r d) + s) (Finset.sum_congr rfl fun k _ => ?_)
  have el : lidx_main_v5 (ix2 r d) k = ix2 r k := funext fun a => match a with | ⟨0, _⟩ => rfl | ⟨1, _⟩ => rfl
  have er : ridx_main_v5 (ix2 r d) k = ix2 k d := funext fun a => match a with | ⟨0, _⟩ => rfl | ⟨1, _⟩ => rfl
  rw [el, er, joined_read]
  rfl

/-- The reference terminates with its arguments unchanged and its counters at zero. -/
theorem frame_main {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩)
    (Cert.ReferenceOutprojIdeal.Value.run m ρ)

end Cert.Proof.OR

end
-- ==== Proof.OutprojMixed.lean ====
/-
  The output projection's value claim: at the ideal level the kernel's residual stream is the reference's.
-/
module

public import proofs.«01_k».proof.Defs
public import proofs.«01_k».proof.Proof.OI.Value
public import proofs.«01_k».proof.Proof.OR.Value
public import proofs.«01_k».proof.Proof.Gen.KernelOutprojIdeal.Value
public import Idealize.ShloMosaic.Adequacy
public import Idealize.ShloMosaic.Init

@[expose] public section

noncomputable section

namespace Cert.Proof.Outproj

open Idealize.ShloMosaic hiding ix2 ix4 eq_ix2 eq_ix4
open Idealize.ShloMosaic.ValueIdx Idealize.SL.Sem Idealize.ShloMosaic.StableHlo

theorem stream_eq (A : Cert.ReferenceOutprojIdeal.S2x8x8192x128.Idx → EReal) (C : Cert.ReferenceOutprojIdeal.S16384x1024.Idx → EReal)
    (X : Cert.ReferenceOutprojIdeal.S16384x2048.Idx → EReal) (W : Cert.ReferenceOutprojIdeal.S2048x2048.Idx → EReal) :
    Cert.ReferenceOutprojIdeal.Read.val_main_v6 (F := Ideal) A C X W = OI.residual A C X W := funext fun y => by
  obtain ⟨r, d, rfl⟩ : ∃ (r : Fin 16384) (d : Fin 2048), y = ix2 r d := ⟨y 0, y 1, eq_ix2 y⟩
  exact OR.stream_read A C X W r d

/-- The value claim. -/
theorem algebraic : Cert.algebraic_KernelOutprojIdeal_ReferenceOutprojIdeal (hKernelOutprojIdeal := Cert.KernelOutprojIdeal.Gen.facts)
    (hReferenceOutprojIdeal := Cert.ReferenceOutprojIdeal.Gen.facts) := by
  intro m g m' g' hp ha
  refine ⟨fun c => OI.residual (m ((c.tc : Thread Cert.KernelOutprojIdeal.nD Cert.KernelOutprojIdeal.τ).loc Cert.KernelOutprojIdeal.main_arg0)) (m ((c.tc : Thread Cert.KernelOutprojIdeal.nD Cert.KernelOutprojIdeal.τ).loc Cert.KernelOutprojIdeal.main_arg1)) (m ((c.tc : Thread Cert.KernelOutprojIdeal.nD Cert.KernelOutprojIdeal.τ).loc Cert.KernelOutprojIdeal.main_arg2)) (m ((c.tc : Thread Cert.KernelOutprojIdeal.nD Cert.KernelOutprojIdeal.τ).loc Cert.KernelOutprojIdeal.main_arg3)), ?_, ?_⟩
  · exact (θ_run _ _ _).mono (fun r h c => ⟨((h c).1).trans (OI.final_stream m c), (h c).2.2.2.2⟩) (Cert.KernelOutprojIdeal.Value.run_blocks m g)
  · refine (θ_run _ _ _).mono (fun r h c => ?_) (Cert.ReferenceOutprojIdeal.Value.run m' g')
    obtain ⟨a0, a1, a2, a3, a4, a5, a6⟩ := ha c
    refine ⟨((h c).1).trans ?_, (h c).2⟩
    rw [a0, a1, a2, a3]
    exact (Cert.ReferenceOutprojIdeal.Read.val_main_v6_eq _ _ _ _).trans (stream_eq _ _ _ _)

end Cert.Proof.Outproj

end
-- ==== Proof.lean ====
/-
  The claims of the dilated attention, of the experts and of the input and output projections: the programs and the references
  run to the end with their arguments unchanged and every counter at zero (the experts' kernel from a good schedule), the
  attention's and the input projection's named constants are what the rule says, and at the ideal level the kernels' results
  are the references': the attention's for finite queries and keys, the experts' on the rows of the used tiles, the input
  projection's four and the output projection's residual stream for all arguments.
-/
module

public import proofs.«01_k».proof.Defs
public import proofs.«01_k».proof.Proof.P.Run
public import proofs.«01_k».proof.Proof.PI.Value
public import proofs.«01_k».proof.Proof.Pre
public import proofs.«01_k».proof.Proof.RI.Run
public import proofs.«01_k».proof.Proof.RI.Value
public import proofs.«01_k».proof.Proof.Mixed
public import proofs.«01_k».proof.Proof.InprojMixed
public import proofs.«01_k».proof.Proof.OutprojMixed
public import proofs.«01_k».proof.Proof.Gen.KernelInproj.Frame
public import proofs.«01_k».proof.Proof.Gen.KernelOutproj.Frame
public import proofs.«01_k».proof.Proof.Gen.KernelOutprojIdeal.Frame
public import proofs.«01_k».proof.Proof.Gen.KernelInprojIdeal.Frame
public import Idealize.ShloMosaic.Adequacy
public import Idealize.ShloMosaic.Init

@[expose] public section

noncomputable section

namespace Cert.Proof

open Idealize.ShloMosaic Idealize.SL.Sem Idealize.ShloMosaic.StableHlo Cert.Proof.Spec

/-- The two results are one where the queries and keys are real. -/
theorem results_eq (x0 x1 x2 : RI.Arg) (hx : ∀ y, (∃ r : ℝ, x0 y = r) ∧ ∃ r : ℝ, x1 y = r) :
    Cert.ReferenceIdeal.Read.val_main_v210 (F := Ideal) x0 x1 x2 = PI.out x0 x1 x2 := funext fun y =>
  (RI.result x0 x1 x2 y).trans
    (out_eq _ (Pre.rows_real x0 (fun y => (hx y).1) (y 0) (y 1)) (Pre.rows_real x1 (fun y => (hx y).2) (y 0) (y 1)) (y 2).val (y 3)).symm

/-- The value claim. -/
theorem algebraic : Cert.algebraic_KernelIdeal_ReferenceIdeal_pre_finite_scores (hKernelIdeal := Cert.KernelIdeal.Gen.facts)
    (hReferenceIdeal := Cert.ReferenceIdeal.Gen.facts) (hPre_finite_scores := Pre.facts) := by
  intro m g m' g' hp ha
  refine ⟨fun c => PI.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun r h c => ⟨((h.1 c).1).trans (PI.final m c), (h.1 c).2⟩) (PI.run_post m g)
  · refine (θ_run _ _ _).mono (fun r h c => ⟨((h c).1).trans ?_, (h c).2⟩) (Cert.ReferenceIdeal.Value.run m' g')
    refine (Cert.ReferenceIdeal.Read.val_main_v210_eq (launchContents m' c)).trans ?_
    rw [launchContents_devRef, launchContents_devRef, launchContents_devRef, (ha c).1, (ha c).2.1, (ha c).2.2]
    exact results_eq _ _ _ (fun y => @Pre.reals Pre.facts _ _ _ (hp c) y)

theorem claim : Cert.Claim :=
  ⟨Cert.Kernel.Gen.facts, Cert.KernelIdeal.Gen.facts, Cert.ReferenceIdeal.Gen.facts, Cert.KernelExperts.Gen.facts,
    Cert.KernelExpertsIdeal.Gen.facts, Cert.ReferenceExpertsIdeal.Gen.facts, Cert.KernelInproj.Gen.facts,
    Cert.KernelInprojIdeal.Gen.facts, Cert.ReferenceInprojIdeal.Gen.facts, Cert.KernelOutproj.Gen.facts,
    Cert.KernelOutprojIdeal.Gen.facts, Cert.ReferenceOutprojIdeal.Gen.facts, Pre.facts, Sched.facts, Sched.facts_on,
    fun m g _ => P.frame_main m g, fun m g _ => PI.frame_main m g, fun m g _ => PI.frame_main m g,
    fun m g _ => RI.frame_main m g, fun m g _ => RI.frame_main m g,
    fun m g hp => (θ_run _ _ _).mono (fun _ h => ⟨fun c => (h.1 c).2, h.2⟩) (Cert.KernelExperts.Hand.run_post m g (Cert.KernelExperts.Hand.sch_of m (hp 0))),
    fun m g hp => (θ_run _ _ _).mono (fun _ h => ⟨fun c => (h.1 c).2, h.2⟩) (Cert.KernelExpertsIdeal.Hand.run_post m g (Cert.KernelExpertsIdeal.Hand.sch_of m (hp 0))),
    fun m g _ => XR.frame_main m g, fun m g _ => XR.frame_main m g,
    fun m g _ => Cert.KernelInproj.Gen.frame m g, fun m g _ => Cert.KernelInprojIdeal.Gen.frame m g, fun m g _ => NR.frame_main m g,
    fun m g _ => Cert.KernelOutproj.Gen.frame m g, fun m g _ => Cert.KernelOutprojIdeal.Gen.frame m g, fun m g _ => OR.frame_main m g,
    IdealRules.named_const.statement Cert.KernelIdeal.κ "mask" .f32 0xF149F2CA#32 ⊥ rfl, algebraic, trivial, Mixed.algebraic,
    IdealRules.named_const.statement Cert.KernelInprojIdeal.κ "scale" .f32 0x3DB504F3#32 (((Real.sqrt 128)⁻¹ : ℝ) : EReal) rfl, Inproj.algebraic,
    trivial, Outproj.algebraic⟩

end Cert.Proof

end
